-- ==== Defs.lean ====
def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_a [hPre_finite_a : Cert.Pre_finite_a.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_a.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2))) = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_a [hPre_finite_a : Cert.Pre_finite_a.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_a.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2))) = (fun _ => 1#1)

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_finite_b [hPre_finite_b : Cert.Pre_finite_b.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_finite_b.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_finite_b [hPre_finite_b : Cert.Pre_finite_b.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_finite_b.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4))) = (fun _ => 1#1)

def Pre_KernelC (m : (ℓ : Loc Cert.KernelC.nD Cert.KernelC.τ Cert.KernelC.sig) → Buf (Elt Bits) ℓ) : Prop :=
  True

def Pre_KernelCIdeal (m : (ℓ : Loc Cert.KernelCIdeal.nD Cert.KernelCIdeal.τ Cert.KernelCIdeal.sig) → Buf (Elt Ideal) ℓ) : Prop :=
  True

def Pre_KernelCIdeal_finite_c [hPre_finite_c : Cert.Pre_finite_c.Facts] (m : (ℓ : Loc Cert.KernelCIdeal.nD Cert.KernelCIdeal.τ Cert.KernelCIdeal.sig) → Buf (Elt Ideal) ℓ) : Prop :=
  ∀ c : Dev Cert.KernelCIdeal.nD,
    (Cert.Pre_finite_c.fn (F := Ideal) (m ((c.tc : Thread Cert.KernelCIdeal.nD Cert.KernelCIdeal.τ).loc Cert.KernelCIdeal.main_arg0)) (m ((c.tc : Thread Cert.KernelCIdeal.nD Cert.KernelCIdeal.τ).loc Cert.KernelCIdeal.main_arg1)) (m ((c.tc : Thread Cert.KernelCIdeal.nD Cert.KernelCIdeal.τ).loc Cert.KernelCIdeal.main_arg2))) = (fun _ => 1#1)

def Pre_ReferenceCIdeal (m : (ℓ : Loc Cert.ReferenceCIdeal.nD Cert.ReferenceCIdeal.τ Cert.ReferenceCIdeal.sig) → Buf (Elt Ideal) ℓ) : Prop :=
  True

def Pre_ReferenceCIdeal_finite_c [hPre_finite_c : Cert.Pre_finite_c.Facts] (m : (ℓ : Loc Cert.ReferenceCIdeal.nD Cert.ReferenceCIdeal.τ Cert.ReferenceCIdeal.sig) → Buf (Elt Ideal) ℓ) : Prop :=
  ∀ c : Dev Cert.ReferenceCIdeal.nD,
    (Cert.Pre_finite_c.fn (F := Ideal) (m ((c.tc : Thread Cert.ReferenceCIdeal.nD Cert.ReferenceCIdeal.τ).loc Cert.ReferenceCIdeal.main_arg0)) (m ((c.tc : Thread Cert.ReferenceCIdeal.nD Cert.ReferenceCIdeal.τ).loc Cert.ReferenceCIdeal.main_arg1)) (m ((c.tc : Thread Cert.ReferenceCIdeal.nD Cert.ReferenceCIdeal.τ).loc Cert.ReferenceCIdeal.main_arg2))) = (fun _ => 1#1)

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelI (m : (ℓ : Loc Cert.KernelI.nD Cert.KernelI.τ Cert.KernelI.sig) → Buf (Elt Bits) ℓ) : Prop :=
  True

def Pre_KernelIIdeal (m : (ℓ : Loc Cert.KernelIIdeal.nD Cert.KernelIIdeal.τ Cert.KernelIIdeal.sig) → Buf (Elt Ideal) ℓ) : Prop :=
  True

def Pre_ReferenceIIdeal (m : (ℓ : Loc Cert.ReferenceIIdeal.nD Cert.ReferenceIIdeal.τ Cert.ReferenceIIdeal.sig) → Buf (Elt Ideal) ℓ) : Prop :=
  True

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_KernelAIdeal_pre_finite_a [hKernelAIdeal : Cert.KernelAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_a m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_ReferenceAIdeal_pre_finite_a [hReferenceAIdeal : Cert.ReferenceAIdeal.Facts] [hPre_finite_a : Cert.Pre_finite_a.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_a m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4))
      ∧ r.2.sem = fun _ => 0)

def quiescent_KernelBIdeal_pre_finite_b [hKernelBIdeal : Cert.KernelBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_finite_b m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4))
      ∧ r.2.sem = fun _ => 0)

def quiescent_ReferenceBIdeal_pre_finite_b [hReferenceBIdeal : Cert.ReferenceBIdeal.Facts] [hPre_finite_b : Cert.Pre_finite_b.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_finite_b m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4))
      ∧ r.2.sem = fun _ => 0)

def quiescent_KernelC [hKernelC : Cert.KernelC.Facts] : Prop :=
  ∀ (m : (ℓ : Loc Cert.KernelC.nD Cert.KernelC.τ Cert.KernelC.sig) → Buf (Elt Bits) ℓ) (g : Dev Cert.KernelC.nD → PrngReg), Pre_KernelC m →
    θ_run (Cert.KernelC.defs (F := Bits)) (onTc (τ := Cert.KernelC.τ) (Cert.KernelC.main (F := Bits))) ⟨m, fun _ => 0, g⟩ (fun r => (∀ c : Dev Cert.KernelC.nD,
      r.2.mem ((c.tc : Thread Cert.KernelC.nD Cert.KernelC.τ).loc Cert.KernelC.main_arg0) = m ((c.tc : Thread Cert.KernelC.nD Cert.KernelC.τ).loc Cert.KernelC.main_arg0)
      ∧ r.2.mem ((c.tc : Thread Cert.KernelC.nD Cert.KernelC.τ).loc Cert.KernelC.main_arg1) = m ((c.tc : Thread Cert.KernelC.nD Cert.KernelC.τ).loc Cert.KernelC.main_arg1)
      ∧ r.2.mem ((c.tc : Thread Cert.KernelC.nD Cert.KernelC.τ).loc Cert.KernelC.main_arg2) = m ((c.tc : Thread Cert.KernelC.nD Cert.KernelC.τ).loc Cert.KernelC.main_arg2))
      ∧ r.2.sem = fun _ => 0)

def quiescent_KernelCIdeal [hKernelCIdeal : Cert.KernelCIdeal.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ r.2.sem = fun _ => 0)

def quiescent_KernelCIdeal_pre_finite_c [hKernelCIdeal : Cert.KernelCIdeal.Facts] [hPre_finite_c : Cert.Pre_finite_c.Facts] : Prop :=
  ∀ (m : (ℓ : Loc Cert.KernelCIdeal.nD Cert.KernelCIdeal.τ Cert.KernelCIdeal.sig) → Buf (Elt Ideal) ℓ) (g : Dev Cert.KernelCIdeal.nD → PrngReg), Pre_KernelCIdeal_finite_c m →
    θ_run (Cert.KernelCIdeal.defs (F := Ideal)) (onTc (τ := Cert.KernelCIdeal.τ) (Cert.KernelCIdeal.main (F := Ideal))) ⟨m, fun _ => 0, g⟩ (fun r => (∀ c : Dev Cert.KernelCIdeal.nD,
      r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
      ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
      ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ r.2.sem = fun _ => 0)

def quiescent_ReferenceCIdeal [hReferenceCIdeal : Cert.ReferenceCIdeal.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2))
      ∧ r.2.sem = fun _ => 0)

def quiescent_ReferenceCIdeal_pre_finite_c [hReferenceCIdeal : Cert.ReferenceCIdeal.Facts] [hPre_finite_c : Cert.Pre_finite_c.Facts] : Prop :=
  ∀ (m : (ℓ : Loc Cert.ReferenceCIdeal.nD Cert.ReferenceCIdeal.τ Cert.ReferenceCIdeal.sig) → Buf (Elt Ideal) ℓ) (g : Dev Cert.ReferenceCIdeal.nD → PrngReg), Pre_ReferenceCIdeal_finite_c m →
    θ_run (Cert.ReferenceCIdeal.defs (F := Ideal)) (onTc (τ := Cert.ReferenceCIdeal.τ) (Cert.ReferenceCIdeal.main (F := Ideal))) ⟨m, fun _ => 0, g⟩ (fun r => (∀ c : Dev Cert.ReferenceCIdeal.nD,
      r.2.mem ((c.tc : Thread Cert.ReferenceCIdeal.nD Cert.ReferenceCIdeal.τ).loc Cert.ReferenceCIdeal.main_arg0) = m ((c.tc : Thread Cert.ReferenceCIdeal.nD Cert.ReferenceCIdeal.τ).loc Cert.ReferenceCIdeal.main_arg0)
      ∧ r.2.mem ((c.tc : Thread Cert.ReferenceCIdeal.nD Cert.ReferenceCIdeal.τ).loc Cert.ReferenceCIdeal.main_arg1) = m ((c.tc : Thread Cert.ReferenceCIdeal.nD Cert.ReferenceCIdeal.τ).loc Cert.ReferenceCIdeal.main_arg1)
      ∧ r.2.mem ((c.tc : Thread Cert.ReferenceCIdeal.nD Cert.ReferenceCIdeal.τ).loc Cert.ReferenceCIdeal.main_arg2) = m ((c.tc : Thread Cert.ReferenceCIdeal.nD Cert.ReferenceCIdeal.τ).loc Cert.ReferenceCIdeal.main_arg2))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1)
      ∧ r.2.mem ((c.tc : Thread Cert.KernelO.nD Cert.KernelO.τ).loc Cert.KernelO.main_arg2) = m ((c.tc : Thread Cert.KernelO.nD Cert.KernelO.τ).loc Cert.KernelO.main_arg2)
      ∧ r.2.mem ((c.tc : Thread Cert.KernelO.nD Cert.KernelO.τ).loc Cert.KernelO.main_arg3) = m ((c.tc : Thread Cert.KernelO.nD Cert.KernelO.τ).loc Cert.KernelO.main_arg3)
      ∧ r.2.mem ((c.tc : Thread Cert.KernelO.nD Cert.KernelO.τ).loc Cert.KernelO.main_arg4) = m ((c.tc : Thread Cert.KernelO.nD Cert.KernelO.τ).loc Cert.KernelO.main_arg4)
      ∧ r.2.mem ((c.tc : Thread Cert.KernelO.nD Cert.KernelO.τ).loc Cert.KernelO.main_arg5) = m ((c.tc : Thread Cert.KernelO.nD Cert.KernelO.τ).loc Cert.KernelO.main_arg5)
      ∧ r.2.mem ((c.tc : Thread Cert.KernelO.nD Cert.KernelO.τ).loc Cert.KernelO.main_arg6) = m ((c.tc : Thread Cert.KernelO.nD Cert.KernelO.τ).loc Cert.KernelO.main_arg6)
      ∧ r.2.mem ((c.tc : Thread Cert.KernelO.nD Cert.KernelO.τ).loc Cert.KernelO.main_arg7) = m ((c.tc : Thread Cert.KernelO.nD Cert.KernelO.τ).loc Cert.KernelO.main_arg7)
      ∧ r.2.mem ((c.tc : Thread Cert.KernelO.nD Cert.KernelO.τ).loc Cert.KernelO.main_arg8) = m ((c.tc : Thread Cert.KernelO.nD Cert.KernelO.τ).loc Cert.KernelO.main_arg8)
      ∧ r.2.mem ((c.tc : Thread Cert.KernelO.nD Cert.KernelO.τ).loc Cert.KernelO.main_arg9) = m ((c.tc : Thread Cert.KernelO.nD Cert.KernelO.τ).loc Cert.KernelO.main_arg9)
      ∧ r.2.mem ((c.tc : Thread Cert.KernelO.nD Cert.KernelO.τ).loc Cert.KernelO.main_arg10) = m ((c.tc : Thread Cert.KernelO.nD Cert.KernelO.τ).loc Cert.KernelO.main_arg10)
      ∧ r.2.mem ((c.tc : Thread Cert.KernelO.nD Cert.KernelO.τ).loc Cert.KernelO.main_arg11) = m ((c.tc : Thread Cert.KernelO.nD Cert.KernelO.τ).loc Cert.KernelO.main_arg11))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
      ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
      ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
      ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
      ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
      ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6)
      ∧ r.2.mem ((c.tc : Thread Cert.KernelOIdeal.nD Cert.KernelOIdeal.τ).loc Cert.KernelOIdeal.main_arg7) = m ((c.tc : Thread Cert.KernelOIdeal.nD Cert.KernelOIdeal.τ).loc Cert.KernelOIdeal.main_arg7)
      ∧ r.2.mem ((c.tc : Thread Cert.KernelOIdeal.nD Cert.KernelOIdeal.τ).loc Cert.KernelOIdeal.main_arg8) = m ((c.tc : Thread Cert.KernelOIdeal.nD Cert.KernelOIdeal.τ).loc Cert.KernelOIdeal.main_arg8)
      ∧ r.2.mem ((c.tc : Thread Cert.KernelOIdeal.nD Cert.KernelOIdeal.τ).loc Cert.KernelOIdeal.main_arg9) = m ((c.tc : Thread Cert.KernelOIdeal.nD Cert.KernelOIdeal.τ).loc Cert.KernelOIdeal.main_arg9)
      ∧ r.2.mem ((c.tc : Thread Cert.KernelOIdeal.nD Cert.KernelOIdeal.τ).loc Cert.KernelOIdeal.main_arg10) = m ((c.tc : Thread Cert.KernelOIdeal.nD Cert.KernelOIdeal.τ).loc Cert.KernelOIdeal.main_arg10)
      ∧ r.2.mem ((c.tc : Thread Cert.KernelOIdeal.nD Cert.KernelOIdeal.τ).loc Cert.KernelOIdeal.main_arg11) = m ((c.tc : Thread Cert.KernelOIdeal.nD Cert.KernelOIdeal.τ).loc Cert.KernelOIdeal.main_arg11))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1)
      ∧ r.2.mem ((c.tc : Thread Cert.ReferenceOIdeal.nD Cert.ReferenceOIdeal.τ).loc Cert.ReferenceOIdeal.main_arg2) = m ((c.tc : Thread Cert.ReferenceOIdeal.nD Cert.ReferenceOIdeal.τ).loc Cert.ReferenceOIdeal.main_arg2)
      ∧ r.2.mem ((c.tc : Thread Cert.ReferenceOIdeal.nD Cert.ReferenceOIdeal.τ).loc Cert.ReferenceOIdeal.main_arg3) = m ((c.tc : Thread Cert.ReferenceOIdeal.nD Cert.ReferenceOIdeal.τ).loc Cert.ReferenceOIdeal.main_arg3)
      ∧ r.2.mem ((c.tc : Thread Cert.ReferenceOIdeal.nD Cert.ReferenceOIdeal.τ).loc Cert.ReferenceOIdeal.main_arg4) = m ((c.tc : Thread Cert.ReferenceOIdeal.nD Cert.ReferenceOIdeal.τ).loc Cert.ReferenceOIdeal.main_arg4)
      ∧ r.2.mem ((c.tc : Thread Cert.ReferenceOIdeal.nD Cert.ReferenceOIdeal.τ).loc Cert.ReferenceOIdeal.main_arg5) = m ((c.tc : Thread Cert.ReferenceOIdeal.nD Cert.ReferenceOIdeal.τ).loc Cert.ReferenceOIdeal.main_arg5)
      ∧ r.2.mem ((c.tc : Thread Cert.ReferenceOIdeal.nD Cert.ReferenceOIdeal.τ).loc Cert.ReferenceOIdeal.main_arg6) = m ((c.tc : Thread Cert.ReferenceOIdeal.nD Cert.ReferenceOIdeal.τ).loc Cert.ReferenceOIdeal.main_arg6)
      ∧ r.2.mem ((c.tc : Thread Cert.ReferenceOIdeal.nD Cert.ReferenceOIdeal.τ).loc Cert.ReferenceOIdeal.main_arg7) = m ((c.tc : Thread Cert.ReferenceOIdeal.nD Cert.ReferenceOIdeal.τ).loc Cert.ReferenceOIdeal.main_arg7)
      ∧ r.2.mem ((c.tc : Thread Cert.ReferenceOIdeal.nD Cert.ReferenceOIdeal.τ).loc Cert.ReferenceOIdeal.main_arg8) = m ((c.tc : Thread Cert.ReferenceOIdeal.nD Cert.ReferenceOIdeal.τ).loc Cert.ReferenceOIdeal.main_arg8)
      ∧ r.2.mem ((c.tc : Thread Cert.ReferenceOIdeal.nD Cert.ReferenceOIdeal.τ).loc Cert.ReferenceOIdeal.main_arg9) = m ((c.tc : Thread Cert.ReferenceOIdeal.nD Cert.ReferenceOIdeal.τ).loc Cert.ReferenceOIdeal.main_arg9)
      ∧ r.2.mem ((c.tc : Thread Cert.ReferenceOIdeal.nD Cert.ReferenceOIdeal.τ).loc Cert.ReferenceOIdeal.main_arg10) = m ((c.tc : Thread Cert.ReferenceOIdeal.nD Cert.ReferenceOIdeal.τ).loc Cert.ReferenceOIdeal.main_arg10)
      ∧ r.2.mem ((c.tc : Thread Cert.ReferenceOIdeal.nD Cert.ReferenceOIdeal.τ).loc Cert.ReferenceOIdeal.main_arg11) = m ((c.tc : Thread Cert.ReferenceOIdeal.nD Cert.ReferenceOIdeal.τ).loc Cert.ReferenceOIdeal.main_arg11))
      ∧ r.2.sem = fun _ => 0)

def quiescent_KernelI [hKernelI : Cert.KernelI.Facts] : Prop :=
  ∀ (m : (ℓ : Loc Cert.KernelI.nD Cert.KernelI.τ Cert.KernelI.sig) → Buf (Elt Bits) ℓ) (g : Dev Cert.KernelI.nD → PrngReg), Pre_KernelI m →
    θ_run (Cert.KernelI.defs (F := Bits)) (onTc (τ := Cert.KernelI.τ) (Cert.KernelI.main (F := Bits))) ⟨m, fun _ => 0, g⟩ (fun r => (∀ c : Dev Cert.KernelI.nD,
      r.2.mem ((c.tc : Thread Cert.KernelI.nD Cert.KernelI.τ).loc Cert.KernelI.main_arg0) = m ((c.tc : Thread Cert.KernelI.nD Cert.KernelI.τ).loc Cert.KernelI.main_arg0)
      ∧ r.2.mem ((c.tc : Thread Cert.KernelI.nD Cert.KernelI.τ).loc Cert.KernelI.main_arg1) = m ((c.tc : Thread Cert.KernelI.nD Cert.KernelI.τ).loc Cert.KernelI.main_arg1)
      ∧ r.2.mem ((c.tc : Thread Cert.KernelI.nD Cert.KernelI.τ).loc Cert.KernelI.main_arg2) = m ((c.tc : Thread Cert.KernelI.nD Cert.KernelI.τ).loc Cert.KernelI.main_arg2)
      ∧ r.2.mem ((c.tc : Thread Cert.KernelI.nD Cert.KernelI.τ).loc Cert.KernelI.main_arg3) = m ((c.tc : Thread Cert.KernelI.nD Cert.KernelI.τ).loc Cert.KernelI.main_arg3)
      ∧ r.2.mem ((c.tc : Thread Cert.KernelI.nD Cert.KernelI.τ).loc Cert.KernelI.main_arg4) = m ((c.tc : Thread Cert.KernelI.nD Cert.KernelI.τ).loc Cert.KernelI.main_arg4)
      ∧ r.2.mem ((c.tc : Thread Cert.KernelI.nD Cert.KernelI.τ).loc Cert.KernelI.main_arg5) = m ((c.tc : Thread Cert.KernelI.nD Cert.KernelI.τ).loc Cert.KernelI.main_arg5)
      ∧ r.2.mem ((c.tc : Thread Cert.KernelI.nD Cert.KernelI.τ).loc Cert.KernelI.main_arg6) = m ((c.tc : Thread Cert.KernelI.nD Cert.KernelI.τ).loc Cert.KernelI.main_arg6)
      ∧ r.2.mem ((c.tc : Thread Cert.KernelI.nD Cert.KernelI.τ).loc Cert.KernelI.main_arg7) = m ((c.tc : Thread Cert.KernelI.nD Cert.KernelI.τ).loc Cert.KernelI.main_arg7)
      ∧ r.2.mem ((c.tc : Thread Cert.KernelI.nD Cert.KernelI.τ).loc Cert.KernelI.main_arg8) = m ((c.tc : Thread Cert.KernelI.nD Cert.KernelI.τ).loc Cert.KernelI.main_arg8)
      ∧ r.2.mem ((c.tc : Thread Cert.KernelI.nD Cert.KernelI.τ).loc Cert.KernelI.main_arg9) = m ((c.tc : Thread Cert.KernelI.nD Cert.KernelI.τ).loc Cert.KernelI.main_arg9)
      ∧ r.2.mem ((c.tc : Thread Cert.KernelI.nD Cert.KernelI.τ).loc Cert.KernelI.main_arg10) = m ((c.tc : Thread Cert.KernelI.nD Cert.KernelI.τ).loc Cert.KernelI.main_arg10))
      ∧ r.2.sem = fun _ => 0)

def quiescent_KernelIIdeal [hKernelIIdeal : Cert.KernelIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg), Pre_KernelIIdeal m →
    θ_run (Cert.KernelIIdeal.defs (F := Ideal)) (onTc (τ := Cert.KernelIIdeal.τ) (Cert.KernelIIdeal.main (F := Ideal))) ⟨m, fun _ => 0, g⟩ (fun r => (∀ c : Dev Cert.KernelIIdeal.nD,
      r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
      ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
      ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
      ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
      ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4)
      ∧ r.2.mem ((c.tc : Thread Cert.KernelIIdeal.nD Cert.KernelIIdeal.τ).loc Cert.KernelIIdeal.main_arg5) = m ((c.tc : Thread Cert.KernelIIdeal.nD Cert.KernelIIdeal.τ).loc Cert.KernelIIdeal.main_arg5)
      ∧ r.2.mem ((c.tc : Thread Cert.KernelIIdeal.nD Cert.KernelIIdeal.τ).loc Cert.KernelIIdeal.main_arg6) = m ((c.tc : Thread Cert.KernelIIdeal.nD Cert.KernelIIdeal.τ).loc Cert.KernelIIdeal.main_arg6)
      ∧ r.2.mem ((c.tc : Thread Cert.KernelIIdeal.nD Cert.KernelIIdeal.τ).loc Cert.KernelIIdeal.main_arg7) = m ((c.tc : Thread Cert.KernelIIdeal.nD Cert.KernelIIdeal.τ).loc Cert.KernelIIdeal.main_arg7)
      ∧ r.2.mem ((c.tc : Thread Cert.KernelIIdeal.nD Cert.KernelIIdeal.τ).loc Cert.KernelIIdeal.main_arg8) = m ((c.tc : Thread Cert.KernelIIdeal.nD Cert.KernelIIdeal.τ).loc Cert.KernelIIdeal.main_arg8)
      ∧ r.2.mem ((c.tc : Thread Cert.KernelIIdeal.nD Cert.KernelIIdeal.τ).loc Cert.KernelIIdeal.main_arg9) = m ((c.tc : Thread Cert.KernelIIdeal.nD Cert.KernelIIdeal.τ).loc Cert.KernelIIdeal.main_arg9)
      ∧ r.2.mem ((c.tc : Thread Cert.KernelIIdeal.nD Cert.KernelIIdeal.τ).loc Cert.KernelIIdeal.main_arg10) = m ((c.tc : Thread Cert.KernelIIdeal.nD Cert.KernelIIdeal.τ).loc Cert.KernelIIdeal.main_arg10))
      ∧ r.2.sem = fun _ => 0)

def quiescent_ReferenceIIdeal [hReferenceIIdeal : Cert.ReferenceIIdeal.Facts] : Prop :=
  ∀ (m : (ℓ : Loc Cert.ReferenceIIdeal.nD Cert.ReferenceIIdeal.τ Cert.ReferenceIIdeal.sig) → Buf (Elt Ideal) ℓ) (g : Dev Cert.ReferenceIIdeal.nD → PrngReg), Pre_ReferenceIIdeal m →
    θ_run (Cert.ReferenceIIdeal.defs (F := Ideal)) (onTc (τ := Cert.ReferenceIIdeal.τ) (Cert.ReferenceIIdeal.main (F := Ideal))) ⟨m, fun _ => 0, g⟩ (fun r => (∀ c : Dev Cert.ReferenceIIdeal.nD,
      r.2.mem ((c.tc : Thread Cert.ReferenceIIdeal.nD Cert.ReferenceIIdeal.τ).loc Cert.ReferenceIIdeal.main_arg0) = m ((c.tc : Thread Cert.ReferenceIIdeal.nD Cert.ReferenceIIdeal.τ).loc Cert.ReferenceIIdeal.main_arg0)
      ∧ r.2.mem ((c.tc : Thread Cert.ReferenceIIdeal.nD Cert.ReferenceIIdeal.τ).loc Cert.ReferenceIIdeal.main_arg1) = m ((c.tc : Thread Cert.ReferenceIIdeal.nD Cert.ReferenceIIdeal.τ).loc Cert.ReferenceIIdeal.main_arg1)
      ∧ r.2.mem ((c.tc : Thread Cert.ReferenceIIdeal.nD Cert.ReferenceIIdeal.τ).loc Cert.ReferenceIIdeal.main_arg2) = m ((c.tc : Thread Cert.ReferenceIIdeal.nD Cert.ReferenceIIdeal.τ).loc Cert.ReferenceIIdeal.main_arg2)
      ∧ r.2.mem ((c.tc : Thread Cert.ReferenceIIdeal.nD Cert.ReferenceIIdeal.τ).loc Cert.ReferenceIIdeal.main_arg3) = m ((c.tc : Thread Cert.ReferenceIIdeal.nD Cert.ReferenceIIdeal.τ).loc Cert.ReferenceIIdeal.main_arg3)
      ∧ r.2.mem ((c.tc : Thread Cert.ReferenceIIdeal.nD Cert.ReferenceIIdeal.τ).loc Cert.ReferenceIIdeal.main_arg4) = m ((c.tc : Thread Cert.ReferenceIIdeal.nD Cert.ReferenceIIdeal.τ).loc Cert.ReferenceIIdeal.main_arg4)
      ∧ r.2.mem ((c.tc : Thread Cert.ReferenceIIdeal.nD Cert.ReferenceIIdeal.τ).loc Cert.ReferenceIIdeal.main_arg5) = m ((c.tc : Thread Cert.ReferenceIIdeal.nD Cert.ReferenceIIdeal.τ).loc Cert.ReferenceIIdeal.main_arg5)
      ∧ r.2.mem ((c.tc : Thread Cert.ReferenceIIdeal.nD Cert.ReferenceIIdeal.τ).loc Cert.ReferenceIIdeal.main_arg6) = m ((c.tc : Thread Cert.ReferenceIIdeal.nD Cert.ReferenceIIdeal.τ).loc Cert.ReferenceIIdeal.main_arg6)
      ∧ r.2.mem ((c.tc : Thread Cert.ReferenceIIdeal.nD Cert.ReferenceIIdeal.τ).loc Cert.ReferenceIIdeal.main_arg7) = m ((c.tc : Thread Cert.ReferenceIIdeal.nD Cert.ReferenceIIdeal.τ).loc Cert.ReferenceIIdeal.main_arg7)
      ∧ r.2.mem ((c.tc : Thread Cert.ReferenceIIdeal.nD Cert.ReferenceIIdeal.τ).loc Cert.ReferenceIIdeal.main_arg8) = m ((c.tc : Thread Cert.ReferenceIIdeal.nD Cert.ReferenceIIdeal.τ).loc Cert.ReferenceIIdeal.main_arg8)
      ∧ r.2.mem ((c.tc : Thread Cert.ReferenceIIdeal.nD Cert.ReferenceIIdeal.τ).loc Cert.ReferenceIIdeal.main_arg9) = m ((c.tc : Thread Cert.ReferenceIIdeal.nD Cert.ReferenceIIdeal.τ).loc Cert.ReferenceIIdeal.main_arg9)
      ∧ r.2.mem ((c.tc : Thread Cert.ReferenceIIdeal.nD Cert.ReferenceIIdeal.τ).loc Cert.ReferenceIIdeal.main_arg10) = m ((c.tc : Thread Cert.ReferenceIIdeal.nD Cert.ReferenceIIdeal.τ).loc Cert.ReferenceIIdeal.main_arg10))
      ∧ r.2.sem = fun _ => 0)

def preserves_KernelA_KernelAIdeal : Prop :=
  True

def algebraic_KernelAIdeal_ReferenceAIdeal_pre_finite_a [hKernelAIdeal : Cert.KernelAIdeal.Facts] [hReferenceAIdeal : Cert.ReferenceAIdeal.Facts] [hPre_finite_a : Cert.Pre_finite_a.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_a m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)) →
    ∃ (v0 : (c : Dev Cert.KernelAIdeal.nD) → Buf (Elt Ideal) ((c.tc : Thread Cert.KernelAIdeal.nD Cert.KernelAIdeal.τ).loc Cert.KernelAIdeal.main_v15)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v15) = v0 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v24) = v0 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2))

def preserves_KernelB_KernelBIdeal : Prop :=
  True

def algebraic_KernelBIdeal_ReferenceBIdeal_pre_finite_b [hKernelBIdeal : Cert.KernelBIdeal.Facts] [hReferenceBIdeal : Cert.ReferenceBIdeal.Facts] [hPre_finite_b : Cert.Pre_finite_b.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_finite_b m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)) →
    ∃ (v0 : (c : Dev Cert.KernelBIdeal.nD) → Buf (Elt Ideal) ((c.tc : Thread Cert.KernelBIdeal.nD Cert.KernelBIdeal.τ).loc Cert.KernelBIdeal.main_v20)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v20) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v27) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4))

def preserves_KernelC_KernelCIdeal : Prop :=
  True

def algebraic_KernelCIdeal_ReferenceCIdeal_pre_finite_c [hKernelCIdeal : Cert.KernelCIdeal.Facts] [hReferenceCIdeal : Cert.ReferenceCIdeal.Facts] [hPre_finite_c : Cert.Pre_finite_c.Facts] : Prop :=
  ∀ (m : (ℓ : Loc Cert.KernelCIdeal.nD Cert.KernelCIdeal.τ Cert.KernelCIdeal.sig) → Buf (Elt Ideal) ℓ) (g : Dev Cert.KernelCIdeal.nD → PrngReg)
    (m' : (ℓ : Loc Cert.ReferenceCIdeal.nD Cert.ReferenceCIdeal.τ Cert.ReferenceCIdeal.sig) → Buf (Elt Ideal) ℓ) (g' : Dev Cert.ReferenceCIdeal.nD → PrngReg), Pre_KernelCIdeal_finite_c m →
    (∀ c : Dev Cert.KernelCIdeal.nD,
      m' ((c.tc : Thread Cert.ReferenceCIdeal.nD Cert.ReferenceCIdeal.τ).loc Cert.ReferenceCIdeal.main_arg0) = m ((c.tc : Thread Cert.KernelCIdeal.nD Cert.KernelCIdeal.τ).loc Cert.KernelCIdeal.main_arg0)
      ∧ m' ((c.tc : Thread Cert.ReferenceCIdeal.nD Cert.ReferenceCIdeal.τ).loc Cert.ReferenceCIdeal.main_arg1) = m ((c.tc : Thread Cert.KernelCIdeal.nD Cert.KernelCIdeal.τ).loc Cert.KernelCIdeal.main_arg1)
      ∧ m' ((c.tc : Thread Cert.ReferenceCIdeal.nD Cert.ReferenceCIdeal.τ).loc Cert.ReferenceCIdeal.main_arg2) = m ((c.tc : Thread Cert.KernelCIdeal.nD Cert.KernelCIdeal.τ).loc Cert.KernelCIdeal.main_arg2)) →
    ∃ (v0 : (c : Dev Cert.KernelCIdeal.nD) → Buf (Elt Ideal) ((c.tc : Thread Cert.KernelCIdeal.nD Cert.KernelCIdeal.τ).loc Cert.KernelCIdeal.main_v23)),
      θ_run (Cert.KernelCIdeal.defs (F := Ideal)) (onTc (τ := Cert.KernelCIdeal.τ) (Cert.KernelCIdeal.main (F := Ideal))) ⟨m, fun _ => 0, g⟩ (fun r => ∀ c : Dev Cert.KernelCIdeal.nD,
          r.2.mem ((c.tc : Thread Cert.KernelCIdeal.nD Cert.KernelCIdeal.τ).loc Cert.KernelCIdeal.main_v23) = v0 c
          ∧ r.2.mem ((c.tc : Thread Cert.KernelCIdeal.nD Cert.KernelCIdeal.τ).loc Cert.KernelCIdeal.main_arg0) = m ((c.tc : Thread Cert.KernelCIdeal.nD Cert.KernelCIdeal.τ).loc Cert.KernelCIdeal.main_arg0)
          ∧ r.2.mem ((c.tc : Thread Cert.KernelCIdeal.nD Cert.KernelCIdeal.τ).loc Cert.KernelCIdeal.main_arg1) = m ((c.tc : Thread Cert.KernelCIdeal.nD Cert.KernelCIdeal.τ).loc Cert.KernelCIdeal.main_arg1)
          ∧ r.2.mem ((c.tc : Thread Cert.KernelCIdeal.nD Cert.KernelCIdeal.τ).loc Cert.KernelCIdeal.main_arg2) = m ((c.tc : Thread Cert.KernelCIdeal.nD Cert.KernelCIdeal.τ).loc Cert.KernelCIdeal.main_arg2))
      ∧ θ_run (Cert.ReferenceCIdeal.defs (F := Ideal)) (onTc (τ := Cert.ReferenceCIdeal.τ) (Cert.ReferenceCIdeal.main (F := Ideal))) ⟨m', fun _ => 0, g'⟩ (fun r => ∀ c : Dev Cert.ReferenceCIdeal.nD,
          r.2.mem ((c.tc : Thread Cert.ReferenceCIdeal.nD Cert.ReferenceCIdeal.τ).loc Cert.ReferenceCIdeal.main_v21) = v0 c
          ∧ r.2.mem ((c.tc : Thread Cert.ReferenceCIdeal.nD Cert.ReferenceCIdeal.τ).loc Cert.ReferenceCIdeal.main_arg0) = m' ((c.tc : Thread Cert.ReferenceCIdeal.nD Cert.ReferenceCIdeal.τ).loc Cert.ReferenceCIdeal.main_arg0)
          ∧ r.2.mem ((c.tc : Thread Cert.ReferenceCIdeal.nD Cert.ReferenceCIdeal.τ).loc Cert.ReferenceCIdeal.main_arg1) = m' ((c.tc : Thread Cert.ReferenceCIdeal.nD Cert.ReferenceCIdeal.τ).loc Cert.ReferenceCIdeal.main_arg1)
          ∧ r.2.mem ((c.tc : Thread Cert.ReferenceCIdeal.nD Cert.ReferenceCIdeal.τ).loc Cert.ReferenceCIdeal.main_arg2) = m' ((c.tc : Thread Cert.ReferenceCIdeal.nD Cert.ReferenceCIdeal.τ).loc Cert.ReferenceCIdeal.main_arg2))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)
      ∧ m' ((c.tc : Thread Cert.ReferenceOIdeal.nD Cert.ReferenceOIdeal.τ).loc Cert.ReferenceOIdeal.main_arg2) = m ((c.tc : Thread Cert.KernelOIdeal.nD Cert.KernelOIdeal.τ).loc Cert.KernelOIdeal.main_arg2)
      ∧ m' ((c.tc : Thread Cert.ReferenceOIdeal.nD Cert.ReferenceOIdeal.τ).loc Cert.ReferenceOIdeal.main_arg3) = m ((c.tc : Thread Cert.KernelOIdeal.nD Cert.KernelOIdeal.τ).loc Cert.KernelOIdeal.main_arg3)
      ∧ m' ((c.tc : Thread Cert.ReferenceOIdeal.nD Cert.ReferenceOIdeal.τ).loc Cert.ReferenceOIdeal.main_arg4) = m ((c.tc : Thread Cert.KernelOIdeal.nD Cert.KernelOIdeal.τ).loc Cert.KernelOIdeal.main_arg4)
      ∧ m' ((c.tc : Thread Cert.ReferenceOIdeal.nD Cert.ReferenceOIdeal.τ).loc Cert.ReferenceOIdeal.main_arg5) = m ((c.tc : Thread Cert.KernelOIdeal.nD Cert.KernelOIdeal.τ).loc Cert.KernelOIdeal.main_arg5)
      ∧ m' ((c.tc : Thread Cert.ReferenceOIdeal.nD Cert.ReferenceOIdeal.τ).loc Cert.ReferenceOIdeal.main_arg6) = m ((c.tc : Thread Cert.KernelOIdeal.nD Cert.KernelOIdeal.τ).loc Cert.KernelOIdeal.main_arg6)
      ∧ m' ((c.tc : Thread Cert.ReferenceOIdeal.nD Cert.ReferenceOIdeal.τ).loc Cert.ReferenceOIdeal.main_arg7) = m ((c.tc : Thread Cert.KernelOIdeal.nD Cert.KernelOIdeal.τ).loc Cert.KernelOIdeal.main_arg7)
      ∧ m' ((c.tc : Thread Cert.ReferenceOIdeal.nD Cert.ReferenceOIdeal.τ).loc Cert.ReferenceOIdeal.main_arg8) = m ((c.tc : Thread Cert.KernelOIdeal.nD Cert.KernelOIdeal.τ).loc Cert.KernelOIdeal.main_arg8)
      ∧ m' ((c.tc : Thread Cert.ReferenceOIdeal.nD Cert.ReferenceOIdeal.τ).loc Cert.ReferenceOIdeal.main_arg9) = m ((c.tc : Thread Cert.KernelOIdeal.nD Cert.KernelOIdeal.τ).loc Cert.KernelOIdeal.main_arg9)
      ∧ m' ((c.tc : Thread Cert.ReferenceOIdeal.nD Cert.ReferenceOIdeal.τ).loc Cert.ReferenceOIdeal.main_arg10) = m ((c.tc : Thread Cert.KernelOIdeal.nD Cert.KernelOIdeal.τ).loc Cert.KernelOIdeal.main_arg10)
      ∧ m' ((c.tc : Thread Cert.ReferenceOIdeal.nD Cert.ReferenceOIdeal.τ).loc Cert.ReferenceOIdeal.main_arg11) = m ((c.tc : Thread Cert.KernelOIdeal.nD Cert.KernelOIdeal.τ).loc Cert.KernelOIdeal.main_arg11)) →
    ∃ (v0 : (c : Dev Cert.KernelOIdeal.nD) → Buf (Elt Ideal) ((c.tc : Thread Cert.KernelOIdeal.nD Cert.KernelOIdeal.τ).loc Cert.KernelOIdeal.main_v9)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v9) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1)
          ∧ r.2.mem ((c.tc : Thread Cert.KernelOIdeal.nD Cert.KernelOIdeal.τ).loc Cert.KernelOIdeal.main_arg2) = m ((c.tc : Thread Cert.KernelOIdeal.nD Cert.KernelOIdeal.τ).loc Cert.KernelOIdeal.main_arg2)
          ∧ r.2.mem ((c.tc : Thread Cert.KernelOIdeal.nD Cert.KernelOIdeal.τ).loc Cert.KernelOIdeal.main_arg3) = m ((c.tc : Thread Cert.KernelOIdeal.nD Cert.KernelOIdeal.τ).loc Cert.KernelOIdeal.main_arg3)
          ∧ r.2.mem ((c.tc : Thread Cert.KernelOIdeal.nD Cert.KernelOIdeal.τ).loc Cert.KernelOIdeal.main_arg4) = m ((c.tc : Thread Cert.KernelOIdeal.nD Cert.KernelOIdeal.τ).loc Cert.KernelOIdeal.main_arg4)
          ∧ r.2.mem ((c.tc : Thread Cert.KernelOIdeal.nD Cert.KernelOIdeal.τ).loc Cert.KernelOIdeal.main_arg5) = m ((c.tc : Thread Cert.KernelOIdeal.nD Cert.KernelOIdeal.τ).loc Cert.KernelOIdeal.main_arg5)
          ∧ r.2.mem ((c.tc : Thread Cert.KernelOIdeal.nD Cert.KernelOIdeal.τ).loc Cert.KernelOIdeal.main_arg6) = m ((c.tc : Thread Cert.KernelOIdeal.nD Cert.KernelOIdeal.τ).loc Cert.KernelOIdeal.main_arg6)
          ∧ r.2.mem ((c.tc : Thread Cert.KernelOIdeal.nD Cert.KernelOIdeal.τ).loc Cert.KernelOIdeal.main_arg7) = m ((c.tc : Thread Cert.KernelOIdeal.nD Cert.KernelOIdeal.τ).loc Cert.KernelOIdeal.main_arg7)
          ∧ r.2.mem ((c.tc : Thread Cert.KernelOIdeal.nD Cert.KernelOIdeal.τ).loc Cert.KernelOIdeal.main_arg8) = m ((c.tc : Thread Cert.KernelOIdeal.nD Cert.KernelOIdeal.τ).loc Cert.KernelOIdeal.main_arg8)
          ∧ r.2.mem ((c.tc : Thread Cert.KernelOIdeal.nD Cert.KernelOIdeal.τ).loc Cert.KernelOIdeal.main_arg9) = m ((c.tc : Thread Cert.KernelOIdeal.nD Cert.KernelOIdeal.τ).loc Cert.KernelOIdeal.main_arg9)
          ∧ r.2.mem ((c.tc : Thread Cert.KernelOIdeal.nD Cert.KernelOIdeal.τ).loc Cert.KernelOIdeal.main_arg10) = m ((c.tc : Thread Cert.KernelOIdeal.nD Cert.KernelOIdeal.τ).loc Cert.KernelOIdeal.main_arg10)
          ∧ r.2.mem ((c.tc : Thread Cert.KernelOIdeal.nD Cert.KernelOIdeal.τ).loc Cert.KernelOIdeal.main_arg11) = m ((c.tc : Thread Cert.KernelOIdeal.nD Cert.KernelOIdeal.τ).loc Cert.KernelOIdeal.main_arg11))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v60) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1)
          ∧ r.2.mem ((c.tc : Thread Cert.ReferenceOIdeal.nD Cert.ReferenceOIdeal.τ).loc Cert.ReferenceOIdeal.main_arg2) = m' ((c.tc : Thread Cert.ReferenceOIdeal.nD Cert.ReferenceOIdeal.τ).loc Cert.ReferenceOIdeal.main_arg2)
          ∧ r.2.mem ((c.tc : Thread Cert.ReferenceOIdeal.nD Cert.ReferenceOIdeal.τ).loc Cert.ReferenceOIdeal.main_arg3) = m' ((c.tc : Thread Cert.ReferenceOIdeal.nD Cert.ReferenceOIdeal.τ).loc Cert.ReferenceOIdeal.main_arg3)
          ∧ r.2.mem ((c.tc : Thread Cert.ReferenceOIdeal.nD Cert.ReferenceOIdeal.τ).loc Cert.ReferenceOIdeal.main_arg4) = m' ((c.tc : Thread Cert.ReferenceOIdeal.nD Cert.ReferenceOIdeal.τ).loc Cert.ReferenceOIdeal.main_arg4)
          ∧ r.2.mem ((c.tc : Thread Cert.ReferenceOIdeal.nD Cert.ReferenceOIdeal.τ).loc Cert.ReferenceOIdeal.main_arg5) = m' ((c.tc : Thread Cert.ReferenceOIdeal.nD Cert.ReferenceOIdeal.τ).loc Cert.ReferenceOIdeal.main_arg5)
          ∧ r.2.mem ((c.tc : Thread Cert.ReferenceOIdeal.nD Cert.ReferenceOIdeal.τ).loc Cert.ReferenceOIdeal.main_arg6) = m' ((c.tc : Thread Cert.ReferenceOIdeal.nD Cert.ReferenceOIdeal.τ).loc Cert.ReferenceOIdeal.main_arg6)
          ∧ r.2.mem ((c.tc : Thread Cert.ReferenceOIdeal.nD Cert.ReferenceOIdeal.τ).loc Cert.ReferenceOIdeal.main_arg7) = m' ((c.tc : Thread Cert.ReferenceOIdeal.nD Cert.ReferenceOIdeal.τ).loc Cert.ReferenceOIdeal.main_arg7)
          ∧ r.2.mem ((c.tc : Thread Cert.ReferenceOIdeal.nD Cert.ReferenceOIdeal.τ).loc Cert.ReferenceOIdeal.main_arg8) = m' ((c.tc : Thread Cert.ReferenceOIdeal.nD Cert.ReferenceOIdeal.τ).loc Cert.ReferenceOIdeal.main_arg8)
          ∧ r.2.mem ((c.tc : Thread Cert.ReferenceOIdeal.nD Cert.ReferenceOIdeal.τ).loc Cert.ReferenceOIdeal.main_arg9) = m' ((c.tc : Thread Cert.ReferenceOIdeal.nD Cert.ReferenceOIdeal.τ).loc Cert.ReferenceOIdeal.main_arg9)
          ∧ r.2.mem ((c.tc : Thread Cert.ReferenceOIdeal.nD Cert.ReferenceOIdeal.τ).loc Cert.ReferenceOIdeal.main_arg10) = m' ((c.tc : Thread Cert.ReferenceOIdeal.nD Cert.ReferenceOIdeal.τ).loc Cert.ReferenceOIdeal.main_arg10)
          ∧ r.2.mem ((c.tc : Thread Cert.ReferenceOIdeal.nD Cert.ReferenceOIdeal.τ).loc Cert.ReferenceOIdeal.main_arg11) = m' ((c.tc : Thread Cert.ReferenceOIdeal.nD Cert.ReferenceOIdeal.τ).loc Cert.ReferenceOIdeal.main_arg11))

def preserves_KernelI_KernelIIdeal : Prop :=
  IdealRules.named_const.Statement Cert.KernelIIdeal.κ "scale_a" .f32 0x3E0293EE#32 ((((Real.sqrt 128) * (Real.log 2))⁻¹ : ℝ) : EReal)
  ∧ IdealRules.named_const.Statement Cert.KernelIIdeal.κ "scale_b" .f32 0x3DD53B95#32 ((((Real.sqrt 192) * (Real.log 2))⁻¹ : ℝ) : EReal)
  ∧ IdealRules.named_const.Statement Cert.KernelIIdeal.κ "scale_c" .f32 0x3E38AA3B#32 ((((Real.sqrt 64) * (Real.log 2))⁻¹ : ℝ) : EReal)

def algebraic_KernelIIdeal_ReferenceIIdeal [hKernelIIdeal : Cert.KernelIIdeal.Facts] [hReferenceIIdeal : Cert.ReferenceIIdeal.Facts] : Prop :=
  ∀ (m : (ℓ : Loc Cert.KernelIIdeal.nD Cert.KernelIIdeal.τ Cert.KernelIIdeal.sig) → Buf (Elt Ideal) ℓ) (g : Dev Cert.KernelIIdeal.nD → PrngReg)
    (m' : (ℓ : Loc Cert.ReferenceIIdeal.nD Cert.ReferenceIIdeal.τ Cert.ReferenceIIdeal.sig) → Buf (Elt Ideal) ℓ) (g' : Dev Cert.ReferenceIIdeal.nD → PrngReg), Pre_KernelIIdeal m →
    (∀ c : Dev Cert.KernelIIdeal.nD,
      m' ((c.tc : Thread Cert.ReferenceIIdeal.nD Cert.ReferenceIIdeal.τ).loc Cert.ReferenceIIdeal.main_arg0) = m ((c.tc : Thread Cert.KernelIIdeal.nD Cert.KernelIIdeal.τ).loc Cert.KernelIIdeal.main_arg0)
      ∧ m' ((c.tc : Thread Cert.ReferenceIIdeal.nD Cert.ReferenceIIdeal.τ).loc Cert.ReferenceIIdeal.main_arg1) = m ((c.tc : Thread Cert.KernelIIdeal.nD Cert.KernelIIdeal.τ).loc Cert.KernelIIdeal.main_arg1)
      ∧ m' ((c.tc : Thread Cert.ReferenceIIdeal.nD Cert.ReferenceIIdeal.τ).loc Cert.ReferenceIIdeal.main_arg2) = m ((c.tc : Thread Cert.KernelIIdeal.nD Cert.KernelIIdeal.τ).loc Cert.KernelIIdeal.main_arg2)
      ∧ m' ((c.tc : Thread Cert.ReferenceIIdeal.nD Cert.ReferenceIIdeal.τ).loc Cert.ReferenceIIdeal.main_arg3) = m ((c.tc : Thread Cert.KernelIIdeal.nD Cert.KernelIIdeal.τ).loc Cert.KernelIIdeal.main_arg3)
      ∧ m' ((c.tc : Thread Cert.ReferenceIIdeal.nD Cert.ReferenceIIdeal.τ).loc Cert.ReferenceIIdeal.main_arg4) = m ((c.tc : Thread Cert.KernelIIdeal.nD Cert.KernelIIdeal.τ).loc Cert.KernelIIdeal.main_arg4)
      ∧ m' ((c.tc : Thread Cert.ReferenceIIdeal.nD Cert.ReferenceIIdeal.τ).loc Cert.ReferenceIIdeal.main_arg5) = m ((c.tc : Thread Cert.KernelIIdeal.nD Cert.KernelIIdeal.τ).loc Cert.KernelIIdeal.main_arg5)
      ∧ m' ((c.tc : Thread Cert.ReferenceIIdeal.nD Cert.ReferenceIIdeal.τ).loc Cert.ReferenceIIdeal.main_arg6) = m ((c.tc : Thread Cert.KernelIIdeal.nD Cert.KernelIIdeal.τ).loc Cert.KernelIIdeal.main_arg6)
      ∧ m' ((c.tc : Thread Cert.ReferenceIIdeal.nD Cert.ReferenceIIdeal.τ).loc Cert.ReferenceIIdeal.main_arg7) = m ((c.tc : Thread Cert.KernelIIdeal.nD Cert.KernelIIdeal.τ).loc Cert.KernelIIdeal.main_arg7)
      ∧ m' ((c.tc : Thread Cert.ReferenceIIdeal.nD Cert.ReferenceIIdeal.τ).loc Cert.ReferenceIIdeal.main_arg8) = m ((c.tc : Thread Cert.KernelIIdeal.nD Cert.KernelIIdeal.τ).loc Cert.KernelIIdeal.main_arg8)
      ∧ m' ((c.tc : Thread Cert.ReferenceIIdeal.nD Cert.ReferenceIIdeal.τ).loc Cert.ReferenceIIdeal.main_arg9) = m ((c.tc : Thread Cert.KernelIIdeal.nD Cert.KernelIIdeal.τ).loc Cert.KernelIIdeal.main_arg9)
      ∧ m' ((c.tc : Thread Cert.ReferenceIIdeal.nD Cert.ReferenceIIdeal.τ).loc Cert.ReferenceIIdeal.main_arg10) = m ((c.tc : Thread Cert.KernelIIdeal.nD Cert.KernelIIdeal.τ).loc Cert.KernelIIdeal.main_arg10)) →
    ∃ (v0 : (c : Dev Cert.KernelIIdeal.nD) → Buf (Elt Ideal) ((c.tc : Thread Cert.KernelIIdeal.nD Cert.KernelIIdeal.τ).loc Cert.KernelIIdeal.main_v63_0)) (v1 : (c : Dev Cert.KernelIIdeal.nD) → Buf (Elt Ideal) ((c.tc : Thread Cert.KernelIIdeal.nD Cert.KernelIIdeal.τ).loc Cert.KernelIIdeal.main_v63_1)) (v2 : (c : Dev Cert.KernelIIdeal.nD) → Buf (Elt Ideal) ((c.tc : Thread Cert.KernelIIdeal.nD Cert.KernelIIdeal.τ).loc Cert.KernelIIdeal.main_v63_2)) (v3 : (c : Dev Cert.KernelIIdeal.nD) → Buf (Elt Ideal) ((c.tc : Thread Cert.KernelIIdeal.nD Cert.KernelIIdeal.τ).loc Cert.KernelIIdeal.main_v63_3)) (v4 : (c : Dev Cert.KernelIIdeal.nD) → Buf (Elt Ideal) ((c.tc : Thread Cert.KernelIIdeal.nD Cert.KernelIIdeal.τ).loc Cert.KernelIIdeal.main_v63_4)) (v5 : (c : Dev Cert.KernelIIdeal.nD) → Buf (Elt Ideal) ((c.tc : Thread Cert.KernelIIdeal.nD Cert.KernelIIdeal.τ).loc Cert.KernelIIdeal.main_v63_5)) (v6 : (c : Dev Cert.KernelIIdeal.nD) → Buf (Elt Ideal) ((c.tc : Thread Cert.KernelIIdeal.nD Cert.KernelIIdeal.τ).loc Cert.KernelIIdeal.main_v63_6)) (v7 : (c : Dev Cert.KernelIIdeal.nD) → Buf (Elt Ideal) ((c.tc : Thread Cert.KernelIIdeal.nD Cert.KernelIIdeal.τ).loc Cert.KernelIIdeal.main_v63_7)) (v8 : (c : Dev Cert.KernelIIdeal.nD) → Buf (Elt Ideal) ((c.tc : Thread Cert.KernelIIdeal.nD Cert.KernelIIdeal.τ).loc Cert.KernelIIdeal.main_v63_8)),
      θ_run (Cert.KernelIIdeal.defs (F := Ideal)) (onTc (τ := Cert.KernelIIdeal.τ) (Cert.KernelIIdeal.main (F := Ideal))) ⟨m, fun _ => 0, g⟩ (fun r => ∀ c : Dev Cert.KernelIIdeal.nD,
          r.2.mem ((c.tc : Thread Cert.KernelIIdeal.nD Cert.KernelIIdeal.τ).loc Cert.KernelIIdeal.main_v63_0) = v0 c
          ∧ r.2.mem ((c.tc : Thread Cert.KernelIIdeal.nD Cert.KernelIIdeal.τ).loc Cert.KernelIIdeal.main_v63_1) = v1 c
          ∧ r.2.mem ((c.tc : Thread Cert.KernelIIdeal.nD Cert.KernelIIdeal.τ).loc Cert.KernelIIdeal.main_v63_2) = v2 c
          ∧ r.2.mem ((c.tc : Thread Cert.KernelIIdeal.nD Cert.KernelIIdeal.τ).loc Cert.KernelIIdeal.main_v63_3) = v3 c
          ∧ r.2.mem ((c.tc : Thread Cert.KernelIIdeal.nD Cert.KernelIIdeal.τ).loc Cert.KernelIIdeal.main_v63_4) = v4 c
          ∧ r.2.mem ((c.tc : Thread Cert.KernelIIdeal.nD Cert.KernelIIdeal.τ).loc Cert.KernelIIdeal.main_v63_5) = v5 c
          ∧ r.2.mem ((c.tc : Thread Cert.KernelIIdeal.nD Cert.KernelIIdeal.τ).loc Cert.KernelIIdeal.main_v63_6) = v6 c
          ∧ r.2.mem ((c.tc : Thread Cert.KernelIIdeal.nD Cert.KernelIIdeal.τ).loc Cert.KernelIIdeal.main_v63_7) = v7 c
          ∧ r.2.mem ((c.tc : Thread Cert.KernelIIdeal.nD Cert.KernelIIdeal.τ).loc Cert.KernelIIdeal.main_v63_8) = v8 c
          ∧ r.2.mem ((c.tc : Thread Cert.KernelIIdeal.nD Cert.KernelIIdeal.τ).loc Cert.KernelIIdeal.main_arg0) = m ((c.tc : Thread Cert.KernelIIdeal.nD Cert.KernelIIdeal.τ).loc Cert.KernelIIdeal.main_arg0)
          ∧ r.2.mem ((c.tc : Thread Cert.KernelIIdeal.nD Cert.KernelIIdeal.τ).loc Cert.KernelIIdeal.main_arg1) = m ((c.tc : Thread Cert.KernelIIdeal.nD Cert.KernelIIdeal.τ).loc Cert.KernelIIdeal.main_arg1)
          ∧ r.2.mem ((c.tc : Thread Cert.KernelIIdeal.nD Cert.KernelIIdeal.τ).loc Cert.KernelIIdeal.main_arg2) = m ((c.tc : Thread Cert.KernelIIdeal.nD Cert.KernelIIdeal.τ).loc Cert.KernelIIdeal.main_arg2)
          ∧ r.2.mem ((c.tc : Thread Cert.KernelIIdeal.nD Cert.KernelIIdeal.τ).loc Cert.KernelIIdeal.main_arg3) = m ((c.tc : Thread Cert.KernelIIdeal.nD Cert.KernelIIdeal.τ).loc Cert.KernelIIdeal.main_arg3)
          ∧ r.2.mem ((c.tc : Thread Cert.KernelIIdeal.nD Cert.KernelIIdeal.τ).loc Cert.KernelIIdeal.main_arg4) = m ((c.tc : Thread Cert.KernelIIdeal.nD Cert.KernelIIdeal.τ).loc Cert.KernelIIdeal.main_arg4)
          ∧ r.2.mem ((c.tc : Thread Cert.KernelIIdeal.nD Cert.KernelIIdeal.τ).loc Cert.KernelIIdeal.main_arg5) = m ((c.tc : Thread Cert.KernelIIdeal.nD Cert.KernelIIdeal.τ).loc Cert.KernelIIdeal.main_arg5)
          ∧ r.2.mem ((c.tc : Thread Cert.KernelIIdeal.nD Cert.KernelIIdeal.τ).loc Cert.KernelIIdeal.main_arg6) = m ((c.tc : Thread Cert.KernelIIdeal.nD Cert.KernelIIdeal.τ).loc Cert.KernelIIdeal.main_arg6)
          ∧ r.2.mem ((c.tc : Thread Cert.KernelIIdeal.nD Cert.KernelIIdeal.τ).loc Cert.KernelIIdeal.main_arg7) = m ((c.tc : Thread Cert.KernelIIdeal.nD Cert.KernelIIdeal.τ).loc Cert.KernelIIdeal.main_arg7)
          ∧ r.2.mem ((c.tc : Thread Cert.KernelIIdeal.nD Cert.KernelIIdeal.τ).loc Cert.KernelIIdeal.main_arg8) = m ((c.tc : Thread Cert.KernelIIdeal.nD Cert.KernelIIdeal.τ).loc Cert.KernelIIdeal.main_arg8)
          ∧ r.2.mem ((c.tc : Thread Cert.KernelIIdeal.nD Cert.KernelIIdeal.τ).loc Cert.KernelIIdeal.main_arg9) = m ((c.tc : Thread Cert.KernelIIdeal.nD Cert.KernelIIdeal.τ).loc Cert.KernelIIdeal.main_arg9)
          ∧ r.2.mem ((c.tc : Thread Cert.KernelIIdeal.nD Cert.KernelIIdeal.τ).loc Cert.KernelIIdeal.main_arg10) = m ((c.tc : Thread Cert.KernelIIdeal.nD Cert.KernelIIdeal.τ).loc Cert.KernelIIdeal.main_arg10))
      ∧ θ_run (Cert.ReferenceIIdeal.defs (F := Ideal)) (onTc (τ := Cert.ReferenceIIdeal.τ) (Cert.ReferenceIIdeal.main (F := Ideal))) ⟨m', fun _ => 0, g'⟩ (fun r => ∀ c : Dev Cert.ReferenceIIdeal.nD,
          r.2.mem ((c.tc : Thread Cert.ReferenceIIdeal.nD Cert.ReferenceIIdeal.τ).loc Cert.ReferenceIIdeal.main_v153) = v0 c
          ∧ r.2.mem ((c.tc : Thread Cert.ReferenceIIdeal.nD Cert.ReferenceIIdeal.τ).loc Cert.ReferenceIIdeal.main_v155) = v1 c
          ∧ r.2.mem ((c.tc : Thread Cert.ReferenceIIdeal.nD Cert.ReferenceIIdeal.τ).loc Cert.ReferenceIIdeal.main_v163) = v2 c
          ∧ r.2.mem ((c.tc : Thread Cert.ReferenceIIdeal.nD Cert.ReferenceIIdeal.τ).loc Cert.ReferenceIIdeal.main_v265) = v3 c
          ∧ r.2.mem ((c.tc : Thread Cert.ReferenceIIdeal.nD Cert.ReferenceIIdeal.τ).loc Cert.ReferenceIIdeal.main_v267) = v4 c
          ∧ r.2.mem ((c.tc : Thread Cert.ReferenceIIdeal.nD Cert.ReferenceIIdeal.τ).loc Cert.ReferenceIIdeal.main_v273) = v5 c
          ∧ r.2.mem ((c.tc : Thread Cert.ReferenceIIdeal.nD Cert.ReferenceIIdeal.τ).loc Cert.ReferenceIIdeal.main_v348) = v6 c
          ∧ r.2.mem ((c.tc : Thread Cert.ReferenceIIdeal.nD Cert.ReferenceIIdeal.τ).loc Cert.ReferenceIIdeal.main_v350) = v7 c
          ∧ r.2.mem ((c.tc : Thread Cert.ReferenceIIdeal.nD Cert.ReferenceIIdeal.τ).loc Cert.ReferenceIIdeal.main_v358) = v8 c
          ∧ r.2.mem ((c.tc : Thread Cert.ReferenceIIdeal.nD Cert.ReferenceIIdeal.τ).loc Cert.ReferenceIIdeal.main_arg0) = m' ((c.tc : Thread Cert.ReferenceIIdeal.nD Cert.ReferenceIIdeal.τ).loc Cert.ReferenceIIdeal.main_arg0)
          ∧ r.2.mem ((c.tc : Thread Cert.ReferenceIIdeal.nD Cert.ReferenceIIdeal.τ).loc Cert.ReferenceIIdeal.main_arg1) = m' ((c.tc : Thread Cert.ReferenceIIdeal.nD Cert.ReferenceIIdeal.τ).loc Cert.ReferenceIIdeal.main_arg1)
          ∧ r.2.mem ((c.tc : Thread Cert.ReferenceIIdeal.nD Cert.ReferenceIIdeal.τ).loc Cert.ReferenceIIdeal.main_arg2) = m' ((c.tc : Thread Cert.ReferenceIIdeal.nD Cert.ReferenceIIdeal.τ).loc Cert.ReferenceIIdeal.main_arg2)
          ∧ r.2.mem ((c.tc : Thread Cert.ReferenceIIdeal.nD Cert.ReferenceIIdeal.τ).loc Cert.ReferenceIIdeal.main_arg3) = m' ((c.tc : Thread Cert.ReferenceIIdeal.nD Cert.ReferenceIIdeal.τ).loc Cert.ReferenceIIdeal.main_arg3)
          ∧ r.2.mem ((c.tc : Thread Cert.ReferenceIIdeal.nD Cert.ReferenceIIdeal.τ).loc Cert.ReferenceIIdeal.main_arg4) = m' ((c.tc : Thread Cert.ReferenceIIdeal.nD Cert.ReferenceIIdeal.τ).loc Cert.ReferenceIIdeal.main_arg4)
          ∧ r.2.mem ((c.tc : Thread Cert.ReferenceIIdeal.nD Cert.ReferenceIIdeal.τ).loc Cert.ReferenceIIdeal.main_arg5) = m' ((c.tc : Thread Cert.ReferenceIIdeal.nD Cert.ReferenceIIdeal.τ).loc Cert.ReferenceIIdeal.main_arg5)
          ∧ r.2.mem ((c.tc : Thread Cert.ReferenceIIdeal.nD Cert.ReferenceIIdeal.τ).loc Cert.ReferenceIIdeal.main_arg6) = m' ((c.tc : Thread Cert.ReferenceIIdeal.nD Cert.ReferenceIIdeal.τ).loc Cert.ReferenceIIdeal.main_arg6)
          ∧ r.2.mem ((c.tc : Thread Cert.ReferenceIIdeal.nD Cert.ReferenceIIdeal.τ).loc Cert.ReferenceIIdeal.main_arg7) = m' ((c.tc : Thread Cert.ReferenceIIdeal.nD Cert.ReferenceIIdeal.τ).loc Cert.ReferenceIIdeal.main_arg7)
          ∧ r.2.mem ((c.tc : Thread Cert.ReferenceIIdeal.nD Cert.ReferenceIIdeal.τ).loc Cert.ReferenceIIdeal.main_arg8) = m' ((c.tc : Thread Cert.ReferenceIIdeal.nD Cert.ReferenceIIdeal.τ).loc Cert.ReferenceIIdeal.main_arg8)
          ∧ r.2.mem ((c.tc : Thread Cert.ReferenceIIdeal.nD Cert.ReferenceIIdeal.τ).loc Cert.ReferenceIIdeal.main_arg9) = m' ((c.tc : Thread Cert.ReferenceIIdeal.nD Cert.ReferenceIIdeal.τ).loc Cert.ReferenceIIdeal.main_arg9)
          ∧ r.2.mem ((c.tc : Thread Cert.ReferenceIIdeal.nD Cert.ReferenceIIdeal.τ).loc Cert.ReferenceIIdeal.main_arg10) = m' ((c.tc : Thread Cert.ReferenceIIdeal.nD Cert.ReferenceIIdeal.τ).loc Cert.ReferenceIIdeal.main_arg10))

def Claim : Prop :=
  ∃ (hKernelA : Cert.KernelA.Facts) (hKernelAIdeal : Cert.KernelAIdeal.Facts) (hReferenceAIdeal : Cert.ReferenceAIdeal.Facts) (hKernelB : Cert.KernelB.Facts) (hKernelBIdeal : Cert.KernelBIdeal.Facts) (hReferenceBIdeal : Cert.ReferenceBIdeal.Facts) (hKernelC : Cert.KernelC.Facts) (hKernelCIdeal : Cert.KernelCIdeal.Facts) (hReferenceCIdeal : Cert.ReferenceCIdeal.Facts) (hKernelO : Cert.KernelO.Facts) (hKernelOIdeal : Cert.KernelOIdeal.Facts) (hReferenceOIdeal : Cert.ReferenceOIdeal.Facts) (hKernelI : Cert.KernelI.Facts) (hKernelIIdeal : Cert.KernelIIdeal.Facts) (hReferenceIIdeal : Cert.ReferenceIIdeal.Facts) (hPre_finite_a : Cert.Pre_finite_a.Facts) (hPre_finite_b : Cert.Pre_finite_b.Facts) (hPre_finite_c : Cert.Pre_finite_c.Facts),
    quiescent_KernelA (hKernelA := hKernelA)
    ∧ quiescent_KernelAIdeal (hKernelAIdeal := hKernelAIdeal)
    ∧ quiescent_KernelAIdeal_pre_finite_a (hKernelAIdeal := hKernelAIdeal) (hPre_finite_a := hPre_finite_a)
    ∧ quiescent_ReferenceAIdeal (hReferenceAIdeal := hReferenceAIdeal)
    ∧ quiescent_ReferenceAIdeal_pre_finite_a (hReferenceAIdeal := hReferenceAIdeal) (hPre_finite_a := hPre_finite_a)
    ∧ quiescent_KernelB (hKernelB := hKernelB)
    ∧ quiescent_KernelBIdeal (hKernelBIdeal := hKernelBIdeal)
    ∧ quiescent_KernelBIdeal_pre_finite_b (hKernelBIdeal := hKernelBIdeal) (hPre_finite_b := hPre_finite_b)
    ∧ quiescent_ReferenceBIdeal (hReferenceBIdeal := hReferenceBIdeal)
    ∧ quiescent_ReferenceBIdeal_pre_finite_b (hReferenceBIdeal := hReferenceBIdeal) (hPre_finite_b := hPre_finite_b)
    ∧ quiescent_KernelC (hKernelC := hKernelC)
    ∧ quiescent_KernelCIdeal (hKernelCIdeal := hKernelCIdeal)
    ∧ quiescent_KernelCIdeal_pre_finite_c (hKernelCIdeal := hKernelCIdeal) (hPre_finite_c := hPre_finite_c)
    ∧ quiescent_ReferenceCIdeal (hReferenceCIdeal := hReferenceCIdeal)
    ∧ quiescent_ReferenceCIdeal_pre_finite_c (hReferenceCIdeal := hReferenceCIdeal) (hPre_finite_c := hPre_finite_c)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelI (hKernelI := hKernelI)
    ∧ quiescent_KernelIIdeal (hKernelIIdeal := hKernelIIdeal)
    ∧ quiescent_ReferenceIIdeal (hReferenceIIdeal := hReferenceIIdeal)
    ∧ preserves_KernelA_KernelAIdeal
    ∧ algebraic_KernelAIdeal_ReferenceAIdeal_pre_finite_a (hKernelAIdeal := hKernelAIdeal) (hReferenceAIdeal := hReferenceAIdeal) (hPre_finite_a := hPre_finite_a)
    ∧ preserves_KernelB_KernelBIdeal
    ∧ algebraic_KernelBIdeal_ReferenceBIdeal_pre_finite_b (hKernelBIdeal := hKernelBIdeal) (hReferenceBIdeal := hReferenceBIdeal) (hPre_finite_b := hPre_finite_b)
    ∧ preserves_KernelC_KernelCIdeal
    ∧ algebraic_KernelCIdeal_ReferenceCIdeal_pre_finite_c (hKernelCIdeal := hKernelCIdeal) (hReferenceCIdeal := hReferenceCIdeal) (hPre_finite_c := hPre_finite_c)
    ∧ preserves_KernelO_KernelOIdeal
    ∧ algebraic_KernelOIdeal_ReferenceOIdeal (hKernelOIdeal := hKernelOIdeal) (hReferenceOIdeal := hReferenceOIdeal)
    ∧ preserves_KernelI_KernelIIdeal
    ∧ algebraic_KernelIIdeal_ReferenceIIdeal (hKernelIIdeal := hKernelIIdeal) (hReferenceIIdeal := hReferenceIIdeal)
-- ==== Pre_finite_a.lean ====
abbrev S24576x6x128 : Shape := ⟨3, ![24576, 6, 128]⟩
abbrev S24576x2x128 : Shape := ⟨3, ![24576, 2, 128]⟩
abbrev S_ : Shape := ⟨0, ![]⟩

class Facts : Prop where
  bcast_S_S24576x6x128 : S_.BroadcastsInDim S24576x6x128 (![] : Fin 0 → Fin S24576x6x128.rank)
  reducesTo_S24576x6x128_S_d0_1_2 : S24576x6x128.ReducesTo [0, 1, 2] S_
  h_S_ : 0 < S_.numel
  bcast_S_S24576x2x128 : S_.BroadcastsInDim S24576x2x128 (![] : Fin 0 → Fin S24576x2x128.rank)
  reducesTo_S24576x2x128_S_d0_1_2 : S24576x2x128.ReducesTo [0, 1, 2] S_

variable [Facts]

def fn {F : FTy → Type} [FloatOps F] (main_arg0 : FVec F S24576x6x128 .f32) (main_arg1 : FVec F S24576x2x128 .f32) (main_arg2 : FVec F S24576x2x128 .f32) : IVec S_ 1 :=
  let main_v0 : FVec F S24576x6x128 .f32 := Host.absf main_arg0
  let main_cst : FVec F S_ .f32 := constant S_ .f32 0x7F800000#32
  let main_v1 : FVec F S24576x6x128 .f32 := broadcastInDim S24576x6x128 ![] bcast_S_S24576x6x128 main_cst
  let main_v2 : IVec S24576x6x128 1 := cmpf .olt main_v0 main_v1
  let main_c : IVec S_ 1 := constantI S_ 1 1#1
  let main_v3 : IVec S_ 1 := (fun x v => Host.reduce IntOp.andi x v reducesTo_S24576x6x128_S_d0_1_2 h_S_) main_v2 main_c
  let main_v4 : FVec F S24576x2x128 .f32 := Host.absf main_arg1
  let main_cst_0 : FVec F S_ .f32 := constant S_ .f32 0x7F800000#32
  let main_v5 : FVec F S24576x2x128 .f32 := broadcastInDim S24576x2x128 ![] bcast_S_S24576x2x128 main_cst_0
  let main_v6 : IVec S24576x2x128 1 := cmpf .olt main_v4 main_v5
  let main_c_1 : IVec S_ 1 := constantI S_ 1 1#1
  let main_v7 : IVec S_ 1 := (fun x v => Host.reduce IntOp.andi x v reducesTo_S24576x2x128_S_d0_1_2 h_S_) main_v6 main_c_1
  let main_v8 : IVec S_ 1 := andi main_v3 main_v7
  main_v8
-- ==== Pre_finite_b.lean ====
abbrev S24576x6x128 : Shape := ⟨3, ![24576, 6, 128]⟩
abbrev S24576x6x64 : Shape := ⟨3, ![24576, 6, 64]⟩
abbrev S24576x64 : Shape := ⟨2, ![24576, 64]⟩
abbrev S_ : Shape := ⟨0, ![]⟩

class Facts : Prop where
  bcast_S_S24576x6x128 : S_.BroadcastsInDim S24576x6x128 (![] : Fin 0 → Fin S24576x6x128.rank)
  reducesTo_S24576x6x128_S_d0_1_2 : S24576x6x128.ReducesTo [0, 1, 2] S_
  h_S_ : 0 < S_.numel
  bcast_S_S24576x6x64 : S_.BroadcastsInDim S24576x6x64 (![] : Fin 0 → Fin S24576x6x64.rank)
  reducesTo_S24576x6x64_S_d0_1_2 : S24576x6x64.ReducesTo [0, 1, 2] S_
  bcast_S_S24576x64 : S_.BroadcastsInDim S24576x64 (![] : Fin 0 → Fin S24576x64.rank)
  reducesTo_S24576x64_S_d0_1 : S24576x64.ReducesTo [0, 1] S_

variable [Facts]

def fn_part1 {F : FTy → Type} [FloatOps F] (main_v13 : IVec S_ 1) (main_v16 : IVec S24576x64 1) : IVec S_ 1 :=
  let main_c_5 : IVec S_ 1 := constantI S_ 1 1#1
  let main_v17 : IVec S_ 1 := (fun x v => Host.reduce IntOp.andi x v reducesTo_S24576x64_S_d0_1 h_S_) main_v16 main_c_5
  let main_v18 : IVec S_ 1 := andi main_v13 main_v17
  main_v18

def fn {F : FTy → Type} [FloatOps F] (main_arg0 : FVec F S24576x6x128 .f32) (main_arg1 : FVec F S24576x6x64 .f32) (main_arg2 : FVec F S24576x6x128 .f32) (main_arg3 : FVec F S24576x64 .f32) (main_arg4 : FVec F S24576x6x128 .f32) : IVec S_ 1 :=
  let main_v0 : FVec F S24576x6x128 .f32 := Host.absf main_arg0
  let main_cst : FVec F S_ .f32 := constant S_ .f32 0x7F800000#32
  let main_v1 : FVec F S24576x6x128 .f32 := broadcastInDim S24576x6x128 ![] bcast_S_S24576x6x128 main_cst
  let main_v2 : IVec S24576x6x128 1 := cmpf .olt main_v0 main_v1
  let main_c : IVec S_ 1 := constantI S_ 1 1#1
  let main_v3 : IVec S_ 1 := (fun x v => Host.reduce IntOp.andi x v reducesTo_S24576x6x128_S_d0_1_2 h_S_) main_v2 main_c
  let main_v4 : FVec F S24576x6x64 .f32 := Host.absf main_arg1
  let main_cst_0 : FVec F S_ .f32 := constant S_ .f32 0x7F800000#32
  let main_v5 : FVec F S24576x6x64 .f32 := broadcastInDim S24576x6x64 ![] bcast_S_S24576x6x64 main_cst_0
  let main_v6 : IVec S24576x6x64 1 := cmpf .olt main_v4 main_v5
  let main_c_1 : IVec S_ 1 := constantI S_ 1 1#1
  let main_v7 : IVec S_ 1 := (fun x v => Host.reduce IntOp.andi x v reducesTo_S24576x6x64_S_d0_1_2 h_S_) main_v6 main_c_1
  let main_v8 : IVec S_ 1 := andi main_v3 main_v7
  let main_v9 : FVec F S24576x6x128 .f32 := Host.absf main_arg2
  let main_cst_2 : FVec F S_ .f32 := constant S_ .f32 0x7F800000#32
  let main_v10 : FVec F S24576x6x128 .f32 := broadcastInDim S24576x6x128 ![] bcast_S_S24576x6x128 main_cst_2
  let main_v11 : IVec S24576x6x128 1 := cmpf .olt main_v9 main_v10
  let main_c_3 : IVec S_ 1 := constantI S_ 1 1#1
  let main_v12 : IVec S_ 1 := (fun x v => Host.reduce IntOp.andi x v reducesTo_S24576x6x128_S_d0_1_2 h_S_) main_v11 main_c_3
  let main_v13 : IVec S_ 1 := andi main_v8 main_v12
  let main_v14 : FVec F S24576x64 .f32 := Host.absf main_arg3
  let main_cst_4 : FVec F S_ .f32 := constant S_ .f32 0x7F800000#32
  let main_v15 : FVec F S24576x64 .f32 := broadcastInDim S24576x64 ![] bcast_S_S24576x64 main_cst_4
  let main_v16 : IVec S24576x64 1 := cmpf .olt main_v14 main_v15
  fn_part1 (F := F) main_v13 main_v16
-- ==== Pre_finite_c.lean ====
abbrev S24576x4x2x64 : Shape := ⟨4, ![24576, 4, 2, 64]⟩
abbrev S24576x4x128 : Shape := ⟨3, ![24576, 4, 128]⟩
abbrev S_ : Shape := ⟨0, ![]⟩

class Facts : Prop where
  bcast_S_S24576x4x2x64 : S_.BroadcastsInDim S24576x4x2x64 (![] : Fin 0 → Fin S24576x4x2x64.rank)
  reducesTo_S24576x4x2x64_S_d0_1_2_3 : S24576x4x2x64.ReducesTo [0, 1, 2, 3] S_
  h_S_ : 0 < S_.numel

variable [Facts]

def fn {F : FTy → Type} [FloatOps F] (main_arg0 : FVec F S24576x4x2x64 .f32) (main_arg1 : FVec F S24576x4x2x64 .f32) (main_arg2 : FVec F S24576x4x128 .f32) : IVec S_ 1 :=
  let main_v0 : FVec F S24576x4x2x64 .f32 := Host.absf main_arg0
  let main_cst : FVec F S_ .f32 := constant S_ .f32 0x7F800000#32
  let main_v1 : FVec F S24576x4x2x64 .f32 := broadcastInDim S24576x4x2x64 ![] bcast_S_S24576x4x2x64 main_cst
  let main_v2 : IVec S24576x4x2x64 1 := cmpf .olt main_v0 main_v1
  let main_c : IVec S_ 1 := constantI S_ 1 1#1
  let main_v3 : IVec S_ 1 := (fun x v => Host.reduce IntOp.andi x v reducesTo_S24576x4x2x64_S_d0_1_2_3 h_S_) main_v2 main_c
  let main_v4 : FVec F S24576x4x2x64 .f32 := Host.absf main_arg1
  let main_cst_0 : FVec F S_ .f32 := constant S_ .f32 0x7F800000#32
  let main_v5 : FVec F S24576x4x2x64 .f32 := broadcastInDim S24576x4x2x64 ![] bcast_S_S24576x4x2x64 main_cst_0
  let main_v6 : IVec S24576x4x2x64 1 := cmpf .olt main_v4 main_v5
  let main_c_1 : IVec S_ 1 := constantI S_ 1 1#1
  let main_v7 : IVec S_ 1 := (fun x v => Host.reduce IntOp.andi x v reducesTo_S24576x4x2x64_S_d0_1_2_3 h_S_) main_v6 main_c_1
  let main_v8 : IVec S_ 1 := andi main_v3 main_v7
  main_v8
-- ==== KernelA.lean ====
abbrev S24576x6x128 : Shape := ⟨3, ![24576, 6, 128]⟩
abbrev S24576x2x128 : Shape := ⟨3, ![24576, 2, 128]⟩
abbrev S_ : Shape := ⟨0, ![]⟩
abbrev S24576x768 : Shape := ⟨2, ![24576, 768]⟩
abbrev S24576x256 : Shape := ⟨2, ![24576, 256]⟩
abbrev S2x128x24576 : Shape := ⟨3, ![2, 128, 24576]⟩
abbrev S2x16x24576 : Shape := ⟨3, ![2, 16, 24576]⟩
abbrev S2x144x24576 : Shape := ⟨3, ![2, 144, 24576]⟩
abbrev S288x24576 : Shape := ⟨2, ![288, 24576]⟩
abbrev S8192x768 : Shape := ⟨2, ![8192, 768]⟩
abbrev S512x768 : Shape := ⟨2, ![512, 768]⟩
abbrev S1024x256 : Shape := ⟨2, ![1024, 256]⟩
abbrev S288x1024 : Shape := ⟨2, ![288, 1024]⟩
abbrev S6x1x512 : Shape := ⟨3, ![6, 1, 512]⟩
abbrev S6x128x512 : Shape := ⟨3, ![6, 128, 512]⟩
abbrev S1024x128 : Shape := ⟨2, ![1024, 128]⟩
abbrev S256x128 : Shape := ⟨2, ![256, 128]⟩
abbrev S144x1024 : Shape := ⟨2, ![144, 1024]⟩
abbrev S1x1x256 : Shape := ⟨3, ![1, 1, 256]⟩
abbrev S1x256 : Shape := ⟨2, ![1, 256]⟩
abbrev S256 : Shape := ⟨1, ![256]⟩
abbrev S144x256 : Shape := ⟨2, ![144, 256]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S512x128 : Shape := ⟨2, ![512, 128]⟩

abbrev nBuf : Space → Nat
  | .hbm => 23
  | .vmem => 11
  | .smem => 0
  | _ => 0

abbrev bufTy : (tb : Table) → Fin (tcTables nBuf tb) → BufTy
  | .hbm, ⟨0, _⟩ => ⟨S24576x6x128, .f32⟩
  | .hbm, ⟨1, _⟩ => ⟨S24576x2x128, .f32⟩
  | .hbm, ⟨2, _⟩ => ⟨S24576x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S24576x6x128, .f32⟩
  | .hbm, ⟨11, _⟩ => ⟨S24576x6x128, .f32⟩
  | .hbm, ⟨12, _⟩ => ⟨S24576x6x128, .bf16⟩
  | .hbm, ⟨13, _⟩ => ⟨S24576x768, .bf16⟩
  | .hbm, ⟨14, _⟩ => ⟨S24576x2x128, .bf16⟩
  | .hbm, ⟨15, _⟩ => ⟨S24576x256, .bf16⟩
  | .hbm, ⟨16, _⟩ => ⟨S2x128x24576, .f32⟩
  | .hbm, ⟨17, _⟩ => ⟨S2x128x24576, .bf16⟩
  | .hbm, ⟨18, _⟩ => ⟨S_, .bf16⟩
  | .hbm, ⟨19, _⟩ => ⟨S2x16x24576, .bf16⟩
  | .hbm, ⟨20, _⟩ => ⟨S2x144x24576, .bf16⟩
  | .hbm, ⟨21, _⟩ => ⟨S288x24576, .bf16⟩
  | .hbm, ⟨22, _⟩ => ⟨S8192x768, .bf16⟩
  | .local _ .vmem, ⟨0, _⟩ => ⟨S512x768, .bf16⟩
  | .local _ .vmem, ⟨1, _⟩ => ⟨S512x768, .bf16⟩
  | .local _ .vmem, ⟨2, _⟩ => ⟨S1024x256, .bf16⟩
  | .local _ .vmem, ⟨3, _⟩ => ⟨S1024x256, .bf16⟩
  | .local _ .vmem, ⟨4, _⟩ => ⟨S288x1024, .bf16⟩
  | .local _ .vmem, ⟨5, _⟩ => ⟨S288x1024, .bf16⟩
  | .local _ .vmem, ⟨6, _⟩ => ⟨S512x768, .bf16⟩
  | .local _ .vmem, ⟨7, _⟩ => ⟨S512x768, .bf16⟩
  | .local _ .vmem, ⟨8, _⟩ => ⟨S6x1x512, .f32⟩
  | .local _ .vmem, ⟨9, _⟩ => ⟨S6x1x512, .f32⟩
  | .local _ .vmem, ⟨10, _⟩ => ⟨S6x128x512, .f32⟩
  | _, _ => ⟨S24576x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 1, 16, 8], ![false, false, false, false]⟩

def k0_cond2 (i : grid0.Coords) : BitVec 1 :=
  let arg3 : BitVec 32 := BitVec.ofNat 32 (i 3).val
  let c7_i32 : BitVec 32 := 7#32
  let v471 : BitVec 1 := Scalar.cmpi .eq arg3 c7_i32
  let v472 : BitVec 32 := Scalar.extui v471
  let c0_i32_312 : BitVec 32 := 0#32
  let v473 : BitVec 1 := Scalar.cmpi .ne v472 c0_i32_312
  v473

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg3
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg3
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S288x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceAIdeal.lean ====
abbrev S24576x6x128 : Shape := ⟨3, ![24576, 6, 128]⟩
abbrev S24576x2x128 : Shape := ⟨3, ![24576, 2, 128]⟩
abbrev S8192x6x128 : Shape := ⟨3, ![8192, 6, 128]⟩
abbrev S8192x2x3x128 : Shape := ⟨4, ![8192, 2, 3, 128]⟩
abbrev S8192x2x128 : Shape := ⟨3, ![8192, 2, 128]⟩
abbrev S_ : Shape := ⟨0, ![]⟩
abbrev S2x8192x8192x3 : Shape := ⟨4, ![2, 8192, 8192, 3]⟩
abbrev S2x3x8192x8192 : Shape := ⟨4, ![2, 3, 8192, 8192]⟩
abbrev S2x3x8192 : Shape := ⟨3, ![2, 3, 8192]⟩
abbrev S2x3x8192x1 : Shape := ⟨4, ![2, 3, 8192, 1]⟩
abbrev S2x128x3x8192 : Shape := ⟨4, ![2, 128, 3, 8192]⟩
abbrev S8192x768 : Shape := ⟨2, ![8192, 768]⟩

abbrev nBuf : Space → Nat
  | .hbm => 33
  | .vmem => 0
  | .smem => 0
  | _ => 0

abbrev bufTy : (tb : Table) → Fin (tcTables nBuf tb) → BufTy
  | .hbm, ⟨0, _⟩ => ⟨S24576x6x128, .f32⟩
  | .hbm, ⟨1, _⟩ => ⟨S24576x2x128, .f32⟩
  | .hbm, ⟨2, _⟩ => ⟨S24576x2x128, .f32⟩
  | .hbm, ⟨3, _⟩ => ⟨S8192x6x128, .f32⟩
  | .hbm, ⟨4, _⟩ => ⟨S8192x2x3x128, .f32⟩
  | .hbm, ⟨5, _⟩ => ⟨S8192x2x128, .f32⟩
  | .hbm, ⟨6, _⟩ => ⟨S8192x2x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S2x8192x8192x3, .f32⟩
  | .hbm, ⟨12, _⟩ => ⟨S2x3x8192x8192, .f32⟩
  | .hbm, ⟨13, _⟩ => ⟨S2x3x8192x8192, .f32⟩
  | .hbm, ⟨14, _⟩ => ⟨S2x3x8192x8192, .f32⟩
  | .hbm, ⟨15, _⟩ => ⟨S_, .f32⟩
  | .hbm, ⟨16, _⟩ => ⟨S2x3x8192, .f32⟩
  | .hbm, ⟨17, _⟩ => ⟨S_, .f32⟩
  | .hbm, ⟨18, _⟩ => ⟨S2x3x8192, .f32⟩
  | .hbm, ⟨19, _⟩ => ⟨S2x3x8192, .f32⟩
  | .hbm, ⟨20, _⟩ => ⟨S2x3x8192x1, .f32⟩
  | .hbm, ⟨21, _⟩ => ⟨S2x3x8192x8192, .f32⟩
  | .hbm, ⟨22, _⟩ => ⟨S2x3x8192x8192, .f32⟩
  | .hbm, ⟨23, _⟩ => ⟨S2x3x8192x8192, .f32⟩
  | .hbm, ⟨24, _⟩ => ⟨S_, .f32⟩
  | .hbm, ⟨25, _⟩ => ⟨S2x3x8192, .f32⟩
  | .hbm, ⟨26, _⟩ => ⟨S2x3x8192x1, .f32⟩
  | .hbm, ⟨27, _⟩ => ⟨S2x3x8192x8192, .f32⟩
  | .hbm, ⟨28, _⟩ => ⟨S2x3x8192x8192, .f32⟩
  | .hbm, ⟨29, _⟩ => ⟨S2x128x3x8192, .f32⟩
  | .hbm, ⟨30, _⟩ => ⟨S8192x2x3x128, .f32⟩
  | .hbm, ⟨31, _⟩ => ⟨S8192x768, .f32⟩
  | .hbm, ⟨32, _⟩ => ⟨S8192x768, .bf16⟩
  | _, _ => ⟨S24576x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== KernelB.lean ====
abbrev S24576x6x128 : Shape := ⟨3, ![24576, 6, 128]⟩
abbrev S24576x6x64 : Shape := ⟨3, ![24576, 6, 64]⟩
abbrev S24576x64 : Shape := ⟨2, ![24576, 64]⟩
abbrev S_ : Shape := ⟨0, ![]⟩
abbrev S24576x6x256 : Shape := ⟨3, ![24576, 6, 256]⟩
abbrev S24576x1536 : Shape := ⟨2, ![24576, 1536]⟩
abbrev S24576x1x64 : Shape := ⟨3, ![24576, 1, 64]⟩
abbrev S6x128x24576 : Shape := ⟨3, ![6, 128, 24576]⟩
abbrev S6x16x24576 : Shape := ⟨3, ![6, 16, 24576]⟩
abbrev S6x144x24576 : Shape := ⟨3, ![6, 144, 24576]⟩
abbrev S864x24576 : Shape := ⟨2, ![864, 24576]⟩
abbrev S8192x768 : Shape := ⟨2, ![8192, 768]⟩
abbrev S512x768 : Shape := ⟨2, ![512, 768]⟩
abbrev S1024x768 : Shape := ⟨2, ![1024, 768]⟩
abbrev S432x1024 : Shape := ⟨2, ![432, 1024]⟩
abbrev S512x384 : Shape := ⟨2, ![512, 384]⟩
abbrev S3x1x512 : Shape := ⟨3, ![3, 1, 512]⟩
abbrev S3x128x512 : Shape := ⟨3, ![3, 128, 512]⟩
abbrev S1024x256 : Shape := ⟨2, ![1024, 256]⟩
abbrev S256x256 : Shape := ⟨2, ![256, 256]⟩
abbrev S144x1024 : Shape := ⟨2, ![144, 1024]⟩
abbrev S1x1x256 : Shape := ⟨3, ![1, 1, 256]⟩
abbrev S1x256 : Shape := ⟨2, ![1, 256]⟩
abbrev S256 : Shape := ⟨1, ![256]⟩
abbrev S144x256 : Shape := ⟨2, ![144, 256]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S512x128 : Shape := ⟨2, ![512, 128]⟩

abbrev nBuf : Space → Nat
  | .hbm => 31
  | .vmem => 11
  | .smem => 0
  | _ => 0

abbrev bufTy : (tb : Table) → Fin (tcTables nBuf tb) → BufTy
  | .hbm, ⟨0, _⟩ => ⟨S24576x6x128, .f32⟩
  | .hbm, ⟨1, _⟩ => ⟨S24576x6x64, .f32⟩
  | .hbm, ⟨2, _⟩ => ⟨S24576x6x128, .f32⟩
  | .hbm, ⟨3, _⟩ => ⟨S24576x64, .f32⟩
  | .hbm, ⟨4, _⟩ => ⟨S24576x6x128, .f32⟩
  | .hbm, ⟨5, _⟩ => ⟨S_, .f32⟩
  | .hbm, ⟨6, _⟩ => ⟨S24576x6x64, .f32⟩
  | .hbm, ⟨7, _⟩ => ⟨S24576x6x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S24576x6x256, .f32⟩
  | .hbm, ⟨16, _⟩ => ⟨S24576x6x256, .f32⟩
  | .hbm, ⟨17, _⟩ => ⟨S24576x6x256, .bf16⟩
  | .hbm, ⟨18, _⟩ => ⟨S24576x1536, .bf16⟩
  | .hbm, ⟨19, _⟩ => ⟨S24576x1x64, .f32⟩
  | .hbm, ⟨20, _⟩ => ⟨S24576x6x64, .f32⟩
  | .hbm, ⟨21, _⟩ => ⟨S24576x6x256, .f32⟩
  | .hbm, ⟨22, _⟩ => ⟨S24576x6x256, .bf16⟩
  | .hbm, ⟨23, _⟩ => ⟨S24576x1536, .bf16⟩
  | .hbm, ⟨24, _⟩ => ⟨S6x128x24576, .f32⟩
  | .hbm, ⟨25, _⟩ => ⟨S6x128x24576, .bf16⟩
  | .hbm, ⟨26, _⟩ => ⟨S_, .bf16⟩
  | .hbm, ⟨27, _⟩ => ⟨S6x16x24576, .bf16⟩
  | .hbm, ⟨28, _⟩ => ⟨S6x144x24576, .bf16⟩
  | .hbm, ⟨29, _⟩ => ⟨S864x24576, .bf16⟩
  | .hbm, ⟨30, _⟩ => ⟨S8192x768, .bf16⟩
  | .local _ .vmem, ⟨0, _⟩ => ⟨S512x768, .bf16⟩
  | .local _ .vmem, ⟨1, _⟩ => ⟨S512x768, .bf16⟩
  | .local _ .vmem, ⟨2, _⟩ => ⟨S1024x768, .bf16⟩
  | .local _ .vmem, ⟨3, _⟩ => ⟨S1024x768, .bf16⟩
  | .local _ .vmem, ⟨4, _⟩ => ⟨S432x1024, .bf16⟩
  | .local _ .vmem, ⟨5, _⟩ => ⟨S432x1024, .bf16⟩
  | .local _ .vmem, ⟨6, _⟩ => ⟨S512x384, .bf16⟩
  | .local _ .vmem, ⟨7, _⟩ => ⟨S512x384, .bf16⟩
  | .local _ .vmem, ⟨8, _⟩ => ⟨S3x1x512, .f32⟩
  | .local _ .vmem, ⟨9, _⟩ => ⟨S3x1x512, .f32⟩
  | .local _ .vmem, ⟨10, _⟩ => ⟨S3x128x512, .f32⟩
  | _, _ => ⟨S24576x6x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 16, 8], ![false, false, false, false]⟩

def k0_cond2 (i : grid0.Coords) : BitVec 1 :=
  let arg3 : BitVec 32 := BitVec.ofNat 32 (i 3).val
  let c7_i32 : BitVec 32 := 7#32
  let v237 : BitVec 1 := Scalar.cmpi .eq arg3 c7_i32
  let v238 : BitVec 32 := Scalar.extui v237
  let c0_i32_155 : BitVec 32 := 0#32
  let v239 : BitVec 1 := Scalar.cmpi .ne v238 c0_i32_155
  v239

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg3
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg3
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceBIdeal.lean ====
abbrev S24576x6x128 : Shape := ⟨3, ![24576, 6, 128]⟩
abbrev S24576x6x64 : Shape := ⟨3, ![24576, 6, 64]⟩
abbrev S24576x64 : Shape := ⟨2, ![24576, 64]⟩
abbrev S8192x6x128 : Shape := ⟨3, ![8192, 6, 128]⟩
abbrev S8192x6x64 : Shape := ⟨3, ![8192, 6, 64]⟩
abbrev S8192x64 : Shape := ⟨2, ![8192, 64]⟩
abbrev S_ : Shape := ⟨0, ![]⟩
abbrev S6x8192x8192 : Shape := ⟨3, ![6, 8192, 8192]⟩
abbrev S8192x8192x6 : Shape := ⟨3, ![8192, 8192, 6]⟩
abbrev S6x8192 : Shape := ⟨2, ![6, 8192]⟩
abbrev S6x8192x1 : Shape := ⟨3, ![6, 8192, 1]⟩
abbrev S6x128x8192 : Shape := ⟨3, ![6, 128, 8192]⟩
abbrev S8192x768 : Shape := ⟨2, ![8192, 768]⟩

abbrev nBuf : Space → Nat
  | .hbm => 38
  | .vmem => 0
  | .smem => 0
  | _ => 0

abbrev bufTy : (tb : Table) → Fin (tcTables nBuf tb) → BufTy
  | .hbm, ⟨0, _⟩ => ⟨S24576x6x128, .f32⟩
  | .hbm, ⟨1, _⟩ => ⟨S24576x6x64, .f32⟩
  | .hbm, ⟨2, _⟩ => ⟨S24576x6x128, .f32⟩
  | .hbm, ⟨3, _⟩ => ⟨S24576x64, .f32⟩
  | .hbm, ⟨4, _⟩ => ⟨S24576x6x128, .f32⟩
  | .hbm, ⟨5, _⟩ => ⟨S8192x6x128, .f32⟩
  | .hbm, ⟨6, _⟩ => ⟨S8192x6x64, .f32⟩
  | .hbm, ⟨7, _⟩ => ⟨S8192x6x128, .f32⟩
  | .hbm, ⟨8, _⟩ => ⟨S8192x64, .f32⟩
  | .hbm, ⟨9, _⟩ => ⟨S8192x6x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S6x8192x8192, .f32⟩
  | .hbm, ⟨15, _⟩ => ⟨S8192x8192x6, .f32⟩
  | .hbm, ⟨16, _⟩ => ⟨S6x8192x8192, .f32⟩
  | .hbm, ⟨17, _⟩ => ⟨S6x8192x8192, .f32⟩
  | .hbm, ⟨18, _⟩ => ⟨S6x8192x8192, .f32⟩
  | .hbm, ⟨19, _⟩ => ⟨S6x8192x8192, .f32⟩
  | .hbm, ⟨20, _⟩ => ⟨S_, .f32⟩
  | .hbm, ⟨21, _⟩ => ⟨S6x8192, .f32⟩
  | .hbm, ⟨22, _⟩ => ⟨S_, .f32⟩
  | .hbm, ⟨23, _⟩ => ⟨S6x8192, .f32⟩
  | .hbm, ⟨24, _⟩ => ⟨S6x8192, .f32⟩
  | .hbm, ⟨25, _⟩ => ⟨S6x8192x1, .f32⟩
  | .hbm, ⟨26, _⟩ => ⟨S6x8192x8192, .f32⟩
  | .hbm, ⟨27, _⟩ => ⟨S6x8192x8192, .f32⟩
  | .hbm, ⟨28, _⟩ => ⟨S6x8192x8192, .f32⟩
  | .hbm, ⟨29, _⟩ => ⟨S_, .f32⟩
  | .hbm, ⟨30, _⟩ => ⟨S6x8192, .f32⟩
  | .hbm, ⟨31, _⟩ => ⟨S6x8192x1, .f32⟩
  | .hbm, ⟨32, _⟩ => ⟨S6x8192x8192, .f32⟩
  | .hbm, ⟨33, _⟩ => ⟨S6x8192x8192, .f32⟩
  | .hbm, ⟨34, _⟩ => ⟨S6x128x8192, .f32⟩
  | .hbm, ⟨35, _⟩ => ⟨S8192x6x128, .f32⟩
  | .hbm, ⟨36, _⟩ => ⟨S8192x768, .f32⟩
  | .hbm, ⟨37, _⟩ => ⟨S8192x768, .bf16⟩
  | _, _ => ⟨S24576x6x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== KernelC.lean ====
abbrev S24576x4x2x64 : Shape := ⟨4, ![24576, 4, 2, 64]⟩
abbrev S24576x4x128 : Shape := ⟨3, ![24576, 4, 128]⟩
abbrev S_ : Shape := ⟨0, ![]⟩
abbrev S24576x4x64 : Shape := ⟨3, ![24576, 4, 64]⟩
abbrev S24576x4x1x64 : Shape := ⟨4, ![24576, 4, 1, 64]⟩
abbrev S24576x4x256 : Shape := ⟨3, ![24576, 4, 256]⟩
abbrev S24576x1024 : Shape := ⟨2, ![24576, 1024]⟩
abbrev S24576x512 : Shape := ⟨2, ![24576, 512]⟩
abbrev S4x128x24576 : Shape := ⟨3, ![4, 128, 24576]⟩
abbrev S4x16x24576 : Shape := ⟨3, ![4, 16, 24576]⟩
abbrev S4x144x24576 : Shape := ⟨3, ![4, 144, 24576]⟩
abbrev S576x24576 : Shape := ⟨2, ![576, 24576]⟩
abbrev S8192x1024 : Shape := ⟨2, ![8192, 1024]⟩
abbrev S512x512 : Shape := ⟨2, ![512, 512]⟩
abbrev S1024x256 : Shape := ⟨2, ![1024, 256]⟩
abbrev S288x1024 : Shape := ⟨2, ![288, 1024]⟩
abbrev S4x1x512 : Shape := ⟨3, ![4, 1, 512]⟩
abbrev S4x128x512 : Shape := ⟨3, ![4, 128, 512]⟩
abbrev S1024x128 : Shape := ⟨2, ![1024, 128]⟩
abbrev S256x128 : Shape := ⟨2, ![256, 128]⟩
abbrev S144x1024 : Shape := ⟨2, ![144, 1024]⟩
abbrev S1x1x256 : Shape := ⟨3, ![1, 1, 256]⟩
abbrev S1x256 : Shape := ⟨2, ![1, 256]⟩
abbrev S256 : Shape := ⟨1, ![256]⟩
abbrev S144x256 : Shape := ⟨2, ![144, 256]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x1x512 : Shape := ⟨3, ![1, 1, 512]⟩
abbrev S1x512 : Shape := ⟨2, ![1, 512]⟩
abbrev S512x128 : Shape := ⟨2, ![512, 128]⟩

abbrev nBuf : Space → Nat
  | .hbm => 32
  | .vmem => 11
  | .smem => 0
  | _ => 0

abbrev bufTy : (tb : Table) → Fin (tcTables nBuf tb) → BufTy
  | .hbm, ⟨0, _⟩ => ⟨S24576x4x2x64, .f32⟩
  | .hbm, ⟨1, _⟩ => ⟨S24576x4x2x64, .f32⟩
  | .hbm, ⟨2, _⟩ => ⟨S24576x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S24576x4x2x64, .f32⟩
  | .hbm, ⟨11, _⟩ => ⟨S24576x4x2x64, .f32⟩
  | .hbm, ⟨12, _⟩ => ⟨S_, .f32⟩
  | .hbm, ⟨13, _⟩ => ⟨S24576x4x64, .f32⟩
  | .hbm, ⟨14, _⟩ => ⟨S24576x4x1x64, .f32⟩
  | .hbm, ⟨15, _⟩ => ⟨S24576x4x64, .f32⟩
  | .hbm, ⟨16, _⟩ => ⟨S24576x4x128, .f32⟩
  | .hbm, ⟨17, _⟩ => ⟨S24576x4x1x64, .f32⟩
  | .hbm, ⟨18, _⟩ => ⟨S24576x4x64, .f32⟩
  | .hbm, ⟨19, _⟩ => ⟨S24576x4x128, .f32⟩
  | .hbm, ⟨20, _⟩ => ⟨S24576x4x256, .f32⟩
  | .hbm, ⟨21, _⟩ => ⟨S24576x4x256, .bf16⟩
  | .hbm, ⟨22, _⟩ => ⟨S24576x1024, .bf16⟩
  | .hbm, ⟨23, _⟩ => ⟨S24576x4x2x64, .bf16⟩
  | .hbm, ⟨24, _⟩ => ⟨S24576x512, .bf16⟩
  | .hbm, ⟨25, _⟩ => ⟨S4x128x24576, .f32⟩
  | .hbm, ⟨26, _⟩ => ⟨S4x128x24576, .bf16⟩
  | .hbm, ⟨27, _⟩ => ⟨S_, .bf16⟩
  | .hbm, ⟨28, _⟩ => ⟨S4x16x24576, .bf16⟩
  | .hbm, ⟨29, _⟩ => ⟨S4x144x24576, .bf16⟩
  | .hbm, ⟨30, _⟩ => ⟨S576x24576, .bf16⟩
  | .hbm, ⟨31, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1024x256, .bf16⟩
  | .local _ .vmem, ⟨3, _⟩ => ⟨S1024x256, .bf16⟩
  | .local _ .vmem, ⟨4, _⟩ => ⟨S288x1024, .bf16⟩
  | .local _ .vmem, ⟨5, _⟩ => ⟨S288x1024, .bf16⟩
  | .local _ .vmem, ⟨6, _⟩ => ⟨S512x512, .f32⟩
  | .local _ .vmem, ⟨7, _⟩ => ⟨S512x512, .f32⟩
  | .local _ .vmem, ⟨8, _⟩ => ⟨S4x1x512, .f32⟩
  | .local _ .vmem, ⟨9, _⟩ => ⟨S4x1x512, .f32⟩
  | .local _ .vmem, ⟨10, _⟩ => ⟨S4x128x512, .f32⟩
  | _, _ => ⟨S24576x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 16, 8], ![false, false, false, false]⟩

def k0_cond2 (i : grid0.Coords) : BitVec 1 :=
  let arg3 : BitVec 32 := BitVec.ofNat 32 (i 3).val
  let c7_i32 : BitVec 32 := 7#32
  let v315 : BitVec 1 := Scalar.cmpi .eq arg3 c7_i32
  let v316 : BitVec 32 := Scalar.extui v315
  let c0_i32_208 : BitVec 32 := 0#32
  let v317 : BitVec 1 := Scalar.cmpi .ne v316 c0_i32_208
  v317

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg3
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg3
  let c0_i32_0 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S288x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== ReferenceCIdeal.lean ====
abbrev S24576x4x2x64 : Shape := ⟨4, ![24576, 4, 2, 64]⟩
abbrev S24576x4x128 : Shape := ⟨3, ![24576, 4, 128]⟩
abbrev S8192x4x2x64 : Shape := ⟨4, ![8192, 4, 2, 64]⟩
abbrev S8192x4x128 : Shape := ⟨3, ![8192, 4, 128]⟩
abbrev S_ : Shape := ⟨0, ![]⟩
abbrev S4x2x8192x8192 : Shape := ⟨4, ![4, 2, 8192, 8192]⟩
abbrev S4x2x8192 : Shape := ⟨3, ![4, 2, 8192]⟩
abbrev S4x2x8192x1 : Shape := ⟨4, ![4, 2, 8192, 1]⟩
abbrev S4x128x2x8192 : Shape := ⟨4, ![4, 128, 2, 8192]⟩
abbrev S8192x4x2x128 : Shape := ⟨4, ![8192, 4, 2, 128]⟩
abbrev S8192x1024 : Shape := ⟨2, ![8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S24576x4x2x64, .f32⟩
  | .hbm, ⟨1, _⟩ => ⟨S24576x4x2x64, .f32⟩
  | .hbm, ⟨2, _⟩ => ⟨S24576x4x128, .f32⟩
  | .hbm, ⟨3, _⟩ => ⟨S8192x4x2x64, .f32⟩
  | .hbm, ⟨4, _⟩ => ⟨S8192x4x2x64, .f32⟩
  | .hbm, ⟨5, _⟩ => ⟨S8192x4x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x2x8192x8192, .f32⟩
  | .hbm, ⟨11, _⟩ => ⟨S4x2x8192x8192, .f32⟩
  | .hbm, ⟨12, _⟩ => ⟨S4x2x8192x8192, .f32⟩
  | .hbm, ⟨13, _⟩ => ⟨S_, .f32⟩
  | .hbm, ⟨14, _⟩ => ⟨S4x2x8192, .f32⟩
  | .hbm, ⟨15, _⟩ => ⟨S_, .f32⟩
  | .hbm, ⟨16, _⟩ => ⟨S4x2x8192, .f32⟩
  | .hbm, ⟨17, _⟩ => ⟨S4x2x8192, .f32⟩
  | .hbm, ⟨18, _⟩ => ⟨S4x2x8192x1, .f32⟩
  | .hbm, ⟨19, _⟩ => ⟨S4x2x8192x8192, .f32⟩
  | .hbm, ⟨20, _⟩ => ⟨S4x2x8192x8192, .f32⟩
  | .hbm, ⟨21, _⟩ => ⟨S4x2x8192x8192, .f32⟩
  | .hbm, ⟨22, _⟩ => ⟨S_, .f32⟩
  | .hbm, ⟨23, _⟩ => ⟨S4x2x8192, .f32⟩
  | .hbm, ⟨24, _⟩ => ⟨S4x2x8192x1, .f32⟩
  | .hbm, ⟨25, _⟩ => ⟨S4x2x8192x8192, .f32⟩
  | .hbm, ⟨26, _⟩ => ⟨S4x2x8192x8192, .f32⟩
  | .hbm, ⟨27, _⟩ => ⟨S4x128x2x8192, .f32⟩
  | .hbm, ⟨28, _⟩ => ⟨S8192x4x2x128, .f32⟩
  | .hbm, ⟨29, _⟩ => ⟨S8192x1024, .f32⟩
  | _, _ => ⟨S24576x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== KernelO.lean ====
abbrev S24576x768 : Shape := ⟨2, ![24576, 768]⟩
abbrev S24576x1024 : Shape := ⟨2, ![24576, 1024]⟩
abbrev S24576x2048 : Shape := ⟨2, ![24576, 2048]⟩
abbrev S2048x2048 : Shape := ⟨2, ![2048, 2048]⟩
abbrev S64 : Shape := ⟨1, ![64]⟩
abbrev S128 : Shape := ⟨1, ![128]⟩
abbrev S2048 : Shape := ⟨1, ![2048]⟩
abbrev S1x64 : Shape := ⟨2, ![1, 64]⟩
abbrev S4x64 : Shape := ⟨2, ![4, 64]⟩
abbrev S1x128 : Shape := ⟨2, ![1, 128]⟩
abbrev S1x2048 : Shape := ⟨2, ![1, 2048]⟩
abbrev S256x768 : Shape := ⟨2, ![256, 768]⟩
abbrev S256x1024 : Shape := ⟨2, ![256, 1024]⟩
abbrev S256x2048 : Shape := ⟨2, ![256, 2048]⟩
abbrev S1 : Shape := ⟨1, ![1]⟩
abbrev S1x1 : Shape := ⟨2, ![1, 1]⟩
abbrev S768x2048 : Shape := ⟨2, ![768, 2048]⟩
abbrev S256x128 : Shape := ⟨2, ![256, 128]⟩
abbrev S256 : Shape := ⟨1, ![256]⟩
abbrev S256x1 : Shape := ⟨2, ![256, 1]⟩
abbrev S128x2048 : Shape := ⟨2, ![128, 2048]⟩

abbrev nBuf : Space → Nat
  | .hbm => 22
  | .vmem => 15
  | .smem => 0
  | _ => 0

abbrev bufTy : (tb : Table) → Fin (tcTables nBuf tb) → BufTy
  | .hbm, ⟨0, _⟩ => ⟨S24576x768, .bf16⟩
  | .hbm, ⟨1, _⟩ => ⟨S24576x768, .bf16⟩
  | .hbm, ⟨2, _⟩ => ⟨S24576x1024, .f32⟩
  | .hbm, ⟨3, _⟩ => ⟨S24576x2048, .f32⟩
  | .hbm, ⟨4, _⟩ => ⟨S2048x2048, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S2048, .f32⟩
  | .hbm, ⟨11, _⟩ => ⟨S2048, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S2048x2048, .bf16⟩
  | .hbm, ⟨18, _⟩ => ⟨S1x128, .f32⟩
  | .hbm, ⟨19, _⟩ => ⟨S1x2048, .f32⟩
  | .hbm, ⟨20, _⟩ => ⟨S1x2048, .f32⟩
  | .hbm, ⟨21, _⟩ => ⟨S24576x2048, .f32⟩
  | .local _ .vmem, ⟨0, _⟩ => ⟨S256x768, .bf16⟩
  | .local _ .vmem, ⟨1, _⟩ => ⟨S256x768, .bf16⟩
  | .local _ .vmem, ⟨2, _⟩ => ⟨S256x768, .bf16⟩
  | .local _ .vmem, ⟨3, _⟩ => ⟨S256x768, .bf16⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S2048x2048, .bf16⟩
  | .local _ .vmem, ⟨9, _⟩ => ⟨S4x64, .f32⟩
  | .local _ .vmem, ⟨10, _⟩ => ⟨S1x128, .f32⟩
  | .local _ .vmem, ⟨11, _⟩ => ⟨S1x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | _, _ => ⟨S24576x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceOIdeal.lean ====
abbrev S24576x768 : Shape := ⟨2, ![24576, 768]⟩
abbrev S24576x1024 : Shape := ⟨2, ![24576, 1024]⟩
abbrev S24576x2048 : Shape := ⟨2, ![24576, 2048]⟩
abbrev S2048x2048 : Shape := ⟨2, ![2048, 2048]⟩
abbrev S64 : Shape := ⟨1, ![64]⟩
abbrev S128 : Shape := ⟨1, ![128]⟩
abbrev S2048 : Shape := ⟨1, ![2048]⟩
abbrev S_ : Shape := ⟨0, ![]⟩
abbrev S24576x4x2x128 : Shape := ⟨4, ![24576, 4, 2, 128]⟩
abbrev S24576x4x1x128 : Shape := ⟨4, ![24576, 4, 1, 128]⟩
abbrev S24576x4x128 : Shape := ⟨3, ![24576, 4, 128]⟩
abbrev S24576x4 : Shape := ⟨2, ![24576, 4]⟩
abbrev S24576x4x1 : Shape := ⟨3, ![24576, 4, 1]⟩
abbrev S1x1x128 : Shape := ⟨3, ![1, 1, 128]⟩
abbrev S24576x512 : Shape := ⟨2, ![24576, 512]⟩
abbrev S24576 : Shape := ⟨1, ![24576]⟩
abbrev S24576x1 : Shape := ⟨2, ![24576, 1]⟩
abbrev S1x2048 : Shape := ⟨2, ![1, 2048]⟩

abbrev nBuf : Space → Nat
  | .hbm => 86
  | .vmem => 0
  | .smem => 0
  | _ => 0

abbrev bufTy : (tb : Table) → Fin (tcTables nBuf tb) → BufTy
  | .hbm, ⟨0, _⟩ => ⟨S24576x768, .bf16⟩
  | .hbm, ⟨1, _⟩ => ⟨S24576x768, .bf16⟩
  | .hbm, ⟨2, _⟩ => ⟨S24576x1024, .f32⟩
  | .hbm, ⟨3, _⟩ => ⟨S24576x2048, .f32⟩
  | .hbm, ⟨4, _⟩ => ⟨S2048x2048, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S2048, .f32⟩
  | .hbm, ⟨11, _⟩ => ⟨S2048, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S24576x4x2x128, .f32⟩
  | .hbm, ⟨24, _⟩ => ⟨S24576x4x1x128, .f32⟩
  | .hbm, ⟨25, _⟩ => ⟨S24576x4x128, .f32⟩
  | .hbm, ⟨26, _⟩ => ⟨S24576x4x1x128, .f32⟩
  | .hbm, ⟨27, _⟩ => ⟨S24576x4x128, .f32⟩
  | .hbm, ⟨28, _⟩ => ⟨S24576x4x128, .f32⟩
  | .hbm, ⟨29, _⟩ => ⟨S24576x4x128, .f32⟩
  | .hbm, ⟨30, _⟩ => ⟨S24576x4x128, .f32⟩
  | .hbm, ⟨31, _⟩ => ⟨S24576x4x128, .f32⟩
  | .hbm, ⟨32, _⟩ => ⟨S_, .f32⟩
  | .hbm, ⟨33, _⟩ => ⟨S24576x4, .f32⟩
  | .hbm, ⟨34, _⟩ => ⟨S24576x4x1, .f32⟩
  | .hbm, ⟨35, _⟩ => ⟨S_, .f32⟩
  | .hbm, ⟨36, _⟩ => ⟨S24576x4x1, .f32⟩
  | .hbm, ⟨37, _⟩ => ⟨S24576x4x1, .f32⟩
  | .hbm, ⟨38, _⟩ => ⟨S_, .f32⟩
  | .hbm, ⟨39, _⟩ => ⟨S24576x4x1, .f32⟩
  | .hbm, ⟨40, _⟩ => ⟨S24576x4x1, .f32⟩
  | .hbm, ⟨41, _⟩ => ⟨S24576x4x1, .f32⟩
  | .hbm, ⟨42, _⟩ => ⟨S24576x4x128, .f32⟩
  | .hbm, ⟨43, _⟩ => ⟨S24576x4x128, .f32⟩
  | .hbm, ⟨44, _⟩ => ⟨S1x1x128, .f32⟩
  | .hbm, ⟨45, _⟩ => ⟨S24576x4x128, .f32⟩
  | .hbm, ⟨46, _⟩ => ⟨S24576x4x128, .f32⟩
  | .hbm, ⟨47, _⟩ => ⟨S_, .f32⟩
  | .hbm, ⟨48, _⟩ => ⟨S24576x4x128, .f32⟩
  | .hbm, ⟨49, _⟩ => ⟨S24576x4x128, .f32⟩
  | .hbm, ⟨50, _⟩ => ⟨S24576x512, .f32⟩
  | .hbm, ⟨51, _⟩ => ⟨S24576x768, .f32⟩
  | .hbm, ⟨52, _⟩ => ⟨S24576x768, .f32⟩
  | .hbm, ⟨53, _⟩ => ⟨S24576x2048, .f32⟩
  | .hbm, ⟨54, _⟩ => ⟨S24576x2048, .f32⟩
  | .hbm, ⟨55, _⟩ => ⟨S_, .f32⟩
  | .hbm, ⟨56, _⟩ => ⟨S24576x2048, .f32⟩
  | .hbm, ⟨57, _⟩ => ⟨S24576x2048, .f32⟩
  | .hbm, ⟨58, _⟩ => ⟨S24576x2048, .f32⟩
  | .hbm, ⟨59, _⟩ => ⟨S_, .f32⟩
  | .hbm, ⟨60, _⟩ => ⟨S24576, .f32⟩
  | .hbm, ⟨61, _⟩ => ⟨S24576x1, .f32⟩
  | .hbm, ⟨62, _⟩ => ⟨S_, .f32⟩
  | .hbm, ⟨63, _⟩ => ⟨S24576x1, .f32⟩
  | .hbm, ⟨64, _⟩ => ⟨S24576x1, .f32⟩
  | .hbm, ⟨65, _⟩ => ⟨S24576x2048, .f32⟩
  | .hbm, ⟨66, _⟩ => ⟨S24576x2048, .f32⟩
  | .hbm, ⟨67, _⟩ => ⟨S24576x2048, .f32⟩
  | .hbm, ⟨68, _⟩ => ⟨S_, .f32⟩
  | .hbm, ⟨69, _⟩ => ⟨S24576, .f32⟩
  | .hbm, ⟨70, _⟩ => ⟨S24576x1, .f32⟩
  | .hbm, ⟨71, _⟩ => ⟨S_, .f32⟩
  | .hbm, ⟨72, _⟩ => ⟨S24576x1, .f32⟩
  | .hbm, ⟨73, _⟩ => ⟨S24576x1, .f32⟩
  | .hbm, ⟨74, _⟩ => ⟨S_, .f32⟩
  | .hbm, ⟨75, _⟩ => ⟨S24576x1, .f32⟩
  | .hbm, ⟨76, _⟩ => ⟨S24576x1, .f32⟩
  | .hbm, ⟨77, _⟩ => ⟨S24576x1, .f32⟩
  | .hbm, ⟨78, _⟩ => ⟨S24576x2048, .f32⟩
  | .hbm, ⟨79, _⟩ => ⟨S24576x2048, .f32⟩
  | .hbm, ⟨80, _⟩ => ⟨S1x2048, .f32⟩
  | .hbm, ⟨81, _⟩ => ⟨S24576x2048, .f32⟩
  | .hbm, ⟨82, _⟩ => ⟨S24576x2048, .f32⟩
  | .hbm, ⟨83, _⟩ => ⟨S1x2048, .f32⟩
  | .hbm, ⟨84, _⟩ => ⟨S24576x2048, .f32⟩
  | .hbm, ⟨85, _⟩ => ⟨S24576x2048, .f32⟩
  | _, _ => ⟨S24576x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩

abbrev nD : Nat := 1
abbrev τ : Topo := Topo.v7x

variable {F : FTy → Type} [FloatOps F]
-- ==== KernelI.lean ====
abbrev S24576x2048 : Shape := ⟨2, ![24576, 2048]⟩
abbrev S24576 : Shape := ⟨1, ![24576]⟩
abbrev S2048x3520 : Shape := ⟨2, ![2048, 3520]⟩
abbrev S128 : Shape := ⟨1, ![128]⟩
abbrev S384 : Shape := ⟨1, ![384]⟩
abbrev S256 : Shape := ⟨1, ![256]⟩
abbrev S384x1152 : Shape := ⟨2, ![384, 1152]⟩
abbrev S256x1536 : Shape := ⟨2, ![256, 1536]⟩
abbrev S2048x1984 : Shape := ⟨2, ![2048, 1984]⟩
abbrev S_ : Shape := ⟨0, ![]⟩
abbrev S2048x64 : Shape := ⟨2, ![2048, 64]⟩
abbrev S2048x1536 : Shape := ⟨2, ![2048, 1536]⟩
abbrev S2048x3584 : Shape := ⟨2, ![2048, 3584]⟩
abbrev S384x6x192 : Shape := ⟨3, ![384, 6, 192]⟩
abbrev S384x6x256 : Shape := ⟨3, ![384, 6, 256]⟩
abbrev S384x1536 : Shape := ⟨2, ![384, 1536]⟩
abbrev S256x6x256 : Shape := ⟨3, ![256, 6, 256]⟩
abbrev S256x6x128 : Shape := ⟨3, ![256, 6, 128]⟩
abbrev S256x768 : Shape := ⟨2, ![256, 768]⟩
abbrev S32 : Shape := ⟨1, ![32]⟩
abbrev S24576x1 : Shape := ⟨2, ![24576, 1]⟩
abbrev S1x32 : Shape := ⟨2, ![1, 32]⟩
abbrev S24576x32 : Shape := ⟨2, ![24576, 32]⟩
abbrev S24576x64 : Shape := ⟨2, ![24576, 64]⟩
abbrev S24576x128 : Shape := ⟨2, ![24576, 128]⟩
abbrev S1x128 : Shape := ⟨2, ![1, 128]⟩
abbrev S1x384 : Shape := ⟨2, ![1, 384]⟩
abbrev S1x256 : Shape := ⟨2, ![1, 256]⟩
abbrev S24576x768 : Shape := ⟨2, ![24576, 768]⟩
abbrev S24576x256 : Shape := ⟨2, ![24576, 256]⟩
abbrev S288x24576 : Shape := ⟨2, ![288, 24576]⟩
abbrev S24576x1536 : Shape := ⟨2, ![24576, 1536]⟩
abbrev S864x24576 : Shape := ⟨2, ![864, 24576]⟩
abbrev S24576x1024 : Shape := ⟨2, ![24576, 1024]⟩
abbrev S24576x512 : Shape := ⟨2, ![24576, 512]⟩
abbrev S576x24576 : Shape := ⟨2, ![576, 24576]⟩
abbrev S256x2048 : Shape := ⟨2, ![256, 2048]⟩
abbrev S256x128 : Shape := ⟨2, ![256, 128]⟩
abbrev S256x256 : Shape := ⟨2, ![256, 256]⟩
abbrev S288x256 : Shape := ⟨2, ![288, 256]⟩
abbrev S864x256 : Shape := ⟨2, ![864, 256]⟩
abbrev S256x1024 : Shape := ⟨2, ![256, 1024]⟩
abbrev S256x512 : Shape := ⟨2, ![256, 512]⟩
abbrev S576x256 : Shape := ⟨2, ![576, 256]⟩
abbrev S2048x768 : Shape := ⟨2, ![2048, 768]⟩
abbrev S256x1 : Shape := ⟨2, ![256, 1]⟩
abbrev S2048x256 : Shape := ⟨2, ![2048, 256]⟩
abbrev S16x256 : Shape := ⟨2, ![16, 256]⟩
abbrev S128x256 : Shape := ⟨2, ![128, 256]⟩
abbrev S2048x384 : Shape := ⟨2, ![2048, 384]⟩
abbrev S256x384 : Shape := ⟨2, ![256, 384]⟩
abbrev S768x256 : Shape := ⟨2, ![768, 256]⟩
abbrev S2048x128 : Shape := ⟨2, ![2048, 128]⟩
abbrev S2048x512 : Shape := ⟨2, ![2048, 512]⟩
abbrev S512x256 : Shape := ⟨2, ![512, 256]⟩

abbrev nBuf : Space → Nat
  | .hbm => 88
  | .vmem => 36
  | .smem => 0
  | _ => 0

abbrev bufTy : (tb : Table) → Fin (tcTables nBuf tb) → BufTy
  | .hbm, ⟨0, _⟩ => ⟨S24576x2048, .f32⟩
  | .hbm, ⟨1, _⟩ => ⟨S24576, .i32⟩
  | .hbm, ⟨2, _⟩ => ⟨S24576, .i32⟩
  | .hbm, ⟨3, _⟩ => ⟨S24576, .i32⟩
  | .hbm, ⟨4, _⟩ => ⟨S2048x3520, .f32⟩
  | .hbm, ⟨5, _⟩ => ⟨S128, .f32⟩
  | .hbm, ⟨6, _⟩ => ⟨S128, .f32⟩
  | .hbm, ⟨7, _⟩ => ⟨S384, .f32⟩
  | .hbm, ⟨8, _⟩ => ⟨S256, .f32⟩
  | .hbm, ⟨9, _⟩ => ⟨S384x1152, .f32⟩
  | .hbm, ⟨10, _⟩ => ⟨S256x1536, .f32⟩
  | .hbm, ⟨11, _⟩ => ⟨S2048x1984, .f32⟩
  | .hbm, ⟨12, _⟩ => ⟨S_, .f32⟩
  | .hbm, ⟨13, _⟩ => ⟨S2048x64, .f32⟩
  | .hbm, ⟨14, _⟩ => ⟨S2048x1536, .f32⟩
  | .hbm, ⟨15, _⟩ => ⟨S2048x3584, .f32⟩
  | .hbm, ⟨16, _⟩ => ⟨S2048x3584, .bf16⟩
  | .hbm, ⟨17, _⟩ => ⟨S384x6x192, .f32⟩
  | .hbm, ⟨18, _⟩ => ⟨S_, .i32⟩
  | .hbm, ⟨19, _⟩ => ⟨S_, .f32⟩
  | .hbm, ⟨20, _⟩ => ⟨S384x6x256, .f32⟩
  | .hbm, ⟨21, _⟩ => ⟨S384x1536, .f32⟩
  | .hbm, ⟨22, _⟩ => ⟨S384x1536, .bf16⟩
  | .hbm, ⟨23, _⟩ => ⟨S256x6x256, .f32⟩
  | .hbm, ⟨24, _⟩ => ⟨S256x6x128, .f32⟩
  | .hbm, ⟨25, _⟩ => ⟨S256x768, .f32⟩
  | .hbm, ⟨26, _⟩ => ⟨S256x768, .bf16⟩
  | .hbm, ⟨27, _⟩ => ⟨S256x6x128, .f32⟩
  | .hbm, ⟨28, _⟩ => ⟨S256x768, .f32⟩
  | .hbm, ⟨29, _⟩ => ⟨S256x768, .bf16⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S24576, .f32⟩
  | .hbm, ⟨39, _⟩ => ⟨S24576x1, .f32⟩
  | .hbm, ⟨40, _⟩ => ⟨S1x32, .f32⟩
  | .hbm, ⟨41, _⟩ => ⟨S24576x32, .f32⟩
  | .hbm, ⟨42, _⟩ => ⟨S24576x32, .f32⟩
  | .hbm, ⟨43, _⟩ => ⟨S24576x32, .f32⟩
  | .hbm, ⟨44, _⟩ => ⟨S24576x32, .f32⟩
  | .hbm, ⟨45, _⟩ => ⟨S24576x32, .f32⟩
  | .hbm, ⟨46, _⟩ => ⟨S24576x64, .f32⟩
  | .hbm, ⟨47, _⟩ => ⟨S24576x32, .f32⟩
  | .hbm, ⟨48, _⟩ => ⟨S24576x64, .f32⟩
  | .hbm, ⟨49, _⟩ => ⟨S24576, .f32⟩
  | .hbm, ⟨50, _⟩ => ⟨S24576x1, .f32⟩
  | .hbm, ⟨51, _⟩ => ⟨S1x32, .f32⟩
  | .hbm, ⟨52, _⟩ => ⟨S24576x32, .f32⟩
  | .hbm, ⟨53, _⟩ => ⟨S24576x32, .f32⟩
  | .hbm, ⟨54, _⟩ => ⟨S24576x32, .f32⟩
  | .hbm, ⟨55, _⟩ => ⟨S24576x32, .f32⟩
  | .hbm, ⟨56, _⟩ => ⟨S24576x32, .f32⟩
  | .hbm, ⟨57, _⟩ => ⟨S24576x64, .f32⟩
  | .hbm, ⟨58, _⟩ => ⟨S24576x32, .f32⟩
  | .hbm, ⟨59, _⟩ => ⟨S24576x64, .f32⟩
  | .hbm, ⟨60, _⟩ => ⟨S24576, .f32⟩
  | .hbm, ⟨61, _⟩ => ⟨S24576x1, .f32⟩
  | .hbm, ⟨62, _⟩ => ⟨S1x32, .f32⟩
  | .hbm, ⟨63, _⟩ => ⟨S24576x32, .f32⟩
  | .hbm, ⟨64, _⟩ => ⟨S24576x32, .f32⟩
  | .hbm, ⟨65, _⟩ => ⟨S24576x32, .f32⟩
  | .hbm, ⟨66, _⟩ => ⟨S24576x32, .f32⟩
  | .hbm, ⟨67, _⟩ => ⟨S24576x32, .f32⟩
  | .hbm, ⟨68, _⟩ => ⟨S24576x64, .f32⟩
  | .hbm, ⟨69, _⟩ => ⟨S24576x32, .f32⟩
  | .hbm, ⟨70, _⟩ => ⟨S24576x64, .f32⟩
  | .hbm, ⟨71, _⟩ => ⟨S24576x128, .f32⟩
  | .hbm, ⟨72, _⟩ => ⟨S24576x128, .f32⟩
  | .hbm, ⟨73, _⟩ => ⟨S24576x128, .f32⟩
  | .hbm, ⟨74, _⟩ => ⟨S24576x128, .f32⟩
  | .hbm, ⟨75, _⟩ => ⟨S1x128, .f32⟩
  | .hbm, ⟨76, _⟩ => ⟨S1x128, .f32⟩
  | .hbm, ⟨77, _⟩ => ⟨S1x384, .f32⟩
  | .hbm, ⟨78, _⟩ => ⟨S1x256, .f32⟩
  | .hbm, ⟨79, _⟩ => ⟨S24576x768, .bf16⟩
  | .hbm, ⟨80, _⟩ => ⟨S24576x256, .bf16⟩
  | .hbm, ⟨81, _⟩ => ⟨S288x24576, .bf16⟩
  | .hbm, ⟨82, _⟩ => ⟨S24576x1536, .bf16⟩
  | .hbm, ⟨83, _⟩ => ⟨S24576x1536, .bf16⟩
  | .hbm, ⟨84, _⟩ => ⟨S864x24576, .bf16⟩
  | .hbm, ⟨85, _⟩ => ⟨S24576x1024, .bf16⟩
  | .hbm, ⟨86, _⟩ => ⟨S24576x512, .bf16⟩
  | .hbm, ⟨87, _⟩ => ⟨S576x24576, .bf16⟩
  | .local _ .vmem, ⟨0, _⟩ => ⟨S256x2048, .f32⟩
  | .local _ .vmem, ⟨1, _⟩ => ⟨S256x2048, .f32⟩
  | .local _ .vmem, ⟨2, _⟩ => ⟨S2048x3584, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S1x128, .f32⟩
  | .local _ .vmem, ⟨12, _⟩ => ⟨S1x128, .f32⟩
  | .local _ .vmem, ⟨13, _⟩ => ⟨S1x384, .f32⟩
  | .local _ .vmem, ⟨14, _⟩ => ⟨S1x256, .f32⟩
  | .local _ .vmem, ⟨15, _⟩ => ⟨S384x1536, .bf16⟩
  | .local _ .vmem, ⟨16, _⟩ => ⟨S256x768, .bf16⟩
  | .local _ .vmem, ⟨17, _⟩ => ⟨S256x768, .bf16⟩
  | .local _ .vmem, ⟨18, _⟩ => ⟨S256x768, .bf16⟩
  | .local _ .vmem, ⟨19, _⟩ => ⟨S256x768, .bf16⟩
  | .local _ .vmem, ⟨20, _⟩ => ⟨S256x256, .bf16⟩
  | .local _ .vmem, ⟨21, _⟩ => ⟨S256x256, .bf16⟩
  | .local _ .vmem, ⟨22, _⟩ => ⟨S288x256, .bf16⟩
  | .local _ .vmem, ⟨23, _⟩ => ⟨S288x256, .bf16⟩
  | .local _ .vmem, ⟨24, _⟩ => ⟨S256x1536, .bf16⟩
  | .local _ .vmem, ⟨25, _⟩ => ⟨S256x1536, .bf16⟩
  | .local _ .vmem, ⟨26, _⟩ => ⟨S256x1536, .bf16⟩
  | .local _ .vmem, ⟨27, _⟩ => ⟨S256x1536, .bf16⟩
  | .local _ .vmem, ⟨28, _⟩ => ⟨S864x256, .bf16⟩
  | .local _ .vmem, ⟨29, _⟩ => ⟨S864x256, .bf16⟩
  | .local _ .vmem, ⟨30, _⟩ => ⟨S256x1024, .bf16⟩
  | .local _ .vmem, ⟨31, _⟩ => ⟨S256x1024, .bf16⟩
  | .local _ .vmem, ⟨32, _⟩ => ⟨S256x512, .bf16⟩
  | .local _ .vmem, ⟨33, _⟩ => ⟨S256x512, .bf16⟩
  | .local _ .vmem, ⟨34, _⟩ => ⟨S576x256, .bf16⟩
  | .local _ .vmem, ⟨35, _⟩ => ⟨S576x256, .bf16⟩
  | _, _ => ⟨S24576x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63_0 : Ref sig .tc := ⟨.hbm, 79, rfl⟩
abbrev main_v63_1 : Ref sig .tc := ⟨.hbm, 80, rfl⟩
abbrev main_v63_2 : Ref sig .tc := ⟨.hbm, 81, rfl⟩
abbrev main_v63_3 : Ref sig .tc := ⟨.hbm, 82, rfl⟩
abbrev main_v63_4 : Ref sig .tc := ⟨.hbm, 83, rfl⟩
abbrev main_v63_5 : Ref sig .tc := ⟨.hbm, 84, rfl⟩
abbrev main_v63_6 : Ref sig .tc := ⟨.hbm, 85, rfl⟩
abbrev main_v63_7 : Ref sig .tc := ⟨.hbm, 86, rfl⟩
abbrev main_v63_8 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S288x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1536 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1536 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S864x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S576x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIIdeal.lean ====
variable {F : FTy → Type} [FloatOps F] [Named F]
def κ : String → Option EReal := fun
  | "scale_a" => some ((((Real.sqrt 128) * (Real.log 2))⁻¹ : ℝ) : EReal)
  | "scale_b" => some ((((Real.sqrt 192) * (Real.log 2))⁻¹ : ℝ) : EReal)
  | "scale_c" => some ((((Real.sqrt 64) * (Real.log 2))⁻¹ : ℝ) : EReal)
  | _ => none
-- ==== ReferenceIIdeal.lean ====
abbrev S24576x2048 : Shape := ⟨2, ![24576, 2048]⟩
abbrev S24576 : Shape := ⟨1, ![24576]⟩
abbrev S2048x3520 : Shape := ⟨2, ![2048, 3520]⟩
abbrev S128 : Shape := ⟨1, ![128]⟩
abbrev S384 : Shape := ⟨1, ![384]⟩
abbrev S256 : Shape := ⟨1, ![256]⟩
abbrev S384x1152 : Shape := ⟨2, ![384, 1152]⟩
abbrev S256x1536 : Shape := ⟨2, ![256, 1536]⟩
abbrev S2048x768 : Shape := ⟨2, ![2048, 768]⟩
abbrev S24576x768 : Shape := ⟨2, ![24576, 768]⟩
abbrev S24576x6x128 : Shape := ⟨3, ![24576, 6, 128]⟩
abbrev S_ : Shape := ⟨0, ![]⟩
abbrev S24576x6 : Shape := ⟨2, ![24576, 6]⟩
abbrev S24576x6x1 : Shape := ⟨3, ![24576, 6, 1]⟩
abbrev S1x1x128 : Shape := ⟨3, ![1, 1, 128]⟩
abbrev S24576x6x64 : Shape := ⟨3, ![24576, 6, 64]⟩
abbrev S32 : Shape := ⟨1, ![32]⟩
abbrev S24576x1x1 : Shape := ⟨3, ![24576, 1, 1]⟩
abbrev S1x1x32 : Shape := ⟨3, ![1, 1, 32]⟩
abbrev S24576x1x32 : Shape := ⟨3, ![24576, 1, 32]⟩
abbrev S24576x6x32 : Shape := ⟨3, ![24576, 6, 32]⟩
abbrev S2048x256 : Shape := ⟨2, ![2048, 256]⟩
abbrev S24576x256 : Shape := ⟨2, ![24576, 256]⟩
abbrev S24576x2x128 : Shape := ⟨3, ![24576, 2, 128]⟩
abbrev S24576x2 : Shape := ⟨2, ![24576, 2]⟩
abbrev S24576x2x1 : Shape := ⟨3, ![24576, 2, 1]⟩
abbrev S24576x2x64 : Shape := ⟨3, ![24576, 2, 64]⟩
abbrev S24576x2x32 : Shape := ⟨3, ![24576, 2, 32]⟩
abbrev S24576x2x16 : Shape := ⟨3, ![24576, 2, 16]⟩
abbrev S24576x2x144 : Shape := ⟨3, ![24576, 2, 144]⟩
abbrev S24576x288 : Shape := ⟨2, ![24576, 288]⟩
abbrev S288x24576 : Shape := ⟨2, ![288, 24576]⟩
abbrev S2048x384 : Shape := ⟨2, ![2048, 384]⟩
abbrev S24576x384 : Shape := ⟨2, ![24576, 384]⟩
abbrev S24576x1 : Shape := ⟨2, ![24576, 1]⟩
abbrev S1x384 : Shape := ⟨2, ![1, 384]⟩
abbrev S24576x1152 : Shape := ⟨2, ![24576, 1152]⟩
abbrev S24576x6x192 : Shape := ⟨3, ![24576, 6, 192]⟩
abbrev S1x256 : Shape := ⟨2, ![1, 256]⟩
abbrev S24576x1536 : Shape := ⟨2, ![24576, 1536]⟩
abbrev S24576x6x256 : Shape := ⟨3, ![24576, 6, 256]⟩
abbrev S2048x64 : Shape := ⟨2, ![2048, 64]⟩
abbrev S24576x64 : Shape := ⟨2, ![24576, 64]⟩
abbrev S24576x1x64 : Shape := ⟨3, ![24576, 1, 64]⟩
abbrev S24576x6x16 : Shape := ⟨3, ![24576, 6, 16]⟩
abbrev S24576x6x144 : Shape := ⟨3, ![24576, 6, 144]⟩
abbrev S24576x864 : Shape := ⟨2, ![24576, 864]⟩
abbrev S864x24576 : Shape := ⟨2, ![864, 24576]⟩
abbrev S2048x512 : Shape := ⟨2, ![2048, 512]⟩
abbrev S24576x512 : Shape := ⟨2, ![24576, 512]⟩
abbrev S24576x8x64 : Shape := ⟨3, ![24576, 8, 64]⟩
abbrev S24576x8x32 : Shape := ⟨3, ![24576, 8, 32]⟩
abbrev S24576x4x2x64 : Shape := ⟨4, ![24576, 4, 2, 64]⟩
abbrev S24576x4x64 : Shape := ⟨3, ![24576, 4, 64]⟩
abbrev S24576x4x1x64 : Shape := ⟨4, ![24576, 4, 1, 64]⟩
abbrev S24576x4x256 : Shape := ⟨3, ![24576, 4, 256]⟩
abbrev S24576x1024 : Shape := ⟨2, ![24576, 1024]⟩
abbrev S24576x4x128 : Shape := ⟨3, ![24576, 4, 128]⟩
abbrev S24576x4x16 : Shape := ⟨3, ![24576, 4, 16]⟩
abbrev S24576x4x144 : Shape := ⟨3, ![24576, 4, 144]⟩
abbrev S24576x576 : Shape := ⟨2, ![24576, 576]⟩
abbrev S576x24576 : Shape := ⟨2, ![576, 24576]⟩

abbrev nBuf : Space → Nat
  | .hbm => 412
  | .vmem => 0
  | .smem => 0
  | _ => 0

abbrev hbmTy0_0 (i : Nat) : BufTy := match i % 128 with
  | 0 => ⟨S24576x2048, .f32⟩
  | 1 => ⟨S24576, .i32⟩
  | 2 => ⟨S24576, .i32⟩
  | 3 => ⟨S24576, .i32⟩
  | 4 => ⟨S2048x3520, .f32⟩
  | 5 => ⟨S128, .f32⟩
  | 6 => ⟨S128, .f32⟩
  | 7 => ⟨S384, .f32⟩
  | 8 => ⟨S256, .f32⟩
  | 9 => ⟨S384x1152, .f32⟩
  | 10 => ⟨S256x1536, .f32⟩
  | 11 => ⟨S2048x768, .f32⟩
  | 12 => ⟨S24576x768, .f32⟩
  | 13 => ⟨S24576x6x128, .f32⟩
  | 14 => ⟨S24576x6x128, .f32⟩
  | 15 => ⟨S_, .f32⟩
  | 16 => ⟨S24576x6, .f32⟩
  | 17 => ⟨S24576x6x1, .f32⟩
  | 18 => ⟨S_, .f32⟩
  | 19 => ⟨S24576x6x1, .f32⟩
  | 20 => ⟨S24576x6x1, .f32⟩
  | 21 => ⟨S_, .f32⟩
  | 22 => ⟨S24576x6x1, .f32⟩
  | 23 => ⟨S24576x6x1, .f32⟩
  | 24 => ⟨S24576x6x1, .f32⟩
  | 25 => ⟨S24576x6x128, .f32⟩
  | 26 => ⟨S24576x6x128, .f32⟩
  | 27 => ⟨S1x1x128, .f32⟩
  | 28 => ⟨S24576x6x128, .f32⟩
  | 29 => ⟨S24576x6x128, .f32⟩
  | 30 => ⟨S24576x6x64, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S24576, .f32⟩
  | 40 => ⟨S24576x1x1, .f32⟩
  | 41 => ⟨S1x1x32, .f32⟩
  | 42 => ⟨S24576x1x32, .f32⟩
  | 43 => ⟨S24576x1x32, .f32⟩
  | 44 => ⟨S24576x1x32, .f32⟩
  | 45 => ⟨S24576x1x32, .f32⟩
  | 46 => ⟨S24576x1x32, .f32⟩
  | 47 => ⟨S24576x6x32, .f32⟩
  | 48 => ⟨S24576x6x32, .f32⟩
  | 49 => ⟨S24576x6x32, .f32⟩
  | 50 => ⟨S24576x6x32, .f32⟩
  | 51 => ⟨S24576x6x32, .f32⟩
  | 52 => ⟨S24576x6x32, .f32⟩
  | 53 => ⟨S24576x6x32, .f32⟩
  | 54 => ⟨S24576x6x32, .f32⟩
  | 55 => ⟨S24576x6x32, .f32⟩
  | 56 => ⟨S24576x6x32, .f32⟩
  | 57 => ⟨S24576x6x32, .f32⟩
  | 58 => ⟨S24576x6x32, .f32⟩
  | 59 => ⟨S24576x6x64, .f32⟩
  | 60 => ⟨S24576x6x64, .f32⟩
  | 61 => ⟨S32, .f32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S24576, .f32⟩
  | 70 => ⟨S24576x1x1, .f32⟩
  | 71 => ⟨S1x1x32, .f32⟩
  | 72 => ⟨S24576x1x32, .f32⟩
  | 73 => ⟨S24576x1x32, .f32⟩
  | 74 => ⟨S24576x1x32, .f32⟩
  | 75 => ⟨S24576x1x32, .f32⟩
  | 76 => ⟨S24576x1x32, .f32⟩
  | 77 => ⟨S24576x6x32, .f32⟩
  | 78 => ⟨S24576x6x32, .f32⟩
  | 79 => ⟨S24576x6x32, .f32⟩
  | 80 => ⟨S24576x6x32, .f32⟩
  | 81 => ⟨S24576x6x32, .f32⟩
  | 82 => ⟨S24576x6x32, .f32⟩
  | 83 => ⟨S24576x6x32, .f32⟩
  | 84 => ⟨S24576x6x32, .f32⟩
  | 85 => ⟨S24576x6x32, .f32⟩
  | 86 => ⟨S24576x6x32, .f32⟩
  | 87 => ⟨S24576x6x32, .f32⟩
  | 88 => ⟨S24576x6x32, .f32⟩
  | 89 => ⟨S24576x6x64, .f32⟩
  | 90 => ⟨S24576x6x128, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S24576x6x128, .f32⟩
  | 99 => ⟨S24576x6x128, .f32⟩
  | 100 => ⟨S2048x256, .f32⟩
  | 101 => ⟨S24576x256, .f32⟩
  | 102 => ⟨S24576x2x128, .f32⟩
  | 103 => ⟨S24576x2x128, .f32⟩
  | 104 => ⟨S_, .f32⟩
  | 105 => ⟨S24576x2, .f32⟩
  | 106 => ⟨S24576x2x1, .f32⟩
  | 107 => ⟨S_, .f32⟩
  | 108 => ⟨S24576x2x1, .f32⟩
  | 109 => ⟨S24576x2x1, .f32⟩
  | 110 => ⟨S_, .f32⟩
  | 111 => ⟨S24576x2x1, .f32⟩
  | 112 => ⟨S24576x2x1, .f32⟩
  | 113 => ⟨S24576x2x1, .f32⟩
  | 114 => ⟨S24576x2x128, .f32⟩
  | 115 => ⟨S24576x2x128, .f32⟩
  | 116 => ⟨S1x1x128, .f32⟩
  | 117 => ⟨S24576x2x128, .f32⟩
  | 118 => ⟨S24576x2x128, .f32⟩
  | 119 => ⟨S24576x2x64, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S24576x2048, .f32⟩

abbrev hbmTy0_1 (i : Nat) : BufTy := match i % 128 with
  | 0 => ⟨S24576, .f32⟩
  | 1 => ⟨S24576x1x1, .f32⟩
  | 2 => ⟨S1x1x32, .f32⟩
  | 3 => ⟨S24576x1x32, .f32⟩
  | 4 => ⟨S24576x1x32, .f32⟩
  | 5 => ⟨S24576x1x32, .f32⟩
  | 6 => ⟨S24576x1x32, .f32⟩
  | 7 => ⟨S24576x1x32, .f32⟩
  | 8 => ⟨S24576x2x32, .f32⟩
  | 9 => ⟨S24576x2x32, .f32⟩
  | 10 => ⟨S24576x2x32, .f32⟩
  | 11 => ⟨S24576x2x32, .f32⟩
  | 12 => ⟨S24576x2x32, .f32⟩
  | 13 => ⟨S24576x2x32, .f32⟩
  | 14 => ⟨S24576x2x32, .f32⟩
  | 15 => ⟨S24576x2x32, .f32⟩
  | 16 => ⟨S24576x2x32, .f32⟩
  | 17 => ⟨S24576x2x32, .f32⟩
  | 18 => ⟨S24576x2x32, .f32⟩
  | 19 => ⟨S24576x2x32, .f32⟩
  | 20 => ⟨S24576x2x64, .f32⟩
  | 21 => ⟨S24576x2x64, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S24576, .f32⟩
  | 31 => ⟨S24576x1x1, .f32⟩
  | 32 => ⟨S1x1x32, .f32⟩
  | 33 => ⟨S24576x1x32, .f32⟩
  | 34 => ⟨S24576x1x32, .f32⟩
  | 35 => ⟨S24576x1x32, .f32⟩
  | 36 => ⟨S24576x1x32, .f32⟩
  | 37 => ⟨S24576x1x32, .f32⟩
  | 38 => ⟨S24576x2x32, .f32⟩
  | 39 => ⟨S24576x2x32, .f32⟩
  | 40 => ⟨S24576x2x32, .f32⟩
  | 41 => ⟨S24576x2x32, .f32⟩
  | 42 => ⟨S24576x2x32, .f32⟩
  | 43 => ⟨S24576x2x32, .f32⟩
  | 44 => ⟨S24576x2x32, .f32⟩
  | 45 => ⟨S24576x2x32, .f32⟩
  | 46 => ⟨S24576x2x32, .f32⟩
  | 47 => ⟨S24576x2x32, .f32⟩
  | 48 => ⟨S24576x2x32, .f32⟩
  | 49 => ⟨S24576x2x32, .f32⟩
  | 50 => ⟨S24576x2x64, .f32⟩
  | 51 => ⟨S24576x2x128, .f32⟩
  | 52 => ⟨S24576x768, .f32⟩
  | 53 => ⟨S24576x768, .bf16⟩
  | 54 => ⟨S24576x256, .f32⟩
  | 55 => ⟨S24576x256, .bf16⟩
  | 56 => ⟨S2048x256, .f32⟩
  | 57 => ⟨S24576x256, .f32⟩
  | 58 => ⟨S24576x2x128, .f32⟩
  | 59 => ⟨S_, .f32⟩
  | 60 => ⟨S24576x2x16, .f32⟩
  | 61 => ⟨S24576x2x144, .f32⟩
  | 62 => ⟨S24576x288, .f32⟩
  | 63 => ⟨S24576x288, .bf16⟩
  | 64 => ⟨S288x24576, .bf16⟩
  | 65 => ⟨S2048x384, .f32⟩
  | 66 => ⟨S24576x384, .f32⟩
  | 67 => ⟨S24576x384, .f32⟩
  | 68 => ⟨S_, .f32⟩
  | 69 => ⟨S24576, .f32⟩
  | 70 => ⟨S24576x1, .f32⟩
  | 71 => ⟨S_, .f32⟩
  | 72 => ⟨S24576x1, .f32⟩
  | 73 => ⟨S24576x1, .f32⟩
  | 74 => ⟨S_, .f32⟩
  | 75 => ⟨S24576x1, .f32⟩
  | 76 => ⟨S24576x1, .f32⟩
  | 77 => ⟨S24576x1, .f32⟩
  | 78 => ⟨S24576x384, .f32⟩
  | 79 => ⟨S24576x384, .f32⟩
  | 80 => ⟨S1x384, .f32⟩
  | 81 => ⟨S24576x384, .f32⟩
  | 82 => ⟨S24576x384, .f32⟩
  | 83 => ⟨S24576x1152, .f32⟩
  | 84 => ⟨S24576x6x192, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S24576x6x192, .f32⟩
  | 93 => ⟨S24576x6x192, .f32⟩
  | 94 => ⟨S2048x256, .f32⟩
  | 95 => ⟨S24576x256, .f32⟩
  | 96 => ⟨S24576x256, .f32⟩
  | 97 => ⟨S_, .f32⟩
  | 98 => ⟨S24576, .f32⟩
  | 99 => ⟨S24576x1, .f32⟩
  | 100 => ⟨S_, .f32⟩
  | 101 => ⟨S24576x1, .f32⟩
  | 102 => ⟨S24576x1, .f32⟩
  | 103 => ⟨S_, .f32⟩
  | 104 => ⟨S24576x1, .f32⟩
  | 105 => ⟨S24576x1, .f32⟩
  | 106 => ⟨S24576x1, .f32⟩
  | 107 => ⟨S24576x256, .f32⟩
  | 108 => ⟨S24576x256, .f32⟩
  | 109 => ⟨S1x256, .f32⟩
  | 110 => ⟨S24576x256, .f32⟩
  | 111 => ⟨S24576x256, .f32⟩
  | 112 => ⟨S24576x1536, .f32⟩
  | 113 => ⟨S24576x6x256, .f32⟩
  | 114 => ⟨S2048x64, .f32⟩
  | 115 => ⟨S24576x64, .f32⟩
  | 116 => ⟨S24576x1x64, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S24576, .f32⟩
  | 126 => ⟨S24576x1x1, .f32⟩
  | 127 => ⟨S1x1x32, .f32⟩
  | _ => ⟨S24576x2048, .f32⟩

abbrev hbmTy0_2 (i : Nat) : BufTy := match i % 128 with
  | 0 => ⟨S24576x1x32, .f32⟩
  | 1 => ⟨S24576x1x32, .f32⟩
  | 2 => ⟨S24576x1x32, .f32⟩
  | 3 => ⟨S24576x1x32, .f32⟩
  | 4 => ⟨S24576x1x32, .f32⟩
  | 5 => ⟨S24576x1x32, .f32⟩
  | 6 => ⟨S24576x1x32, .f32⟩
  | 7 => ⟨S24576x1x32, .f32⟩
  | 8 => ⟨S24576x1x32, .f32⟩
  | 9 => ⟨S24576x1x32, .f32⟩
  | 10 => ⟨S24576x1x32, .f32⟩
  | 11 => ⟨S24576x1x32, .f32⟩
  | 12 => ⟨S24576x1x32, .f32⟩
  | 13 => ⟨S24576x1x64, .f32⟩
  | 14 => ⟨S24576x6x64, .f32⟩
  | 15 => ⟨S_, .f32⟩
  | 16 => ⟨S24576x6x64, .f32⟩
  | 17 => ⟨S24576x6x128, .f32⟩
  | 18 => ⟨S24576x6x64, .f32⟩
  | 19 => ⟨S32, .f32⟩
  | 20 => ⟨S32, .f32⟩
  | 21 => ⟨S_, .f32⟩
  | 22 => ⟨S32, .f32⟩
  | 23 => ⟨S32, .f32⟩
  | 24 => ⟨S_, .f32⟩
  | 25 => ⟨S32, .f32⟩
  | 26 => ⟨S32, .f32⟩
  | 27 => ⟨S24576, .f32⟩
  | 28 => ⟨S24576x1x1, .f32⟩
  | 29 => ⟨S1x1x32, .f32⟩
  | 30 => ⟨S24576x1x32, .f32⟩
  | 31 => ⟨S24576x1x32, .f32⟩
  | 32 => ⟨S24576x1x32, .f32⟩
  | 33 => ⟨S24576x1x32, .f32⟩
  | 34 => ⟨S24576x1x32, .f32⟩
  | 35 => ⟨S24576x6x32, .f32⟩
  | 36 => ⟨S24576x6x32, .f32⟩
  | 37 => ⟨S24576x6x32, .f32⟩
  | 38 => ⟨S24576x6x32, .f32⟩
  | 39 => ⟨S24576x6x32, .f32⟩
  | 40 => ⟨S24576x6x32, .f32⟩
  | 41 => ⟨S24576x6x32, .f32⟩
  | 42 => ⟨S24576x6x32, .f32⟩
  | 43 => ⟨S24576x6x32, .f32⟩
  | 44 => ⟨S24576x6x32, .f32⟩
  | 45 => ⟨S24576x6x32, .f32⟩
  | 46 => ⟨S24576x6x32, .f32⟩
  | 47 => ⟨S24576x6x64, .f32⟩
  | 48 => ⟨S24576x6x256, .f32⟩
  | 49 => ⟨S24576x6x128, .f32⟩
  | 50 => ⟨S24576x6x256, .f32⟩
  | 51 => ⟨S24576x1536, .f32⟩
  | 52 => ⟨S24576x1536, .bf16⟩
  | 53 => ⟨S24576x1536, .f32⟩
  | 54 => ⟨S24576x1536, .bf16⟩
  | 55 => ⟨S24576x6x128, .f32⟩
  | 56 => ⟨S_, .f32⟩
  | 57 => ⟨S24576x6x16, .f32⟩
  | 58 => ⟨S24576x6x144, .f32⟩
  | 59 => ⟨S24576x864, .f32⟩
  | 60 => ⟨S24576x864, .bf16⟩
  | 61 => ⟨S864x24576, .bf16⟩
  | 62 => ⟨S2048x512, .f32⟩
  | 63 => ⟨S24576x512, .f32⟩
  | 64 => ⟨S24576x8x64, .f32⟩
  | 65 => ⟨S32, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S24576, .f32⟩
  | 74 => ⟨S24576x1x1, .f32⟩
  | 75 => ⟨S1x1x32, .f32⟩
  | 76 => ⟨S24576x1x32, .f32⟩
  | 77 => ⟨S24576x1x32, .f32⟩
  | 78 => ⟨S24576x1x32, .f32⟩
  | 79 => ⟨S24576x1x32, .f32⟩
  | 80 => ⟨S24576x1x32, .f32⟩
  | 81 => ⟨S24576x8x32, .f32⟩
  | 82 => ⟨S24576x8x32, .f32⟩
  | 83 => ⟨S24576x8x32, .f32⟩
  | 84 => ⟨S24576x8x32, .f32⟩
  | 85 => ⟨S24576x8x32, .f32⟩
  | 86 => ⟨S24576x8x32, .f32⟩
  | 87 => ⟨S24576x8x32, .f32⟩
  | 88 => ⟨S24576x8x32, .f32⟩
  | 89 => ⟨S24576x8x32, .f32⟩
  | 90 => ⟨S24576x8x32, .f32⟩
  | 91 => ⟨S24576x8x32, .f32⟩
  | 92 => ⟨S24576x8x32, .f32⟩
  | 93 => ⟨S24576x8x64, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S24576x8x64, .f32⟩
  | 102 => ⟨S24576x8x64, .f32⟩
  | 103 => ⟨S2048x512, .f32⟩
  | 104 => ⟨S24576x512, .f32⟩
  | 105 => ⟨S24576x8x64, .f32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S24576, .f32⟩
  | 115 => ⟨S24576x1x1, .f32⟩
  | 116 => ⟨S1x1x32, .f32⟩
  | 117 => ⟨S24576x1x32, .f32⟩
  | 118 => ⟨S24576x1x32, .f32⟩
  | 119 => ⟨S24576x1x32, .f32⟩
  | 120 => ⟨S24576x1x32, .f32⟩
  | 121 => ⟨S24576x1x32, .f32⟩
  | 122 => ⟨S24576x8x32, .f32⟩
  | 123 => ⟨S24576x8x32, .f32⟩
  | 124 => ⟨S24576x8x32, .f32⟩
  | 125 => ⟨S24576x8x32, .f32⟩
  | 126 => ⟨S24576x8x32, .f32⟩
  | 127 => ⟨S24576x8x32, .f32⟩
  | _ => ⟨S24576x2048, .f32⟩

abbrev hbmTy0_3 (i : Nat) : BufTy := match i % 128 with
  | 0 => ⟨S24576x8x32, .f32⟩
  | 1 => ⟨S24576x8x32, .f32⟩
  | 2 => ⟨S24576x8x32, .f32⟩
  | 3 => ⟨S24576x8x32, .f32⟩
  | 4 => ⟨S24576x8x32, .f32⟩
  | 5 => ⟨S24576x8x32, .f32⟩
  | 6 => ⟨S24576x8x64, .f32⟩
  | 7 => ⟨S24576x4x2x64, .f32⟩
  | 8 => ⟨S_, .f32⟩
  | 9 => ⟨S24576x4x64, .f32⟩
  | 10 => ⟨S24576x4x1x64, .f32⟩
  | 11 => ⟨S24576x4x64, .f32⟩
  | 12 => ⟨S24576x4x1x64, .f32⟩
  | 13 => ⟨S24576x4x64, .f32⟩
  | 14 => ⟨S24576x4x256, .f32⟩
  | 15 => ⟨S24576x1024, .f32⟩
  | 16 => ⟨S24576x1024, .bf16⟩
  | 17 => ⟨S24576x512, .f32⟩
  | 18 => ⟨S24576x512, .bf16⟩
  | 19 => ⟨S2048x512, .f32⟩
  | 20 => ⟨S24576x512, .f32⟩
  | 21 => ⟨S24576x4x128, .f32⟩
  | 22 => ⟨S_, .f32⟩
  | 23 => ⟨S24576x4x16, .f32⟩
  | 24 => ⟨S24576x4x144, .f32⟩
  | 25 => ⟨S24576x576, .f32⟩
  | 26 => ⟨S24576x576, .bf16⟩
  | 27 => ⟨S576x24576, .bf16⟩
  | _ => ⟨S24576x2048, .f32⟩

abbrev hbmTy (i : Nat) : BufTy := match i / 128 with
  | 0 => hbmTy0_0 i
  | 1 => hbmTy0_1 i
  | 2 => hbmTy0_2 i
  | 3 => hbmTy0_3 i
  | _ => ⟨S24576x2048, .f32⟩

abbrev bufTy : (tb : Table) → Fin (tcTables nBuf tb) → BufTy
  | .hbm, ⟨i, _⟩ => hbmTy i
  | _, _ => ⟨S24576x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_4 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_6 : Ref sig .tc := ⟨.hbm, 91, rfl⟩
abbrev main_v73 : Ref sig .tc := ⟨.hbm, 92, rfl⟩
abbrev main_cst_7 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_cst_9 : Ref sig .tc := ⟨.hbm, 104, rfl⟩
abbrev main_v83 : Ref sig .tc := ⟨.hbm, 105, rfl⟩
abbrev main_v84 : Ref sig .tc := ⟨.hbm, 106, rfl⟩
abbrev main_cst_10 : Ref sig .tc := ⟨.hbm, 107, rfl⟩
abbrev main_v85 : Ref sig .tc := ⟨.hbm, 108, rfl⟩
abbrev main_v86 : Ref sig .tc := ⟨.hbm, 109, rfl⟩
abbrev main_cst_11 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_12 : Ref sig .tc := ⟨.hbm, 122, rfl⟩
abbrev main_v98 : Ref sig .tc := ⟨.hbm, 123, rfl⟩
abbrev main_v99 : Ref sig .tc := ⟨.hbm, 124, rfl⟩
abbrev main_cst_13 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_14 : Ref sig .tc := ⟨.hbm, 152, rfl⟩
abbrev main_v126 : Ref sig .tc := ⟨.hbm, 153, rfl⟩
abbrev main_v127 : Ref sig .tc := ⟨.hbm, 154, rfl⟩
abbrev main_cst_15 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_cst_16 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_cst_17 : Ref sig .tc := ⟨.hbm, 196, rfl⟩
abbrev main_v167 : Ref sig .tc := ⟨.hbm, 197, rfl⟩
abbrev main_v168 : Ref sig .tc := ⟨.hbm, 198, rfl⟩
abbrev main_cst_18 : Ref sig .tc := ⟨.hbm, 199, rfl⟩
abbrev main_v169 : Ref sig .tc := ⟨.hbm, 200, rfl⟩
abbrev main_v170 : Ref sig .tc := ⟨.hbm, 201, rfl⟩
abbrev main_cst_19 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_20 : Ref sig .tc := ⟨.hbm, 213, rfl⟩
abbrev main_v181 : Ref sig .tc := ⟨.hbm, 214, rfl⟩
abbrev main_cst_21 : Ref sig .tc := ⟨.hbm, 215, rfl⟩
abbrev main_v182 : Ref sig .tc := ⟨.hbm, 216, rfl⟩
abbrev main_v183 : Ref sig .tc := ⟨.hbm, 217, rfl⟩
abbrev main_cst_22 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_cst_23 : Ref sig .tc := ⟨.hbm, 225, rfl⟩
abbrev main_v190 : Ref sig .tc := ⟨.hbm, 226, rfl⟩
abbrev main_v191 : Ref sig .tc := ⟨.hbm, 227, rfl⟩
abbrev main_cst_24 : Ref sig .tc := ⟨.hbm, 228, rfl⟩
abbrev main_v192 : Ref sig .tc := ⟨.hbm, 229, rfl⟩
abbrev main_v193 : Ref sig .tc := ⟨.hbm, 230, rfl⟩
abbrev main_cst_25 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_cst_26 : Ref sig .tc := ⟨.hbm, 247, rfl⟩
abbrev main_v209 : Ref sig .tc := ⟨.hbm, 248, rfl⟩
abbrev main_v210 : Ref sig .tc := ⟨.hbm, 249, rfl⟩
abbrev main_cst_27 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_cst_28 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_cst_29 : Ref sig .tc := ⟨.hbm, 277, rfl⟩
abbrev main_v236 : Ref sig .tc := ⟨.hbm, 278, rfl⟩
abbrev main_v237 : Ref sig .tc := ⟨.hbm, 279, rfl⟩
abbrev main_cst_30 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_v263 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_cst_31 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_cst_32 : Ref sig .tc := ⟨.hbm, 323, rfl⟩
abbrev main_v279 : Ref sig .tc := ⟨.hbm, 324, rfl⟩
abbrev main_v280 : Ref sig .tc := ⟨.hbm, 325, rfl⟩
abbrev main_cst_33 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_v292 : Ref sig .tc := ⟨.hbm, 338, rfl⟩
abbrev main_v293 : Ref sig .tc := ⟨.hbm, 339, rfl⟩
abbrev main_v294 : Ref sig .tc := ⟨.hbm, 340, rfl⟩
abbrev main_v295 : Ref sig .tc := ⟨.hbm, 341, rfl⟩
abbrev main_v296 : Ref sig .tc := ⟨.hbm, 342, rfl⟩
abbrev main_v297 : Ref sig .tc := ⟨.hbm, 343, rfl⟩
abbrev main_v298 : Ref sig .tc := ⟨.hbm, 344, rfl⟩
abbrev main_v299 : Ref sig .tc := ⟨.hbm, 345, rfl⟩
abbrev main_v300 : Ref sig .tc := ⟨.hbm, 346, rfl⟩
abbrev main_v301 : Ref sig .tc := ⟨.hbm, 347, rfl⟩
abbrev main_v302 : Ref sig .tc := ⟨.hbm, 348, rfl⟩
abbrev main_v303 : Ref sig .tc := ⟨.hbm, 349, rfl⟩
abbrev main_cst_34 : Ref sig .tc := ⟨.hbm, 350, rfl⟩
abbrev main_v304 : Ref sig .tc := ⟨.hbm, 351, rfl⟩
abbrev main_cst_35 : Ref sig .tc := ⟨.hbm, 352, rfl⟩
abbrev main_v305 : Ref sig .tc := ⟨.hbm, 353, rfl⟩
abbrev main_v306 : Ref sig .tc := ⟨.hbm, 354, rfl⟩
abbrev main_cst_36 : Ref sig .tc := ⟨.hbm, 355, rfl⟩
abbrev main_v307 : Ref sig .tc := ⟨.hbm, 356, rfl⟩
abbrev main_v308 : Ref sig .tc := ⟨.hbm, 357, rfl⟩
abbrev main_v309 : Ref sig .tc := ⟨.hbm, 358, rfl⟩
abbrev main_v310 : Ref sig .tc := ⟨.hbm, 359, rfl⟩
abbrev main_v311 : Ref sig .tc := ⟨.hbm, 360, rfl⟩
abbrev main_v312 : Ref sig .tc := ⟨.hbm, 361, rfl⟩
abbrev main_v313 : Ref sig .tc := ⟨.hbm, 362, rfl⟩
abbrev main_v314 : Ref sig .tc := ⟨.hbm, 363, rfl⟩
abbrev main_cst_37 : Ref sig .tc := ⟨.hbm, 364, rfl⟩
abbrev main_v315 : Ref sig .tc := ⟨.hbm, 365, rfl⟩
abbrev main_v316 : Ref sig .tc := ⟨.hbm, 366, rfl⟩
abbrev main_cst_38 : Ref sig .tc := ⟨.hbm, 367, rfl⟩
abbrev main_v317 : Ref sig .tc := ⟨.hbm, 368, rfl⟩
abbrev main_v318 : Ref sig .tc := ⟨.hbm, 369, rfl⟩
abbrev main_v319 : Ref sig .tc := ⟨.hbm, 370, rfl⟩
abbrev main_v320 : Ref sig .tc := ⟨.hbm, 371, rfl⟩
abbrev main_v321 : Ref sig .tc := ⟨.hbm, 372, rfl⟩
abbrev main_v322 : Ref sig .tc := ⟨.hbm, 373, rfl⟩
abbrev main_v323 : Ref sig .tc := ⟨.hbm, 374, rfl⟩
abbrev main_v324 : Ref sig .tc := ⟨.hbm, 375, rfl⟩
abbrev main_v325 : Ref sig .tc := ⟨.hbm, 376, rfl⟩
abbrev main_v326 : Ref sig .tc := ⟨.hbm, 377, rfl⟩
abbrev main_v327 : Ref sig .tc := ⟨.hbm, 378, rfl⟩
abbrev main_v328 : Ref sig .tc := ⟨.hbm, 379, rfl⟩
abbrev main_v329 : Ref sig .tc := ⟨.hbm, 380, rfl⟩
abbrev main_v330 : Ref sig .tc := ⟨.hbm, 381, rfl⟩
abbrev main_v331 : Ref sig .tc := ⟨.hbm, 382, rfl⟩
abbrev main_v332 : Ref sig .tc := ⟨.hbm, 383, rfl⟩
abbrev main_v333 : Ref sig .tc := ⟨.hbm, 384, rfl⟩
abbrev main_v334 : Ref sig .tc := ⟨.hbm, 385, rfl⟩
abbrev main_v335 : Ref sig .tc := ⟨.hbm, 386, rfl⟩
abbrev main_v336 : Ref sig .tc := ⟨.hbm, 387, rfl⟩
abbrev main_v337 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_cst_39 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_v344 : Ref sig .tc := ⟨.hbm, 396, rfl⟩
abbrev main_v345 : Ref sig .tc := ⟨.hbm, 397, rfl⟩
abbrev main_v346 : Ref sig .tc := ⟨.hbm, 398, rfl⟩
abbrev main_v347 : Ref sig .tc := ⟨.hbm, 399, rfl⟩
abbrev main_v348 : Ref sig .tc := ⟨.hbm, 400, rfl⟩
abbrev main_v349 : Ref sig .tc := ⟨.hbm, 401, rfl⟩
abbrev main_v350 : Ref sig .tc := ⟨.hbm, 402, rfl⟩
abbrev main_v351 : Ref sig .tc := ⟨.hbm, 403, rfl⟩
abbrev main_v352 : Ref sig .tc := ⟨.hbm, 404, rfl⟩
abbrev main_v353 : Ref sig .tc := ⟨.hbm, 405, rfl⟩
abbrev main_cst_40 : Ref sig .tc := ⟨.hbm, 406, rfl⟩
abbrev main_v354 : Ref sig .tc := ⟨.hbm, 407, rfl⟩
abbrev main_v355 : Ref sig .tc := ⟨.hbm, 408, rfl⟩
abbrev main_v356 : Ref sig .tc := ⟨.hbm, 409, rfl⟩
abbrev main_v357 : Ref sig .tc := ⟨.hbm, 410, rfl⟩
abbrev main_v358 : Ref sig .tc := ⟨.hbm, 411, rfl⟩

abbrev nD : Nat := 1
abbrev τ : Topo := Topo.v7x

variable {F : FTy → Type} [FloatOps F]
-- ==== Proof.FrameIIdeal.lean ====
/- The frame of the input projection over the extended reals: every point runs, and the run leaves the arguments unchanged. -/
module

public import proofs.«01_k».proof.Proof.Gen.KernelIIdeal.Frame.RunA
public import Idealize.ShloMosaic.Lib.Claim

@[expose] public section

set_option maxRecDepth 16384

noncomputable section

namespace Cert.KernelIIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The stores of output 13 cover its block. -/
theorem cover0_A_13 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S256x768.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).1 S256x128.size (by sl_kernel_rfl) y

/-- What a point leaves in output 13's block: its stores, read back. -/
def out0_A_13 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S256x768 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).1)

/-- The stores of output 14 cover its block. -/
theorem cover0_A_14 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.1 S256x128.size (by sl_kernel_rfl) y

/-- What a point leaves in output 14's block: its stores, read back. -/
def out0_A_14 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S256x256 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.1)

/-- The stores of output 15 cover its block. -/
theorem cover0_A_15 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S288x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.1 ![16, 256] (by sl_kernel_rfl) y

/-- What a point leaves in output 15's block: its stores, read back. -/
def out0_A_15 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S288x256 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.1)

/-- The stores of output 16 cover its block. -/
theorem cover0_A_16 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.1 S256x128.size (by sl_kernel_rfl) y

/-- What a point leaves in output 16's block: its stores, read back. -/
def out0_A_16 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S256x1536 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.1)

/-- The stores of output 17 cover its block. -/
theorem cover0_A_17 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.1 S256x128.size (by sl_kernel_rfl) y

/-- What a point leaves in output 17's block: its stores, read back. -/
def out0_A_17 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S256x1536 .bf16 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.1)

/-- The stores of output 18 cover its block. -/
theorem cover0_A_18 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S864x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.1 ![16, 256] (by sl_kernel_rfl) y

/-- What a point leaves in output 18's block: its stores, read back. -/
def out0_A_18 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S864x256 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.1)

/-- The stores of output 19 cover its block. -/
theorem cover0_A_19 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.1 S256x128.size (by sl_kernel_rfl) y

/-- What a point leaves in output 19's block: its stores, read back. -/
def out0_A_19 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S256x1024 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.1)

/-- The stores of output 20 cover its block. -/
theorem cover0_A_20 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.1 S256x128.size (by sl_kernel_rfl) y

/-- What a point leaves in output 20's block: its stores, read back. -/
def out0_A_20 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S256x512 .bf16 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.1)

/-- The stores of output 21 cover its block. -/
theorem cover0_A_21 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) (y : S576x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.2.1 ![16, 256] (by sl_kernel_rfl) y

/-- What a point leaves in output 21's block: its stores, read back. -/
def out0_A_21 (c : Dev nD) (i : grid0.Coords) (arg1 : Memref sig .tc .vmem S256x2048 .f32) (harg1 : arg1.IsWhole) (arg2 : Memref sig .tc .vmem S2048x3584 .bf16) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x384 .f32) (harg9 : arg9.IsWhole) (arg10 : Memref sig .tc .vmem S1x256 .f32) (harg10 : arg10.IsWhole) (arg11 : Memref sig .tc .vmem S384x1536 .bf16) (harg11 : arg11.IsWhole) (arg12 : Memref sig .tc .vmem S256x768 .bf16) (harg12 : arg12.IsWhole) (arg13 : Memref sig .tc .vmem S256x768 .bf16) (harg13 : arg13.IsWhole) (arg14 : Memref sig .tc .vmem S256x768 .bf16) (harg14 : arg14.IsWhole) (arg15 : Memref sig .tc .vmem S256x256 .bf16) (harg15 : arg15.IsWhole) (arg16 : Memref sig .tc .vmem S288x256 .bf16) (harg16 : arg16.IsWhole) (arg17 : Memref sig .tc .vmem S256x1536 .bf16) (harg17 : arg17.IsWhole) (arg18 : Memref sig .tc .vmem S256x1536 .bf16) (harg18 : arg18.IsWhole) (arg19 : Memref sig .tc .vmem S864x256 .bf16) (harg19 : arg19.IsWhole) (arg20 : Memref sig .tc .vmem S256x1024 .bf16) (harg20 : arg20.IsWhole) (arg21 : Memref sig .tc .vmem S256x512 .bf16) (harg21 : arg21.IsWhole) (arg22 : Memref sig .tc .vmem S576x256 .bf16) (harg22 : arg22.IsWhole)
    (x0 : Vec F S256x2048 .f32) (x1 : Vec F S2048x3584 .bf16) (x2 : Vec F S256x128 .f32) (x3 : Vec F S256x128 .f32) (x4 : Vec F S256x128 .f32) (x5 : Vec F S256x128 .f32) (x6 : Vec F S1x128 .f32) (x7 : Vec F S1x128 .f32) (x8 : Vec F S1x384 .f32) (x9 : Vec F S1x256 .f32) (x10 : Vec F S384x1536 .bf16) (x11 : Vec F S256x768 .bf16) (x12 : Vec F S256x768 .bf16) : Vec F S576x256 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12).2.2.2.2.2.2.2.2.1)

/-- What the outputs' blocks hold after a point. -/
def outsAt0 (c : Dev nD) (t : Fin cfg0.N) : Vec F S256x768 .bf16 × Vec F S256x256 .bf16 × Vec F S288x256 .bf16 × Vec F S256x1536 .bf16 × Vec F S256x1536 .bf16 × Vec F S864x256 .bf16 × Vec F S256x1024 .bf16 × Vec F S256x512 .bf16 × Vec F S576x256 .bf16 :=
  (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))

/-- The data of the pipeline's proof: the arrays as the call finds them, the inputs' blocks unchanged and the outputs' blocks as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t).1
    | ⟨14, _⟩ => (outsAt0 m c t).2.1
    | ⟨15, _⟩ => (outsAt0 m c t).2.2.1
    | ⟨16, _⟩ => (outsAt0 m c t).2.2.2.1
    | ⟨17, _⟩ => (outsAt0 m c t).2.2.2.2.1
    | ⟨18, _⟩ => (outsAt0 m c t).2.2.2.2.2.1
    | ⟨19, _⟩ => (outsAt0 m c t).2.2.2.2.2.2.1
    | ⟨20, _⟩ => (outsAt0 m c t).2.2.2.2.2.2.2.1
    | ⟨21, _⟩ => (outsAt0 m c t).2.2.2.2.2.2.2.2
    | ⟨_ + 22, h⟩ => absurd h (Nat.not_lt.2 (Nat.le_add_left _ _))
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

/-- What a point leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t).1 := by dsimp only [dats]
theorem after0_14 (c : Dev nD) (t : Fin cfg0.N) : (dats m 0 c).after 14 t = (outsAt0 m c t).2.1 := by dsimp only [dats]
theorem after0_15 (c : Dev nD) (t : Fin cfg0.N) : (dats m 0 c).after 15 t = (outsAt0 m c t).2.2.1 := by dsimp only [dats]
theorem after0_16 (c : Dev nD) (t : Fin cfg0.N) : (dats m 0 c).after 16 t = (outsAt0 m c t).2.2.2.1 := by dsimp only [dats]
theorem after0_17 (c : Dev nD) (t : Fin cfg0.N) : (dats m 0 c).after 17 t = (outsAt0 m c t).2.2.2.2.1 := by dsimp only [dats]
theorem after0_18 (c : Dev nD) (t : Fin cfg0.N) : (dats m 0 c).after 18 t = (outsAt0 m c t).2.2.2.2.2.1 := by dsimp only [dats]
theorem after0_19 (c : Dev nD) (t : Fin cfg0.N) : (dats m 0 c).after 19 t = (outsAt0 m c t).2.2.2.2.2.2.1 := by dsimp only [dats]
theorem after0_20 (c : Dev nD) (t : Fin cfg0.N) : (dats m 0 c).after 20 t = (outsAt0 m c t).2.2.2.2.2.2.2.1 := by dsimp only [dats]
theorem after0_21 (c : Dev nD) (t : Fin cfg0.N) : (dats m 0 c).after 21 t = (outsAt0 m c t).2.2.2.2.2.2.2.2 := by dsimp only [dats]

/-- Every input's block is its part of the array. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What a point starts from, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- and what it ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 2000000 in
/-- A point ends as it should. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  unfold outsAt0
  unfold out0_A_13 out0_A_14 out0_A_15 out0_A_16 out0_A_17 out0_A_18 out0_A_19 out0_A_20 out0_A_21; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H21
  ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _)

/-- The body that a point runs. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The same, in the form that the run takes. The statement lists 22 windows, so its elaboration is given a larger budget. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run ends with the arrays that the data name, and with every semaphore counter at zero; -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- the first of these alone; -/
theorem run_main : θ_run defs (onTc (τ := τ) (main (F := F))) (s₀ m ρ) (Pipeline.FramePost cfgs (dats m) 0 (V m)) :=
  (θ_run defs _ _).mono (fun _ h => h.1) (run_main_quiescent m ρ)

/-- the arguments unchanged; -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- and the frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIIdeal.Gen

end
-- ==== Proof.ValueI.lean ====
/- The arrays with which the input projection ends. -/
module

public import proofs.«01_k».proof.Proof.FrameIIdeal
public import Idealize.ShloMosaic.Lib.Pipeline.Value

@[expose] public section

noncomputable section

namespace Cert.KernelIIdeal.Value

open Cert.KernelIIdeal Cert.KernelIIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- What a point writes back to output 13. -/
theorem flushed13 (c : Dev nD) (t : Fin cfg0.N) :
    (dats m 0 c).flushed 13 t = (cfg0.win 13).cut (grid0.coords t) ((outsAt0 m c t).1) := by
  show (cfg0.win 13).cut (grid0.coords t) ((dats m 0 c).after 13 t) = _
  rw [after0_13]

/-- What a point writes back to output 14. -/
theorem flushed14 (c : Dev nD) (t : Fin cfg0.N) :
    (dats m 0 c).flushed 14 t = (cfg0.win 14).cut (grid0.coords t) ((outsAt0 m c t).2.1) := by
  show (cfg0.win 14).cut (grid0.coords t) ((dats m 0 c).after 14 t) = _
  rw [after0_14]

/-- What a point writes back to output 15. -/
theorem flushed15 (c : Dev nD) (t : Fin cfg0.N) :
    (dats m 0 c).flushed 15 t = (cfg0.win 15).cut (grid0.coords t) ((outsAt0 m c t).2.2.1) := by
  show (cfg0.win 15).cut (grid0.coords t) ((dats m 0 c).after 15 t) = _
  rw [after0_15]

/-- What a point writes back to output 16. -/
theorem flushed16 (c : Dev nD) (t : Fin cfg0.N) :
    (dats m 0 c).flushed 16 t = (cfg0.win 16).cut (grid0.coords t) ((outsAt0 m c t).2.2.2.1) := by
  show (cfg0.win 16).cut (grid0.coords t) ((dats m 0 c).after 16 t) = _
  rw [after0_16]

/-- What a point writes back to output 17. -/
theorem flushed17 (c : Dev nD) (t : Fin cfg0.N) :
    (dats m 0 c).flushed 17 t = (cfg0.win 17).cut (grid0.coords t) ((outsAt0 m c t).2.2.2.2.1) := by
  show (cfg0.win 17).cut (grid0.coords t) ((dats m 0 c).after 17 t) = _
  rw [after0_17]

/-- What a point writes back to output 18. -/
theorem flushed18 (c : Dev nD) (t : Fin cfg0.N) :
    (dats m 0 c).flushed 18 t = (cfg0.win 18).cut (grid0.coords t) ((outsAt0 m c t).2.2.2.2.2.1) := by
  show (cfg0.win 18).cut (grid0.coords t) ((dats m 0 c).after 18 t) = _
  rw [after0_18]

/-- What a point writes back to output 19. -/
theorem flushed19 (c : Dev nD) (t : Fin cfg0.N) :
    (dats m 0 c).flushed 19 t = (cfg0.win 19).cut (grid0.coords t) ((outsAt0 m c t).2.2.2.2.2.2.1) := by
  show (cfg0.win 19).cut (grid0.coords t) ((dats m 0 c).after 19 t) = _
  rw [after0_19]

/-- What a point writes back to output 20. -/
theorem flushed20 (c : Dev nD) (t : Fin cfg0.N) :
    (dats m 0 c).flushed 20 t = (cfg0.win 20).cut (grid0.coords t) ((outsAt0 m c t).2.2.2.2.2.2.2.1) := by
  show (cfg0.win 20).cut (grid0.coords t) ((dats m 0 c).after 20 t) = _
  rw [after0_20]

/-- What a point writes back to output 21. -/
theorem flushed21 (c : Dev nD) (t : Fin cfg0.N) :
    (dats m 0 c).flushed 21 t = (cfg0.win 21).cut (grid0.coords t) ((outsAt0 m c t).2.2.2.2.2.2.2.2) := by
  show (cfg0.win 21).cut (grid0.coords t) ((dats m 0 c).after 21 t) = _
  rw [after0_21]

/-- Output 13 after the run. -/
theorem post13 (r : PUnit × MemSt nD τ sig (Elt F)) (h : Pipeline.FramePost cfgs (dats m) 0 (V m) r) (c : Dev nD) :
    r.2.mem ((c : Thread nD τ).loc main_v63_0) = (dats m 0 c).arrAt 13 cfg0.N :=
  (h c).1 13

/-- Output 14 after the run. -/
theorem post14 (r : PUnit × MemSt nD τ sig (Elt F)) (h : Pipeline.FramePost cfgs (dats m) 0 (V m) r) (c : Dev nD) :
    r.2.mem ((c : Thread nD τ).loc main_v63_1) = (dats m 0 c).arrAt 14 cfg0.N :=
  (h c).1 14

/-- Output 15 after the run. -/
theorem post15 (r : PUnit × MemSt nD τ sig (Elt F)) (h : Pipeline.FramePost cfgs (dats m) 0 (V m) r) (c : Dev nD) :
    r.2.mem ((c : Thread nD τ).loc main_v63_2) = (dats m 0 c).arrAt 15 cfg0.N :=
  (h c).1 15

/-- Output 16 after the run. -/
theorem post16 (r : PUnit × MemSt nD τ sig (Elt F)) (h : Pipeline.FramePost cfgs (dats m) 0 (V m) r) (c : Dev nD) :
    r.2.mem ((c : Thread nD τ).loc main_v63_3) = (dats m 0 c).arrAt 16 cfg0.N :=
  (h c).1 16

/-- Output 17 after the run. -/
theorem post17 (r : PUnit × MemSt nD τ sig (Elt F)) (h : Pipeline.FramePost cfgs (dats m) 0 (V m) r) (c : Dev nD) :
    r.2.mem ((c : Thread nD τ).loc main_v63_4) = (dats m 0 c).arrAt 17 cfg0.N :=
  (h c).1 17

/-- Output 18 after the run. -/
theorem post18 (r : PUnit × MemSt nD τ sig (Elt F)) (h : Pipeline.FramePost cfgs (dats m) 0 (V m) r) (c : Dev nD) :
    r.2.mem ((c : Thread nD τ).loc main_v63_5) = (dats m 0 c).arrAt 18 cfg0.N :=
  (h c).1 18

/-- Output 19 after the run. -/
theorem post19 (r : PUnit × MemSt nD τ sig (Elt F)) (h : Pipeline.FramePost cfgs (dats m) 0 (V m) r) (c : Dev nD) :
    r.2.mem ((c : Thread nD τ).loc main_v63_6) = (dats m 0 c).arrAt 19 cfg0.N :=
  (h c).1 19

/-- Output 20 after the run. -/
theorem post20 (r : PUnit × MemSt nD τ sig (Elt F)) (h : Pipeline.FramePost cfgs (dats m) 0 (V m) r) (c : Dev nD) :
    r.2.mem ((c : Thread nD τ).loc main_v63_7) = (dats m 0 c).arrAt 20 cfg0.N :=
  (h c).1 20

/-- Output 21 after the run. -/
theorem post21 (r : PUnit × MemSt nD τ sig (Elt F)) (h : Pipeline.FramePost cfgs (dats m) 0 (V m) r) (c : Dev nD) :
    r.2.mem ((c : Thread nD τ).loc main_v63_8) = (dats m 0 c).arrAt 21 cfg0.N :=
  (h c).1 21

/-- Argument 0 is unchanged. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- Argument 1 is unchanged. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 is unchanged. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is unchanged. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 is unchanged. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- Argument 5 is unchanged. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument 6 is unchanged. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument 7 is unchanged. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument 8 is unchanged. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Argument 9 is unchanged. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- Argument 10 is unchanged. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

set_option maxHeartbeats 244620 in
/-- The run, with the outputs named and the arguments unchanged. -/
theorem run_blocks : θ_run defs (onTc (τ := τ) (main (F := F))) ⟨m, fun _ => 0, ρ⟩ fun r => ∀ c : Dev nD,
      r.2.mem ((c : Thread nD τ).loc main_v63_0) = (dats m 0 c).arrAt 13 cfg0.N
      ∧ r.2.mem ((c : Thread nD τ).loc main_v63_1) = (dats m 0 c).arrAt 14 cfg0.N
      ∧ r.2.mem ((c : Thread nD τ).loc main_v63_2) = (dats m 0 c).arrAt 15 cfg0.N
      ∧ r.2.mem ((c : Thread nD τ).loc main_v63_3) = (dats m 0 c).arrAt 16 cfg0.N
      ∧ r.2.mem ((c : Thread nD τ).loc main_v63_4) = (dats m 0 c).arrAt 17 cfg0.N
      ∧ r.2.mem ((c : Thread nD τ).loc main_v63_5) = (dats m 0 c).arrAt 18 cfg0.N
      ∧ r.2.mem ((c : Thread nD τ).loc main_v63_6) = (dats m 0 c).arrAt 19 cfg0.N
      ∧ r.2.mem ((c : Thread nD τ).loc main_v63_7) = (dats m 0 c).arrAt 20 cfg0.N
      ∧ r.2.mem ((c : Thread nD τ).loc main_v63_8) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post13 m r h c,
      post14 m r h c,
      post15 m r h c,
      post16 m r h c,
      post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIIdeal.Value

end
-- ==== Proof.Softmax.lean ====
/- The mathematics of the attention calls, free of any program: a softmax-weighted sum over keys, computed block of keys
   by block of keys in base 2 against a running maximum, is the softmax in base e followed by the weighted sum. The
   scores are real; the values are any extended reals. -/
module

public import Idealize.ShloMosaic.PureOps.Ideal
public import Idealize.ShloMosaic.PureOps.Ideal.Laws

@[expose] public section

noncomputable section

namespace Cert.Softmax

open Idealize.ShloMosaic
open scoped BigOperators

/-- The greatest of the first `n` scores, `⊥` of none. -/
def top (S : ℕ → EReal) (n : ℕ) : EReal := (Finset.range n).sup S

/-- The sum of the first `n` values, each weighted by two to the power of its score less the greatest of them. -/
def acc (S v : ℕ → EReal) (n : ℕ) : EReal := ∑ k ∈ Finset.range n, v k * Ideal.exp2 (S k - top S n)

theorem exp2_real (r : ℝ) : Ideal.exp2 (r : EReal) = ((Real.rpow 2 r : ℝ) : EReal) := rfl
theorem exp_real (r : ℝ) : Ideal.exp (r : EReal) = ((Real.exp r : ℝ) : EReal) := rfl

/-- The greatest of the first `n + b` scores: that of the first `n` against that of the next `b`. -/
theorem top_add (S : ℕ → EReal) (n b : ℕ) :
    top S (n + b) = max (top S n) (Finset.univ.sup fun j : Fin b => S (n + j.val)) := by
  apply le_antisymm
  · refine Finset.sup_le fun k hk => ?_
    rw [Finset.mem_range] at hk
    by_cases h : k < n
    · exact le_max_of_le_left (Finset.le_sup (f := S) (Finset.mem_range.mpr h))
    · refine le_max_of_le_right ?_
      have := Finset.le_sup (f := fun j : Fin b => S (n + j.val)) (Finset.mem_univ (⟨k - n, by omega⟩ : Fin b))
      simpa only [Nat.add_sub_cancel' (Nat.le_of_not_lt h)] using this
  · refine max_le (Finset.sup_le fun k hk => ?_) (Finset.sup_le fun j _ => ?_)
    · rw [Finset.mem_range] at hk
      exact Finset.le_sup (f := S) (Finset.mem_range.mpr (by omega))
    · exact Finset.le_sup (f := S) (Finset.mem_range.mpr (by omega))

/-- The greatest of some real scores is real. -/
theorem top_real (s : ℕ → ℝ) (n : ℕ) (hn : 0 < n) : ∃ r : ℝ, top (fun k => (s k : EReal)) n = r := by
  obtain ⟨k, -, h⟩ := Finset.exists_mem_eq_sup (Finset.range n) ⟨0, Finset.mem_range.mpr hn⟩ (fun k => (s k : EReal))
  exact ⟨s k, h⟩

/-- A real factor that is not negative goes into a sum of extended reals. -/
theorem mul_sum {ι : Type} (a : ℝ) (ha : 0 ≤ a) (t : Finset ι) (f : ι → EReal) :
    (a : EReal) * ∑ k ∈ t, f k = ∑ k ∈ t, (a : EReal) * f k := by
  classical
  induction t using Finset.induction_on with
  | empty => simp
  | insert k t hk ih =>
    rw [Finset.sum_insert hk, Finset.sum_insert hk,
      EReal.left_distrib_of_nonneg_of_ne_top (EReal.coe_nonneg.mpr ha) (EReal.coe_ne_top a), ih]

/-- ONE STEP of the running sum: the sum so far, rescaled from the old maximum to the new, and the next `b` terms. -/
theorem acc_add (s : ℕ → ℝ) (v : ℕ → EReal) (n b : ℕ) (hb : 0 < b) :
    acc (fun k => (s k : EReal)) v (n + b)
      = Ideal.exp2 (top (fun k => (s k : EReal)) n - top (fun k => (s k : EReal)) (n + b)) * acc (fun k => (s k : EReal)) v n
        + ∑ j : Fin b, v (n + j.val) * Ideal.exp2 ((s (n + j.val) : EReal) - top (fun k => (s k : EReal)) (n + b)) := by
  obtain ⟨r', hr'⟩ := top_real s (n + b) (by omega)
  unfold acc
  rw [Finset.sum_range_add, hr', Finset.sum_range (fun x => v (n + x) * Ideal.exp2 ((s (n + x) : EReal) - (r' : EReal)))]
  congr 1
  rcases Nat.eq_zero_or_pos n with rfl | hn
  · simp
  · obtain ⟨r, hr⟩ := top_real s n hn
    rw [hr, ← EReal.coe_sub, exp2_real,
      mul_sum (Real.rpow 2 (r - r')) (Real.rpow_nonneg (by norm_num) (r - r'))]
    refine Finset.sum_congr rfl fun k _ => ?_
    show v k * Ideal.exp2 ((s k : EReal) - r') = _ * (v k * Ideal.exp2 ((s k : EReal) - r))
    rw [← EReal.coe_sub, ← EReal.coe_sub, exp2_real, exp2_real, mul_left_comm, ← EReal.coe_mul]
    congr 2
    show (2 : ℝ) ^ (s k - r') = (2 : ℝ) ^ (r - r') * (2 : ℝ) ^ (s k - r)
    rw [← Real.rpow_add (by norm_num)]
    congr 1; ring

/-- A sum of reals is real. -/
theorem coe_sum {ι : Type} (t : Finset ι) (f : ι → ℝ) : ∑ k ∈ t, (f k : EReal) = ((∑ k ∈ t, f k : ℝ) : EReal) := by
  classical
  induction t using Finset.induction_on with
  | empty => simp
  | insert k t hk ih => rw [Finset.sum_insert hk, Finset.sum_insert hk, ih, EReal.coe_add]

/-- Division of a weighted sum of extended reals, all weights real, by a positive real goes into each weight. -/
theorem div_sum {ι : Type} (t : Finset ι) (v : ι → EReal) (w : ι → ℝ) (E : ℝ) (hE : 0 < E) :
    Ideal.div (∑ k ∈ t, v k * (w k : EReal)) (E : EReal) = ∑ k ∈ t, v k * Ideal.div (w k : EReal) (E : EReal) := by
  have h0 : (E : EReal) ≠ 0 := by exact_mod_cast hE.ne'
  unfold Ideal.div
  simp only [if_neg h0]
  rw [← EReal.coe_inv, mul_comm, mul_sum _ (inv_nonneg.mpr hE.le)]
  refine Finset.sum_congr rfl fun k _ => ?_
  rw [mul_comm, mul_assoc]

/-- THE SOFTMAX: the base-2 weighted sum over the base-2 sum of weights, both against the greatest base-2 score, is the
    sum of the values weighted by the base-e softmax of the scores `x`, where `x = s * log 2`. -/
theorem softmax (s x : ℕ → ℝ) (v : ℕ → EReal) (n : ℕ) (hn : 0 < n) (hx : ∀ k, x k = s k * Real.log 2) :
    Ideal.div (acc (fun k => (s k : EReal)) v n) (acc (fun k => (s k : EReal)) (fun _ => 1) n)
      = ∑ k : Fin n, v k.val * Ideal.div (Ideal.exp ((x k.val : EReal) - max ⊥ (Finset.univ.sup fun j : Fin n => (x j.val : EReal))))
          (0 + ∑ j : Fin n, Ideal.exp ((x j.val : EReal) - max ⊥ (Finset.univ.sup fun j : Fin n => (x j.val : EReal)))) := by
  have hlog : 0 < Real.log 2 := Real.log_pos (by norm_num)
  obtain ⟨r, hr⟩ := top_real s n hn
  have hmax : (max ⊥ (Finset.univ.sup fun j : Fin n => (x j.val : EReal)) : EReal) = ((r * Real.log 2 : ℝ) : EReal) := by
    rw [max_eq_right bot_le]
    apply le_antisymm
    · refine Finset.sup_le fun j _ => ?_
      rw [hx]
      have h : ((s j.val : ℝ) : EReal) ≤ (r : EReal) := by
        rw [← hr]; exact Finset.le_sup (f := fun k => (s k : EReal)) (Finset.mem_range.mpr j.isLt)
      exact EReal.coe_le_coe_iff.mpr (mul_le_mul_of_nonneg_right (EReal.coe_le_coe_iff.mp h) hlog.le)
    · obtain ⟨k, hk, h⟩ := Finset.exists_mem_eq_sup (Finset.range n) ⟨0, Finset.mem_range.mpr hn⟩ (fun k => (s k : EReal))
      have hrk : r = s k := EReal.coe_injective (hr.symm.trans h)
      rw [hrk, ← hx]
      exact Finset.le_sup (f := fun j : Fin n => (x j.val : EReal)) (Finset.mem_univ (⟨k, Finset.mem_range.mp hk⟩ : Fin n))
  have hexp : ∀ k, Ideal.exp ((x k - r * Real.log 2 : ℝ) : EReal) = ((Real.rpow 2 (s k - r) : ℝ) : EReal) := by
    intro k
    rw [exp_real, hx]
    congr 1
    show _ = (2 : ℝ) ^ (s k - r)
    rw [Real.rpow_def_of_pos (by norm_num)]
    congr 1; ring
  unfold acc
  rw [hmax]
  simp only [hr, ← EReal.coe_sub, hexp, exp2_real, one_mul, zero_add]
  rw [coe_sum, coe_sum, ← Finset.sum_range (fun k => Real.rpow 2 (s k - r)),
    ← Finset.sum_range (fun k => v k * Ideal.div ((Real.rpow 2 (s k - r) : ℝ) : EReal) ((∑ j ∈ Finset.range n, Real.rpow 2 (s j - r) : ℝ) : EReal))]
  exact div_sum _ _ _ _ (Finset.sum_pos (fun k _ => Real.rpow_pos_of_pos (by norm_num) _) ⟨0, Finset.mem_range.mpr hn⟩)

end Cert.Softmax

end
-- ==== Proof.Chain.lean ====
/- One chain of the attention calls: 256 query positions of one head against one block of 1024 keys. What the chain stores
   of the running maximum, the running sum and the accumulator, read at an index over the extended reals; and what the
   last step writes out. The shapes are those all three calls share; only the depth `d` of the scores differs. -/
module

public import proofs.«01_k».proof.Proof.Softmax
public import Idealize.ShloMosaic.PureOps.Ideal
public import Idealize.ShloMosaic.PureOps.Ideal.Laws
public import Idealize.ShloMosaic.Lib.Pointwise
public import Idealize.ShloMosaic.Lib.MatmulPlain
public import Idealize.ShloMosaic.Lib.Pipeline.Value

@[expose] public section

set_option maxRecDepth 16384

noncomputable section

namespace Cert.Chain

open Idealize.ShloMosaic
open scoped BigOperators

abbrev M2 (a b : ℕ) (φ : FTy) : Type := FVec Ideal ⟨2, ![a, b]⟩ φ
abbrev M3 (a b c : ℕ) : Type := FVec Ideal ⟨3, ![a, b, c]⟩ .f32

/-- The base-2 scores of the chain: keys by query positions. -/
def scores (d : ℕ) (hk : (⟨2, ![1024, d]⟩ : Shape).ShapeCasts ⟨2, ![1024, d]⟩) (hq : (⟨2, ![256, d]⟩ : Shape).ShapeCasts ⟨2, ![256, d]⟩)
    (K : M2 1024 d .bf16) (Q : M2 256 d .bf16) : M2 1024 256 .f32 :=
  matmul (DotDims.transposedRhs 1024 d 256) none (shapeCast _ K hk) (shapeCast _ Q hq) (constant _ .f32 0x00000000#32)

/-- The new running maximum. -/
def mNew (s : M2 1024 256 .f32) (mp : M3 1 1 256) : M2 1 256 .f32 :=
  maximumf (shapeCast ⟨2, ![1, 256]⟩ mp (by decide))
    (shapeCast ⟨2, ![1, 256]⟩ (multiReduction .maximumf [0] ⟨1, ![256]⟩ s 0xFF800000#32 (by decide) (.inl rfl) rfl) (by decide))

/-- The factor from the old maximum to the new. -/
def alpha (s : M2 1024 256 .f32) (mp : M3 1 1 256) : M2 1 256 .f32 :=
  exp2 (subf (shapeCast ⟨2, ![1, 256]⟩ mp (by decide)) (mNew s mp))

/-- The weighted values of the block: 128 value rows and 16 rows of ones. -/
def pv (s : M2 1024 256 .f32) (V : M2 144 1024 .bf16) (mp : M3 1 1 256) : M2 144 256 .f32 :=
  matmul (DotDims.plain 144 1024 256) none (shapeCast ⟨2, ![144, 1024]⟩ V (by decide))
    (truncf .bf16 (exp2 (subf s (broadcastTo ⟨2, ![1024, 256]⟩ (mNew s mp) (by decide)))) (by decide)) (constant _ .f32 0x00000000#32)

/-- What is stored of the maximum. -/
def mStore (s : M2 1024 256 .f32) (mp : M3 1 1 256) : M3 1 1 256 := shapeCast ⟨3, ![1, 1, 256]⟩ (mNew s mp) (by decide)

/-- What is stored of the sum of the weights. -/
def lStore (s : M2 1024 256 .f32) (V : M2 144 1024 .bf16) (mp lp : M3 1 1 256) : M3 1 1 256 :=
  shapeCast ⟨3, ![1, 1, 256]⟩ (addf (mulf (alpha s mp) (shapeCast ⟨2, ![1, 256]⟩ lp (by decide)))
    (extractStridedSlice ⟨2, ![1, 256]⟩ ![128, 0] (pv s V mp) (by decide))) (by decide)

/-- What is stored of the accumulator. -/
def aStore (s : M2 1024 256 .f32) (V : M2 144 1024 .bf16) (mp : M3 1 1 256) (ap : M3 1 128 256) : M3 1 128 256 :=
  shapeCast ⟨3, ![1, 128, 256]⟩ (addf (mulf (broadcastTo ⟨2, ![128, 256]⟩ (alpha s mp) (by decide)) (shapeCast ⟨2, ![128, 256]⟩ ap (by decide)))
    (extractStridedSlice ⟨2, ![128, 256]⟩ ![0, 0] (pv s V mp) (by decide))) (by decide)

/-- What the last step writes of one head, in f32. -/
def out (ap : M3 1 128 512) (lp : M3 1 1 512) : M2 512 128 .f32 :=
  transpose ⟨2, ![512, 128]⟩ [1, 0] (divf (shapeCast ⟨2, ![128, 512]⟩ ap (by decide))
    (broadcastTo ⟨2, ![128, 512]⟩ (shapeCast ⟨2, ![1, 512]⟩ lp (by decide)) (by decide))) (by decide)

/-- One step of the running maximum of a query position, over the scores of a block. -/
def stepMax (S : Fin 1024 → EReal) (mp : EReal) : EReal := max mp (Finset.univ.sup S)

/-- One step of a running weighted sum of a query position, over the scores and the values of a block. -/
def stepSum (S v : Fin 1024 → EReal) (mp ap : EReal) : EReal :=
  Ideal.exp2 (mp - stepMax S mp) * ap + ∑ k : Fin 1024, v k * Ideal.exp2 (S k - stepMax S mp)

/-- The f32 pattern of minus infinity. -/
theorem bot_bits : Ideal.ofBits .f32 0xFF800000#32 = ⊥ := by
  simp [Ideal.ofBits, Ideal.ieee]

/-- A score is the sum of the products of key and query. -/
theorem scores_apply (d : ℕ) (hk) (hq) (K : M2 1024 d .bf16) (Q : M2 256 d .bf16) (k : Fin 1024) (c : Fin 256) :
    scores d hk hq K Q (ix2 k c) = ∑ e : Fin d, K (ix2 k e) * Q (ix2 c e) := by
  refine (Ideal.matmul_transposedRhs_apply (M := 1024) (K := d) (N := 256) none _ _ _ k c).trans ?_
  pointwise
  rfl

/-- The new maximum at a query position. -/
theorem mNew_apply (s : M2 1024 256 .f32) (mp : M3 1 1 256) (u : Fin 1) (c : Fin 256) :
    mNew s mp (ix2 u c) = max (mp (ix3 0 0 c)) (Finset.univ.sup fun k : Fin 1024 => s (ix2 k c)) := by
  unfold mNew
  pointwise
  rw [bot_bits]
  rfl

/-- The factor at a query position. -/
theorem alpha_apply (s : M2 1024 256 .f32) (mp : M3 1 1 256) (u : Fin 1) (c : Fin 256) :
    alpha s mp (ix2 u c) = Ideal.exp2 (mp (ix3 0 0 c) - max (mp (ix3 0 0 c)) (Finset.univ.sup fun k : Fin 1024 => s (ix2 k c))) := by
  unfold alpha
  pointwise
  rw [mNew_apply]
  rfl

/-- The weighted sum of a row of the values over the block. -/
theorem pv_apply (s : M2 1024 256 .f32) (V : M2 144 1024 .bf16) (mp : M3 1 1 256) (r : Fin 144) (c : Fin 256) :
    pv s V mp (ix2 r c) = ∑ k : Fin 1024, V (ix2 r k)
      * Ideal.exp2 (s (ix2 k c) - max (mp (ix3 0 0 c)) (Finset.univ.sup fun k : Fin 1024 => s (ix2 k c))) := by
  unfold pv
  pointwise
  rw [mNew_apply]
  rfl

/-- The stored maximum at an index. -/
theorem mStore_apply (s : M2 1024 256 .f32) (mp : M3 1 1 256) (u v : Fin 1) (c : Fin 256) :
    mStore s mp (ix3 u v c) = stepMax (fun k => s (ix2 k c)) (mp (ix3 0 0 c)) := by
  unfold mStore
  unfold stepMax
  pointwise
  rw [mNew_apply]

/-- The stored sum at an index: row 128 of the values weighted. -/
theorem lStore_apply (s : M2 1024 256 .f32) (V : M2 144 1024 .bf16) (mp lp : M3 1 1 256) (u v : Fin 1) (c : Fin 256) :
    lStore s V mp lp (ix3 u v c)
      = stepSum (fun k => s (ix2 k c)) (fun k => V (ix2 128 k)) (mp (ix3 0 0 c)) (lp (ix3 0 0 c)) := by
  unfold lStore
  unfold stepSum stepMax
  pointwise
  rw [alpha_apply, pv_apply]

/-- The stored accumulator at an index. -/
theorem aStore_apply (s : M2 1024 256 .f32) (V : M2 144 1024 .bf16) (mp : M3 1 1 256) (ap : M3 1 128 256) (u : Fin 1) (r : Fin 128) (c : Fin 256) :
    aStore s V mp ap (ix3 u r c)
      = stepSum (fun k => s (ix2 k c)) (fun k => V (ix2 ⟨r.val, by omega⟩ k)) (mp (ix3 0 0 c)) (ap (ix3 0 r c)) := by
  unfold aStore
  unfold stepSum stepMax
  pointwise
  rw [alpha_apply, pv_apply]

/-- What is written out at an index: the accumulator over the sum. -/
theorem out_apply (ap : M3 1 128 512) (lp : M3 1 1 512) (c : Fin 512) (r : Fin 128) :
    out ap lp (ix2 c r) = Ideal.div (ap (ix3 0 r c)) (lp (ix3 0 0 c)) := by
  unfold out
  pointwise

/-- The same rounded to bf16, which over the extended reals changes nothing. -/
def outBf (ap : M3 1 128 512) (lp : M3 1 1 512) : M2 512 128 .bf16 := truncf .bf16 (out ap lp) (by decide)

/-- What is written out in bf16 at an index. -/
theorem outBf_apply (ap : M3 1 128 512) (lp : M3 1 1 512) (c : Fin 512) (r : Fin 128) :
    outBf ap lp (ix2 c r) = Ideal.div (ap (ix3 0 r c)) (lp (ix3 0 0 c)) := out_apply ap lp c r

/-- One step of the running maximum, taken from that of the first `n` scores, is that of the first `n + 1024`. -/
theorem stepMax_top (S : ℕ → EReal) (n : ℕ) :
    stepMax (fun j => S (n + j.val)) (Softmax.top S n) = Softmax.top S (n + 1024) := (Softmax.top_add S n 1024).symm

/-- One step of a running weighted sum of real scores, taken from the first `n` keys, is the sum of the first `n + 1024`. -/
theorem stepSum_acc (S v : ℕ → EReal) (hS : ∃ s : ℕ → ℝ, ∀ k, S k = (s k : EReal)) (n : ℕ) :
    stepSum (fun j => S (n + j.val)) (fun j => v (n + j.val)) (Softmax.top S n) (Softmax.acc S v n) = Softmax.acc S v (n + 1024) := by
  obtain ⟨s, hs⟩ := hS
  obtain rfl : S = fun k => (s k : EReal) := funext hs
  rw [Softmax.acc_add s v n 1024 (by decide)]
  exact congrArg (fun M => Ideal.exp2 (Softmax.top _ n - M) * Softmax.acc _ v n + ∑ j : Fin 1024, v (n + j.val) * Ideal.exp2 ((s (n + j.val) : EReal) - M))
    (stepMax_top (fun k => (s k : EReal)) n)

/-- Where the other pieces already cover an index, the piece at the bottom of the stack is not seen there. -/
theorem canon_dropLast {S : Shape} {e : EltTy} (y : S.Idx) : ∀ L : List (View.Piece (Elt Ideal) S e),
    (∃ q ∈ L.dropLast, y ∈ q.1.set) → View.canon L y = View.canon L.dropLast y
  | [], h => rfl
  | [p], h => by obtain ⟨q, hq, _⟩ := h; exact absurd hq List.not_mem_nil
  | p :: p' :: L, h => by
    rw [List.dropLast_cons₂] at h ⊢
    by_cases hm : y ∈ p.1.set
    · obtain ⟨x, rfl⟩ := p.1.exists_idx_of_mem hm
      rw [show p.1.idx x = p.1.emb x from rfl, View.canon_cons_emb, View.canon_cons_emb]
    · rw [View.canon_cons_of_not_mem _ _ hm, View.canon_cons_of_not_mem _ _ hm]
      refine canon_dropLast y (p' :: L) ?_
      obtain ⟨q, hq, hyq⟩ := h
      rcases List.mem_cons.mp hq with rfl | hq
      · exact absurd hyq hm
      · exact ⟨q, hq, hyq⟩

end Cert.Chain

end
-- ==== Proof.StepA.lean ====
/- What one grid point of the grouped attention does to its scratch, as steps of the running maximum and of the running sums. -/
module

public import proofs.«01_k».proof.Proof.Gen.KernelAIdeal.Value
public import Idealize.ShloMosaic.PureOps.Ideal
public import proofs.«01_k».proof.Proof.Softmax
public import proofs.«01_k».proof.Proof.Chain
public import Idealize.ShloMosaic.Lib.Pointwise
public import Idealize.ShloMosaic.Lib.Pipeline.ReadBack
public import Idealize.ShloMosaic.Lib.Pipeline.ValueKit.Tiles

@[expose] public section
set_option maxRecDepth 16384
noncomputable section
namespace Cert.KernelAIdeal.Step
open Idealize.ShloMosaic Idealize.SL Idealize.SL.Sem
open Cert.KernelAIdeal Cert.KernelAIdeal.Gen

open scoped BigOperators

variable (m : (ℓ : Loc nD τ sig) → Buf (Elt Ideal) ℓ)

/-- The base-2 scores of a point's key block and query block, of one of its six heads. -/
def sc (x0 : Vec Ideal S512x768 .bf16) (x1 : Vec Ideal S1024x256 .bf16) (n : Fin 6) (c : Fin 512) (k : Fin 1024) : EReal :=
  ∑ e : Fin 128, x1 (ix2 k ⟨n.val / 3 * 128 + e.val, by omega⟩) * x0 (ix2 c ⟨n.val * 128 + e.val, by omega⟩)

/-- The running maximum after a point, from the blocks and the maximum before it. -/
def G0 (x0 : Vec Ideal S512x768 .bf16) (x1 : Vec Ideal S1024x256 .bf16) (xs : Vec Ideal S6x1x512 .f32) : Vec Ideal S6x1x512 .f32 :=
  fun y => Chain.stepMax (sc x0 x1 (y 0) (y 2)) (xs y)

/-- The running sum of the weights after a point: row 128 of each head's values, which holds ones. -/
def G1 (x0 : Vec Ideal S512x768 .bf16) (x1 : Vec Ideal S1024x256 .bf16) (x2 : Vec Ideal S288x1024 .bf16) (xs : Vec Ideal S6x1x512 .f32)
    (xl : Vec Ideal S6x1x512 .f32) : Vec Ideal S6x1x512 .f32 :=
  fun y => Chain.stepSum (sc x0 x1 (y 0) (y 2)) (fun k => x2 (ix2 ⟨(y 0).val / 3 * 144 + 128, by have : (y 0).val < 6 := (y 0).isLt; omega⟩ k)) (xs y) (xl y)

/-- The running weighted sum of the values after a point. -/
def G2 (x0 : Vec Ideal S512x768 .bf16) (x1 : Vec Ideal S1024x256 .bf16) (x2 : Vec Ideal S288x1024 .bf16) (xs : Vec Ideal S6x1x512 .f32)
    (xa : Vec Ideal S6x128x512 .f32) : Vec Ideal S6x128x512 .f32 :=
  fun y => Chain.stepSum (sc x0 x1 (y 0) (y 2)) (fun k => x2 (ix2 ⟨(y 0).val / 3 * 144 + (y 1).val, by
    have : (y 0).val < 6 := (y 0).isLt; have : (y 1).val < 128 := (y 1).isLt; omega⟩ k)) (xs (ix3 (y 0) 0 (y 2))) (xa y)

/-- Every point but the first of a run takes one step of the running maximum, -/
theorem step0 (c : Dev nD) (t : Fin cfg0.N) (h0 : ¬t.val % 8 = 0) (y : S6x1x512.Idx) :
   (outsAt0 m c t.val t.isLt).2.1 y = G0 (iblk m c 0 t) (iblk m c 1 t) (outsAt0 m c (t.val - 1) (Nat.lt_of_le_of_lt (Nat.sub_le _ _) t.isLt)).2.1 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (outsAt0 m c (t.val - 1) _).2.1 = xs
    clear h0 h1
    canon_tiles x h
  all_goals
    refine (Chain.mStore_apply (Chain.scores 128 (by decide) (by decide) _ _) _ (x 0) (x 1) (x 2)).trans ?_
    refine congrArg₂ Chain.stepMax (funext fun k => (Chain.scores_apply _ _ _ _ _ k (x 2)).trans
      (Finset.sum_congr rfl fun e _ => congrArg₂ (· * ·) (congrArg x1 ?_) (congrArg x0 ?_))) (congrArg xs ?_)
    all_goals
      funext a
      apply Fin.ext
      fin_cases a <;> simp [Rect.idx_unit_val, h0, h1, h2] <;> omega

/-- of the sum of the weights, -/
theorem step1 (c : Dev nD) (t : Fin cfg0.N) (h0 : ¬t.val % 8 = 0) (y : S6x1x512.Idx) :
   (outsAt0 m c t.val t.isLt).2.2.1 y = G1 (iblk m c 0 t) (iblk m c 1 t) (iblk m c 2 t) (outsAt0 m c (t.val - 1) (Nat.lt_of_le_of_lt (Nat.sub_le _ _) t.isLt)).2.1
     (outsAt0 m c (t.val - 1) (Nat.lt_of_le_of_lt (Nat.sub_le _ _) t.isLt)).2.2.1 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (iblk m c 2 t) = x2
    generalize (outsAt0 m c (t.val - 1) _).2.1 = xs
    generalize (outsAt0 m c (t.val - 1) _).2.2.1 = xl
    clear h0 h1
    canon_tiles x h
  all_goals
    refine (Chain.lStore_apply (Chain.scores 128 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg xs ?_)) (congrArg xl ?_)
    all_goals
      funext a
      apply Fin.ext
      fin_cases a <;> simp [Rect.idx_unit_val, h0, h1, h2] <;> omega

/-- and of the weighted values. -/
theorem step2 (c : Dev nD) (t : Fin cfg0.N) (h0 : ¬t.val % 8 = 0) (y : S6x128x512.Idx) :
   (outsAt0 m c t.val t.isLt).2.2.2 y = G2 (iblk m c 0 t) (iblk m c 1 t) (iblk m c 2 t) (outsAt0 m c (t.val - 1) (Nat.lt_of_le_of_lt (Nat.sub_le _ _) t.isLt)).2.1
     (outsAt0 m c (t.val - 1) (Nat.lt_of_le_of_lt (Nat.sub_le _ _) t.isLt)).2.2.2 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (iblk m c 2 t) = x2
    generalize (outsAt0 m c (t.val - 1) _).2.1 = xs
    generalize (outsAt0 m c (t.val - 1) _).2.2.2 = xl
    clear h0 h1
    canon_tiles x h
  all_goals
    refine (Chain.aStore_apply (Chain.scores 128 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg xs ?_)) (congrArg xl ?_)
    all_goals
      funext a
      apply Fin.ext
      fin_cases a <;> simp [Rect.idx_unit_val, h0, h1, h2] <;> omega

/-- The constants a run starts from. -/
theorem pay8_eq : k0_pay8 (F := Ideal) = fun _ => ⊥ := by
  funext y; unfold k0_pay8; pointwise; exact Chain.bot_bits
theorem pay9_eq : k0_pay9 (F := Ideal) = fun _ => (0 : EReal) := by
  funext y; unfold k0_pay9; pointwise
theorem pay10_eq : k0_pay10 (F := Ideal) = fun _ => (0 : EReal) := by
  funext y; unfold k0_pay10; pointwise

/-- The first point of a run takes the same steps from -infinity and zero: the maximum, -/
theorem reset0 (c : Dev nD) (t : Fin cfg0.N) (h0 : t.val % 8 = 0) (y : S6x1x512.Idx) :
   (outsAt0 m c t.val t.isLt).2.1 y = G0 (iblk m c 0 t) (iblk m c 1 t) (fun _ => ⊥) y := by
  have h1 : ¬t.val % 8 = 7 := by omega
  rw [← pay8_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  clear h0 h1
  canon_tiles x h
  all_goals
    refine (Chain.mStore_apply (Chain.scores 128 (by decide) (by decide) _ _) _ (x 0) (x 1) (x 2)).trans ?_
    refine congrArg₂ Chain.stepMax (funext fun k => (Chain.scores_apply _ _ _ _ _ k (x 2)).trans
      (Finset.sum_congr rfl fun e _ => congrArg₂ (· * ·) (congrArg x1 ?_) (congrArg x0 ?_))) (congrArg k0_pay8 ?_)
    all_goals
      funext a
      apply Fin.ext
      fin_cases a <;> simp [Rect.idx_unit_val, h0, h1, h2] <;> omega

/-- the sum of the weights, -/
theorem reset1 (c : Dev nD) (t : Fin cfg0.N) (h0 : t.val % 8 = 0) (y : S6x1x512.Idx) :
   (outsAt0 m c t.val t.isLt).2.2.1 y = G1 (iblk m c 0 t) (iblk m c 1 t) (iblk m c 2 t) (fun _ => ⊥) (fun _ => 0) y := by
  have h1 : ¬t.val % 8 = 7 := by omega
  rw [← pay8_eq, ← pay9_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  generalize (iblk m c 2 t) = x2
  clear h0 h1
  canon_tiles x h
  all_goals
    refine (Chain.lStore_apply (Chain.scores 128 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg k0_pay8 ?_)) (congrArg k0_pay9 ?_)
    all_goals
      funext a
      apply Fin.ext
      fin_cases a <;> simp [Rect.idx_unit_val, h0, h1, h2] <;> omega

/-- the weighted values. -/
theorem reset2 (c : Dev nD) (t : Fin cfg0.N) (h0 : t.val % 8 = 0) (y : S6x128x512.Idx) :
   (outsAt0 m c t.val t.isLt).2.2.2 y = G2 (iblk m c 0 t) (iblk m c 1 t) (iblk m c 2 t) (fun _ => ⊥) (fun _ => 0) y := by
  have h1 : ¬t.val % 8 = 7 := by omega
  rw [← pay8_eq, ← pay10_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  generalize (iblk m c 2 t) = x2
  clear h0 h1
  canon_tiles x h
  all_goals
    refine (Chain.aStore_apply (Chain.scores 128 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg k0_pay8 ?_)) (congrArg k0_pay10 ?_)
    all_goals
      funext a
      apply Fin.ext
      fin_cases a <;> simp [Rect.idx_unit_val, h0, h1, h2] <;> omega

/-- The last point of a run writes each head's weighted values over its sum of weights, transposed. -/
theorem last (c : Dev nD) (t : Fin cfg0.N) (h1 : t.val % 8 = 7) (y : S512x768.Idx) :
   (outsAt0 m c t.val t.isLt).1 y = Ideal.div
     ((outsAt0 m c t.val t.isLt).2.2.2 (ix3 ⟨(y 1).val / 128, by have : (y 1).val < 768 := (y 1).isLt; omega⟩ ⟨(y 1).val % 128, by omega⟩ (y 0)))
     ((outsAt0 m c t.val t.isLt).2.2.1 (ix3 ⟨(y 1).val / 128, by have : (y 1).val < 768 := (y 1).isLt; omega⟩ 0 (y 0))) := by
  have h0 : ¬t.val % 8 = 0 := by omega
  have e1 : (outsAt0 m c t.val t.isLt).2.2.1 = (outsAt0 m c t.val t.isLt).2.2.1 := rfl
  have e2 : (outsAt0 m c t.val t.isLt).2.2.2 = (outsAt0 m c t.val t.isLt).2.2.2 := rfl
  generalize e1' : (outsAt0 m c t.val t.isLt).2.2.1 = X1 at e1 ⊢
  generalize e2' : (outsAt0 m c t.val t.isLt).2.2.2 = X2 at e2 ⊢
  rw [outsAt0_C m c t h0 h1] at e1' e2' ⊢
  frame_out at e1'
  frame_out at e2'
  frame_out
  simp only [View.readCov_eq_canon', e1', e2']
  clear h0 h1 e1' e2' e1 e2
  canon_tiles x h
  all_goals
    rw [eq_ix2 x]
    unfold_payloads
    refine (Chain.outBf_apply (fun j => X2 _) (fun j => X1 _) (x 0) (x 1)).trans ?_
    refine congrArg₂ Ideal.div (congrArg X2 ?_) (congrArg X1 ?_)
    all_goals
      funext a
      apply Fin.ext
      fin_cases a <;> simp [Rect.idx_unit_val, h0, h1] <;> omega

end Cert.KernelAIdeal.Step
end
-- ==== Proof.StateA.lean ====
/- The grouped attention's scratch after every grid point: the greatest score, the sum of the weights and the weighted
   values over the keys met so far, of every head and query position; and what the call writes out. -/
module

public import proofs.«01_k».proof.Proof.StepA
public import Idealize.ShloMosaic.Lib.Pipeline.ValueKit.Geometry

@[expose] public section
set_option maxRecDepth 16384
noncomputable section
namespace Cert.KernelAIdeal.State
open Idealize.ShloMosaic Idealize.SL Idealize.SL.Sem
open Cert.KernelAIdeal Cert.KernelAIdeal.Gen Cert.KernelAIdeal.Value Cert.KernelAIdeal.Step
open scoped BigOperators

variable (m : (ℓ : Loc nD τ sig) → Buf (Elt Ideal) ℓ) (c : Dev nD)

/-- The queries, the keys and the values (each head's 128 rows and 16 rows of ones) as the call finds them. -/
def Q : Vec Ideal S24576x768 .bf16 := V m c main_v7
def K : Vec Ideal S24576x256 .bf16 := V m c main_v9
def W : Vec Ideal S288x24576 .bf16 := V m c main_v14

/-- The key position `k` of the prompt. -/
def row (k : ℕ) : Fin 24576 := ⟨k % 24576, Nat.mod_lt _ (by decide)⟩

/-- The base-2 score of head `h` at query position `q` and key position `k`. -/
def S (h q k : ℕ) : EReal :=
  ∑ e : Fin 128, K m c (ix2 (row k) ⟨h % 6 / 3 * 128 + e.val, by omega⟩) * Q m c (ix2 (row q) ⟨h % 6 * 128 + e.val, by omega⟩)

/-- Row `r` of the values head `h` reads at key position `k`. -/
def val (h r k : ℕ) : EReal := W m c (ix2 ⟨h % 6 / 3 * 144 + r % 144, by omega⟩ (row k))

/-- The printed index maps, decided over the grid. -/
theorem idx0 : ∀ t : Fin cfg0.N, win0_0.index t = ![t.val / 8 % 16, t.val / 128] := (by decide +kernel : ∀ t : Fin grid0.N, win0_0.index t = ![t.val / 8 % 16, t.val / 128])
theorem idx1 : ∀ t : Fin cfg0.N, win0_1.index t = ![t.val % 8, t.val / 128] := (by decide +kernel : ∀ t : Fin grid0.N, win0_1.index t = ![t.val % 8, t.val / 128])
theorem idx2 : ∀ t : Fin cfg0.N, win0_2.index t = ![t.val / 128, t.val % 8] := (by decide +kernel : ∀ t : Fin grid0.N, win0_2.index t = ![t.val / 128, t.val % 8])

theorem lt128 (t : Fin cfg0.N) : t.val < 128 := lt_of_lt_of_eq t.isLt N_0

/-- A point's query block holds its query positions, of its six heads; -/
theorem block_query (t : Fin cfg0.N) (p : Fin 512) (i : Fin 768) :
    (iblk m c 0 t : Vec Ideal S512x768 .bf16) (ix2 p i)
      = Q m c (ix2 (row (512 * (t.val / 8 % 16) + p.val)) ⟨(768 * (t.val / 128) + i.val) % 768, by omega⟩) := by
  have ht := lt128 t
  show V m c main_v7 _ = V m c main_v7 _
  refine congrArg (V m c main_v7) ?_
  blk_ext [idx0 t, row]

/-- its key block its key positions, of the same heads. -/
theorem block_key (t : Fin cfg0.N) (k : Fin 1024) (i : Fin 256) :
    (iblk m c 1 t : Vec Ideal S1024x256 .bf16) (ix2 k i)
      = K m c (ix2 (row (1024 * (t.val % 8) + k.val)) ⟨(256 * (t.val / 128) + i.val) % 256, by omega⟩) := by
  have ht := lt128 t
  show V m c main_v9 _ = V m c main_v9 _
  refine congrArg (V m c main_v9) ?_
  blk_ext [idx1 t, row]

/-- The scores of a point's blocks are those of its heads, its query positions and its key positions. -/
theorem block_score (t : Fin cfg0.N) (a : Fin 6) (p : Fin 512) :
    sc (iblk m c 0 t) (iblk m c 1 t) a p
      = fun k : Fin 1024 => S m c (6 * (t.val / 128) + a.val) (512 * (t.val / 8 % 16) + p.val) (1024 * (t.val % 8) + k.val) := by
  have ht := lt128 t
  funext k
  refine Finset.sum_congr rfl fun e _ => congrArg₂ (· * ·) ((block_key m c t k _).trans ?_) ((block_query m c t p _).trans ?_)
  all_goals
    congr 2
    apply Fin.ext
    dsimp only
    omega

/-- The values of a point's block are those of its heads at its key positions. -/
theorem block_val (t : Fin cfg0.N) (a : Fin 6) (r : ℕ) (hr : r < 144) (i : Fin 288) (hi : i.val = a.val / 3 * 144 + r) (k : Fin 1024) :
    (iblk m c 2 t : Vec Ideal S288x1024 .bf16) (ix2 i k) = val m c (6 * (t.val / 128) + a.val) r (1024 * (t.val % 8) + k.val) := by
  have ht := lt128 t
  show V m c main_v14 _ = V m c main_v14 _
  refine congrArg (V m c main_v14) ?_
  blk_ext [idx2 t, row]

/-- The head of row `a` of a point's scratch, and the query position of its column `p`. -/
def hd (n a : ℕ) : ℕ := 6 * (n / 128) + a
def qp (n p : ℕ) : ℕ := 512 * (n / 8 % 16) + p

/-- A point's step carries the running maximum from the keys before its block to those up to its end; -/
theorem next0 (t : Fin cfg0.N) (xs : Vec Ideal S6x1x512 .f32)
    (hs : ∀ y, xs y = Softmax.top (S m c (hd t.val (y 0).val) (qp t.val (y 2).val)) (1024 * (t.val % 8))) (y : S6x1x512.Idx) :
    G0 (iblk m c 0 t) (iblk m c 1 t) xs y
      = Softmax.top (S m c (hd t.val (y 0).val) (qp t.val (y 2).val)) (1024 * (t.val % 8) + 1024) := by
  exact (congrArg₂ Chain.stepMax (block_score m c t (y 0) (y 2)) (hs y)).trans (Chain.stepMax_top _ _)

variable (hS : ∀ h q, ∃ s : ℕ → ℝ, ∀ k, S m c h q k = (s k : EReal))
include hS

/-- likewise the sum of the weights -/
theorem next1 (t : Fin cfg0.N) (xs xl : Vec Ideal S6x1x512 .f32)
    (hs : ∀ y, xs y = Softmax.top (S m c (hd t.val (y 0).val) (qp t.val (y 2).val)) (1024 * (t.val % 8)))
    (hl : ∀ y, xl y = Softmax.acc (S m c (hd t.val (y 0).val) (qp t.val (y 2).val)) (val m c (hd t.val (y 0).val) 128) (1024 * (t.val % 8)))
    (y : S6x1x512.Idx) :
    G1 (iblk m c 0 t) (iblk m c 1 t) (iblk m c 2 t) xs xl y
      = Softmax.acc (S m c (hd t.val (y 0).val) (qp t.val (y 2).val)) (val m c (hd t.val (y 0).val) 128) (1024 * (t.val % 8) + 1024) := by
  unfold G1
  refine Eq.trans (congr (congr (congrArg₂ Chain.stepSum (block_score m c t (y 0) (y 2)) (funext fun k => ?_)) (hs y)) (hl y))
    (Chain.stepSum_acc _ (val m c (hd t.val (y 0).val) 128) (hS _ _) _)
  exact block_val m c t (y 0) 128 (by decide) _ rfl k

/-- and the weighted values. -/
theorem next2 (t : Fin cfg0.N) (xs : Vec Ideal S6x1x512 .f32) (xa : Vec Ideal S6x128x512 .f32)
    (hs : ∀ y, xs y = Softmax.top (S m c (hd t.val (y 0).val) (qp t.val (y 2).val)) (1024 * (t.val % 8)))
    (ha : ∀ y, xa y = Softmax.acc (S m c (hd t.val (y 0).val) (qp t.val (y 2).val)) (val m c (hd t.val (y 0).val) (y 1).val) (1024 * (t.val % 8)))
    (y : S6x128x512.Idx) :
    G2 (iblk m c 0 t) (iblk m c 1 t) (iblk m c 2 t) xs xa y
      = Softmax.acc (S m c (hd t.val (y 0).val) (qp t.val (y 2).val)) (val m c (hd t.val (y 0).val) (y 1).val) (1024 * (t.val % 8) + 1024) := by
  unfold G2
  refine Eq.trans (congr (congr (congrArg₂ Chain.stepSum (block_score m c t (y 0) (y 2)) (funext fun k => ?_)) (hs (ix3 (y 0) 0 (y 2)))) (ha y))
    (Chain.stepSum_acc _ (val m c (hd t.val (y 0).val) (y 1).val) (hS _ _) _)
  have hy1 : (y 1).val < 128 := (y 1).isLt
  exact block_val m c t (y 0) (y 1).val (by omega) _ rfl k

/-- The scratch after every point: the maximum, the sum of the weights and the weighted values over the keys up to the
    end of the point's block. -/
theorem state : ∀ n (hn : n < cfg0.N),
    (∀ y, (outsAt0 m c n hn).2.1 y = Softmax.top (S m c (hd n (y 0).val) (qp n (y 2).val)) (1024 * (n % 8) + 1024))
    ∧ (∀ y, (outsAt0 m c n hn).2.2.1 y
        = Softmax.acc (S m c (hd n (y 0).val) (qp n (y 2).val)) (val m c (hd n (y 0).val) 128) (1024 * (n % 8) + 1024))
    ∧ (∀ y, (outsAt0 m c n hn).2.2.2 y
        = Softmax.acc (S m c (hd n (y 0).val) (qp n (y 2).val)) (val m c (hd n (y 0).val) (y 1).val) (1024 * (n % 8) + 1024)) := by
  intro n
  induction n with
  | zero =>
    intro hn
    refine ⟨fun y => ?_, fun y => ?_, fun y => ?_⟩
    · rw [reset0 m c ⟨0, hn⟩ rfl y]
      exact next0 m c ⟨0, hn⟩ _ (fun _ => rfl) y
    · rw [reset1 m c ⟨0, hn⟩ rfl y]
      exact next1 m c hS ⟨0, hn⟩ _ _ (fun _ => rfl) (fun _ => rfl) y
    · rw [reset2 m c ⟨0, hn⟩ rfl y]
      exact next2 m c hS ⟨0, hn⟩ _ _ (fun _ => rfl) (fun _ => rfl) y
  | succ n ih =>
    intro hn
    by_cases h0 : (n + 1) % 8 = 0
    · refine ⟨fun y => ?_, fun y => ?_, fun y => ?_⟩
      · rw [reset0 m c ⟨n + 1, hn⟩ h0 y]
        exact next0 m c ⟨n + 1, hn⟩ _ (fun _ => by rw [h0]; rfl) y
      · rw [reset1 m c ⟨n + 1, hn⟩ h0 y]
        exact next1 m c hS ⟨n + 1, hn⟩ _ _ (fun _ => by rw [h0]; rfl) (fun _ => by rw [h0]; rfl) y
      · rw [reset2 m c ⟨n + 1, hn⟩ h0 y]
        exact next2 m c hS ⟨n + 1, hn⟩ _ _ (fun _ => by rw [h0]; rfl) (fun _ => by rw [h0]; rfl) y
    · obtain ⟨i0, i1, i2⟩ := ih (by omega)
      have ek : 1024 * (n % 8) + 1024 = 1024 * ((n + 1) % 8) := by omega
      have eh : ∀ a, hd n a = hd (n + 1) a := fun a => by unfold hd; omega
      have eq : ∀ p, qp n p = qp (n + 1) p := fun p => by unfold qp; omega
      simp only [ek, eh, eq] at i0 i1 i2
      refine ⟨fun y => ?_, fun y => ?_, fun y => ?_⟩
      · rw [step0 m c ⟨n + 1, hn⟩ h0 y]
        exact next0 m c ⟨n + 1, hn⟩ _ i0 y
      · rw [step1 m c ⟨n + 1, hn⟩ h0 y]
        exact next1 m c hS ⟨n + 1, hn⟩ _ _ i0 i1 y
      · rw [step2 m c ⟨n + 1, hn⟩ h0 y]
        exact next2 m c hS ⟨n + 1, hn⟩ _ _ i0 i2 y

/-- What the call writes: at query position `i 0` and column `i 1` the weighted values of the column's head over its sum
    of weights, over all 8192 keys. -/
theorem written (i : S8192x768.Idx) :
    G3 m c i = Ideal.div
      (Softmax.acc (S m c ((i 1).val / 128) (i 0).val) (val m c ((i 1).val / 128) ((i 1).val % 128)) 8192)
      (Softmax.acc (S m c ((i 1).val / 128) (i 0).val) (val m c ((i 1).val / 128) 128) 8192) := by
  have hi0 : (i 0).val < 8192 := (i 0).isLt
  have hi1 : (i 1).val < 768 := (i 1).isLt
  have hp : pt3Of i < 128 := by unfold pt3Of run3Of; omega
  have hN : pt3Of i < cfg0.N := lt_of_lt_of_eq hp N_0.symm
  have e : G3 m c i = (outsAt0 m c (pt3Of i) hN).1 (loc3Of i) := by
    unfold G3
    rw [dif_pos hN, ← outsAt0_sweep]
  have h7 : pt3Of i % 8 = 7 := by unfold pt3Of; omega
  obtain ⟨_, s1, s2⟩ := state m c hS (pt3Of i) hN
  rw [e, last m c ⟨pt3Of i, hN⟩ h7, s1, s2, h7]
  have e0 : (loc3Of i 0).val = (i 0).val % 512 := rfl
  have e1 : (loc3Of i 1).val = (i 1).val % 768 := rfl
  have eh : hd (pt3Of i) ((loc3Of i 1).val / 128) = (i 1).val / 128 := by rw [e1]; unfold hd pt3Of run3Of; omega
  have eq : qp (pt3Of i) (loc3Of i 0).val = (i 0).val := by rw [e0]; unfold qp pt3Of run3Of; omega
  have er : (loc3Of i 1).val % 128 = (i 1).val % 128 := by rw [e1]; omega
  show Ideal.div (Softmax.acc (S m c (hd (pt3Of i) ((loc3Of i 1).val / 128)) (qp (pt3Of i) (loc3Of i 0).val)) (val m c (hd (pt3Of i) ((loc3Of i 1).val / 128)) ((loc3Of i 1).val % 128)) _)
    (Softmax.acc (S m c (hd (pt3Of i) ((loc3Of i 1).val / 128)) (qp (pt3Of i) (loc3Of i 0).val)) (val m c (hd (pt3Of i) ((loc3Of i 1).val / 128)) 128) _) = _
  rw [eh, eq, er]

end Cert.KernelAIdeal.State
end
-- ==== Proof.Attend.lean ====
/- What the three attention calls and their references have in common: the softmax of a row of scores against a row of
   values, its agreement with the base-2 running sums, the two scales, and arrays of finite entries. -/
module

public import proofs.«01_k».proof.Proof.Softmax
public import proofs.«01_k».proof.Proof.Chain
public import Idealize.ShloMosaic.PureOps.Reduce
public import Idealize.ShloMosaic.Lib.ReduceAll
public import Idealize.ShloMosaic.Lib.IdealHost

@[expose] public section
noncomputable section
namespace Cert.Attend
open Idealize.ShloMosaic
open scoped BigOperators

/-- The values weighted by the softmax of the scores `x`, as the references compute it. -/
def soft {n : ℕ} (x v : Fin n → EReal) : EReal :=
  ∑ k, v k * Ideal.div (Ideal.exp (x k - max ⊥ (Finset.univ.fold max ⊥ x))) (∑ j, Ideal.exp (x j - max ⊥ (Finset.univ.fold max ⊥ x)))

/-- The base-2 running sums over scores `a k * σ` give the softmax of the scores `a k * τ`, where `τ = σ * log 2`. -/
theorem quotient (a : ℕ → ℝ) (σ τ : ℝ) (h : τ = σ * Real.log 2) (S v w : ℕ → EReal) (n : ℕ) (hn : 0 < n) (x : Fin n → EReal)
    (hS : ∀ k, S k = ((a k * σ : ℝ) : EReal)) (hx : ∀ k : Fin n, x k = ((a k.val * τ : ℝ) : EReal)) (hw : ∀ k, w k = 1) :
    Ideal.div (Softmax.acc S v n) (Softmax.acc S w n) = soft x fun k => v k.val := by
  obtain rfl : S = fun k => ((a k * σ : ℝ) : EReal) := funext hS
  obtain rfl : w = fun _ => 1 := funext hw
  obtain rfl : x = fun k => ((a k.val * τ : ℝ) : EReal) := funext hx
  refine (Softmax.softmax (fun k => a k * σ) (fun k => a k * τ) v n hn fun k => by rw [h, mul_assoc]).trans ?_
  unfold soft
  simp only [zero_add]
  rfl

/-- The f32 patterns of the head depths and of two. -/
theorem bits_192 : Ideal.ofBits .f32 0x43400000#32 = ((192 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_2 : Ideal.ofBits .f32 0x40000000#32 = ((2 : ℝ) : EReal) := by
  simp [Ideal.ofBits, Ideal.ieee, -EReal.coe_mul]; norm_num
theorem bits_top : Ideal.ofBits .f32 0x7F800000#32 = ⊤ := by
  simp [Ideal.ofBits, Ideal.ieee]

/-- The references' scale `1 / √d` and the kernels' scale `1 / (√d log 2)` are reals, -/
theorem scale_e {d : ℝ} (hd : 0 < d) : Ideal.div 1 (Ideal.sqrt (d : EReal)) = ((1 / √d : ℝ) : EReal) := by
  rw [Ideal.sqrt_coe, if_neg hd.le.not_gt, Ideal.div_coe (Real.sqrt_pos.mpr hd).ne', one_mul]
theorem scale_2 {d : ℝ} (hd : 0 < d) :
    Ideal.div 1 (Ideal.sqrt (d : EReal) * Ideal.log ((2 : ℝ) : EReal)) = ((1 / (√d * Real.log 2) : ℝ) : EReal) := by
  have h2 : 0 < Real.log 2 := Real.log_pos (by norm_num)
  rw [Ideal.sqrt_coe, if_neg hd.le.not_gt, Ideal.log_coe, if_neg (by norm_num), ← EReal.coe_mul,
    Ideal.div_coe (mul_pos (Real.sqrt_pos.mpr hd) h2).ne', one_mul]

/-- the second being the first over `log 2`. -/
theorem scale_eq (d : ℝ) : 1 / √d = 1 / (√d * Real.log 2) * Real.log 2 := by
  have h2 : Real.log 2 ≠ 0 := (Real.log_pos (by norm_num)).ne'
  rw [one_div, one_div, mul_inv, mul_assoc, inv_mul_cancel₀ h2, mul_one]

/-- An extended real whose absolute value is below infinity is a real. -/
theorem real_of_abs {x : EReal} (h : max x (-x) < ⊤) : ∃ r : ℝ, x = r := by
  induction x with
  | bot => simp at h
  | top => simp at h
  | coe r => exact ⟨r, rfl⟩

/-- An array whose entries all pass the test `|x| < inf` holds reals. -/
theorem real_of_finite {s u t : Shape} [Subsingleton t.Idx] {axes : List (Fin s.rank)} (x : FVec Ideal s .f32) (dims : Fin u.rank → Fin s.rank)
    (hb : u.BroadcastsInDim s dims) (h : s.ReducesTo axes t) (init : u.Idx → BitVec 1) (hu : 0 < u.numel) (j : t.Idx)
    (e : Host.reduce IntOp.andi (cmpf .olt (Host.absf x) (broadcastInDim s dims hb (constant (F := Ideal) u .f32 0x7F800000#32))) init h hu j = 1#1)
    (i : s.Idx) : ∃ r : ℝ, x i = r := by
  have h1 := Host.reduce_andi_all _ _ _ _ _ e i
  refine real_of_abs ?_
  rw [← bits_top]
  change BitVec.ofBool (decide (max (x i) (-x i) < Ideal.ofBits .f32 0x7F800000#32)) = 1#1 at h1
  by_contra hn
  rw [decide_eq_false hn] at h1
  exact absurd h1 (by decide)

/-- The references' maximum over one axis, at an index: the maximum over that axis's coordinates `at' k`. -/
theorem reduce_max {s t u : Shape} {a : Fin s.rank} {n : ℕ} (hn : s.size a = n) (x : FVec Ideal s .f32) (init : FVec Ideal u .f32)
    (h' : s.ReducesTo [a] t) (h : s.Reduces [a] t) (hu : 0 < u.numel) (hi : ∀ i, init i = ⊥) (j : t.Idx) (at' : Fin n → s.Idx)
    (hat : ∀ k, h.lift j (k.cast hn.symm) = at' k) :
    Host.reduce FloatOps.maximumf x init h' hu j = Finset.univ.fold max ⊥ (fun k => x (at' k)) := by
  subst hn
  rw [Host.reduce_eq_fold_single FloatOps.maximumf x init h' h hu, hi]
  refine congrArg (fun g => Finset.univ.fold _ _ g) (funext fun k => congrArg x (hat k))

/-- The references' greatest score, as they guard it by -infinity, at an index. -/
theorem greatest {s t u : Shape} {a : Fin s.rank} {n : ℕ} (hn : s.size a = n) (x : FVec Ideal s .f32) (dims : Fin u.rank → Fin t.rank)
    (hb : u.BroadcastsInDim t dims) (h' : s.ReducesTo [a] t) (h : s.Reduces [a] t) (hu : 0 < u.numel) (j : t.Idx) (at' : Fin n → s.Idx)
    (hat : ∀ k, h.lift j (k.cast hn.symm) = at' k) :
    maximumf (broadcastInDim t dims hb (constant (F := Ideal) u .f32 0xFF800000#32))
        (Host.reduce FloatOps.maximumf x (constant (F := Ideal) u .f32 0xFF800000#32) h' hu) j
      = max ⊥ (Finset.univ.fold max ⊥ (fun k => x (at' k))) :=
  congrArg₂ max Chain.bot_bits (reduce_max hn x _ h' h hu (fun _ => Chain.bot_bits) j at' hat)

end Cert.Attend
end
-- ==== Proof.HostA.lean ====
/- The host code before the grouped attention, read at an index, and the base-2 scores it leads to. -/
module

public import proofs.«01_k».proof.Proof.StateA
public import proofs.«01_k».proof.Proof.Attend
public import Idealize.ShloMosaic.Lib.Claim

@[expose] public section
set_option maxRecDepth 16384
noncomputable section
namespace Cert.KernelAIdeal.Host
open Idealize.ShloMosaic Idealize.SL Idealize.SL.Sem
open Cert.KernelAIdeal Cert.KernelAIdeal.Gen Cert.KernelAIdeal.State
open scoped BigOperators

variable (m : (ℓ : Loc nD τ sig) → Buf (Elt Ideal) ℓ) (c : Dev nD)

/-- The argument arrays. -/
def a0 : Vec Ideal S24576x6x128 .f32 := m ((c.tc : Thread nD τ).loc main_arg0)
def a1 : Vec Ideal S24576x2x128 .f32 := m ((c.tc : Thread nD τ).loc main_arg1)
def a2 : Vec Ideal S24576x2x128 .f32 := m ((c.tc : Thread nD τ).loc main_arg2)

/-- The scale the host code puts on the queries. -/
def σ : ℝ := 1 / (√128 * Real.log 2)

/-- A query's entry; -/
theorem query (i : Fin 24576) (h : Fin 6) (e : Fin 128) :
    Q m c (ix2 i ⟨h.val * 128 + e.val, by omega⟩) = a0 m c (ix3 i h e) * (σ : EReal) := by
  have e1 : (h.val * 128 + e.val) % 128 = e.val := by omega
  have e2 : (h.val * 128 + e.val) / 128 = h.val := by omega
  unfold Q
  entry_read
  pointwise
  simp only [e1, e2, Attend.bits_128, Attend.bits_2]
  rw [Attend.scale_2 (by norm_num)]
  rfl

/-- a key's entry; -/
theorem key (i : Fin 24576) (h : Fin 2) (e : Fin 128) :
    K m c (ix2 i ⟨h.val * 128 + e.val, by omega⟩) = a1 m c (ix3 i h e) := by
  unfold K
  entry_read
  pointwise
  rfl

/-- a value's entry, and the ones below each head's values. -/
theorem value (i : Fin 24576) (h : Fin 2) (r : ℕ) (hr : r < 144) :
    W m c (ix2 ⟨h.val * 144 + r, by omega⟩ i) = if h1 : r < 128 then a2 m c (ix3 i h ⟨r, h1⟩) else 1 := by
  have e1 : (h.val * 144 + r) % 144 = r := by omega
  have e2 : (h.val * 144 + r) / 144 = h.val := by omega
  unfold W
  entry_read
  pointwise
  simp only [e1, e2]
  rfl

/-- The key head of a query head. -/
def kv (h : Fin 6) : Fin 2 := ⟨h.val / 3, by omega⟩

/-- The product of a query and a key, of reals. -/
def raw (qs : S24576x6x128.Idx → ℝ) (ks : S24576x2x128.Idx → ℝ) (h : Fin 6) (q k : Fin 24576) : ℝ :=
  ∑ e : Fin 128, ks (ix3 k (kv h) e) * qs (ix3 q h e)

/-- The base-2 scores of the laid-out arrays are the scaled products. -/
theorem score (qs : S24576x6x128.Idx → ℝ) (ks : S24576x2x128.Idx → ℝ) (h0 : ∀ i, a0 m c i = qs i) (h1 : ∀ i, a1 m c i = ks i) (h q k : ℕ) :
    S m c h q k = ((raw qs ks ⟨h % 6, Nat.mod_lt _ (by decide)⟩ (row q) (row k) * σ : ℝ) : EReal) := by
  unfold S raw
  rw [Finset.sum_mul, ← Softmax.coe_sum]
  refine Finset.sum_congr rfl fun e _ => (congrArg₂ (· * ·) (key m c (row k) (kv ⟨h % 6, Nat.mod_lt _ (by decide)⟩) e)
    (query m c (row q) ⟨h % 6, Nat.mod_lt _ (by decide)⟩ e)).trans ?_
  simp only [h0, h1, ← EReal.coe_mul]
  congr 1
  ring

end Cert.KernelAIdeal.Host
end
-- ==== Proof.RefA.lean ====
/- The grouped attention's reference, read at an index. -/
module

public import proofs.«01_k».proof.Proof.Gen.ReferenceAIdeal.Run
public import proofs.«01_k».proof.Proof.Attend

@[expose] public section
set_option maxRecDepth 16384
noncomputable section
namespace Cert.ReferenceAIdeal.Read
open Idealize.ShloMosaic Idealize.SL Idealize.SL.Sem
open Cert.ReferenceAIdeal Cert.ReferenceAIdeal.Gen
open scoped BigOperators

variable (m : (ℓ : Loc nD τ sig) → Buf (Elt Ideal) ℓ) (c : Dev nD)

/-- The argument arrays. -/
def a0 : FVec Ideal S24576x6x128 .f32 := m ((c.tc : Thread nD τ).loc main_arg0)
def a1 : FVec Ideal S24576x2x128 .f32 := m ((c.tc : Thread nD τ).loc main_arg1)
def a2 : FVec Ideal S24576x2x128 .f32 := m ((c.tc : Thread nD τ).loc main_arg2)

/-- The scores, -/
def scores (a0 : FVec Ideal S24576x6x128 .f32) (a1 : FVec Ideal S24576x2x128 .f32) : FVec Ideal S2x3x8192x8192 .f32 :=
  mulf (transpose S2x3x8192x8192 [0, 3, 2, 1] (Host.dotGeneral (F := Ideal) dot_S8192x2x128_S8192x2x3x128_S2x8192x8192x3_2_3_0_02_1_1 none
      (extractStridedSlice S8192x2x128 ![0, 0, 0] a1 slices_S24576x2x128_S8192x2x128_0_0_0)
      (shapeCast S8192x2x3x128 (extractStridedSlice S8192x6x128 ![0, 0, 0] a0 slices_S24576x6x128_S8192x6x128_0_0_0) shapeCasts_S8192x6x128_S8192x2x3x128))
      transposes_S2x8192x8192x3_S2x3x8192x8192_0_3_2_1)
    (broadcastInDim S2x3x8192x8192 ![] bcast_S_S2x3x8192x8192 (Host.divf (constant (F := Ideal) S_ .f32 0x3F800000#32) (Host.sqrt (constant (F := Ideal) S_ .f32 0x43000000#32))))

/-- their greatest over the keys, -/
def greatest (s : FVec Ideal S2x3x8192x8192 .f32) : FVec Ideal S2x3x8192 .f32 :=
  maximumf (broadcastInDim S2x3x8192 ![] bcast_S_S2x3x8192 (constant (F := Ideal) S_ .f32 0xFF800000#32))
    (Host.reduce FloatOps.maximumf s (constant (F := Ideal) S_ .f32 0xFF800000#32) reducesTo_S2x3x8192x8192_S2x3x8192_d3 h_S_)

/-- one number per head, group member and query, along the keys, -/
def along (r : FVec Ideal S2x3x8192 .f32) : FVec Ideal S2x3x8192x8192 .f32 :=
  broadcastInDim S2x3x8192x8192 ![0, 1, 2, 3] bcast_S2x3x8192x1_S2x3x8192x8192_0_1_2_3 (broadcastInDim S2x3x8192x1 ![0, 1, 2] bcast_S2x3x8192_S2x3x8192x1_0_1_2 r)

/-- the sum over the keys, -/
def total (w : FVec Ideal S2x3x8192x8192 .f32) : FVec Ideal S2x3x8192 .f32 :=
  Host.reduceAdd w (constant (F := Ideal) S_ .f32 0x00000000#32) reducesTo_S2x3x8192x8192_S2x3x8192_d3 h_S_

/-- and the values weighted. -/
def weighted (a2 : FVec Ideal S24576x2x128 .f32) (p : FVec Ideal S2x3x8192x8192 .f32) : FVec Ideal S2x128x3x8192 .f32 :=
  Host.dotGeneral (F := Ideal) dot_S8192x2x128_S2x3x8192x8192_S2x128x3x8192_0_3_2_12_1_0 none (extractStridedSlice S8192x2x128 ![0, 0, 0] a2 slices_S24576x2x128_S8192x2x128_0_0_0) p

theorem scores_apply (a0 : FVec Ideal S24576x6x128 .f32) (a1 : FVec Ideal S24576x2x128 .f32) (h : Fin 2) (g : Fin 3) (q k : Fin 8192) : scores a0 a1 (ix4 h g q k)
    = (∑ e : Fin 128, a1 (ix3 ⟨k.val, by omega⟩ h e) * a0 (ix3 ⟨q.val, by omega⟩ ⟨h.val * 3 + g.val, by omega⟩ e)) * ((1 / √128 : ℝ) : EReal) := by
  unfold scores
  pointwise
  simp only [Attend.bits_128, Attend.scale_e (d := 128) (by norm_num)]

theorem along_apply (r) (h : Fin 2) (g : Fin 3) (q k : Fin 8192) : along r (ix4 h g q k) = r (ix3 h g q) := by
  unfold along
  pointwise

theorem total_apply (s) (h : Fin 2) (g : Fin 3) (q : Fin 8192) : total s (ix3 h g q) = ∑ k, s (ix4 h g q k) := by
  unfold total
  pointwise

theorem weighted_apply (a2 p) (h : Fin 2) (d : Fin 128) (g : Fin 3) (q : Fin 8192) :
    weighted a2 p (ix4 h d g q) = ∑ k : Fin 8192, a2 (ix3 ⟨k.val, by omega⟩ h d) * p (ix4 h g q k) := by
  unfold weighted
  pointwise

theorem lift_at (hr : S2x3x8192x8192.Reduces [3] S2x3x8192) (h : Fin 2) (g : Fin 3) (q k : Fin 8192) : hr.lift (ix3 h g q) (k.cast rfl) = ix4 h g q k := by
  funext b
  apply Fin.ext
  rw [Shape.Reduces.lift_val]
  fin_cases b <;> rfl

theorem greatest_apply (s) (h : Fin 2) (g : Fin 3) (q : Fin 8192) :
    greatest s (ix3 h g q) = max ⊥ (Finset.univ.fold max ⊥ fun k : Fin 8192 => s (ix4 h g q k)) := by
  unfold greatest
  exact Attend.greatest (a := 3) (n := 8192) rfl s _ _ _ (by decide) _ (ix3 h g q) (fun k => ix4 h g q k) (lift_at _ h g q)

/-- The reference's result: these, put together. -/
def res : FVec Ideal S8192x768 .bf16 :=
  truncf (F := Ideal) .bf16 (shapeCast S8192x768 (transpose S8192x2x3x128 [3, 0, 2, 1] (weighted (a2 m c)
        (Host.divf (Host.exp (subf (scores (a0 m c) (a1 m c)) (along (greatest (scores (a0 m c) (a1 m c))))))
          (along (total (Host.exp (subf (scores (a0 m c) (a1 m c)) (along (greatest (scores (a0 m c) (a1 m c))))))))))
        transposes_S2x128x3x8192_S8192x2x3x128_3_0_2_1) shapeCasts_S8192x2x3x128_S8192x768) bitsLt_bf16_f32

/-- The softmax of an array of scores, weighting the values, at an index. -/
theorem soft_apply (a2 : FVec Ideal S24576x2x128 .f32) (s : FVec Ideal S2x3x8192x8192 .f32) (h : Fin 2) (d : Fin 128) (g : Fin 3) (q : Fin 8192) :
    weighted a2 (Host.divf (Host.exp (subf s (along (greatest s)))) (along (total (Host.exp (subf s (along (greatest s))))))) (ix4 h d g q)
      = Attend.soft (fun k => s (ix4 h g q k)) fun k : Fin 8192 => a2 (ix3 ⟨k.val, by omega⟩ h d) := by
  have e : ∀ k, Host.exp (subf s (along (greatest s))) (ix4 h g q k)
      = Ideal.exp (s (ix4 h g q k) - max ⊥ (Finset.univ.fold max ⊥ fun k : Fin 8192 => s (ix4 h g q k))) := fun k => by
    rw [← greatest_apply, ← along_apply (greatest s) h g q k]
    rfl
  rw [weighted_apply]
  refine Finset.sum_congr rfl fun k _ => congrArg _ ?_
  refine congrArg₂ Ideal.div (e k) ?_
  rw [along_apply, total_apply]
  exact Finset.sum_congr rfl fun j _ => e j

/-- The reference's result at an index: the head's values weighted by the softmax of its scores. -/
theorem result (i : S8192x768.Idx) (q : Fin 8192) (h : Fin 2) (g : Fin 3) (d : Fin 128) (hq : (i 0).val = q.val) (hh : (i 1).val / 128 / 3 = h.val)
    (hg : (i 1).val / 128 % 3 = g.val) (hd : (i 1).val % 128 = d.val) :
    res m c i
      = Attend.soft (fun k => scores (a0 m c) (a1 m c) (ix4 h g q k)) fun k : Fin 8192 => a2 m c (ix3 ⟨k.val, by omega⟩ h d) := by
  have hi : (i 1).val < 768 := (i 1).isLt
  unfold res
  refine Eq.trans ?_ (soft_apply (a2 m c) (scores (a0 m c) (a1 m c)) h d g q)
  generalize weighted (a2 m c) _ = w
  pointwise
  refine congrArg w ?_
  funext b
  apply Fin.ext
  fin_cases b
  · refine Eq.trans ?_ hh
    dsimp
    omega
  · exact hd
  · exact hg
  · exact hq

end Cert.ReferenceAIdeal.Read
end
-- ==== Proof.TieA.lean ====
/- The grouped attention's kernel and its reference end with the same array. -/
module

public import proofs.«01_k».proof.Defs
public import proofs.«01_k».proof.Proof.HostA
public import proofs.«01_k».proof.Proof.RefA
public import proofs.«01_k».proof.Proof.Gen.Pre_finite_a

@[expose] public section
set_option maxRecDepth 16384
noncomputable section
namespace Cert.TieA
open Idealize.ShloMosaic Idealize.SL Idealize.SL.Sem
open Cert.KernelAIdeal Cert.KernelAIdeal.Gen Cert.KernelAIdeal.Host
open scoped BigOperators

variable (m : (ℓ : Loc nD τ sig) → Buf (Elt Ideal) ℓ) (c : Dev nD)

/-- Under the precondition the queries and the keys are reals. -/
theorem finite (hpre : Pre_KernelAIdeal_finite_a m) : (∀ i, ∃ r : ℝ, a0 m c i = r) ∧ (∀ i, ∃ r : ℝ, a1 m c i = r) := by
  have h : Cert.Pre_finite_a.fn (F := Ideal) (a0 m c) (a1 m c) (a2 m c) = fun _ => 1#1 := hpre c
  have e := congrFun h (fun a => a.elim0)
  unfold Cert.Pre_finite_a.fn at e
  obtain ⟨e0, e1⟩ := IntOp.andi_eq_one.1 e
  have : Subsingleton (Cert.Pre_finite_a.S_).Idx := ⟨fun a b => funext fun k => k.elim0⟩
  exact ⟨Attend.real_of_finite _ _ _ _ _ _ _ e0, Attend.real_of_finite _ _ _ _ _ _ _ e1⟩

/-- The call's result is the reference's, on arguments that agree. -/
theorem tie (hpre : Pre_KernelAIdeal_finite_a m)
    (m' : (ℓ : Loc Cert.ReferenceAIdeal.nD Cert.ReferenceAIdeal.τ Cert.ReferenceAIdeal.sig) → Buf (Elt Ideal) ℓ)
    (g0 : ReferenceAIdeal.Read.a0 m' c = a0 m c) (g1 : ReferenceAIdeal.Read.a1 m' c = a1 m c) (g2 : ReferenceAIdeal.Read.a2 m' c = a2 m c) (i : S8192x768.Idx) :
    ReferenceAIdeal.Read.res m' c i = Value.G3 m c i := by
  have hi0 : (i 0).val < 8192 := (i 0).isLt
  have hi1 : (i 1).val < 768 := (i 1).isLt
  obtain ⟨f0, f1⟩ := finite m c hpre
  choose qs hqs using f0
  choose ks hks using f1
  have hs := score m c qs ks hqs hks
  obtain ⟨q, hq⟩ : ∃ q : Fin 8192, q.val = (i 0).val := ⟨⟨(i 0).val, hi0⟩, rfl⟩
  obtain ⟨h, hh⟩ : ∃ h : Fin 6, h.val = (i 1).val / 128 := ⟨⟨(i 1).val / 128, by omega⟩, rfl⟩
  obtain ⟨d, hd⟩ : ∃ d : Fin 128, d.val = (i 1).val % 128 := ⟨⟨(i 1).val % 128, by omega⟩, rfl⟩
  have eh : (⟨h.val % 6, Nat.mod_lt _ (by decide)⟩ : Fin 6) = h := Fin.ext (Nat.mod_eq_of_lt h.isLt)
  have er : ∀ k : Fin 8192, State.row k.val = ⟨k.val, by omega⟩ := fun k => Fin.ext (Nat.mod_eq_of_lt (by omega))
  rw [ReferenceAIdeal.Read.result m' c i q (Host.kv h) ⟨h.val % 3, by omega⟩ d hq.symm (congrArg (· / 3) hh.symm) (congrArg (· % 3) hh.symm) hd.symm,
    State.written m c (fun h q => ⟨_, fun k => hs h q k⟩) i, ← hq, ← hh, ← hd, g0, g1, g2]
  refine Eq.trans ?_ (Attend.quotient (fun k => raw qs ks ⟨h.val % 6, Nat.mod_lt _ (by decide)⟩ (State.row q.val) (State.row k)) σ (1 / √128)
    (Attend.scale_eq 128) _ _ _ 8192 (by decide)
    (fun k : Fin 8192 => ReferenceAIdeal.Read.scores (a0 m c) (a1 m c) (ix4 (Host.kv h) ⟨h.val % 3, by omega⟩ q k)) (fun k => hs h.val q.val k) ?_ ?_).symm
  · refine congrArg _ (funext fun k => ?_)
    unfold State.val
    have := value m c (State.row k.val) (Host.kv ⟨h.val % 6, Nat.mod_lt _ (by decide)⟩) d.val (by omega)
    rw [dif_pos d.isLt] at this
    refine Eq.trans ?_ (Eq.trans this.symm ?_)
    · rw [eh, er]
    · congr 2
      apply Fin.ext
      show h.val % 6 / 3 * 144 + d.val = h.val % 6 / 3 * 144 + d.val % 144
      omega
  · intro k
    rw [ReferenceAIdeal.Read.scores_apply]
    simp only [hqs, hks, ← EReal.coe_mul, Softmax.coe_sum, ← EReal.coe_add]
    rw [eh, er q, er k]
    have e3 : (⟨h.val / 3 * 3 + h.val % 3, by omega⟩ : Fin 6) = h := Fin.ext (by dsimp; omega)
    unfold raw kv
    simp only [e3]
  · intro k
    have := value m c (State.row k) (Host.kv ⟨h.val % 6, Nat.mod_lt _ (by decide)⟩) 128 (by decide)
    rwa [dif_neg (by decide)] at this

/-- The algebraic claim of the grouped attention. -/
theorem algebraic : algebraic_KernelAIdeal_ReferenceAIdeal_pre_finite_a := by
  intro m ρ m' ρ' hpre hagree
  refine ⟨_, Cert.KernelAIdeal.Value.run (F := Ideal) m ρ, ?_⟩
  refine (θ_run Cert.ReferenceAIdeal.defs _ _).mono (fun _ h c => ⟨?_, (h c).2⟩) (Cert.ReferenceAIdeal.Value.run (F := Ideal) m' ρ')
  obtain ⟨g0, g1, g2⟩ := hagree c
  refine ((h c).1.trans ?_).trans (funext fun i => tie m c hpre m' g0 g1 g2 i)
  unfold ReferenceAIdeal.Read.res ReferenceAIdeal.Read.weighted ReferenceAIdeal.Read.total ReferenceAIdeal.Read.along ReferenceAIdeal.Read.greatest ReferenceAIdeal.Read.scores ReferenceAIdeal.Read.a0 ReferenceAIdeal.Read.a1 ReferenceAIdeal.Read.a2
  rfl

end Cert.TieA
end
-- ==== Proof.StepB.lean ====
/- What one grid point of the latent attention does to its scratch, as steps of the running maximum and of the running sums. -/
module

public import proofs.«01_k».proof.Proof.Gen.KernelBIdeal.Value
public import Idealize.ShloMosaic.PureOps.Ideal
public import proofs.«01_k».proof.Proof.Softmax
public import proofs.«01_k».proof.Proof.Chain
public import Idealize.ShloMosaic.Lib.Pointwise
public import Idealize.ShloMosaic.Lib.Pipeline.ReadBack
public import Idealize.ShloMosaic.Lib.Pipeline.ValueKit.Tiles

@[expose] public section
set_option maxRecDepth 16384
noncomputable section
namespace Cert.KernelBIdeal.Step
open Idealize.ShloMosaic Idealize.SL Idealize.SL.Sem
open Cert.KernelBIdeal Cert.KernelBIdeal.Gen

open scoped BigOperators

variable (m : (ℓ : Loc nD τ sig) → Buf (Elt Ideal) ℓ)

/-- The base-2 scores of a point's key block and query block, of one of its three heads. -/
def sc (x0 : Vec Ideal S512x768 .bf16) (x1 : Vec Ideal S1024x768 .bf16) (n : Fin 3) (c : Fin 512) (k : Fin 1024) : EReal :=
  ∑ e : Fin 256, x1 (ix2 k ⟨n.val * 256 + e.val, by omega⟩) * x0 (ix2 c ⟨n.val * 256 + e.val, by omega⟩)

/-- The running maximum after a point, from the blocks and the maximum before it. -/
def G0 (x0 : Vec Ideal S512x768 .bf16) (x1 : Vec Ideal S1024x768 .bf16) (xs : Vec Ideal S3x1x512 .f32) : Vec Ideal S3x1x512 .f32 :=
  fun y => Chain.stepMax (sc x0 x1 (y 0) (y 2)) (xs y)

/-- The running sum of the weights after a point: row 128 of each head's values, which holds ones. -/
def G1 (x0 : Vec Ideal S512x768 .bf16) (x1 : Vec Ideal S1024x768 .bf16) (x2 : Vec Ideal S432x1024 .bf16) (xs : Vec Ideal S3x1x512 .f32)
    (xl : Vec Ideal S3x1x512 .f32) : Vec Ideal S3x1x512 .f32 :=
  fun y => Chain.stepSum (sc x0 x1 (y 0) (y 2)) (fun k => x2 (ix2 ⟨(y 0).val * 144 + 128, by have : (y 0).val < 3 := (y 0).isLt; omega⟩ k)) (xs y) (xl y)

/-- The running weighted sum of the values after a point. -/
def G2 (x0 : Vec Ideal S512x768 .bf16) (x1 : Vec Ideal S1024x768 .bf16) (x2 : Vec Ideal S432x1024 .bf16) (xs : Vec Ideal S3x1x512 .f32)
    (xa : Vec Ideal S3x128x512 .f32) : Vec Ideal S3x128x512 .f32 :=
  fun y => Chain.stepSum (sc x0 x1 (y 0) (y 2)) (fun k => x2 (ix2 ⟨(y 0).val * 144 + (y 1).val, by
    have : (y 0).val < 3 := (y 0).isLt; have : (y 1).val < 128 := (y 1).isLt; omega⟩ k)) (xs (ix3 (y 0) 0 (y 2))) (xa y)

/-- Every point but the first of a run takes one step of the running maximum, -/
theorem step0 (c : Dev nD) (t : Fin cfg0.N) (h0 : ¬t.val % 8 = 0) (y : S3x1x512.Idx) :
   (outsAt0 m c t.val t.isLt).2.1 y = G0 (iblk m c 0 t) (iblk m c 1 t) (outsAt0 m c (t.val - 1) (Nat.lt_of_le_of_lt (Nat.sub_le _ _) t.isLt)).2.1 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (outsAt0 m c (t.val - 1) _).2.1 = xs
    clear h0 h1
    canon_tiles x h
  all_goals
    refine (Chain.mStore_apply (Chain.scores 256 (by decide) (by decide) _ _) _ (x 0) (x 1) (x 2)).trans ?_
    refine congrArg₂ Chain.stepMax (funext fun k => (Chain.scores_apply _ _ _ _ _ k (x 2)).trans
      (Finset.sum_congr rfl fun e _ => congrArg₂ (· * ·) (congrArg x1 ?_) (congrArg x0 ?_))) (congrArg xs ?_)
    all_goals
      funext a
      apply Fin.ext
      fin_cases a <;> simp [Rect.idx_unit_val, h0, h1, h2] <;> omega

/-- of the sum of the weights, -/
theorem step1 (c : Dev nD) (t : Fin cfg0.N) (h0 : ¬t.val % 8 = 0) (y : S3x1x512.Idx) :
   (outsAt0 m c t.val t.isLt).2.2.1 y = G1 (iblk m c 0 t) (iblk m c 1 t) (iblk m c 2 t) (outsAt0 m c (t.val - 1) (Nat.lt_of_le_of_lt (Nat.sub_le _ _) t.isLt)).2.1
     (outsAt0 m c (t.val - 1) (Nat.lt_of_le_of_lt (Nat.sub_le _ _) t.isLt)).2.2.1 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (iblk m c 2 t) = x2
    generalize (outsAt0 m c (t.val - 1) _).2.1 = xs
    generalize (outsAt0 m c (t.val - 1) _).2.2.1 = xl
    clear h0 h1
    canon_tiles x h
  all_goals
    refine (Chain.lStore_apply (Chain.scores 256 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg xs ?_)) (congrArg xl ?_)
    all_goals
      funext a
      apply Fin.ext
      fin_cases a <;> simp [Rect.idx_unit_val, h0, h1, h2] <;> omega

/-- and of the weighted values. -/
theorem step2 (c : Dev nD) (t : Fin cfg0.N) (h0 : ¬t.val % 8 = 0) (y : S3x128x512.Idx) :
   (outsAt0 m c t.val t.isLt).2.2.2 y = G2 (iblk m c 0 t) (iblk m c 1 t) (iblk m c 2 t) (outsAt0 m c (t.val - 1) (Nat.lt_of_le_of_lt (Nat.sub_le _ _) t.isLt)).2.1
     (outsAt0 m c (t.val - 1) (Nat.lt_of_le_of_lt (Nat.sub_le _ _) t.isLt)).2.2.2 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (iblk m c 2 t) = x2
    generalize (outsAt0 m c (t.val - 1) _).2.1 = xs
    generalize (outsAt0 m c (t.val - 1) _).2.2.2 = xl
    clear h0 h1
    canon_tiles x h
  all_goals
    refine (Chain.aStore_apply (Chain.scores 256 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg xs ?_)) (congrArg xl ?_)
    all_goals
      funext a
      apply Fin.ext
      fin_cases a <;> simp [Rect.idx_unit_val, h0, h1, h2] <;> omega

/-- The constants a run starts from. -/
theorem pay5_eq : k0_pay5 (F := Ideal) = fun _ => ⊥ := by
  funext y; unfold k0_pay5; pointwise; exact Chain.bot_bits
theorem pay6_eq : k0_pay6 (F := Ideal) = fun _ => (0 : EReal) := by
  funext y; unfold k0_pay6; pointwise
theorem pay7_eq : k0_pay7 (F := Ideal) = fun _ => (0 : EReal) := by
  funext y; unfold k0_pay7; pointwise

/-- The first point of a run takes the same steps from -infinity and zero: the maximum, -/
theorem reset0 (c : Dev nD) (t : Fin cfg0.N) (h0 : t.val % 8 = 0) (y : S3x1x512.Idx) :
   (outsAt0 m c t.val t.isLt).2.1 y = G0 (iblk m c 0 t) (iblk m c 1 t) (fun _ => ⊥) y := by
  have h1 : ¬t.val % 8 = 7 := by omega
  rw [← pay5_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  clear h0 h1
  canon_tiles x h
  all_goals
    refine (Chain.mStore_apply (Chain.scores 256 (by decide) (by decide) _ _) _ (x 0) (x 1) (x 2)).trans ?_
    refine congrArg₂ Chain.stepMax (funext fun k => (Chain.scores_apply _ _ _ _ _ k (x 2)).trans
      (Finset.sum_congr rfl fun e _ => congrArg₂ (· * ·) (congrArg x1 ?_) (congrArg x0 ?_))) (congrArg k0_pay5 ?_)
    all_goals
      funext a
      apply Fin.ext
      fin_cases a <;> simp [Rect.idx_unit_val, h0, h1, h2] <;> omega

/-- the sum of the weights, -/
theorem reset1 (c : Dev nD) (t : Fin cfg0.N) (h0 : t.val % 8 = 0) (y : S3x1x512.Idx) :
   (outsAt0 m c t.val t.isLt).2.2.1 y = G1 (iblk m c 0 t) (iblk m c 1 t) (iblk m c 2 t) (fun _ => ⊥) (fun _ => 0) y := by
  have h1 : ¬t.val % 8 = 7 := by omega
  rw [← pay5_eq, ← pay6_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  generalize (iblk m c 2 t) = x2
  clear h0 h1
  canon_tiles x h
  all_goals
    refine (Chain.lStore_apply (Chain.scores 256 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg k0_pay5 ?_)) (congrArg k0_pay6 ?_)
    all_goals
      funext a
      apply Fin.ext
      fin_cases a <;> simp [Rect.idx_unit_val, h0, h1, h2] <;> omega

/-- the weighted values. -/
theorem reset2 (c : Dev nD) (t : Fin cfg0.N) (h0 : t.val % 8 = 0) (y : S3x128x512.Idx) :
   (outsAt0 m c t.val t.isLt).2.2.2 y = G2 (iblk m c 0 t) (iblk m c 1 t) (iblk m c 2 t) (fun _ => ⊥) (fun _ => 0) y := by
  have h1 : ¬t.val % 8 = 7 := by omega
  rw [← pay5_eq, ← pay7_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  generalize (iblk m c 2 t) = x2
  clear h0 h1
  canon_tiles x h
  all_goals
    refine (Chain.aStore_apply (Chain.scores 256 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg k0_pay5 ?_)) (congrArg k0_pay7 ?_)
    all_goals
      funext a
      apply Fin.ext
      fin_cases a <;> simp [Rect.idx_unit_val, h0, h1, h2] <;> omega

/-- The last point of a run writes each head's weighted values over its sum of weights, transposed. -/
theorem last (c : Dev nD) (t : Fin cfg0.N) (h1 : t.val % 8 = 7) (y : S512x384.Idx) :
   (outsAt0 m c t.val t.isLt).1 y = Ideal.div
     ((outsAt0 m c t.val t.isLt).2.2.2 (ix3 ⟨(y 1).val / 128, by have : (y 1).val < 384 := (y 1).isLt; omega⟩ ⟨(y 1).val % 128, by omega⟩ (y 0)))
     ((outsAt0 m c t.val t.isLt).2.2.1 (ix3 ⟨(y 1).val / 128, by have : (y 1).val < 384 := (y 1).isLt; omega⟩ 0 (y 0))) := by
  have h0 : ¬t.val % 8 = 0 := by omega
  have e1 : (outsAt0 m c t.val t.isLt).2.2.1 = (outsAt0 m c t.val t.isLt).2.2.1 := rfl
  have e2 : (outsAt0 m c t.val t.isLt).2.2.2 = (outsAt0 m c t.val t.isLt).2.2.2 := rfl
  generalize e1' : (outsAt0 m c t.val t.isLt).2.2.1 = X1 at e1 ⊢
  generalize e2' : (outsAt0 m c t.val t.isLt).2.2.2 = X2 at e2 ⊢
  rw [outsAt0_C m c t h0 h1] at e1' e2' ⊢
  frame_out at e1'
  frame_out at e2'
  frame_out
  simp only [View.readCov_eq_canon', e1', e2']
  clear h0 h1 e1' e2' e1 e2
  canon_tiles x h
  all_goals
    rw [eq_ix2 x]
    unfold_payloads
    refine (Chain.outBf_apply (fun j => X2 _) (fun j => X1 _) (x 0) (x 1)).trans ?_
    refine congrArg₂ Ideal.div (congrArg X2 ?_) (congrArg X1 ?_)
    all_goals
      funext a
      apply Fin.ext
      fin_cases a <;> simp [Rect.idx_unit_val, h0, h1] <;> omega

end Cert.KernelBIdeal.Step
end
-- ==== Proof.StateB.lean ====
/- The latent attention's scratch after every grid point: the greatest score, the sum of the weights and the weighted
   values over the keys met so far, of every head and query position; and what the call writes out. -/
module

public import proofs.«01_k».proof.Proof.StepB
public import Idealize.ShloMosaic.Lib.Pipeline.ValueKit.Geometry

@[expose] public section
set_option maxRecDepth 16384
noncomputable section
namespace Cert.KernelBIdeal.State
open Idealize.ShloMosaic Idealize.SL Idealize.SL.Sem
open Cert.KernelBIdeal Cert.KernelBIdeal.Gen Cert.KernelBIdeal.Value Cert.KernelBIdeal.Step
open scoped BigOperators

variable (m : (ℓ : Loc nD τ sig) → Buf (Elt Ideal) ℓ) (c : Dev nD)

/-- The queries, the keys and the values (each head's 128 rows and 16 rows of ones) as the call finds them. -/
def Q : Vec Ideal S24576x1536 .bf16 := V m c main_v9
def K : Vec Ideal S24576x1536 .bf16 := V m c main_v14
def W : Vec Ideal S864x24576 .bf16 := V m c main_v19

/-- The key position `k` of the prompt. -/
def row (k : ℕ) : Fin 24576 := ⟨k % 24576, Nat.mod_lt _ (by decide)⟩

/-- The base-2 score of head `h` at query position `q` and key position `k`. -/
def S (h q k : ℕ) : EReal :=
  ∑ e : Fin 256, K m c (ix2 (row k) ⟨h % 6 * 256 + e.val, by omega⟩) * Q m c (ix2 (row q) ⟨h % 6 * 256 + e.val, by omega⟩)

/-- Row `r` of head `h` of the values at key position `k`. -/
def val (h r k : ℕ) : EReal := W m c (ix2 ⟨h % 6 * 144 + r % 144, by omega⟩ (row k))

/-- The printed index maps, decided over the grid. -/
theorem idx0 : ∀ t : Fin cfg0.N, win0_0.index t = ![t.val / 8 % 16, t.val / 128] := (by decide +kernel : ∀ t : Fin grid0.N, win0_0.index t = ![t.val / 8 % 16, t.val / 128])
theorem idx1 : ∀ t : Fin cfg0.N, win0_1.index t = ![t.val % 8, t.val / 128] := (by decide +kernel : ∀ t : Fin grid0.N, win0_1.index t = ![t.val % 8, t.val / 128])
theorem idx2 : ∀ t : Fin cfg0.N, win0_2.index t = ![t.val / 128, t.val % 8] := (by decide +kernel : ∀ t : Fin grid0.N, win0_2.index t = ![t.val / 128, t.val % 8])

theorem lt256 (t : Fin cfg0.N) : t.val < 256 := lt_of_lt_of_eq t.isLt N_0

/-- A point's query block holds its query positions, of its three heads; -/
theorem block_query (t : Fin cfg0.N) (p : Fin 512) (i : Fin 768) :
    (iblk m c 0 t : Vec Ideal S512x768 .bf16) (ix2 p i)
      = Q m c (ix2 (row (512 * (t.val / 8 % 16) + p.val)) ⟨(768 * (t.val / 128) + i.val) % 1536, by omega⟩) := by
  have ht := lt256 t
  show V m c main_v9 _ = V m c main_v9 _
  refine congrArg (V m c main_v9) ?_
  blk_ext [idx0 t, row]

/-- its key block its key positions, of the same heads. -/
theorem block_key (t : Fin cfg0.N) (k : Fin 1024) (i : Fin 768) :
    (iblk m c 1 t : Vec Ideal S1024x768 .bf16) (ix2 k i)
      = K m c (ix2 (row (1024 * (t.val % 8) + k.val)) ⟨(768 * (t.val / 128) + i.val) % 1536, by omega⟩) := by
  have ht := lt256 t
  show V m c main_v14 _ = V m c main_v14 _
  refine congrArg (V m c main_v14) ?_
  blk_ext [idx1 t, row]

/-- The scores of a point's blocks are those of its heads, its query positions and its key positions. -/
theorem block_score (t : Fin cfg0.N) (a : Fin 3) (p : Fin 512) :
    sc (iblk m c 0 t) (iblk m c 1 t) a p
      = fun k : Fin 1024 => S m c (3 * (t.val / 128) + a.val) (512 * (t.val / 8 % 16) + p.val) (1024 * (t.val % 8) + k.val) := by
  have ht := lt256 t
  funext k
  refine Finset.sum_congr rfl fun e _ => congrArg₂ (· * ·) ((block_key m c t k _).trans ?_) ((block_query m c t p _).trans ?_)
  all_goals
    congr 2
    apply Fin.ext
    dsimp only
    omega

/-- The values of a point's block are those of its heads at its key positions. -/
theorem block_val (t : Fin cfg0.N) (i : Fin 432) (k : Fin 1024) :
    (iblk m c 2 t : Vec Ideal S432x1024 .bf16) (ix2 i k) = val m c (3 * (t.val / 128) + i.val / 144) (i.val % 144) (1024 * (t.val % 8) + k.val) := by
  have ht := lt256 t
  show V m c main_v19 _ = V m c main_v19 _
  refine congrArg (V m c main_v19) ?_
  blk_ext [idx2 t, row]

/-- The head of row `a` of a point's scratch, and the query position of its column `p`. -/
def hd (n a : ℕ) : ℕ := 3 * (n / 128) + a
def qp (n p : ℕ) : ℕ := 512 * (n / 8 % 16) + p

/-- A point's step carries the running maximum from the keys before its block to those up to its end; -/
theorem next0 (t : Fin cfg0.N) (xs : Vec Ideal S3x1x512 .f32)
    (hs : ∀ y, xs y = Softmax.top (S m c (hd t.val (y 0).val) (qp t.val (y 2).val)) (1024 * (t.val % 8))) (y : S3x1x512.Idx) :
    G0 (iblk m c 0 t) (iblk m c 1 t) xs y
      = Softmax.top (S m c (hd t.val (y 0).val) (qp t.val (y 2).val)) (1024 * (t.val % 8) + 1024) := by
  exact (congrArg₂ Chain.stepMax (block_score m c t (y 0) (y 2)) (hs y)).trans (Chain.stepMax_top _ _)

variable (hS : ∀ h q, ∃ s : ℕ → ℝ, ∀ k, S m c h q k = (s k : EReal))
include hS

/-- likewise the sum of the weights -/
theorem next1 (t : Fin cfg0.N) (xs xl : Vec Ideal S3x1x512 .f32)
    (hs : ∀ y, xs y = Softmax.top (S m c (hd t.val (y 0).val) (qp t.val (y 2).val)) (1024 * (t.val % 8)))
    (hl : ∀ y, xl y = Softmax.acc (S m c (hd t.val (y 0).val) (qp t.val (y 2).val)) (val m c (hd t.val (y 0).val) 128) (1024 * (t.val % 8)))
    (y : S3x1x512.Idx) :
    G1 (iblk m c 0 t) (iblk m c 1 t) (iblk m c 2 t) xs xl y
      = Softmax.acc (S m c (hd t.val (y 0).val) (qp t.val (y 2).val)) (val m c (hd t.val (y 0).val) 128) (1024 * (t.val % 8) + 1024) := by
  unfold G1
  refine Eq.trans (congr (congr (congrArg₂ Chain.stepSum (block_score m c t (y 0) (y 2)) (funext fun k => ?_)) (hs y)) (hl y))
    (Chain.stepSum_acc _ (val m c (hd t.val (y 0).val) 128) (hS _ _) _)
  refine (block_val m c t _ k).trans ?_
  dsimp only [hd]
  have hy : (y 0).val < 3 := (y 0).isLt
  congr 1 <;> omega

/-- and the weighted values. -/
theorem next2 (t : Fin cfg0.N) (xs : Vec Ideal S3x1x512 .f32) (xa : Vec Ideal S3x128x512 .f32)
    (hs : ∀ y, xs y = Softmax.top (S m c (hd t.val (y 0).val) (qp t.val (y 2).val)) (1024 * (t.val % 8)))
    (ha : ∀ y, xa y = Softmax.acc (S m c (hd t.val (y 0).val) (qp t.val (y 2).val)) (val m c (hd t.val (y 0).val) (y 1).val) (1024 * (t.val % 8)))
    (y : S3x128x512.Idx) :
    G2 (iblk m c 0 t) (iblk m c 1 t) (iblk m c 2 t) xs xa y
      = Softmax.acc (S m c (hd t.val (y 0).val) (qp t.val (y 2).val)) (val m c (hd t.val (y 0).val) (y 1).val) (1024 * (t.val % 8) + 1024) := by
  unfold G2
  refine Eq.trans (congr (congr (congrArg₂ Chain.stepSum (block_score m c t (y 0) (y 2)) (funext fun k => ?_)) (hs (ix3 (y 0) 0 (y 2)))) (ha y))
    (Chain.stepSum_acc _ (val m c (hd t.val (y 0).val) (y 1).val) (hS _ _) _)
  refine (block_val m c t _ k).trans ?_
  dsimp only [hd]
  have hy : (y 0).val < 3 := (y 0).isLt
  have hy1 : (y 1).val < 128 := (y 1).isLt
  congr 1 <;> omega

/-- The scratch after every point: the maximum, the sum of the weights and the weighted values over the keys up to the
    end of the point's block. -/
theorem state : ∀ n (hn : n < cfg0.N),
    (∀ y, (outsAt0 m c n hn).2.1 y = Softmax.top (S m c (hd n (y 0).val) (qp n (y 2).val)) (1024 * (n % 8) + 1024))
    ∧ (∀ y, (outsAt0 m c n hn).2.2.1 y
        = Softmax.acc (S m c (hd n (y 0).val) (qp n (y 2).val)) (val m c (hd n (y 0).val) 128) (1024 * (n % 8) + 1024))
    ∧ (∀ y, (outsAt0 m c n hn).2.2.2 y
        = Softmax.acc (S m c (hd n (y 0).val) (qp n (y 2).val)) (val m c (hd n (y 0).val) (y 1).val) (1024 * (n % 8) + 1024)) := by
  intro n
  induction n with
  | zero =>
    intro hn
    refine ⟨fun y => ?_, fun y => ?_, fun y => ?_⟩
    · rw [reset0 m c ⟨0, hn⟩ rfl y]
      exact next0 m c ⟨0, hn⟩ _ (fun _ => rfl) y
    · rw [reset1 m c ⟨0, hn⟩ rfl y]
      exact next1 m c hS ⟨0, hn⟩ _ _ (fun _ => rfl) (fun _ => rfl) y
    · rw [reset2 m c ⟨0, hn⟩ rfl y]
      exact next2 m c hS ⟨0, hn⟩ _ _ (fun _ => rfl) (fun _ => rfl) y
  | succ n ih =>
    intro hn
    by_cases h0 : (n + 1) % 8 = 0
    · refine ⟨fun y => ?_, fun y => ?_, fun y => ?_⟩
      · rw [reset0 m c ⟨n + 1, hn⟩ h0 y]
        exact next0 m c ⟨n + 1, hn⟩ _ (fun _ => by rw [h0]; rfl) y
      · rw [reset1 m c ⟨n + 1, hn⟩ h0 y]
        exact next1 m c hS ⟨n + 1, hn⟩ _ _ (fun _ => by rw [h0]; rfl) (fun _ => by rw [h0]; rfl) y
      · rw [reset2 m c ⟨n + 1, hn⟩ h0 y]
        exact next2 m c hS ⟨n + 1, hn⟩ _ _ (fun _ => by rw [h0]; rfl) (fun _ => by rw [h0]; rfl) y
    · obtain ⟨i0, i1, i2⟩ := ih (by omega)
      have ek : 1024 * (n % 8) + 1024 = 1024 * ((n + 1) % 8) := by omega
      have eh : ∀ a, hd n a = hd (n + 1) a := fun a => by unfold hd; omega
      have eq : ∀ p, qp n p = qp (n + 1) p := fun p => by unfold qp; omega
      simp only [ek, eh, eq] at i0 i1 i2
      refine ⟨fun y => ?_, fun y => ?_, fun y => ?_⟩
      · rw [step0 m c ⟨n + 1, hn⟩ h0 y]
        exact next0 m c ⟨n + 1, hn⟩ _ i0 y
      · rw [step1 m c ⟨n + 1, hn⟩ h0 y]
        exact next1 m c hS ⟨n + 1, hn⟩ _ _ i0 i1 y
      · rw [step2 m c ⟨n + 1, hn⟩ h0 y]
        exact next2 m c hS ⟨n + 1, hn⟩ _ _ i0 i2 y

/-- What the call writes: at query position `i 0` and column `i 1` the weighted values of the column's head over its sum
    of weights, over all 8192 keys. -/
theorem written (i : S8192x768.Idx) :
    G3 m c i = Ideal.div
      (Softmax.acc (S m c ((i 1).val / 128) (i 0).val) (val m c ((i 1).val / 128) ((i 1).val % 128)) 8192)
      (Softmax.acc (S m c ((i 1).val / 128) (i 0).val) (val m c ((i 1).val / 128) 128) 8192) := by
  have hi0 : (i 0).val < 8192 := (i 0).isLt
  have hi1 : (i 1).val < 768 := (i 1).isLt
  have hp : pt3Of i < 256 := by unfold pt3Of run3Of; omega
  have hN : pt3Of i < cfg0.N := lt_of_lt_of_eq hp N_0.symm
  have e : G3 m c i = (outsAt0 m c (pt3Of i) hN).1 (loc3Of i) := by
    unfold G3
    rw [dif_pos hN, ← outsAt0_sweep]
  have h7 : pt3Of i % 8 = 7 := by unfold pt3Of; omega
  obtain ⟨_, s1, s2⟩ := state m c hS (pt3Of i) hN
  rw [e, last m c ⟨pt3Of i, hN⟩ h7, s1, s2, h7]
  have e0 : (loc3Of i 0).val = (i 0).val % 512 := rfl
  have e1 : (loc3Of i 1).val = (i 1).val % 384 := rfl
  have eh : hd (pt3Of i) ((loc3Of i 1).val / 128) = (i 1).val / 128 := by rw [e1]; unfold hd pt3Of run3Of; omega
  have eq : qp (pt3Of i) (loc3Of i 0).val = (i 0).val := by rw [e0]; unfold qp pt3Of run3Of; omega
  have er : (loc3Of i 1).val % 128 = (i 1).val % 128 := by rw [e1]; omega
  show Ideal.div (Softmax.acc (S m c (hd (pt3Of i) ((loc3Of i 1).val / 128)) (qp (pt3Of i) (loc3Of i 0).val)) (val m c (hd (pt3Of i) ((loc3Of i 1).val / 128)) ((loc3Of i 1).val % 128)) _)
    (Softmax.acc (S m c (hd (pt3Of i) ((loc3Of i 1).val / 128)) (qp (pt3Of i) (loc3Of i 0).val)) (val m c (hd (pt3Of i) ((loc3Of i 1).val / 128)) 128) _) = _
  rw [eh, eq, er]

end Cert.KernelBIdeal.State
end
-- ==== Proof.HostB.lean ====
/- The host code before the latent attention, read at an index, and the base-2 scores it leads to. -/
module

public import proofs.«01_k».proof.Proof.StateB
public import proofs.«01_k».proof.Proof.Attend
public import Idealize.ShloMosaic.Lib.Claim

@[expose] public section
set_option maxRecDepth 16384
noncomputable section
namespace Cert.KernelBIdeal.Host
open Idealize.ShloMosaic Idealize.SL Idealize.SL.Sem
open Cert.KernelBIdeal Cert.KernelBIdeal.Gen Cert.KernelBIdeal.State
open scoped BigOperators

variable (m : (ℓ : Loc nD τ sig) → Buf (Elt Ideal) ℓ) (c : Dev nD)

/-- The queries as the host code lays them out: the two parts and 64 zeros, scaled. -/
def vq : Vec Ideal S24576x1536 .bf16 := shapeCast S24576x1536 (truncf (F := Ideal) .bf16 (mulf (concatenate S24576x6x256 2 [⟨S24576x6x128, (m (c, Proc.tc.devRef main_arg0) : Vec Ideal S24576x6x128 .f32)⟩, ⟨S24576x6x64, (m (c, Proc.tc.devRef main_arg1) : Vec Ideal S24576x6x64 .f32)⟩, ⟨S24576x6x64, (broadcastInDim S24576x6x64 ![] bcast_S_S24576x6x64 (constant (F := Ideal) S_ .f32 0x00000000#32) : Vec Ideal S24576x6x64 .f32)⟩] concatenates_S24576x6x128_S24576x6x64_S24576x6x64_S24576x6x256_d2)
   (broadcastInDim S24576x6x256 ![] bcast_S_S24576x6x256 (Host.divf (constant (F := Ideal) S_ .f32 0x3F800000#32) (mulf (Host.sqrt (constant (F := Ideal) S_ .f32 0x43400000#32)) (Host.log (constant (F := Ideal) S_ .f32 0x40000000#32)))))) bitsLt_bf16_f32) shapeCasts_S24576x6x256_S24576x1536
theorem v9 : V m c main_v9 = vq m c := by rfl
/-- The keys: the head's part, the shared rotary part and 64 zeros. -/
def vk : Vec Ideal S24576x1536 .bf16 := shapeCast S24576x1536 (truncf (F := Ideal) .bf16 (concatenate S24576x6x256 2 [⟨S24576x6x128, (m (c, Proc.tc.devRef main_arg2) : Vec Ideal S24576x6x128 .f32)⟩, ⟨S24576x6x64, (broadcastInDim S24576x6x64 ![0, 1, 2] bcast_S24576x1x64_S24576x6x64_0_1_2 (broadcastInDim S24576x1x64 ![0, 2] bcast_S24576x64_S24576x1x64_0_2 (m (c, Proc.tc.devRef main_arg3))) : Vec Ideal S24576x6x64 .f32)⟩, ⟨S24576x6x64, (broadcastInDim S24576x6x64 ![] bcast_S_S24576x6x64 (constant (F := Ideal) S_ .f32 0x00000000#32) : Vec Ideal S24576x6x64 .f32)⟩] concatenates_S24576x6x128_S24576x6x64_S24576x6x64_S24576x6x256_d2) bitsLt_bf16_f32) shapeCasts_S24576x6x256_S24576x1536
theorem v14 : V m c main_v14 = vk m c := by rfl

/-- The argument arrays. -/
def a0 : Vec Ideal S24576x6x128 .f32 := m ((c.tc : Thread nD τ).loc main_arg0)
def a1 : Vec Ideal S24576x6x64 .f32 := m ((c.tc : Thread nD τ).loc main_arg1)
def a2 : Vec Ideal S24576x6x128 .f32 := m ((c.tc : Thread nD τ).loc main_arg2)
def a3 : Vec Ideal S24576x64 .f32 := m ((c.tc : Thread nD τ).loc main_arg3)
def a4 : Vec Ideal S24576x6x128 .f32 := m ((c.tc : Thread nD τ).loc main_arg4)

/-- The scale the host code puts on the queries. -/
def σ : ℝ := 1 / (√192 * Real.log 2)

/-- A query's entry, by its place in the head's 256 columns; -/
theorem query (i : Fin 24576) (h : Fin 6) (e : ℕ) (he : e < 256) :
    Q m c (ix2 i ⟨h.val * 256 + e, by omega⟩) = (if h1 : e < 128 then a0 m c (ix3 i h ⟨e, h1⟩) else
      if h2 : e - 128 < 64 then a1 m c (ix3 i h ⟨e - 128, h2⟩) else 0) * (σ : EReal) := by
  have e1 : (h.val * 256 + e) % 256 = e := by omega
  have e2 : (h.val * 256 + e) / 256 = h.val := by omega
  unfold Q
  rw [v9]
  unfold vq
  pointwise
  simp only [e1, e2, Attend.bits_192, Attend.bits_2]
  rw [Attend.scale_2 (by norm_num)]
  rfl

/-- a key's entry likewise; -/
theorem key (i : Fin 24576) (h : Fin 6) (e : ℕ) (he : e < 256) :
    K m c (ix2 i ⟨h.val * 256 + e, by omega⟩) = if h1 : e < 128 then a2 m c (ix3 i h ⟨e, h1⟩) else
      if h2 : e - 128 < 64 then a3 m c (ix2 i ⟨e - 128, h2⟩) else 0 := by
  have e1 : (h.val * 256 + e) % 256 = e := by omega
  have e2 : (h.val * 256 + e) / 256 = h.val := by omega
  unfold K
  rw [v14]
  unfold vk
  pointwise
  simp only [e1, e2]
  rfl

/-- a value's entry, and the ones below each head's values. -/
theorem value (i : Fin 24576) (h : Fin 6) (r : ℕ) (hr : r < 144) :
    W m c (ix2 ⟨h.val * 144 + r, by omega⟩ i) = if h1 : r < 128 then a4 m c (ix3 i h ⟨r, h1⟩) else 1 := by
  have e1 : (h.val * 144 + r) % 144 = r := by omega
  have e2 : (h.val * 144 + r) / 144 = h.val := by omega
  unfold W
  entry_read
  pointwise
  simp only [e1, e2]
  rfl

/-- The product of a query and a key, of reals, by the two parts of their columns. -/
def raw (qn : S24576x6x128.Idx → ℝ) (qp : S24576x6x64.Idx → ℝ) (kn : S24576x6x128.Idx → ℝ) (kp : S24576x64.Idx → ℝ)
    (h : Fin 6) (q k : Fin 24576) : ℝ :=
  ∑ e : Fin 128, qn (ix3 q h e) * kn (ix3 k h e) + ∑ e : Fin 64, kp (ix2 k e) * qp (ix3 q h e)

/-- The base-2 scores of the laid-out arrays are the scaled products: the zeros add nothing. -/
theorem score (qn : S24576x6x128.Idx → ℝ) (qp : S24576x6x64.Idx → ℝ) (kn : S24576x6x128.Idx → ℝ) (kp : S24576x64.Idx → ℝ)
    (h0 : ∀ i, a0 m c i = qn i) (h1 : ∀ i, a1 m c i = qp i) (h2 : ∀ i, a2 m c i = kn i) (h3 : ∀ i, a3 m c i = kp i) (h q k : ℕ) :
    S m c h q k = ((raw qn qp kn kp ⟨h % 6, Nat.mod_lt _ (by decide)⟩ (row q) (row k) * σ : ℝ) : EReal) := by
  have hs : ∀ f : Fin (128 + 64 + 64) → EReal, ∑ e, f e = (∑ e, f (Fin.castAdd 64 (Fin.castAdd 64 e)) + ∑ e, f (Fin.castAdd 64 (Fin.natAdd 128 e))) + ∑ e, f (Fin.natAdd (128 + 64) e) :=
    fun f => by rw [Fin.sum_univ_add, Fin.sum_univ_add]
  unfold S
  refine (Finset.sum_congr rfl fun e _ => congrArg₂ (· * ·) (key m c (row k) ⟨h % 6, Nat.mod_lt _ (by decide)⟩ e.val e.isLt)
    (query m c (row q) ⟨h % 6, Nat.mod_lt _ (by decide)⟩ e.val e.isLt)).trans ?_
  refine (hs _).trans ?_
  unfold raw
  rw [add_mul, Finset.sum_mul, Finset.sum_mul, EReal.coe_add, ← Softmax.coe_sum, ← Softmax.coe_sum]
  refine (congrArg₂ (· + ·) (congrArg₂ (· + ·) (Finset.sum_congr rfl fun e _ => ?_) (Finset.sum_congr rfl fun e _ => ?_))
    (Finset.sum_eq_zero fun e _ => ?_)).trans (add_zero _)
  · have he : e.val < 128 := e.isLt
    simp only [Fin.val_castAdd, dif_pos he, h0, h2, ← EReal.coe_mul]
    congr 1
    ring
  · have he : ¬128 + e.val < 128 := by omega
    have he' : 128 + e.val - 128 < 64 := by omega
    simp only [Fin.val_castAdd, Fin.val_natAdd, dif_neg he, dif_pos he', h1, h3, ← EReal.coe_mul]
    have ee : (⟨128 + e.val - 128, he'⟩ : Fin 64) = e := Fin.ext (by simp)
    rw [ee]
    congr 1
    ring
  · have he : ¬128 + 64 + e.val < 128 := by omega
    have he' : ¬128 + 64 + e.val - 128 < 64 := by omega
    simp only [Fin.val_natAdd, dif_neg he, dif_neg he', zero_mul]

end Cert.KernelBIdeal.Host
end
-- ==== Proof.RefB.lean ====
/- The latent attention's reference, read at an index. -/
module

public import proofs.«01_k».proof.Proof.Gen.ReferenceBIdeal.Run
public import proofs.«01_k».proof.Proof.Attend

@[expose] public section
set_option maxRecDepth 16384
noncomputable section
namespace Cert.ReferenceBIdeal.Read
open Idealize.ShloMosaic Idealize.SL Idealize.SL.Sem
open Cert.ReferenceBIdeal Cert.ReferenceBIdeal.Gen
open scoped BigOperators

variable (m : (ℓ : Loc nD τ sig) → Buf (Elt Ideal) ℓ) (c : Dev nD)

/-- The argument arrays. -/
def a0 : FVec Ideal S24576x6x128 .f32 := m ((c.tc : Thread nD τ).loc main_arg0)
def a1 : FVec Ideal S24576x6x64 .f32 := m ((c.tc : Thread nD τ).loc main_arg1)
def a2 : FVec Ideal S24576x6x128 .f32 := m ((c.tc : Thread nD τ).loc main_arg2)
def a3 : FVec Ideal S24576x64 .f32 := m ((c.tc : Thread nD τ).loc main_arg3)
def a4 : FVec Ideal S24576x6x128 .f32 := m ((c.tc : Thread nD τ).loc main_arg4)

/-- The scores, -/
def scores (a0 : FVec Ideal S24576x6x128 .f32) (a1 : FVec Ideal S24576x6x64 .f32) (a2 : FVec Ideal S24576x6x128 .f32) (a3 : FVec Ideal S24576x64 .f32) :
    FVec Ideal S6x8192x8192 .f32 :=
  mulf (addf (Host.dotGeneral (F := Ideal) dot_S8192x6x128_S8192x6x128_S6x8192x8192_2_2_0_0_1_1 none (extractStridedSlice S8192x6x128 ![0, 0, 0] a0 slices_S24576x6x128_S8192x6x128_0_0_0)
      (extractStridedSlice S8192x6x128 ![0, 0, 0] a2 slices_S24576x6x128_S8192x6x128_0_0_0))
    (transpose S6x8192x8192 [2, 1, 0] (Host.dotGeneral (F := Ideal) dot_S8192x64_S8192x6x64_S8192x8192x6_1_2_0_01_n_n none (extractStridedSlice S8192x64 ![0, 0] a3 slices_S24576x64_S8192x64_0_0)
      (extractStridedSlice S8192x6x64 ![0, 0, 0] a1 slices_S24576x6x64_S8192x6x64_0_0_0)) transposes_S8192x8192x6_S6x8192x8192_2_1_0))
    (broadcastInDim S6x8192x8192 ![] bcast_S_S6x8192x8192 (Host.divf (constant (F := Ideal) S_ .f32 0x3F800000#32) (Host.sqrt (constant (F := Ideal) S_ .f32 0x43400000#32))))

/-- their greatest over the keys, -/
def greatest (s : FVec Ideal S6x8192x8192 .f32) : FVec Ideal S6x8192 .f32 :=
  maximumf (broadcastInDim S6x8192 ![] bcast_S_S6x8192 (constant (F := Ideal) S_ .f32 0xFF800000#32))
    (Host.reduce FloatOps.maximumf s (constant (F := Ideal) S_ .f32 0xFF800000#32) reducesTo_S6x8192x8192_S6x8192_d2 h_S_)

/-- one number per head and query, along the keys, -/
def along (r : FVec Ideal S6x8192 .f32) : FVec Ideal S6x8192x8192 .f32 :=
  broadcastInDim S6x8192x8192 ![0, 1, 2] bcast_S6x8192x1_S6x8192x8192_0_1_2 (broadcastInDim S6x8192x1 ![0, 1] bcast_S6x8192_S6x8192x1_0_1 r)

/-- the sum over the keys, -/
def total (w : FVec Ideal S6x8192x8192 .f32) : FVec Ideal S6x8192 .f32 :=
  Host.reduceAdd w (constant (F := Ideal) S_ .f32 0x00000000#32) reducesTo_S6x8192x8192_S6x8192_d2 h_S_

/-- and the values weighted. -/
def weighted (a4 : FVec Ideal S24576x6x128 .f32) (p : FVec Ideal S6x8192x8192 .f32) : FVec Ideal S6x128x8192 .f32 :=
  Host.dotGeneral (F := Ideal) dot_S8192x6x128_S6x8192x8192_S6x128x8192_0_2_2_1_1_0 none (extractStridedSlice S8192x6x128 ![0, 0, 0] a4 slices_S24576x6x128_S8192x6x128_0_0_0) p

theorem scores_apply (a0 : FVec Ideal S24576x6x128 .f32) (a1 : FVec Ideal S24576x6x64 .f32) (a2 : FVec Ideal S24576x6x128 .f32) (a3 : FVec Ideal S24576x64 .f32) (h : Fin 6) (q k : Fin 8192) : scores a0 a1 a2 a3 (ix3 h q k)
    = (∑ e : Fin 128, a0 (ix3 ⟨q.val, by omega⟩ h e) * a2 (ix3 ⟨k.val, by omega⟩ h e)
      + ∑ e : Fin 64, a3 (ix2 ⟨k.val, by omega⟩ e) * a1 (ix3 ⟨q.val, by omega⟩ h e)) * ((1 / √192 : ℝ) : EReal) := by
  unfold scores
  pointwise
  simp only [Attend.bits_192, Attend.scale_e (d := 192) (by norm_num)]

theorem along_apply (r) (h : Fin 6) (q k : Fin 8192) : along r (ix3 h q k) = r (ix2 h q) := by
  unfold along
  pointwise

theorem total_apply (s) (h : Fin 6) (q : Fin 8192) : total s (ix2 h q) = ∑ k, s (ix3 h q k) := by
  unfold total
  pointwise

theorem weighted_apply (a4 p) (h : Fin 6) (d : Fin 128) (q : Fin 8192) : weighted a4 p (ix3 h d q) = ∑ k : Fin 8192, a4 (ix3 ⟨k.val, by omega⟩ h d) * p (ix3 h q k) := by
  unfold weighted
  pointwise

theorem lift_at (hr : S6x8192x8192.Reduces [2] S6x8192) (h : Fin 6) (q k : Fin 8192) : hr.lift (ix2 h q) (k.cast rfl) = ix3 h q k := by
  funext b
  apply Fin.ext
  rw [Shape.Reduces.lift_val]
  fin_cases b <;> rfl

theorem greatest_apply (s) (h : Fin 6) (q : Fin 8192) : greatest s (ix2 h q) = max ⊥ (Finset.univ.fold max ⊥ fun k : Fin 8192 => s (ix3 h q k)) := by
  unfold greatest
  exact Attend.greatest (a := 2) (n := 8192) rfl s _ _ _ (by decide) _ (ix2 h q) (fun k => ix3 h q k) (lift_at _ h q)

/-- The reference's result is these, put together. -/
theorem result_eq : Value.res_main_v27 m c
    = truncf (F := Ideal) .bf16 (shapeCast _ (transpose S8192x6x128 [2, 0, 1] (weighted (a4 m c)
        (Host.divf (Host.exp (subf (scores (a0 m c) (a1 m c) (a2 m c) (a3 m c)) (along (greatest (scores (a0 m c) (a1 m c) (a2 m c) (a3 m c))))))
          (along (total (Host.exp (subf (scores (a0 m c) (a1 m c) (a2 m c) (a3 m c)) (along (greatest (scores (a0 m c) (a1 m c) (a2 m c) (a3 m c))))))))))
        transposes_S6x128x8192_S8192x6x128_2_0_1) shapeCasts_S8192x6x128_S8192x768) bitsLt_bf16_f32 := by
  unfold Value.res_main_v27 weighted total along greatest scores a0 a1 a2 a3 a4
  rfl

/-- The softmax of an array of scores, weighting the values, at an index. -/
theorem soft_apply (a4 : FVec Ideal S24576x6x128 .f32) (s : FVec Ideal S6x8192x8192 .f32) (h : Fin 6) (d : Fin 128) (q : Fin 8192) :
    weighted a4 (Host.divf (Host.exp (subf s (along (greatest s)))) (along (total (Host.exp (subf s (along (greatest s))))))) (ix3 h d q)
      = Attend.soft (fun k => s (ix3 h q k)) fun k : Fin 8192 => a4 (ix3 ⟨k.val, by omega⟩ h d) := by
  have e : ∀ k, Host.exp (subf s (along (greatest s))) (ix3 h q k)
      = Ideal.exp (s (ix3 h q k) - max ⊥ (Finset.univ.fold max ⊥ fun k : Fin 8192 => s (ix3 h q k))) := fun k => by
    rw [← greatest_apply, ← along_apply (greatest s) h q k]
    rfl
  rw [weighted_apply]
  refine Finset.sum_congr rfl fun k _ => congrArg _ ?_
  refine congrArg₂ Ideal.div (e k) ?_
  rw [along_apply, total_apply]
  exact Finset.sum_congr rfl fun j _ => e j

/-- The reference's result at an index: the head's values weighted by the softmax of its scores. -/
theorem result (i : S8192x768.Idx) (q : Fin 8192) (h : Fin 6) (d : Fin 128) (hq : (i 0).val = q.val) (hh : (i 1).val / 128 = h.val) (hd : (i 1).val % 128 = d.val) :
    Value.res_main_v27 m c i
      = Attend.soft (fun k => scores (a0 m c) (a1 m c) (a2 m c) (a3 m c) (ix3 h q k)) fun k : Fin 8192 => a4 m c (ix3 ⟨k.val, by omega⟩ h d) := by
  rw [result_eq]
  refine Eq.trans ?_ (soft_apply (a4 m c) (scores (a0 m c) (a1 m c) (a2 m c) (a3 m c)) h d q)
  generalize weighted (a4 m c) _ = w
  pointwise
  refine congrArg w ?_
  funext b
  apply Fin.ext
  fin_cases b
  · exact hh
  · exact hd
  · exact hq

end Cert.ReferenceBIdeal.Read
end
-- ==== Proof.TieB.lean ====
/- The latent attention's kernel and its reference end with the same array. -/
module

public import proofs.«01_k».proof.Defs
public import proofs.«01_k».proof.Proof.HostB
public import proofs.«01_k».proof.Proof.RefB
public import proofs.«01_k».proof.Proof.Gen.Pre_finite_b

@[expose] public section
set_option maxRecDepth 16384
noncomputable section
namespace Cert.TieB
open Idealize.ShloMosaic Idealize.SL Idealize.SL.Sem
open Cert.KernelBIdeal Cert.KernelBIdeal.Gen Cert.KernelBIdeal.Host
open scoped BigOperators

variable (m : (ℓ : Loc nD τ sig) → Buf (Elt Ideal) ℓ) (c : Dev nD)

/-- Under the precondition the queries and the keys are reals. -/
theorem finite (hpre : Pre_KernelBIdeal_finite_b m) :
    (∀ i, ∃ r : ℝ, a0 m c i = r) ∧ (∀ i, ∃ r : ℝ, a1 m c i = r) ∧ (∀ i, ∃ r : ℝ, a2 m c i = r) ∧ (∀ i, ∃ r : ℝ, a3 m c i = r) := by
  have h : Cert.Pre_finite_b.fn (F := Ideal) (a0 m c) (a1 m c) (a2 m c) (a3 m c) (a4 m c) = fun _ => 1#1 := hpre c
  have e := congrFun h (fun a => a.elim0)
  unfold Cert.Pre_finite_b.fn Cert.Pre_finite_b.fn_part1 at e
  obtain ⟨e, e3⟩ := IntOp.andi_eq_one.1 e
  obtain ⟨e, e2⟩ := IntOp.andi_eq_one.1 e
  obtain ⟨e0, e1⟩ := IntOp.andi_eq_one.1 e
  have : Subsingleton (Cert.Pre_finite_b.S_).Idx := ⟨fun a b => funext fun k => k.elim0⟩
  exact ⟨Attend.real_of_finite _ _ _ _ _ _ _ e0, Attend.real_of_finite _ _ _ _ _ _ _ e1, Attend.real_of_finite _ _ _ _ _ _ _ e2,
    Attend.real_of_finite _ _ _ _ _ _ _ e3⟩

/-- The call's result is the reference's, on arguments that agree. -/
theorem tie (hpre : Pre_KernelBIdeal_finite_b m)
    (m' : (ℓ : Loc Cert.ReferenceBIdeal.nD Cert.ReferenceBIdeal.τ Cert.ReferenceBIdeal.sig) → Buf (Elt Ideal) ℓ)
    (g0 : ReferenceBIdeal.Read.a0 m' c = a0 m c) (g1 : ReferenceBIdeal.Read.a1 m' c = a1 m c) (g2 : ReferenceBIdeal.Read.a2 m' c = a2 m c)
    (g3 : ReferenceBIdeal.Read.a3 m' c = a3 m c) (g4 : ReferenceBIdeal.Read.a4 m' c = a4 m c) (i : S8192x768.Idx) :
    ReferenceBIdeal.Value.res_main_v27 m' c i = Value.G3 m c i := by
  have hi0 : (i 0).val < 8192 := (i 0).isLt
  have hi1 : (i 1).val < 768 := (i 1).isLt
  obtain ⟨f0, f1, f2, f3⟩ := finite m c hpre
  choose qn hqn using f0
  choose qp hqp using f1
  choose kn hkn using f2
  choose kp hkp using f3
  have hs := score m c qn qp kn kp hqn hqp hkn hkp
  obtain ⟨q, hq⟩ : ∃ q : Fin 8192, q.val = (i 0).val := ⟨⟨(i 0).val, hi0⟩, rfl⟩
  obtain ⟨h, hh⟩ : ∃ h : Fin 6, h.val = (i 1).val / 128 := ⟨⟨(i 1).val / 128, by omega⟩, rfl⟩
  obtain ⟨d, hd⟩ : ∃ d : Fin 128, d.val = (i 1).val % 128 := ⟨⟨(i 1).val % 128, by omega⟩, rfl⟩
  have eh : (⟨h.val % 6, Nat.mod_lt _ (by decide)⟩ : Fin 6) = h := Fin.ext (Nat.mod_eq_of_lt h.isLt)
  have er : ∀ k : Fin 8192, State.row k.val = ⟨k.val, by omega⟩ := fun k => Fin.ext (Nat.mod_eq_of_lt (by omega))
  rw [ReferenceBIdeal.Read.result m' c i q h d hq.symm hh.symm hd.symm, State.written m c (fun h q => ⟨_, fun k => hs h q k⟩) i, ← hq, ← hh, ← hd, g0, g1, g2, g3, g4]
  refine Eq.trans ?_ (Attend.quotient (fun k => raw qn qp kn kp ⟨h.val % 6, Nat.mod_lt _ (by decide)⟩ (State.row q.val) (State.row k)) σ (1 / √192)
    (Attend.scale_eq 192) _ _ _ 8192 (by decide)
    (fun k : Fin 8192 => ReferenceBIdeal.Read.scores (a0 m c) (a1 m c) (a2 m c) (a3 m c) (ix3 h q k)) (fun k => hs h.val q.val k) ?_ ?_).symm
  · refine congrArg _ (funext fun k => ?_)
    unfold State.val
    have := value m c (State.row k.val) ⟨h.val % 6, Nat.mod_lt _ (by decide)⟩ d.val (by omega)
    rw [dif_pos d.isLt] at this
    refine Eq.trans ?_ (Eq.trans this.symm ?_)
    · rw [eh, er]
    · congr 2
      apply Fin.ext
      show h.val % 6 * 144 + d.val = h.val % 6 * 144 + d.val % 144
      omega
  · intro k
    rw [ReferenceBIdeal.Read.scores_apply]
    simp only [hqn, hqp, hkn, hkp, ← EReal.coe_mul, Softmax.coe_sum, ← EReal.coe_add]
    rw [eh, er q, er k]
    rfl
  · intro k
    have := value m c (State.row k) ⟨h.val % 6, Nat.mod_lt _ (by decide)⟩ 128 (by decide)
    rwa [dif_neg (by decide)] at this

/-- The algebraic claim of the latent attention. -/
theorem algebraic : algebraic_KernelBIdeal_ReferenceBIdeal_pre_finite_b := by
  intro m ρ m' ρ' hpre hagree
  refine ⟨_, Cert.KernelBIdeal.Value.run (F := Ideal) m ρ, ?_⟩
  refine (θ_run Cert.ReferenceBIdeal.defs _ _).mono (fun _ h c => ⟨?_, (h c).2⟩) (Cert.ReferenceBIdeal.Value.run (F := Ideal) m' ρ')
  rw [(h c).1]
  obtain ⟨g0, g1, g2, g3, g4⟩ := hagree c
  exact funext fun i => tie m c hpre m' g0 g1 g2 g3 g4 i

end Cert.TieB
end
-- ==== Proof.StepC.lean ====
/- What one grid point of the differential attention does to its scratch, as steps of the running maximum and of the running sums. -/
module

public import proofs.«01_k».proof.Proof.Gen.KernelCIdeal.Value
public import Idealize.ShloMosaic.PureOps.Ideal
public import proofs.«01_k».proof.Proof.Softmax
public import proofs.«01_k».proof.Proof.Chain
public import Idealize.ShloMosaic.Lib.Pointwise
public import Idealize.ShloMosaic.Lib.Pipeline.ReadBack
public import Idealize.ShloMosaic.Lib.Pipeline.ValueKit.Tiles

@[expose] public section
set_option maxRecDepth 16384
noncomputable section
namespace Cert.KernelCIdeal.Step
open Idealize.ShloMosaic Idealize.SL Idealize.SL.Sem
open Cert.KernelCIdeal Cert.KernelCIdeal.Gen

open scoped BigOperators

variable (m : (ℓ : Loc nD τ sig) → Buf (Elt Ideal) ℓ)

/-- The base-2 scores of a point's key block and query block, of one of its four maps. -/
def sc (x0 : Vec Ideal S512x512 .bf16) (x1 : Vec Ideal S1024x256 .bf16) (n : Fin 4) (c : Fin 512) (k : Fin 1024) : EReal :=
  ∑ e : Fin 128, x1 (ix2 k ⟨n.val / 2 * 128 + e.val, by omega⟩) * x0 (ix2 c ⟨n.val * 128 + e.val, by omega⟩)

/-- The running maximum after a point, from the blocks and the maximum before it. -/
def G0 (x0 : Vec Ideal S512x512 .bf16) (x1 : Vec Ideal S1024x256 .bf16) (xs : Vec Ideal S4x1x512 .f32) : Vec Ideal S4x1x512 .f32 :=
  fun y => Chain.stepMax (sc x0 x1 (y 0) (y 2)) (xs y)

/-- The running sum of the weights after a point: row 128 of each head's values, which holds ones. -/
def G1 (x0 : Vec Ideal S512x512 .bf16) (x1 : Vec Ideal S1024x256 .bf16) (x2 : Vec Ideal S288x1024 .bf16) (xs : Vec Ideal S4x1x512 .f32)
    (xl : Vec Ideal S4x1x512 .f32) : Vec Ideal S4x1x512 .f32 :=
  fun y => Chain.stepSum (sc x0 x1 (y 0) (y 2)) (fun k => x2 (ix2 ⟨(y 0).val / 2 * 144 + 128, by have : (y 0).val < 4 := (y 0).isLt; omega⟩ k)) (xs y) (xl y)

/-- The running weighted sum of the values after a point. -/
def G2 (x0 : Vec Ideal S512x512 .bf16) (x1 : Vec Ideal S1024x256 .bf16) (x2 : Vec Ideal S288x1024 .bf16) (xs : Vec Ideal S4x1x512 .f32)
    (xa : Vec Ideal S4x128x512 .f32) : Vec Ideal S4x128x512 .f32 :=
  fun y => Chain.stepSum (sc x0 x1 (y 0) (y 2)) (fun k => x2 (ix2 ⟨(y 0).val / 2 * 144 + (y 1).val, by
    have : (y 0).val < 4 := (y 0).isLt; have : (y 1).val < 128 := (y 1).isLt; omega⟩ k)) (xs (ix3 (y 0) 0 (y 2))) (xa y)

/-- Every point but the first of a run takes one step of the running maximum, -/
theorem step0 (c : Dev nD) (t : Fin cfg0.N) (h0 : ¬t.val % 8 = 0) (y : S4x1x512.Idx) :
   (outsAt0 m c t.val t.isLt).2.1 y = G0 (iblk m c 0 t) (iblk m c 1 t) (outsAt0 m c (t.val - 1) (Nat.lt_of_le_of_lt (Nat.sub_le _ _) t.isLt)).2.1 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (outsAt0 m c (t.val - 1) _).2.1 = xs
    clear h0 h1
    canon_tiles x h
  all_goals
    refine (Chain.mStore_apply (Chain.scores 128 (by decide) (by decide) _ _) _ (x 0) (x 1) (x 2)).trans ?_
    refine congrArg₂ Chain.stepMax (funext fun k => (Chain.scores_apply _ _ _ _ _ k (x 2)).trans
      (Finset.sum_congr rfl fun e _ => congrArg₂ (· * ·) (congrArg x1 ?_) (congrArg x0 ?_))) (congrArg xs ?_)
    all_goals
      funext a
      apply Fin.ext
      fin_cases a <;> simp [Rect.idx_unit_val, h0, h1, h2] <;> omega

/-- of the sum of the weights, -/
theorem step1 (c : Dev nD) (t : Fin cfg0.N) (h0 : ¬t.val % 8 = 0) (y : S4x1x512.Idx) :
   (outsAt0 m c t.val t.isLt).2.2.1 y = G1 (iblk m c 0 t) (iblk m c 1 t) (iblk m c 2 t) (outsAt0 m c (t.val - 1) (Nat.lt_of_le_of_lt (Nat.sub_le _ _) t.isLt)).2.1
     (outsAt0 m c (t.val - 1) (Nat.lt_of_le_of_lt (Nat.sub_le _ _) t.isLt)).2.2.1 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (iblk m c 2 t) = x2
    generalize (outsAt0 m c (t.val - 1) _).2.1 = xs
    generalize (outsAt0 m c (t.val - 1) _).2.2.1 = xl
    clear h0 h1
    canon_tiles x h
  all_goals
    refine (Chain.lStore_apply (Chain.scores 128 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg xs ?_)) (congrArg xl ?_)
    all_goals
      funext a
      apply Fin.ext
      fin_cases a <;> simp [Rect.idx_unit_val, h0, h1, h2] <;> omega

/-- and of the weighted values. -/
theorem step2 (c : Dev nD) (t : Fin cfg0.N) (h0 : ¬t.val % 8 = 0) (y : S4x128x512.Idx) :
   (outsAt0 m c t.val t.isLt).2.2.2 y = G2 (iblk m c 0 t) (iblk m c 1 t) (iblk m c 2 t) (outsAt0 m c (t.val - 1) (Nat.lt_of_le_of_lt (Nat.sub_le _ _) t.isLt)).2.1
     (outsAt0 m c (t.val - 1) (Nat.lt_of_le_of_lt (Nat.sub_le _ _) t.isLt)).2.2.2 y := by
  by_cases h1 : t.val % 8 = 7
  on_goal 1 => rw [outsAt0_C m c t h0 h1]
  on_goal 2 => rw [outsAt0_B m c t h0 h1]
  all_goals
    frame_out
    simp only [read_unread_whole]
    generalize (iblk m c 0 t) = x0
    generalize (iblk m c 1 t) = x1
    generalize (iblk m c 2 t) = x2
    generalize (outsAt0 m c (t.val - 1) _).2.1 = xs
    generalize (outsAt0 m c (t.val - 1) _).2.2.2 = xl
    clear h0 h1
    canon_tiles x h
  all_goals
    refine (Chain.aStore_apply (Chain.scores 128 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg xs ?_)) (congrArg xl ?_)
    all_goals
      funext a
      apply Fin.ext
      fin_cases a <;> simp [Rect.idx_unit_val, h0, h1, h2] <;> omega

/-- The constants a run starts from. -/
theorem pay8_eq : k0_pay8 (F := Ideal) = fun _ => ⊥ := by
  funext y; unfold k0_pay8; pointwise; exact Chain.bot_bits
theorem pay9_eq : k0_pay9 (F := Ideal) = fun _ => (0 : EReal) := by
  funext y; unfold k0_pay9; pointwise
theorem pay10_eq : k0_pay10 (F := Ideal) = fun _ => (0 : EReal) := by
  funext y; unfold k0_pay10; pointwise

/-- The first point of a run takes the same steps from -infinity and zero: the maximum, -/
theorem reset0 (c : Dev nD) (t : Fin cfg0.N) (h0 : t.val % 8 = 0) (y : S4x1x512.Idx) :
   (outsAt0 m c t.val t.isLt).2.1 y = G0 (iblk m c 0 t) (iblk m c 1 t) (fun _ => ⊥) y := by
  have h1 : ¬t.val % 8 = 7 := by omega
  rw [← pay8_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  clear h0 h1
  canon_tiles x h
  all_goals
    refine (Chain.mStore_apply (Chain.scores 128 (by decide) (by decide) _ _) _ (x 0) (x 1) (x 2)).trans ?_
    refine congrArg₂ Chain.stepMax (funext fun k => (Chain.scores_apply _ _ _ _ _ k (x 2)).trans
      (Finset.sum_congr rfl fun e _ => congrArg₂ (· * ·) (congrArg x1 ?_) (congrArg x0 ?_))) (congrArg k0_pay8 ?_)
    all_goals
      funext a
      apply Fin.ext
      fin_cases a <;> simp [Rect.idx_unit_val, h0, h1, h2] <;> omega

/-- the sum of the weights, -/
theorem reset1 (c : Dev nD) (t : Fin cfg0.N) (h0 : t.val % 8 = 0) (y : S4x1x512.Idx) :
   (outsAt0 m c t.val t.isLt).2.2.1 y = G1 (iblk m c 0 t) (iblk m c 1 t) (iblk m c 2 t) (fun _ => ⊥) (fun _ => 0) y := by
  have h1 : ¬t.val % 8 = 7 := by omega
  rw [← pay8_eq, ← pay9_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  generalize (iblk m c 2 t) = x2
  clear h0 h1
  canon_tiles x h
  all_goals
    refine (Chain.lStore_apply (Chain.scores 128 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg k0_pay8 ?_)) (congrArg k0_pay9 ?_)
    all_goals
      funext a
      apply Fin.ext
      fin_cases a <;> simp [Rect.idx_unit_val, h0, h1, h2] <;> omega

/-- the weighted values. -/
theorem reset2 (c : Dev nD) (t : Fin cfg0.N) (h0 : t.val % 8 = 0) (y : S4x128x512.Idx) :
   (outsAt0 m c t.val t.isLt).2.2.2 y = G2 (iblk m c 0 t) (iblk m c 1 t) (iblk m c 2 t) (fun _ => ⊥) (fun _ => 0) y := by
  have h1 : ¬t.val % 8 = 7 := by omega
  rw [← pay8_eq, ← pay10_eq]
  rw [outsAt0_A m c t h0 h1]
  frame_open
  simp (disch := decide) only [↓ View.readCov_skip, ↓ View.readCov_cons_toLoadRect, ↓ View.readCov_fill]
  frame_out
  rw [Chain.canon_dropLast y _ (by dsimp only [List.dropLast]; exact View.cover_of_tiled_head _ _ _ (by rfl) y)]
  dsimp only [List.dropLast]
  generalize (iblk m c 0 t) = x0
  generalize (iblk m c 1 t) = x1
  generalize (iblk m c 2 t) = x2
  clear h0 h1
  canon_tiles x h
  all_goals
    refine (Chain.aStore_apply (Chain.scores 128 (by decide) (by decide) _ _) _ _ _ (x 0) (x 1) (x 2)).trans ?_
    refine congr (congr (congrArg₂ Chain.stepSum (funext fun k => (Chain.scores_apply _ _ _ _ _ k (x 2)).trans
      (Finset.sum_congr rfl fun e _ => congrArg₂ (· * ·) (congrArg x1 ?_) (congrArg x0 ?_))) (funext fun k => congrArg x2 ?_)) (congrArg k0_pay8 ?_)) (congrArg k0_pay10 ?_)
    all_goals
      funext a
      apply Fin.ext
      fin_cases a <;> simp [Rect.idx_unit_val, h0, h1, h2] <;> omega

/-- The last point of a run writes each head's weighted values over its sum of weights, transposed. -/
theorem last (c : Dev nD) (t : Fin cfg0.N) (h1 : t.val % 8 = 7) (y : S512x512.Idx) :
   (outsAt0 m c t.val t.isLt).1 y = Ideal.div
     ((outsAt0 m c t.val t.isLt).2.2.2 (ix3 ⟨(y 1).val / 128, by have : (y 1).val < 512 := (y 1).isLt; omega⟩ ⟨(y 1).val % 128, by omega⟩ (y 0)))
     ((outsAt0 m c t.val t.isLt).2.2.1 (ix3 ⟨(y 1).val / 128, by have : (y 1).val < 512 := (y 1).isLt; omega⟩ 0 (y 0))) := by
  have h0 : ¬t.val % 8 = 0 := by omega
  have e1 : (outsAt0 m c t.val t.isLt).2.2.1 = (outsAt0 m c t.val t.isLt).2.2.1 := rfl
  have e2 : (outsAt0 m c t.val t.isLt).2.2.2 = (outsAt0 m c t.val t.isLt).2.2.2 := rfl
  generalize e1' : (outsAt0 m c t.val t.isLt).2.2.1 = X1 at e1 ⊢
  generalize e2' : (outsAt0 m c t.val t.isLt).2.2.2 = X2 at e2 ⊢
  rw [outsAt0_C m c t h0 h1] at e1' e2' ⊢
  frame_out at e1'
  frame_out at e2'
  frame_out
  simp only [View.readCov_eq_canon', e1', e2']
  clear h0 h1 e1' e2' e1 e2
  canon_tiles x h
  all_goals
    rw [eq_ix2 x]
    unfold_payloads
    refine (Chain.out_apply (fun j => X2 _) (fun j => X1 _) (x 0) (x 1)).trans ?_
    refine congrArg₂ Ideal.div (congrArg X2 ?_) (congrArg X1 ?_)
    all_goals
      funext a
      apply Fin.ext
      fin_cases a <;> simp [Rect.idx_unit_val, h0, h1] <;> omega

end Cert.KernelCIdeal.Step
end
-- ==== Proof.StateC.lean ====
/- The differential attention's scratch after every grid point: the greatest score, the sum of the weights and the weighted
   values over the keys met so far, of every head and query position; and what the call writes out. -/
module

public import proofs.«01_k».proof.Proof.StepC
public import Idealize.ShloMosaic.Lib.Pipeline.ValueKit.Geometry

@[expose] public section
set_option maxRecDepth 16384
noncomputable section
namespace Cert.KernelCIdeal.State
open Idealize.ShloMosaic Idealize.SL Idealize.SL.Sem
open Cert.KernelCIdeal Cert.KernelCIdeal.Gen Cert.KernelCIdeal.Value Cert.KernelCIdeal.Step
open scoped BigOperators

variable (m : (ℓ : Loc nD τ sig) → Buf (Elt Ideal) ℓ) (c : Dev nD)

/-- The queries, the keys and the values (each head's 128 rows and 16 rows of ones) as the call finds them. -/
def Q : Vec Ideal S24576x1024 .bf16 := V m c main_v15
def K : Vec Ideal S24576x512 .bf16 := V m c main_v17
def W : Vec Ideal S576x24576 .bf16 := V m c main_v22

/-- The key position `k` of the prompt. -/
def row (k : ℕ) : Fin 24576 := ⟨k % 24576, Nat.mod_lt _ (by decide)⟩

/-- The base-2 score of head `h` at query position `q` and key position `k`. -/
def S (h q k : ℕ) : EReal :=
  ∑ e : Fin 128, K m c (ix2 (row k) ⟨h % 8 / 2 * 128 + e.val, by omega⟩) * Q m c (ix2 (row q) ⟨h % 8 * 128 + e.val, by omega⟩)

/-- Row `r` of the values head `h` reads at key position `k`. -/
def val (h r k : ℕ) : EReal := W m c (ix2 ⟨h % 8 / 2 * 144 + r % 144, by omega⟩ (row k))

/-- The printed index maps, decided over the grid. -/
theorem idx0 : ∀ t : Fin cfg0.N, win0_0.index t = ![t.val / 8 % 16, t.val / 128] := (by decide +kernel : ∀ t : Fin grid0.N, win0_0.index t = ![t.val / 8 % 16, t.val / 128])
theorem idx1 : ∀ t : Fin cfg0.N, win0_1.index t = ![t.val % 8, t.val / 128] := (by decide +kernel : ∀ t : Fin grid0.N, win0_1.index t = ![t.val % 8, t.val / 128])
theorem idx2 : ∀ t : Fin cfg0.N, win0_2.index t = ![t.val / 128, t.val % 8] := (by decide +kernel : ∀ t : Fin grid0.N, win0_2.index t = ![t.val / 128, t.val % 8])

theorem lt256 (t : Fin cfg0.N) : t.val < 256 := lt_of_lt_of_eq t.isLt N_0

/-- A point's query block holds its query positions, of its four maps; -/
theorem block_query (t : Fin cfg0.N) (p : Fin 512) (i : Fin 512) :
    (iblk m c 0 t : Vec Ideal S512x512 .bf16) (ix2 p i)
      = Q m c (ix2 (row (512 * (t.val / 8 % 16) + p.val)) ⟨(512 * (t.val / 128) + i.val) % 1024, by omega⟩) := by
  have ht := lt256 t
  show V m c main_v15 _ = V m c main_v15 _
  refine congrArg (V m c main_v15) ?_
  blk_ext [idx0 t, row]

/-- its key block its key positions, of the same heads. -/
theorem block_key (t : Fin cfg0.N) (k : Fin 1024) (i : Fin 256) :
    (iblk m c 1 t : Vec Ideal S1024x256 .bf16) (ix2 k i)
      = K m c (ix2 (row (1024 * (t.val % 8) + k.val)) ⟨(256 * (t.val / 128) + i.val) % 512, by omega⟩) := by
  have ht := lt256 t
  show V m c main_v17 _ = V m c main_v17 _
  refine congrArg (V m c main_v17) ?_
  blk_ext [idx1 t, row]

/-- The scores of a point's blocks are those of its heads, its query positions and its key positions. -/
theorem block_score (t : Fin cfg0.N) (a : Fin 4) (p : Fin 512) :
    sc (iblk m c 0 t) (iblk m c 1 t) a p
      = fun k : Fin 1024 => S m c (4 * (t.val / 128) + a.val) (512 * (t.val / 8 % 16) + p.val) (1024 * (t.val % 8) + k.val) := by
  have ht := lt256 t
  funext k
  refine Finset.sum_congr rfl fun e _ => congrArg₂ (· * ·) ((block_key m c t k _).trans ?_) ((block_query m c t p _).trans ?_)
  all_goals
    congr 2
    apply Fin.ext
    dsimp only
    omega

/-- The values of a point's block are those of its heads at its key positions. -/
theorem block_val (t : Fin cfg0.N) (a : Fin 4) (r : ℕ) (hr : r < 144) (i : Fin 288) (hi : i.val = a.val / 2 * 144 + r) (k : Fin 1024) :
    (iblk m c 2 t : Vec Ideal S288x1024 .bf16) (ix2 i k) = val m c (4 * (t.val / 128) + a.val) r (1024 * (t.val % 8) + k.val) := by
  have ht := lt256 t
  show V m c main_v22 _ = V m c main_v22 _
  refine congrArg (V m c main_v22) ?_
  blk_ext [idx2 t, row]

/-- The head of row `a` of a point's scratch, and the query position of its column `p`. -/
def hd (n a : ℕ) : ℕ := 4 * (n / 128) + a
def qp (n p : ℕ) : ℕ := 512 * (n / 8 % 16) + p

/-- A point's step carries the running maximum from the keys before its block to those up to its end; -/
theorem next0 (t : Fin cfg0.N) (xs : Vec Ideal S4x1x512 .f32)
    (hs : ∀ y, xs y = Softmax.top (S m c (hd t.val (y 0).val) (qp t.val (y 2).val)) (1024 * (t.val % 8))) (y : S4x1x512.Idx) :
    G0 (iblk m c 0 t) (iblk m c 1 t) xs y
      = Softmax.top (S m c (hd t.val (y 0).val) (qp t.val (y 2).val)) (1024 * (t.val % 8) + 1024) := by
  exact (congrArg₂ Chain.stepMax (block_score m c t (y 0) (y 2)) (hs y)).trans (Chain.stepMax_top _ _)

variable (hS : ∀ h q, ∃ s : ℕ → ℝ, ∀ k, S m c h q k = (s k : EReal))
include hS

/-- likewise the sum of the weights -/
theorem next1 (t : Fin cfg0.N) (xs xl : Vec Ideal S4x1x512 .f32)
    (hs : ∀ y, xs y = Softmax.top (S m c (hd t.val (y 0).val) (qp t.val (y 2).val)) (1024 * (t.val % 8)))
    (hl : ∀ y, xl y = Softmax.acc (S m c (hd t.val (y 0).val) (qp t.val (y 2).val)) (val m c (hd t.val (y 0).val) 128) (1024 * (t.val % 8)))
    (y : S4x1x512.Idx) :
    G1 (iblk m c 0 t) (iblk m c 1 t) (iblk m c 2 t) xs xl y
      = Softmax.acc (S m c (hd t.val (y 0).val) (qp t.val (y 2).val)) (val m c (hd t.val (y 0).val) 128) (1024 * (t.val % 8) + 1024) := by
  unfold G1
  refine Eq.trans (congr (congr (congrArg₂ Chain.stepSum (block_score m c t (y 0) (y 2)) (funext fun k => ?_)) (hs y)) (hl y))
    (Chain.stepSum_acc _ (val m c (hd t.val (y 0).val) 128) (hS _ _) _)
  exact block_val m c t (y 0) 128 (by decide) _ rfl k

/-- and the weighted values. -/
theorem next2 (t : Fin cfg0.N) (xs : Vec Ideal S4x1x512 .f32) (xa : Vec Ideal S4x128x512 .f32)
    (hs : ∀ y, xs y = Softmax.top (S m c (hd t.val (y 0).val) (qp t.val (y 2).val)) (1024 * (t.val % 8)))
    (ha : ∀ y, xa y = Softmax.acc (S m c (hd t.val (y 0).val) (qp t.val (y 2).val)) (val m c (hd t.val (y 0).val) (y 1).val) (1024 * (t.val % 8)))
    (y : S4x128x512.Idx) :
    G2 (iblk m c 0 t) (iblk m c 1 t) (iblk m c 2 t) xs xa y
      = Softmax.acc (S m c (hd t.val (y 0).val) (qp t.val (y 2).val)) (val m c (hd t.val (y 0).val) (y 1).val) (1024 * (t.val % 8) + 1024) := by
  unfold G2
  refine Eq.trans (congr (congr (congrArg₂ Chain.stepSum (block_score m c t (y 0) (y 2)) (funext fun k => ?_)) (hs (ix3 (y 0) 0 (y 2)))) (ha y))
    (Chain.stepSum_acc _ (val m c (hd t.val (y 0).val) (y 1).val) (hS _ _) _)
  have hy1 : (y 1).val < 128 := (y 1).isLt
  exact block_val m c t (y 0) (y 1).val (by omega) _ rfl k

/-- The scratch after every point: the maximum, the sum of the weights and the weighted values over the keys up to the
    end of the point's block. -/
theorem state : ∀ n (hn : n < cfg0.N),
    (∀ y, (outsAt0 m c n hn).2.1 y = Softmax.top (S m c (hd n (y 0).val) (qp n (y 2).val)) (1024 * (n % 8) + 1024))
    ∧ (∀ y, (outsAt0 m c n hn).2.2.1 y
        = Softmax.acc (S m c (hd n (y 0).val) (qp n (y 2).val)) (val m c (hd n (y 0).val) 128) (1024 * (n % 8) + 1024))
    ∧ (∀ y, (outsAt0 m c n hn).2.2.2 y
        = Softmax.acc (S m c (hd n (y 0).val) (qp n (y 2).val)) (val m c (hd n (y 0).val) (y 1).val) (1024 * (n % 8) + 1024)) := by
  intro n
  induction n with
  | zero =>
    intro hn
    refine ⟨fun y => ?_, fun y => ?_, fun y => ?_⟩
    · rw [reset0 m c ⟨0, hn⟩ rfl y]
      exact next0 m c ⟨0, hn⟩ _ (fun _ => rfl) y
    · rw [reset1 m c ⟨0, hn⟩ rfl y]
      exact next1 m c hS ⟨0, hn⟩ _ _ (fun _ => rfl) (fun _ => rfl) y
    · rw [reset2 m c ⟨0, hn⟩ rfl y]
      exact next2 m c hS ⟨0, hn⟩ _ _ (fun _ => rfl) (fun _ => rfl) y
  | succ n ih =>
    intro hn
    by_cases h0 : (n + 1) % 8 = 0
    · refine ⟨fun y => ?_, fun y => ?_, fun y => ?_⟩
      · rw [reset0 m c ⟨n + 1, hn⟩ h0 y]
        exact next0 m c ⟨n + 1, hn⟩ _ (fun _ => by rw [h0]; rfl) y
      · rw [reset1 m c ⟨n + 1, hn⟩ h0 y]
        exact next1 m c hS ⟨n + 1, hn⟩ _ _ (fun _ => by rw [h0]; rfl) (fun _ => by rw [h0]; rfl) y
      · rw [reset2 m c ⟨n + 1, hn⟩ h0 y]
        exact next2 m c hS ⟨n + 1, hn⟩ _ _ (fun _ => by rw [h0]; rfl) (fun _ => by rw [h0]; rfl) y
    · obtain ⟨i0, i1, i2⟩ := ih (by omega)
      have ek : 1024 * (n % 8) + 1024 = 1024 * ((n + 1) % 8) := by omega
      have eh : ∀ a, hd n a = hd (n + 1) a := fun a => by unfold hd; omega
      have eq : ∀ p, qp n p = qp (n + 1) p := fun p => by unfold qp; omega
      simp only [ek, eh, eq] at i0 i1 i2
      refine ⟨fun y => ?_, fun y => ?_, fun y => ?_⟩
      · rw [step0 m c ⟨n + 1, hn⟩ h0 y]
        exact next0 m c ⟨n + 1, hn⟩ _ i0 y
      · rw [step1 m c ⟨n + 1, hn⟩ h0 y]
        exact next1 m c hS ⟨n + 1, hn⟩ _ _ i0 i1 y
      · rw [step2 m c ⟨n + 1, hn⟩ h0 y]
        exact next2 m c hS ⟨n + 1, hn⟩ _ _ i0 i2 y

/-- What the call writes: at query position `i 0` and column `i 1` the weighted values of the column's head over its sum
    of weights, over all 8192 keys. -/
theorem written (i : S8192x1024.Idx) :
    G3 m c i = Ideal.div
      (Softmax.acc (S m c ((i 1).val / 128) (i 0).val) (val m c ((i 1).val / 128) ((i 1).val % 128)) 8192)
      (Softmax.acc (S m c ((i 1).val / 128) (i 0).val) (val m c ((i 1).val / 128) 128) 8192) := by
  have hi0 : (i 0).val < 8192 := (i 0).isLt
  have hi1 : (i 1).val < 1024 := (i 1).isLt
  have hp : pt3Of i < 256 := by unfold pt3Of run3Of; omega
  have hN : pt3Of i < cfg0.N := lt_of_lt_of_eq hp N_0.symm
  have e : G3 m c i = (outsAt0 m c (pt3Of i) hN).1 (loc3Of i) := by
    unfold G3
    rw [dif_pos hN, ← outsAt0_sweep]
  have h7 : pt3Of i % 8 = 7 := by unfold pt3Of; omega
  obtain ⟨_, s1, s2⟩ := state m c hS (pt3Of i) hN
  rw [e, last m c ⟨pt3Of i, hN⟩ h7, s1, s2, h7]
  have e0 : (loc3Of i 0).val = (i 0).val % 512 := rfl
  have e1 : (loc3Of i 1).val = (i 1).val % 512 := rfl
  have eh : hd (pt3Of i) ((loc3Of i 1).val / 128) = (i 1).val / 128 := by rw [e1]; unfold hd pt3Of run3Of; omega
  have eq : qp (pt3Of i) (loc3Of i 0).val = (i 0).val := by rw [e0]; unfold qp pt3Of run3Of; omega
  have er : (loc3Of i 1).val % 128 = (i 1).val % 128 := by rw [e1]; omega
  show Ideal.div (Softmax.acc (S m c (hd (pt3Of i) ((loc3Of i 1).val / 128)) (qp (pt3Of i) (loc3Of i 0).val)) (val m c (hd (pt3Of i) ((loc3Of i 1).val / 128)) ((loc3Of i 1).val % 128)) _)
    (Softmax.acc (S m c (hd (pt3Of i) ((loc3Of i 1).val / 128)) (qp (pt3Of i) (loc3Of i 0).val)) (val m c (hd (pt3Of i) ((loc3Of i 1).val / 128)) 128) _) = _
  rw [eh, eq, er]

end Cert.KernelCIdeal.State
end
-- ==== Proof.HostC.lean ====
/- The host code before the differential attention, read at an index, and the base-2 scores it leads to. -/
module

public import proofs.«01_k».proof.Proof.StateC
public import proofs.«01_k».proof.Proof.Attend
public import Idealize.ShloMosaic.Lib.Claim

@[expose] public section
set_option maxRecDepth 16384
noncomputable section
namespace Cert.KernelCIdeal.Host
open Idealize.ShloMosaic Idealize.SL Idealize.SL.Sem
open Cert.KernelCIdeal Cert.KernelCIdeal.Gen Cert.KernelCIdeal.State
open scoped BigOperators

variable (m : (ℓ : Loc nD τ sig) → Buf (Elt Ideal) ℓ) (c : Dev nD)

/-- The argument arrays. -/
def a0 : Vec Ideal S24576x4x2x64 .f32 := m ((c.tc : Thread nD τ).loc main_arg0)
def a1 : Vec Ideal S24576x4x2x64 .f32 := m ((c.tc : Thread nD τ).loc main_arg1)
def a2 : Vec Ideal S24576x4x128 .f32 := m ((c.tc : Thread nD τ).loc main_arg2)

/-- The scale the host code puts on the queries. -/
def σ : ℝ := 1 / (√64 * Real.log 2)

/-- The head and the map of one of the eight softmaxes. -/
def hd (n : Fin 8) : Fin 4 := ⟨n.val / 2, by omega⟩
def mp (n : Fin 8) : Fin 2 := ⟨n.val % 2, by omega⟩

/-- A query's entry: its map's half of the 128 columns, zeros in the other; -/
theorem query (i : Fin 24576) (n : Fin 8) (a : Fin 2) (e : Fin 64) :
    Q m c (ix2 i ⟨n.val * 128 + (a.val * 64 + e.val), by omega⟩) = if a = mp n then a0 m c (ix4 i (hd n) (mp n) e) * (σ : EReal) else 0 := by
  have ha : (a = mp n) = (a.val = n.val % 2) := propext Fin.ext_iff
  unfold Q
  entry_read
  pointwise
  simp only [ha, Attend.bits_64, Attend.bits_2, Attend.scale_2 (d := 64) (by norm_num)]
  by_cases h1 : (n.val * 128 + (a.val * 64 + e.val)) % 256 < 128
  · by_cases h2 : (n.val * 128 + (a.val * 64 + e.val)) % 256 < 64
    · refine (dif_pos h1).trans ((dif_pos h2).trans (Eq.trans ?_ (if_pos (by omega)).symm))
      refine congrArg (fun x => a0 m c x * (σ : EReal)) ?_
      funext b
      apply Fin.ext
      fin_cases b
      · rfl
      all_goals
        dsimp [hd, mp]
        omega
    · exact (dif_pos h1).trans ((dif_neg h2).trans (if_neg (by omega)).symm)
  · by_cases h2 : (n.val * 128 + (a.val * 64 + e.val)) % 256 - 128 < 64
    · exact (dif_neg h1).trans ((dif_pos h2).trans (if_neg (by omega)).symm)
    · refine (dif_neg h1).trans ((dif_neg h2).trans (Eq.trans ?_ (if_pos (by omega)).symm))
      refine congrArg (fun x => a0 m c x * (σ : EReal)) ?_
      funext b
      apply Fin.ext
      fin_cases b
      · rfl
      all_goals
        dsimp [hd, mp]
        omega

/-- a key's entry; -/
theorem key (i : Fin 24576) (n : Fin 8) (a : Fin 2) (e : Fin 64) :
    K m c (ix2 i ⟨n.val / 2 * 128 + (a.val * 64 + e.val), by omega⟩) = a1 m c (ix4 i (hd n) a e) := by
  unfold K
  entry_read
  pointwise
  refine congrArg (a1 m c) ?_
  funext b
  apply Fin.ext
  fin_cases b
  · rfl
  · dsimp [hd]
    omega
  · rfl
  · rfl

/-- a value's entry, and the ones below each head's values. -/
theorem value (i : Fin 24576) (h : Fin 4) (r : ℕ) (hr : r < 144) :
    W m c (ix2 ⟨h.val * 144 + r, by omega⟩ i) = if h1 : r < 128 then a2 m c (ix3 i h ⟨r, h1⟩) else 1 := by
  have e1 : (h.val * 144 + r) % 144 = r := by omega
  have e2 : (h.val * 144 + r) / 144 = h.val := by omega
  unfold W
  entry_read
  pointwise
  simp only [e1, e2]
  rfl

/-- The product of a query and a key of one map, of reals. -/
def raw (qs ks : S24576x4x2x64.Idx → ℝ) (n : Fin 8) (q k : Fin 24576) : ℝ :=
  ∑ e : Fin 64, qs (ix4 q (hd n) (mp n) e) * ks (ix4 k (hd n) (mp n) e)

/-- The base-2 scores of the laid-out arrays are the scaled products: the zeros add nothing. -/
theorem score (qs ks : S24576x4x2x64.Idx → ℝ) (h0 : ∀ i, a0 m c i = qs i) (h1 : ∀ i, a1 m c i = ks i) (h q k : ℕ) :
    S m c h q k = ((raw qs ks ⟨h % 8, Nat.mod_lt _ (by decide)⟩ (row q) (row k) * σ : ℝ) : EReal) := by
  have hs : ∀ f : Fin (64 + 64) → EReal, ∑ e, f e = ∑ e, f (Fin.castAdd 64 e) + ∑ e, f (Fin.natAdd 64 e) :=
    fun f => Fin.sum_univ_add f
  have half : ∀ (a : Fin 2) (f : Fin 64 → Fin 128), (∀ e, (f e).val = a.val * 64 + e.val) →
      ∑ e : Fin 64, K m c (ix2 (row k) ⟨h % 8 / 2 * 128 + (f e).val, by omega⟩) * Q m c (ix2 (row q) ⟨h % 8 * 128 + (f e).val, by omega⟩)
        = if a = mp ⟨h % 8, Nat.mod_lt _ (by decide)⟩ then ((raw qs ks ⟨h % 8, Nat.mod_lt _ (by decide)⟩ (row q) (row k) * σ : ℝ) : EReal) else 0 := by
    intro a f hf
    have e1 : ∀ e, K m c (ix2 (row k) ⟨h % 8 / 2 * 128 + (f e).val, by omega⟩) * Q m c (ix2 (row q) ⟨h % 8 * 128 + (f e).val, by omega⟩)
        = a1 m c (ix4 (row k) (hd ⟨h % 8, Nat.mod_lt _ (by decide)⟩) a e) * if a = mp ⟨h % 8, Nat.mod_lt _ (by decide)⟩ then
          a0 m c (ix4 (row q) (hd ⟨h % 8, Nat.mod_lt _ (by decide)⟩) (mp ⟨h % 8, Nat.mod_lt _ (by decide)⟩) e) * (σ : EReal) else 0 := fun e => by
      rw [← key m c (row k) ⟨h % 8, Nat.mod_lt _ (by decide)⟩ a e, ← query m c (row q) ⟨h % 8, Nat.mod_lt _ (by decide)⟩ a e]
      simp only [hf]
    simp only [e1]
    split
    · next ha =>
      subst ha
      unfold raw
      rw [Finset.sum_mul, ← Softmax.coe_sum]
      refine Finset.sum_congr rfl fun e _ => ?_
      simp only [h0, h1, ← EReal.coe_mul]
      congr 1
      ring
    · simp only [mul_zero, Finset.sum_const_zero]
  unfold S
  refine (hs _).trans ((congrArg₂ (· + ·) (half 0 (Fin.castAdd 64) fun e => by simp) (half 1 (Fin.natAdd 64) fun e => by simp [add_comm])).trans ?_)
  generalize mp _ = p
  fin_cases p <;> simp

end Cert.KernelCIdeal.Host
end
-- ==== Proof.RefC.lean ====
/- The differential attention's reference, read at an index. -/
module

public import proofs.«01_k».proof.Proof.Gen.ReferenceCIdeal.Run
public import proofs.«01_k».proof.Proof.Attend

@[expose] public section
set_option maxRecDepth 16384
noncomputable section
namespace Cert.ReferenceCIdeal.Read
open Idealize.ShloMosaic Idealize.SL Idealize.SL.Sem
open Cert.ReferenceCIdeal Cert.ReferenceCIdeal.Gen
open scoped BigOperators

variable (m : (ℓ : Loc nD τ sig) → Buf (Elt Ideal) ℓ) (c : Dev nD)

/-- The argument arrays. -/
def a0 : FVec Ideal S24576x4x2x64 .f32 := m ((c.tc : Thread nD τ).loc main_arg0)
def a1 : FVec Ideal S24576x4x2x64 .f32 := m ((c.tc : Thread nD τ).loc main_arg1)
def a2 : FVec Ideal S24576x4x128 .f32 := m ((c.tc : Thread nD τ).loc main_arg2)

/-- The scores, -/
def scores (a0 : FVec Ideal S24576x4x2x64 .f32) (a1 : FVec Ideal S24576x4x2x64 .f32) : FVec Ideal S4x2x8192x8192 .f32 :=
  mulf (Host.dotGeneral (F := Ideal) dot_S8192x4x2x64_S8192x4x2x64_S4x2x8192x8192_3_3_0_0_12_12 none
      (extractStridedSlice S8192x4x2x64 ![0, 0, 0, 0] a0 slices_S24576x4x2x64_S8192x4x2x64_0_0_0_0)
      (extractStridedSlice S8192x4x2x64 ![0, 0, 0, 0] a1 slices_S24576x4x2x64_S8192x4x2x64_0_0_0_0))
    (broadcastInDim S4x2x8192x8192 ![] bcast_S_S4x2x8192x8192 (Host.divf (constant (F := Ideal) S_ .f32 0x3F800000#32) (Host.sqrt (constant (F := Ideal) S_ .f32 0x42800000#32))))

/-- their greatest over the keys, -/
def greatest (s : FVec Ideal S4x2x8192x8192 .f32) : FVec Ideal S4x2x8192 .f32 :=
  maximumf (broadcastInDim S4x2x8192 ![] bcast_S_S4x2x8192 (constant (F := Ideal) S_ .f32 0xFF800000#32))
    (Host.reduce FloatOps.maximumf s (constant (F := Ideal) S_ .f32 0xFF800000#32) reducesTo_S4x2x8192x8192_S4x2x8192_d3 h_S_)

/-- one number per head, map and query, along the keys, -/
def along (r : FVec Ideal S4x2x8192 .f32) : FVec Ideal S4x2x8192x8192 .f32 :=
  broadcastInDim S4x2x8192x8192 ![0, 1, 2, 3] bcast_S4x2x8192x1_S4x2x8192x8192_0_1_2_3 (broadcastInDim S4x2x8192x1 ![0, 1, 2] bcast_S4x2x8192_S4x2x8192x1_0_1_2 r)

/-- the sum over the keys, -/
def total (w : FVec Ideal S4x2x8192x8192 .f32) : FVec Ideal S4x2x8192 .f32 :=
  Host.reduceAdd w (constant (F := Ideal) S_ .f32 0x00000000#32) reducesTo_S4x2x8192x8192_S4x2x8192_d3 h_S_

/-- and the values weighted. -/
def weighted (a2 : FVec Ideal S24576x4x128 .f32) (p : FVec Ideal S4x2x8192x8192 .f32) : FVec Ideal S4x128x2x8192 .f32 :=
  Host.dotGeneral (F := Ideal) dot_S8192x4x128_S4x2x8192x8192_S4x128x2x8192_0_3_2_12_1_0 none (extractStridedSlice S8192x4x128 ![0, 0, 0] a2 slices_S24576x4x128_S8192x4x128_0_0_0) p

theorem scores_apply (a0 : FVec Ideal S24576x4x2x64 .f32) (a1 : FVec Ideal S24576x4x2x64 .f32) (h : Fin 4) (g : Fin 2) (q k : Fin 8192) : scores a0 a1 (ix4 h g q k)
    = (∑ e : Fin 64, a0 (ix4 ⟨q.val, by omega⟩ h g e) * a1 (ix4 ⟨k.val, by omega⟩ h g e)) * ((1 / √64 : ℝ) : EReal) := by
  unfold scores
  pointwise
  simp only [Attend.bits_64, Attend.scale_e (d := 64) (by norm_num)]

theorem along_apply (r) (h : Fin 4) (g : Fin 2) (q k : Fin 8192) : along r (ix4 h g q k) = r (ix3 h g q) := by
  unfold along
  pointwise

theorem total_apply (s) (h : Fin 4) (g : Fin 2) (q : Fin 8192) : total s (ix3 h g q) = ∑ k, s (ix4 h g q k) := by
  unfold total
  pointwise

theorem weighted_apply (a2 p) (h : Fin 4) (d : Fin 128) (g : Fin 2) (q : Fin 8192) :
    weighted a2 p (ix4 h d g q) = ∑ k : Fin 8192, a2 (ix3 ⟨k.val, by omega⟩ h d) * p (ix4 h g q k) := by
  unfold weighted
  pointwise

theorem lift_at (hr : S4x2x8192x8192.Reduces [3] S4x2x8192) (h : Fin 4) (g : Fin 2) (q k : Fin 8192) : hr.lift (ix3 h g q) (k.cast rfl) = ix4 h g q k := by
  funext b
  apply Fin.ext
  rw [Shape.Reduces.lift_val]
  fin_cases b <;> rfl

theorem greatest_apply (s) (h : Fin 4) (g : Fin 2) (q : Fin 8192) :
    greatest s (ix3 h g q) = max ⊥ (Finset.univ.fold max ⊥ fun k : Fin 8192 => s (ix4 h g q k)) := by
  unfold greatest
  exact Attend.greatest (a := 3) (n := 8192) rfl s _ _ _ (by decide) _ (ix3 h g q) (fun k => ix4 h g q k) (lift_at _ h g q)

/-- The reference's result: these, put together. -/
def res : FVec Ideal S8192x1024 .f32 :=
  shapeCast S8192x1024 (transpose S8192x4x2x128 [3, 0, 2, 1] (weighted (a2 m c)
        (Host.divf (Host.exp (subf (scores (a0 m c) (a1 m c)) (along (greatest (scores (a0 m c) (a1 m c))))))
          (along (total (Host.exp (subf (scores (a0 m c) (a1 m c)) (along (greatest (scores (a0 m c) (a1 m c))))))))))
        transposes_S4x128x2x8192_S8192x4x2x128_3_0_2_1) shapeCasts_S8192x4x2x128_S8192x1024

/-- The softmax of an array of scores, weighting the values, at an index. -/
theorem soft_apply (a2 : FVec Ideal S24576x4x128 .f32) (s : FVec Ideal S4x2x8192x8192 .f32) (h : Fin 4) (d : Fin 128) (g : Fin 2) (q : Fin 8192) :
    weighted a2 (Host.divf (Host.exp (subf s (along (greatest s)))) (along (total (Host.exp (subf s (along (greatest s))))))) (ix4 h d g q)
      = Attend.soft (fun k => s (ix4 h g q k)) fun k : Fin 8192 => a2 (ix3 ⟨k.val, by omega⟩ h d) := by
  have e : ∀ k, Host.exp (subf s (along (greatest s))) (ix4 h g q k)
      = Ideal.exp (s (ix4 h g q k) - max ⊥ (Finset.univ.fold max ⊥ fun k : Fin 8192 => s (ix4 h g q k))) := fun k => by
    rw [← greatest_apply, ← along_apply (greatest s) h g q k]
    rfl
  rw [weighted_apply]
  refine Finset.sum_congr rfl fun k _ => congrArg _ ?_
  refine congrArg₂ Ideal.div (e k) ?_
  rw [along_apply, total_apply]
  exact Finset.sum_congr rfl fun j _ => e j

/-- The reference's result at an index: the head's values weighted by the softmax of its scores. -/
theorem result (i : S8192x1024.Idx) (q : Fin 8192) (h : Fin 4) (g : Fin 2) (d : Fin 128) (hq : (i 0).val = q.val) (hh : (i 1).val / 128 / 2 = h.val)
    (hg : (i 1).val / 128 % 2 = g.val) (hd : (i 1).val % 128 = d.val) :
    res m c i
      = Attend.soft (fun k => scores (a0 m c) (a1 m c) (ix4 h g q k)) fun k : Fin 8192 => a2 m c (ix3 ⟨k.val, by omega⟩ h d) := by
  have hi : (i 1).val < 1024 := (i 1).isLt
  unfold res
  refine Eq.trans ?_ (soft_apply (a2 m c) (scores (a0 m c) (a1 m c)) h d g q)
  generalize weighted (a2 m c) _ = w
  pointwise
  refine congrArg w ?_
  funext b
  apply Fin.ext
  fin_cases b
  · refine Eq.trans ?_ hh
    dsimp
    omega
  · exact hd
  · exact hg
  · exact hq

end Cert.ReferenceCIdeal.Read
end
-- ==== Proof.TieC.lean ====
/- The differential attention's kernel and its reference end with the same array. -/
module

public import proofs.«01_k».proof.Defs
public import proofs.«01_k».proof.Proof.HostC
public import proofs.«01_k».proof.Proof.RefC
public import proofs.«01_k».proof.Proof.Gen.Pre_finite_c

@[expose] public section
set_option maxRecDepth 16384
noncomputable section
namespace Cert.TieC
open Idealize.ShloMosaic Idealize.SL Idealize.SL.Sem
open Cert.KernelCIdeal Cert.KernelCIdeal.Gen Cert.KernelCIdeal.Host
open scoped BigOperators

variable (m : (ℓ : Loc nD τ sig) → Buf (Elt Ideal) ℓ) (c : Dev nD)

/-- Under the precondition the queries and the keys are reals. -/
theorem finite (hpre : Pre_KernelCIdeal_finite_c m) : (∀ i, ∃ r : ℝ, a0 m c i = r) ∧ (∀ i, ∃ r : ℝ, a1 m c i = r) := by
  have h : Cert.Pre_finite_c.fn (F := Ideal) (a0 m c) (a1 m c) (a2 m c) = fun _ => 1#1 := hpre c
  have e := congrFun h (fun a => a.elim0)
  unfold Cert.Pre_finite_c.fn at e
  obtain ⟨e0, e1⟩ := IntOp.andi_eq_one.1 e
  have : Subsingleton (Cert.Pre_finite_c.S_).Idx := ⟨fun a b => funext fun k => k.elim0⟩
  exact ⟨Attend.real_of_finite _ _ _ _ _ _ _ e0, Attend.real_of_finite _ _ _ _ _ _ _ e1⟩

/-- The call's result is the reference's, on arguments that agree. -/
theorem tie (hpre : Pre_KernelCIdeal_finite_c m)
    (m' : (ℓ : Loc Cert.ReferenceCIdeal.nD Cert.ReferenceCIdeal.τ Cert.ReferenceCIdeal.sig) → Buf (Elt Ideal) ℓ)
    (g0 : ReferenceCIdeal.Read.a0 m' c = a0 m c) (g1 : ReferenceCIdeal.Read.a1 m' c = a1 m c) (g2 : ReferenceCIdeal.Read.a2 m' c = a2 m c) (i : S8192x1024.Idx) :
    ReferenceCIdeal.Read.res m' c i = Value.G3 m c i := by
  have hi0 : (i 0).val < 8192 := (i 0).isLt
  have hi1 : (i 1).val < 1024 := (i 1).isLt
  obtain ⟨f0, f1⟩ := finite m c hpre
  choose qs hqs using f0
  choose ks hks using f1
  have hs := score m c qs ks hqs hks
  obtain ⟨q, hq⟩ : ∃ q : Fin 8192, q.val = (i 0).val := ⟨⟨(i 0).val, hi0⟩, rfl⟩
  obtain ⟨h, hh⟩ : ∃ h : Fin 8, h.val = (i 1).val / 128 := ⟨⟨(i 1).val / 128, by omega⟩, rfl⟩
  obtain ⟨d, hd⟩ : ∃ d : Fin 128, d.val = (i 1).val % 128 := ⟨⟨(i 1).val % 128, by omega⟩, rfl⟩
  have eh : (⟨h.val % 8, Nat.mod_lt _ (by decide)⟩ : Fin 8) = h := Fin.ext (Nat.mod_eq_of_lt h.isLt)
  have er : ∀ k : Fin 8192, State.row k.val = ⟨k.val, by omega⟩ := fun k => Fin.ext (Nat.mod_eq_of_lt (by omega))
  rw [ReferenceCIdeal.Read.result m' c i q (Host.hd h) (Host.mp h) d hq.symm (congrArg (· / 2) hh.symm) (congrArg (· % 2) hh.symm) hd.symm,
    State.written m c (fun h q => ⟨_, fun k => hs h q k⟩) i, ← hq, ← hh, ← hd, g0, g1, g2]
  refine Eq.trans ?_ (Attend.quotient (fun k => raw qs ks ⟨h.val % 8, Nat.mod_lt _ (by decide)⟩ (State.row q.val) (State.row k)) σ (1 / √64)
    (Attend.scale_eq 64) _ _ _ 8192 (by decide)
    (fun k : Fin 8192 => ReferenceCIdeal.Read.scores (a0 m c) (a1 m c) (ix4 (Host.hd h) (Host.mp h) q k)) (fun k => hs h.val q.val k) ?_ ?_).symm
  · refine congrArg _ (funext fun k => ?_)
    unfold State.val
    have := value m c (State.row k.val) (Host.hd ⟨h.val % 8, Nat.mod_lt _ (by decide)⟩) d.val (by omega)
    rw [dif_pos d.isLt] at this
    refine Eq.trans ?_ (Eq.trans this.symm ?_)
    · rw [eh, er]
    · congr 2
      apply Fin.ext
      show h.val % 8 / 2 * 144 + d.val = h.val % 8 / 2 * 144 + d.val % 144
      omega
  · intro k
    rw [ReferenceCIdeal.Read.scores_apply]
    simp only [hqs, hks, ← EReal.coe_mul, Softmax.coe_sum, ← EReal.coe_add]
    rw [eh, er q, er k]
    rfl
  · intro k
    have := value m c (State.row k) (Host.hd ⟨h.val % 8, Nat.mod_lt _ (by decide)⟩) 128 (by decide)
    rwa [dif_neg (by decide)] at this

/-- The algebraic claim of the differential attention. -/
theorem algebraic : algebraic_KernelCIdeal_ReferenceCIdeal_pre_finite_c := by
  intro m ρ m' ρ' hpre hagree
  refine ⟨_, Cert.KernelCIdeal.Value.run (F := Ideal) m ρ, ?_⟩
  refine (θ_run Cert.ReferenceCIdeal.defs _ _).mono (fun _ h c => ⟨?_, (h c).2⟩) (Cert.ReferenceCIdeal.Value.run (F := Ideal) m' ρ')
  obtain ⟨g0, g1, g2⟩ := hagree c
  refine ((h c).1.trans ?_).trans (funext fun i => tie m c hpre m' g0 g1 g2 i)
  unfold ReferenceCIdeal.Read.res ReferenceCIdeal.Read.weighted ReferenceCIdeal.Read.total ReferenceCIdeal.Read.along ReferenceCIdeal.Read.greatest ReferenceCIdeal.Read.scores ReferenceCIdeal.Read.a0 ReferenceCIdeal.Read.a1 ReferenceCIdeal.Read.a2
  rfl

end Cert.TieC
end
-- ==== Proof.Norm.lean ====
/- The mathematics of the output projection, a token at a time: the root-mean-square norm of a head, the layer norm of a
   row, and the row's mix as a sum of the heads' products. -/
module

public import Idealize.ShloMosaic.PureOps.Ideal
public import Mathlib.Algebra.BigOperators.Fin

@[expose] public section
set_option maxRecDepth 16384
noncomputable section
namespace Cert.Norm
open Idealize.ShloMosaic
open scoped BigOperators

/-- The constant inside the norms' roots. -/
def eps : EReal := Ideal.ofBits .f32 0x3727C5AC#32

/-- The numbers of entries that the means divide by, 128 and 2048. -/
def n128 : EReal := Ideal.ofBits .f32 0x43000000#32
def n2048 : EReal := Ideal.ofBits .f32 0x45000000#32

/-- The root-mean-square norm of a row `x` with gain `g`; `w` is the number of entries. -/
def rms {n : ℕ} (w : EReal) (x g : Fin n → EReal) (j : Fin n) : EReal :=
  x j * Ideal.rsqrt (Ideal.div (∑ k, x k * x k) w + eps) * g j

/-- The mean of a row. -/
def mean {n : ℕ} (w : EReal) (y : Fin n → EReal) : EReal := Ideal.div (∑ k, y k) w

/-- The layer norm of a row `y` with gain `g` and offset `b`. -/
def layer {n : ℕ} (w : EReal) (y g b : Fin n → EReal) (j : Fin n) : EReal :=
  (y j - mean w y) * Ideal.rsqrt (mean w (fun k => (y k - mean w y) * (y k - mean w y)) + eps) * g j + b j

/-- The weight of the second softmax, from the four vectors it is learnt as. -/
def lam (q1 k1 q2 k2 : Fin 64 → EReal) : EReal :=
  Ideal.exp (∑ k, q1 k * k1 k) - Ideal.exp (∑ k, q2 k * k2 k) + Ideal.ofBits .f32 0x3E4CCCCD#32

/-- Head `h` of the differential attention, from the row `o` of its softmaxes' weighted values: the difference, normed. -/
def head (l : EReal) (o : Fin 1024 → EReal) (g : Fin 128 → EReal) (h : Fin 4) (j : Fin 128) : EReal :=
  rms n128 (fun k => o ⟨256 * h.val + k.val, by omega⟩ - l * o ⟨256 * h.val + 128 + k.val, by omega⟩) g j
    * Ideal.ofBits .f32 0x3F4CCCCD#32

/-- The product of a differential head with its rows of the weights' column `W`. -/
def headDot (l : EReal) (o : Fin 1024 → EReal) (g : Fin 128 → EReal) (W : Fin 2048 → EReal) (h : Fin 4) : EReal :=
  ∑ k : Fin 128, head l o g h k * W ⟨1536 + 128 * h.val + k.val, by omega⟩

/-- A row of the groups' outputs against a column of the weights, group by group. -/
def mix (l : EReal) (a b : Fin 768 → EReal) (o : Fin 1024 → EReal) (g : Fin 128 → EReal) (W : Fin 2048 → EReal) : EReal :=
  (∑ k : Fin 768, a k * W ⟨k.val, by omega⟩) + (∑ k : Fin 768, b k * W ⟨768 + k.val, by omega⟩)
    + headDot l o g W 0 + headDot l o g W 1 + headDot l o g W 2 + headDot l o g W 3

/-- An entry of the result: the layer norm of the residual plus the mix. -/
def row (l : EReal) (a b : Fin 768 → EReal) (o : Fin 1024 → EReal) (g : Fin 128 → EReal) (x : Fin 2048 → EReal)
    (W : Fin 2048 → Fin 2048 → EReal) (g1 b1 : Fin 2048 → EReal) (n : Fin 2048) : EReal :=
  layer n2048 (fun j => Ideal.ofBits .f32 0x3FD744FD#32 * x j + mix l a b o g (fun k => W k j)) g1 b1 n

/-- The concatenation of the groups' outputs. -/
def cat (l : EReal) (a b : Fin 768 → EReal) (o : Fin 1024 → EReal) (g : Fin 128 → EReal) (k : Fin 2048) : EReal :=
  if h : k.val < 768 then a ⟨k.val, h⟩
  else if h' : k.val < 1536 then b ⟨k.val - 768, by omega⟩
  else head l o g ⟨(k.val - 1536) / 128, by omega⟩ ⟨(k.val - 1536) % 128, by omega⟩

/-- A sum over indices below `c`, cut at `a`. -/
theorem cut (f : ℕ → EReal) (a b c : ℕ) (h : a + b = c) : ∑ k : Fin c, f k.val = (∑ k : Fin a, f k.val) + ∑ k : Fin b, f (a + k.val) := by
  subst h
  exact Fin.sum_univ_add _

/-- A sum over 2048 indices, cut where the groups and heads meet. -/
theorem sum_cut (f : Fin 2048 → EReal) : ∑ k, f k
    = (∑ k : Fin 768, f ⟨k.val, by omega⟩) + (∑ k : Fin 768, f ⟨768 + k.val, by omega⟩)
      + (∑ k : Fin 128, f ⟨1536 + k.val, by omega⟩) + (∑ k : Fin 128, f ⟨1664 + k.val, by omega⟩)
      + (∑ k : Fin 128, f ⟨1792 + k.val, by omega⟩) + (∑ k : Fin 128, f ⟨1920 + k.val, by omega⟩) := by
  obtain ⟨F, hF⟩ : ∃ F : ℕ → EReal, ∀ k : Fin 2048, f k = F k.val :=
    ⟨fun i => if h : i < 2048 then f ⟨i, h⟩ else 0, fun k => by simp⟩
  simp only [hF]
  rw [cut F 1920 128 2048 rfl, cut F 1792 128 1920 rfl, cut F 1664 128 1792 rfl, cut F 1536 128 1664 rfl, cut F 768 768 1536 rfl]

/-- The concatenation against a column of the weights is the mix. -/
theorem cat_dot (l : EReal) (a b : Fin 768 → EReal) (o : Fin 1024 → EReal) (g : Fin 128 → EReal) (W : Fin 2048 → EReal) :
    ∑ k, cat l a b o g k * W k = mix l a b o g W := by
  rw [sum_cut]
  unfold mix headDot
  have e (h : Fin 4) (s : ℕ) (hs : s = 1536 + 128 * h.val) (k : Fin 128) : cat l a b o g ⟨s + k.val, by omega⟩ = head l o g h k := by
    unfold cat
    rw [dif_neg (by dsimp only; omega), dif_neg (by dsimp only; omega)]
    congr 1 <;> apply Fin.ext <;> dsimp only <;> omega
  refine congrArg₂ (· + ·) (congrArg₂ (· + ·) (congrArg₂ (· + ·) (congrArg₂ (· + ·) (congrArg₂ (· + ·) ?_ ?_) ?_) ?_) ?_) ?_
  · refine Finset.sum_congr rfl fun k _ => congrArg (· * _) ?_
    unfold cat
    rw [dif_pos k.isLt]
  · refine Finset.sum_congr rfl fun k _ => congrArg (· * _) ?_
    unfold cat
    rw [dif_neg (by dsimp only; omega), dif_pos (by dsimp only; omega)]
    congr 1
    apply Fin.ext
    dsimp only
    omega
  · exact Finset.sum_congr rfl fun k _ => congrArg (· * _) (e 0 1536 rfl k)
  · exact Finset.sum_congr rfl fun k _ => congrArg (· * _) (e 1 1664 rfl k)
  · exact Finset.sum_congr rfl fun k _ => congrArg (· * _) (e 2 1792 rfl k)
  · exact Finset.sum_congr rfl fun k _ => congrArg (· * _) (e 3 1920 rfl k)

end Cert.Norm
end
-- ==== Proof.StepO.lean ====
/- What one grid point of the output projection writes, read at an index of its block. -/
module

public import proofs.«01_k».proof.Proof.Gen.KernelOIdeal.Value
public import proofs.«01_k».proof.Proof.Norm
public import Idealize.ShloMosaic.PureOps.Ideal
public import Idealize.ShloMosaic.Lib.Pointwise
public import Idealize.ShloMosaic.Lib.Pipeline.ReadBack
public import Idealize.ShloMosaic.Lib.Pipeline.ValueKit.Tiles

@[expose] public section
set_option maxRecDepth 16384
noncomputable section
namespace Cert.KernelOIdeal.Step
open Idealize.ShloMosaic Idealize.SL Idealize.SL.Sem
open Cert.KernelOIdeal Cert.KernelOIdeal.Gen
open scoped BigOperators

/-- One differential head of a block: the difference of its softmaxes' weighted values, normed. -/
def headK (l : FVec Ideal S1x1 .f32) (o1 o2 : FVec Ideal S256x128 .f32) (g : FVec Ideal S1x128 .f32) : FVec Ideal S256x128 .bf16 :=
  let d := subf o1 (mulf (broadcastTo S256x128 l broadcasts_S1x1_S256x128) o2)
  truncf .bf16 (mulf (mulf (mulf d (broadcastTo S256x128 (rsqrt (addf (divf (shapeCast S256x1
      (multiReduction .add [1] S256 (mulf d d) 0x00000000#32 reduces_S256x128_S256 (.inl rfl) rfl) shapeCasts_S256_S256x1)
      (broadcast S256x1 (Scalar.ofBits .f32 0x43000000#32))) (broadcast S256x1 (Scalar.ofBits .f32 0x3727C5AC#32)))) broadcasts_S256x1_S256x128))
    (broadcastTo S256x128 (shapeCast S1x128 g shapeCasts_S1x128_S1x128) broadcasts_S1x128_S256x128)) (broadcast S256x128 (Scalar.ofBits .f32 0x3F4CCCCD#32))) bitsLt_bf16_f32

/-- Its product with its rows of the weights. -/
def dotK (c : FVec Ideal S256x128 .bf16) (w : FVec Ideal S128x2048 .bf16) : FVec Ideal S256x2048 .f32 :=
  matmul dot_S256x128_S128x2048_S256x2048_1_0_0_1_n_n none c (shapeCast S128x2048 w shapeCasts_S128x2048_S128x2048) (constant S256x2048 .f32 0x00000000#32)

/-- The layer norm of a block. -/
def layerK (y : FVec Ideal S256x2048 .f32) (g b : FVec Ideal S1x2048 .f32) : FVec Ideal S256x2048 .f32 :=
  let avg (z : FVec Ideal S256x2048 .f32) : FVec Ideal S256x1 .f32 := divf (shapeCast S256x1
    (multiReduction .add [1] S256 z 0x00000000#32 reduces_S256x2048_S256 (.inl rfl) rfl) shapeCasts_S256_S256x1) (broadcast S256x1 (Scalar.ofBits .f32 0x45000000#32))
  let d := subf y (broadcastTo S256x2048 (avg y) broadcasts_S256x1_S256x2048)
  addf (mulf (mulf d (broadcastTo S256x2048 (rsqrt (addf (avg (mulf d d)) (broadcast S256x1 (Scalar.ofBits .f32 0x3727C5AC#32)))) broadcasts_S256x1_S256x2048))
    (broadcastTo S256x2048 (shapeCast S1x2048 g shapeCasts_S1x2048_S1x2048) broadcasts_S1x2048_S256x2048))
    (broadcastTo S256x2048 (shapeCast S1x2048 b shapeCasts_S1x2048_S1x2048) broadcasts_S1x2048_S256x2048)

/-- The head at an index; -/
theorem headK_apply (l o1 o2 g) (p : Fin 256) (j : Fin 128) : headK l o1 o2 g (ix2 p j)
    = Norm.rms Norm.n128 (fun k => o1 (ix2 p k) - l (ix2 0 0) * o2 (ix2 p k)) (fun k => g (ix2 0 k)) j * Ideal.ofBits .f32 0x3F4CCCCD#32 := by
  unfold headK Norm.rms Norm.n128 Norm.eps
  pointwise

/-- its product at an index; -/
theorem dotK_apply (c w) (p : Fin 256) (n : Fin 2048) : dotK c w (ix2 p n) = ∑ k : Fin 128, c (ix2 p k) * w (ix2 k n) := by
  unfold dotK
  pointwise

/-- the layer norm at an index; -/
theorem layerK_apply (y g b) (p : Fin 256) (n : Fin 2048) : layerK y g b (ix2 p n)
    = Norm.layer Norm.n2048 (fun k => y (ix2 p k)) (fun k => g (ix2 0 k)) (fun k => b (ix2 0 k)) n := by
  unfold layerK Norm.layer Norm.mean Norm.n2048 Norm.eps
  pointwise

/-- the weight of the second softmax; -/
theorem lam_apply (v : FVec Ideal S4x64 .f32) : k0_pay1 (F := Ideal) v (ix2 0 0)
    = Norm.lam (fun k => v (ix2 0 k)) (fun k => v (ix2 1 k)) (fun k => v (ix2 2 k)) (fun k => v (ix2 3 k)) := by
  unfold k0_pay1 Norm.lam
  pointwise

/-- the products of the other two groups. -/
theorem pay2_apply (a w b u) (p : Fin 256) (n : Fin 2048) : k0_pay2 (F := Ideal) a w b u (ix2 p n)
    = (∑ k : Fin 768, a (ix2 p k) * w (ix2 k n)) + ∑ k : Fin 768, b (ix2 p k) * u (ix2 k n) := by
  unfold k0_pay2
  pointwise

/-- The groups' products, summed: from the other two groups' `z` and the four heads' values, gain and weights. -/
def mixK (l : FVec Ideal S1x1 .f32) (z : FVec Ideal S256x2048 .f32) (o1 o2 o3 o4 o5 o6 o7 o8 : FVec Ideal S256x128 .f32)
    (g : FVec Ideal S1x128 .f32) (w1 w2 w3 w4 : FVec Ideal S128x2048 .bf16) : FVec Ideal S256x2048 .f32 :=
  addf (addf (addf (addf z (dotK (headK l o1 o2 g) w1)) (dotK (headK l o3 o4 g) w2)) (dotK (headK l o5 o6 g) w3)) (dotK (headK l o7 o8 g) w4)

/-- The stored value is the layer norm of the scaled residual plus the products' sum. -/
theorem pay_eq (q : FVec Ideal S4x64 .f32) (z x : FVec Ideal S256x2048 .f32) (o1 o2 o3 o4 o5 o6 o7 o8 : FVec Ideal S256x128 .f32)
    (g : FVec Ideal S1x128 .f32) (w1 w2 w3 w4 : FVec Ideal S128x2048 .bf16) (g1 b1 : FVec Ideal S1x2048 .f32) :
    k0_pay11 (F := Ideal) (k0_pay7 (k0_pay1 q) (k0_pay6 (k0_pay1 q) z (k0_pay3 q o1 o2) (k0_pay4 g) (k0_pay5 q o1 o2)
      (Scalar.ofBits .f32 0x43000000#32) w1 o3 o4 g w2) o5 o6 g w3) (k0_pay8 (k0_pay1 q) o7 o8) (k0_pay9 g) (k0_pay10 (k0_pay1 q) o7 o8)
      (Scalar.ofBits .f32 0x3727C5AC#32) w4 x g1 b1
    = layerK (addf (mulf (broadcast S256x2048 (Scalar.ofBits .f32 0x3FD744FD#32)) x) (mixK (k0_pay1 q) z o1 o2 o3 o4 o5 o6 o7 o8 g w1 w2 w3 w4)) g1 b1 := by
  unfold k0_pay11 k0_pay10 k0_pay9 k0_pay8 k0_pay7 k0_pay6 k0_pay5 k0_pay4 k0_pay3
  generalize k0_pay1 (F := Ideal) q = l
  unfold layerK mixK dotK headK
  rfl

/-- The sum at an index. -/
theorem mixK_apply (l z o1 o2 o3 o4 o5 o6 o7 o8 g w1 w2 w3 w4) (p : Fin 256) (n : Fin 2048) : mixK l z o1 o2 o3 o4 o5 o6 o7 o8 g w1 w2 w3 w4 (ix2 p n)
    = z (ix2 p n) + (∑ k : Fin 128, headK l o1 o2 g (ix2 p k) * w1 (ix2 k n)) + (∑ k : Fin 128, headK l o3 o4 g (ix2 p k) * w2 (ix2 k n))
      + (∑ k : Fin 128, headK l o5 o6 g (ix2 p k) * w3 (ix2 k n)) + ∑ k : Fin 128, headK l o7 o8 g (ix2 p k) * w4 (ix2 k n) := by
  rw [← dotK_apply, ← dotK_apply, ← dotK_apply, ← dotK_apply]
  rfl

/-- A head's product over loads from the block of values and the block of weights. -/
theorem load_dot (h : Fin 4) (l : FVec Ideal S1x1 .f32) (x2 : FVec Ideal S256x1024 .f32) (x4 : FVec Ideal S2048x2048 .bf16) (x6 g : FVec Ideal S1x128 .f32)
    (o1 o2 : FVec Ideal S256x128 .f32) (w : FVec Ideal S128x2048 .bf16) (p : Fin 256) (n : Fin 2048)
    (h1 : ∀ k : Fin 128, o1 (ix2 p k) = x2 (ix2 p ⟨256 * h.val + k.val, by omega⟩))
    (h2 : ∀ k : Fin 128, o2 (ix2 p k) = x2 (ix2 p ⟨256 * h.val + 128 + k.val, by omega⟩))
    (hg : ∀ k : Fin 128, g (ix2 0 k) = x6 (ix2 0 k))
    (hw : ∀ k : Fin 128, w (ix2 k n) = x4 (ix2 ⟨1536 + 128 * h.val + k.val, by omega⟩ n)) :
    ∑ k : Fin 128, headK l o1 o2 g (ix2 p k) * w (ix2 k n)
    = Norm.headDot (l (ix2 0 0)) (fun k => x2 (ix2 p k)) (fun k => x6 (ix2 0 k)) (fun k => x4 (ix2 k n)) h := by
  refine Finset.sum_congr rfl fun k _ => ?_
  rw [headK_apply, hw k]
  unfold Norm.head
  simp only [h1, h2, hg]

/-- A load of a block of a matrix, at an index. -/
theorem ld2 {e : EltTy} {a b a' b' : ℕ} (X : Vec Ideal (Shape.mk 2 ![a, b]) e) (s t : ℕ) (inb) (p : Fin a') (q : Fin b') (i : Fin a) (j : Fin b)
    (hi : i.val = s + p.val) (hj : j.val = t + q.val) :
    View.ld (Val := Elt Ideal) X (Rect.unit (s := Shape.mk 2 ![a, b]) ![s, t] (Shape.mk 2 ![a', b']).size inb) (ix2 p q) = X (ix2 i j) := by
  refine congrArg X (funext fun x => Fin.ext ?_)
  fin_cases x
  · exact (congrArg (s + ·) (Nat.one_mul _)).trans hi.symm
  · exact (congrArg (t + ·) (Nat.one_mul _)).trans hj.symm

/-- What a point writes, at an index of its block: the layer norm of the residual plus the mix. -/
theorem out_apply (x0 x1 : Vec Ideal S256x768 .bf16) (x2 : Vec Ideal S256x1024 .f32) (x3 : Vec Ideal S256x2048 .f32)
    (x4 : Vec Ideal S2048x2048 .bf16) (x5 : Vec Ideal S4x64 .f32) (x6 : Vec Ideal S1x128 .f32) (x7 x8 : Vec Ideal S1x2048 .f32)
    (p : Fin 256) (n : Fin 2048) : out0_9 (F := Ideal) x0 x1 x2 x3 x4 x5 x6 x7 x8 (ix2 p n)
    = Norm.row (Norm.lam (fun k => x5 (ix2 0 k)) (fun k => x5 (ix2 1 k)) (fun k => x5 (ix2 2 k)) (fun k => x5 (ix2 3 k)))
      (fun k => x0 (ix2 p k)) (fun k => x1 (ix2 p k)) (fun k => x2 (ix2 p k)) (fun k => x6 (ix2 0 k)) (fun k => x3 (ix2 p k))
      (fun k j => x4 (ix2 k j)) (fun k => x7 (ix2 0 k)) (fun k => x8 (ix2 0 k)) n := by
  have z2 : (![0, 0] : Fin 2 → ℕ) = fun _ => 0 := by funext a; fin_cases a <;> rfl
  unfold out0_9 k0_pay12
  rw [View.canon_unit_zero z2]
  rw [pay_eq]
  have e5 : View.ld (Val := Elt Ideal) x5 r0_0 = x5 := View.ld_unit_zero z2 _ _
  have e3 : View.ld (Val := Elt Ideal) x3 r0_17 = x3 := View.ld_unit_zero z2 _ _
  have e7 : View.ld (Val := Elt Ideal) x7 r0_18 = x7 := View.ld_unit_zero z2 _ _
  have e8 : View.ld (Val := Elt Ideal) x8 r0_18 = x8 := View.ld_unit_zero z2 _ _
  rw [e3, e5, e7, e8, layerK_apply, ← lam_apply]
  unfold Norm.row
  refine congrFun (congrArg (fun y => Norm.layer Norm.n2048 y _ _) (funext fun j => congrArg₂ (· + ·) rfl ((mixK_apply _ _ _ _ _ _ _ _ _ _ _ _ _ _ _ p j).trans ?_))) n
  unfold Norm.mix
  refine congrArg₂ (· + ·) (congrArg₂ (· + ·) (congrArg₂ (· + ·) (congrArg₂ (· + ·) ((pay2_apply _ _ _ _ p j).trans ?_) ?_) ?_) ?_) ?_
  · refine congrArg₂ (· + ·) (Finset.sum_congr rfl fun k _ => congrArg₂ (· * ·) ?_ ?_) (Finset.sum_congr rfl fun k _ => congrArg₂ (· * ·) ?_ ?_)
    · exact ld2 x0 0 0 _ p k p k (Nat.zero_add _).symm (Nat.zero_add _).symm
    · exact ld2 x4 0 0 _ k j ⟨k.val, _⟩ j (Nat.zero_add _).symm (Nat.zero_add _).symm
    · exact ld2 x1 0 0 _ p k p k (Nat.zero_add _).symm (Nat.zero_add _).symm
    · exact ld2 x4 768 0 _ k j ⟨768 + k.val, _⟩ j rfl (Nat.zero_add _).symm
  · exact load_dot 0 _ x2 x4 x6 _ _ _ _ p j (fun k => ld2 x2 0 0 _ p k p _ (Nat.zero_add _).symm rfl) (fun k => ld2 x2 0 128 _ p k p _ (Nat.zero_add _).symm rfl)
      (fun k => ld2 x6 0 0 _ 0 k 0 k rfl (Nat.zero_add _).symm) (fun k => ld2 x4 1536 0 _ k j _ j rfl (Nat.zero_add _).symm)
  · exact load_dot 1 _ x2 x4 x6 _ _ _ _ p j (fun k => ld2 x2 0 256 _ p k p _ (Nat.zero_add _).symm rfl) (fun k => ld2 x2 0 384 _ p k p _ (Nat.zero_add _).symm rfl)
      (fun k => ld2 x6 0 0 _ 0 k 0 k rfl (Nat.zero_add _).symm) (fun k => ld2 x4 1664 0 _ k j _ j rfl (Nat.zero_add _).symm)
  · exact load_dot 2 _ x2 x4 x6 _ _ _ _ p j (fun k => ld2 x2 0 512 _ p k p _ (Nat.zero_add _).symm rfl) (fun k => ld2 x2 0 640 _ p k p _ (Nat.zero_add _).symm rfl)
      (fun k => ld2 x6 0 0 _ 0 k 0 k rfl (Nat.zero_add _).symm) (fun k => ld2 x4 1792 0 _ k j _ j rfl (Nat.zero_add _).symm)
  · exact load_dot 3 _ x2 x4 x6 _ _ _ _ p j (fun k => ld2 x2 0 768 _ p k p _ (Nat.zero_add _).symm rfl) (fun k => ld2 x2 0 896 _ p k p _ (Nat.zero_add _).symm rfl)
      (fun k => ld2 x6 0 0 _ 0 k 0 k rfl (Nat.zero_add _).symm) (fun k => ld2 x4 1920 0 _ k j _ j rfl (Nat.zero_add _).symm)

end Cert.KernelOIdeal.Step
end
-- ==== Proof.StateO.lean ====
/- The output projection's whole result, from the arrays the call finds. -/
module

public import proofs.«01_k».proof.Proof.StepO
public import Idealize.ShloMosaic.Lib.Pipeline.ValueKit.Geometry
public import Idealize.ShloMosaic.Lib.Claim

@[expose] public section
set_option maxRecDepth 16384
noncomputable section
namespace Cert.KernelOIdeal.State
open Idealize.ShloMosaic Idealize.SL Idealize.SL.Sem
open Idealize.ShloMosaic.Pipeline (Dat)
open Cert.KernelOIdeal Cert.KernelOIdeal.Gen Cert.KernelOIdeal.Value Cert.KernelOIdeal.Step
open scoped BigOperators

variable (m : (ℓ : Loc nD τ sig) → Buf (Elt Ideal) ℓ) (c : Dev nD)

/-- The groups' results, the residual, the weights, the weight vectors, and the norms' gains and offset, as the call finds them. -/
def OA : Vec Ideal S24576x768 .bf16 := V m c main_arg0
def OB : Vec Ideal S24576x768 .bf16 := V m c main_arg1
def OC : Vec Ideal S24576x1024 .f32 := V m c main_arg2
def X : Vec Ideal S24576x2048 .f32 := V m c main_arg3
def W : Vec Ideal S2048x2048 .bf16 := V m c main_v5
def L : Vec Ideal S4x64 .f32 := V m c main_v4
def H : Vec Ideal S1x128 .f32 := V m c main_v6
def G1 : Vec Ideal S1x2048 .f32 := V m c main_v7
def B1 : Vec Ideal S1x2048 .f32 := V m c main_v8

/-- The result: every entry is its token's row's. -/
def out : Vec Ideal S24576x2048 .f32 := fun i =>
  Norm.row (Norm.lam (fun k => L m c (ix2 0 k)) (fun k => L m c (ix2 1 k)) (fun k => L m c (ix2 2 k)) (fun k => L m c (ix2 3 k)))
    (fun k => OA m c (ix2 (i 0) k)) (fun k => OB m c (ix2 (i 0) k)) (fun k => OC m c (ix2 (i 0) k)) (fun k => H m c (ix2 0 k))
    (fun k => X m c (ix2 (i 0) k)) (fun k j => W m c (ix2 k j)) (fun k => G1 m c (ix2 0 k)) (fun k => B1 m c (ix2 0 k)) (i 1)

/-- The printed index maps, decided over the grid. -/
theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![t.val, 0] := (by decide +kernel : ∀ t : Fin grid0.N, win0_9.index t = ![t.val, 0])

theorem lt96 (t : Fin cfg0.N) : t.val < 96 := lt_of_lt_of_eq t.isLt N_0

/-- The token of row `p` of point `t`. -/
def tok (t : Fin cfg0.N) (p : Fin 256) : Fin 24576 := ⟨256 * t.val + p.val, by have := lt96 t; omega⟩

/-- The blocks a point reads: its tokens' rows, -/
theorem block0 (t : Fin cfg0.N) (p : Fin 256) (k : Fin 768) : (iblk m c 0 t : Vec Ideal S256x768 .bf16) (ix2 p k) = OA m c (ix2 (tok t p) k) := by
  have ht := lt96 t
  show V m c main_arg0 _ = V m c main_arg0 _
  refine congrArg (V m c main_arg0) ?_
  blk_ext [idx0 t, tok]

theorem block1 (t : Fin cfg0.N) (p : Fin 256) (k : Fin 768) : (iblk m c 1 t : Vec Ideal S256x768 .bf16) (ix2 p k) = OB m c (ix2 (tok t p) k) := by
  have ht := lt96 t
  show V m c main_arg1 _ = V m c main_arg1 _
  refine congrArg (V m c main_arg1) ?_
  blk_ext [idx1 t, tok]

theorem block2 (t : Fin cfg0.N) (p : Fin 256) (k : Fin 1024) : (iblk m c 2 t : Vec Ideal S256x1024 .f32) (ix2 p k) = OC m c (ix2 (tok t p) k) := by
  have ht := lt96 t
  show V m c main_arg2 _ = V m c main_arg2 _
  refine congrArg (V m c main_arg2) ?_
  blk_ext [idx2 t, tok]

theorem block3 (t : Fin cfg0.N) (p : Fin 256) (k : Fin 2048) : (iblk m c 3 t : Vec Ideal S256x2048 .f32) (ix2 p k) = X m c (ix2 (tok t p) k) := by
  have ht := lt96 t
  show V m c main_arg3 _ = V m c main_arg3 _
  refine congrArg (V m c main_arg3) ?_
  blk_ext [idx3 t, tok]

/-- and the whole of the other arrays. -/
theorem block4 (t : Fin cfg0.N) (p k : Fin 2048) : (iblk m c 4 t : Vec Ideal S2048x2048 .bf16) (ix2 p k) = W m c (ix2 p k) := by
  show V m c main_v5 _ = V m c main_v5 _
  refine congrArg (V m c main_v5) ?_
  blk_ext [idx4 t]

theorem block5 (t : Fin cfg0.N) (p : Fin 4) (k : Fin 64) : (iblk m c 5 t : Vec Ideal S4x64 .f32) (ix2 p k) = L m c (ix2 p k) := by
  show V m c main_v4 _ = V m c main_v4 _
  refine congrArg (V m c main_v4) ?_
  blk_ext [idx5 t]

theorem block6 (t : Fin cfg0.N) (k : Fin 128) : (iblk m c 6 t : Vec Ideal S1x128 .f32) (ix2 0 k) = H m c (ix2 0 k) := by
  show V m c main_v6 _ = V m c main_v6 _
  refine congrArg (V m c main_v6) ?_
  blk_ext [idx6 t]

theorem block7 (t : Fin cfg0.N) (k : Fin 2048) : (iblk m c 7 t : Vec Ideal S1x2048 .f32) (ix2 0 k) = G1 m c (ix2 0 k) := by
  show V m c main_v7 _ = V m c main_v7 _
  refine congrArg (V m c main_v7) ?_
  blk_ext [idx7 t]

theorem block8 (t : Fin cfg0.N) (k : Fin 2048) : (iblk m c 8 t : Vec Ideal S1x2048 .f32) (ix2 0 k) = B1 m c (ix2 0 k) := by
  show V m c main_v8 _ = V m c main_v8 _
  refine congrArg (V m c main_v8) ?_
  blk_ext [idx8 t]

/-- What a point writes is its tokens' rows of the result. -/
theorem point (t : Fin cfg0.N) (p : Fin 256) (n : Fin 2048) :
    out0_9 (F := Ideal) (iblk m c 0 t) (iblk m c 1 t) (iblk m c 2 t) (iblk m c 3 t) (iblk m c 4 t) (iblk m c 5 t) (iblk m c 6 t) (iblk m c 7 t) (iblk m c 8 t) (ix2 p n)
    = out m c (ix2 (tok t p) n) := by
  refine (out_apply (iblk m c 0 t) (iblk m c 1 t) (iblk m c 2 t) (iblk m c 3 t) (iblk m c 4 t) (iblk m c 5 t) (iblk m c 6 t) (iblk m c 7 t) (iblk m c 8 t) p n).trans ?_
  show Norm.row _ _ _ _ _ _ _ _ _ n = Norm.row _ _ _ _ _ _ _ _ _ n
  simp only [block0, block1, block2, block3, block4, block5, block6, block7, block8]
  rfl

/-- A block whose rows are its tokens' rows of an array is the array's block. -/
theorem block_eq (t : Fin cfg0.N) (x : Vec Ideal S256x2048 .f32) (g : Vec Ideal S24576x2048 .f32)
    (h : ∀ (p : Fin 256) (n : Fin 2048), x (ix2 p n) = g (ix2 (tok t p) n)) :
    (cfg0.win 9).cut (grid0.coords t) x = ((cfg0.win 9).blk t).view.read (Elt Ideal) g := by
  funext y
  have hy0 : (y 0).val < 256 := (y 0).isLt
  have hy1 : (y 1).val < 2048 := (y 1).isLt
  have hb0 : (((cfg0.win 9).blk t).view.emb y 0).val = win0_9.index t (0 : Fin 2) * 256 + 1 * (y 0).val := rfl
  have hb1 : (((cfg0.win 9).blk t).view.emb y 1).val = win0_9.index t (1 : Fin 2) * 2048 + 1 * (y 1).val := rfl
  have e0 : win0_9.index t (0 : Fin 2) = t.val := congrFun (idx9 t) 0
  have e1 : win0_9.index t (1 : Fin 2) = 0 := congrFun (idx9 t) 1
  rw [e0] at hb0
  rw [e1] at hb1
  have hx : (cfg0.win 9).xinj (grid0.coords t) y = ix2 ⟨(y 0).val, hy0⟩ ⟨(y 1).val, hy1⟩ := by
    funext a
    apply Fin.ext
    fin_cases a <;> rfl
  show x ((cfg0.win 9).xinj (grid0.coords t) y) = g (((cfg0.win 9).blk t).view.emb y)
  refine (congrArg x hx).trans ((h _ _).trans (congrArg g ?_))
  funext a
  apply Fin.ext
  fin_cases a
  · refine Eq.trans ?_ hb0.symm
    show 256 * t.val + (y 0).val = _
    omega
  · refine Eq.trans ?_ hb1.symm
    show (y 1).val = _
    omega

/-- The written blocks cover the result. -/
theorem covers : (cfg0.win 9).Covers := by decide +kernel

/-- The result after the run. -/
theorem final : (dats (F := Ideal) m 0 c).arrAt 9 cfg0.N = out m c :=
  (dats (F := Ideal) m 0 c).arrAt_eq_of_cover 9 (out m c)
    (fun t _ => (flushed9 m c t).trans (block_eq t _ (out m c) (point m c t)))
    (Pipeline.Window.Covers.cover _ covers (Memref.isWhole_whole _))

end Cert.KernelOIdeal.State
end
-- ==== Proof.RefO.lean ====
/- The output projection's reference, read at an index. -/
module

public import proofs.«01_k».proof.Proof.Gen.ReferenceOIdeal.Run
public import proofs.«01_k».proof.Proof.Norm
public import Idealize.ShloMosaic.Lib.Pointwise

@[expose] public section
set_option maxRecDepth 16384
noncomputable section
namespace Cert.ReferenceOIdeal.Read
open Idealize.ShloMosaic Idealize.SL Idealize.SL.Sem
open Cert.ReferenceOIdeal Cert.ReferenceOIdeal.Gen
open scoped BigOperators

variable (m : (ℓ : Loc nD τ sig) → Buf (Elt Ideal) ℓ) (c : Dev nD)

/-- The argument arrays. -/
def a0 : FVec Ideal S24576x768 .bf16 := m ((c.tc : Thread nD τ).loc main_arg0)
def a1 : FVec Ideal S24576x768 .bf16 := m ((c.tc : Thread nD τ).loc main_arg1)
def a2 : FVec Ideal S24576x1024 .f32 := m ((c.tc : Thread nD τ).loc main_arg2)
def a3 : FVec Ideal S24576x2048 .f32 := m ((c.tc : Thread nD τ).loc main_arg3)
def a4 : FVec Ideal S2048x2048 .f32 := m ((c.tc : Thread nD τ).loc main_arg4)
def a5 : FVec Ideal S64 .f32 := m ((c.tc : Thread nD τ).loc main_arg5)
def a6 : FVec Ideal S64 .f32 := m ((c.tc : Thread nD τ).loc main_arg6)
def a7 : FVec Ideal S64 .f32 := m ((c.tc : Thread nD τ).loc main_arg7)
def a8 : FVec Ideal S64 .f32 := m ((c.tc : Thread nD τ).loc main_arg8)
def a9 : FVec Ideal S128 .f32 := m ((c.tc : Thread nD τ).loc main_arg9)
def a10 : FVec Ideal S2048 .f32 := m ((c.tc : Thread nD τ).loc main_arg10)
def a11 : FVec Ideal S2048 .f32 := m ((c.tc : Thread nD τ).loc main_arg11)

/-- The weight of the second softmax, -/
def lamR (q1 k1 q2 k2 : FVec Ideal S64 .f32) : FVec Ideal S_ .f32 :=
  addf (subf (Host.exp (Host.reduceAdd (mulf q1 k1) (constant (F := Ideal) S_ .f32 0x00000000#32) reducesTo_S64_S_d0 h_S_))
    (Host.exp (Host.reduceAdd (mulf q2 k2) (constant (F := Ideal) S_ .f32 0x00000000#32) reducesTo_S64_S_d0 h_S_))) (constant (F := Ideal) S_ .f32 0x3E4CCCCD#32)

/-- the heads' differences, -/
def diffR (o : FVec Ideal S24576x1024 .f32) (l : FVec Ideal S_ .f32) : FVec Ideal S24576x4x128 .f32 :=
  subf (shapeCast S24576x4x128 (extractStridedSlice S24576x4x1x128 ![0, 0, 0, 0] (shapeCast S24576x4x2x128 o shapeCasts_S24576x1024_S24576x4x2x128) slices_S24576x4x2x128_S24576x4x1x128_0_0_0_0) shapeCasts_S24576x4x1x128_S24576x4x128)
    (mulf (broadcastInDim S24576x4x128 ![] bcast_S_S24576x4x128 l)
      (shapeCast S24576x4x128 (extractStridedSlice S24576x4x1x128 ![0, 0, 1, 0] (shapeCast S24576x4x2x128 o shapeCasts_S24576x1024_S24576x4x2x128) slices_S24576x4x2x128_S24576x4x1x128_0_0_1_0) shapeCasts_S24576x4x1x128_S24576x4x128))

/-- normed, -/
def headR (d : FVec Ideal S24576x4x128 .f32) (g : FVec Ideal S128 .f32) : FVec Ideal S24576x4x128 .f32 :=
  mulf (mulf (mulf d (broadcastInDim S24576x4x128 ![0, 1, 2] bcast_S24576x4x1_S24576x4x128_0_1_2 (Host.rsqrt (addf (Host.divf
      (broadcastInDim S24576x4x1 ![0, 1] bcast_S24576x4_S24576x4x1_0_1 (Host.reduceAdd (mulf d d) (constant (F := Ideal) S_ .f32 0x00000000#32) reducesTo_S24576x4x128_S24576x4_d2 h_S_))
      (broadcastInDim S24576x4x1 ![] bcast_S_S24576x4x1 (constant (F := Ideal) S_ .f32 0x43000000#32)))
      (broadcastInDim S24576x4x1 ![] bcast_S_S24576x4x1 (constant (F := Ideal) S_ .f32 0x3727C5AC#32))))))
    (broadcastInDim S24576x4x128 ![0, 1, 2] bcast_S1x1x128_S24576x4x128_0_1_2 (broadcastInDim S1x1x128 ![2] bcast_S128_S1x1x128_2 g)))
    (broadcastInDim S24576x4x128 ![] bcast_S_S24576x4x128 (constant (F := Ideal) S_ .f32 0x3F4CCCCD#32))

/-- beside the other groups' results, -/
def catR (a b : FVec Ideal S24576x768 .bf16) (d : FVec Ideal S24576x4x128 .f32) : FVec Ideal S24576x2048 .f32 :=
  concatenate S24576x2048 1 [⟨S24576x768, ((extf .f32 a bitsLt_bf16_f32) : (⟨S24576x768, .f32⟩ : BufTy).Contents (Elt Ideal))⟩,
    ⟨S24576x768, ((extf .f32 b bitsLt_bf16_f32) : (⟨S24576x768, .f32⟩ : BufTy).Contents (Elt Ideal))⟩,
    ⟨S24576x512, ((shapeCast S24576x512 d shapeCasts_S24576x4x128_S24576x512) : (⟨S24576x512, .f32⟩ : BufTy).Contents (Elt Ideal))⟩] concatenates_S24576x768_S24576x768_S24576x512_S24576x2048_d1

/-- the residual plus their product with the weights, -/
def sumR (x : FVec Ideal S24576x2048 .f32) (t : FVec Ideal S24576x2048 .f32) (w : FVec Ideal S2048x2048 .f32) : FVec Ideal S24576x2048 .f32 :=
  addf (mulf (broadcastInDim S24576x2048 ![] bcast_S_S24576x2048 (constant (F := Ideal) S_ .f32 0x3FD744FD#32)) x)
    (Host.dotGeneral (F := Ideal) dot_S24576x2048_S2048x2048_S24576x2048_1_0_0_1_n_n none t w)

/-- a row's mean, -/
def meanR (y : FVec Ideal S24576x2048 .f32) : FVec Ideal S24576x1 .f32 :=
  Host.divf (broadcastInDim S24576x1 ![0] bcast_S24576_S24576x1_0 (Host.reduceAdd y (constant (F := Ideal) S_ .f32 0x00000000#32) reducesTo_S24576x2048_S24576_d1 h_S_))
    (broadcastInDim S24576x1 ![] bcast_S_S24576x1 (constant (F := Ideal) S_ .f32 0x45000000#32))

/-- and the layer norm. -/
def layerR (y : FVec Ideal S24576x2048 .f32) (g b : FVec Ideal S2048 .f32) : FVec Ideal S24576x2048 .f32 :=
  let d := subf y (broadcastInDim S24576x2048 ![0, 1] bcast_S24576x1_S24576x2048_0_1 (meanR y))
  addf (mulf (mulf d (broadcastInDim S24576x2048 ![0, 1] bcast_S24576x1_S24576x2048_0_1 (Host.rsqrt (addf (meanR (mulf d d))
      (broadcastInDim S24576x1 ![] bcast_S_S24576x1 (constant (F := Ideal) S_ .f32 0x3727C5AC#32))))))
    (broadcastInDim S24576x2048 ![0, 1] bcast_S1x2048_S24576x2048_0_1 (broadcastInDim S1x2048 ![1] bcast_S2048_S1x2048_1 g)))
    (broadcastInDim S24576x2048 ![0, 1] bcast_S1x2048_S24576x2048_0_1 (broadcastInDim S1x2048 ![1] bcast_S2048_S1x2048_1 b))

/-- The reference's result. -/
def res : FVec Ideal S24576x2048 .f32 :=
  layerR (sumR (a3 m c) (catR (a0 m c) (a1 m c) (headR (diffR (a2 m c) (lamR (a5 m c) (a6 m c) (a7 m c) (a8 m c))) (a9 m c))) (a4 m c)) (a10 m c) (a11 m c)

/-- The printed result is this one. -/
theorem res_eq : Value.res_main_v60 (F := Ideal) m c = res m c := by
  unfold Value.res_main_v60 res layerR meanR sumR catR headR diffR lamR a0 a1 a2 a3 a4 a5 a6 a7 a8 a9 a10 a11
  rfl

theorem lamR_apply (q1 k1 q2 k2 : FVec Ideal S64 .f32) (i : S_.Idx) : lamR q1 k1 q2 k2 i
    = Norm.lam (fun k => q1 (ix1 k)) (fun k => k1 (ix1 k)) (fun k => q2 (ix1 k)) (fun k => k2 (ix1 k)) := by
  unfold lamR Norm.lam
  pointwise

theorem diffR_apply (o l) (i : Fin 24576) (h : Fin 4) (k : Fin 128) : diffR o l (ix3 i h k)
    = o (ix2 i ⟨256 * h.val + k.val, by omega⟩) - l ix0 * o (ix2 i ⟨256 * h.val + 128 + k.val, by omega⟩) := by
  unfold diffR
  pointwise
  simp only [Nat.mul_comm]

theorem headR_apply (d g) (i : Fin 24576) (h : Fin 4) (k : Fin 128) : headR d g (ix3 i h k)
    = Norm.rms Norm.n128 (fun k => d (ix3 i h k)) (fun k => g (ix1 k)) k * Ideal.ofBits .f32 0x3F4CCCCD#32 := by
  unfold headR Norm.rms Norm.n128 Norm.eps
  pointwise

theorem catR_apply (a b d) (i : Fin 24576) (k : Fin 2048) : catR a b d (ix2 i k)
    = if h : k.val < 768 then a (ix2 i ⟨k.val, h⟩) else if h' : k.val < 1536 then b (ix2 i ⟨k.val - 768, by omega⟩)
      else d (ix3 i ⟨(k.val - 1536) / 128, by omega⟩ ⟨(k.val - 1536) % 128, by omega⟩) := by
  unfold catR
  pointwise
  refine dite_congr rfl (fun _ => rfl) fun h => dite_congr (propext (by omega)) (fun _ => rfl) fun _ => congrArg d ?_
  congr 1 <;> apply Fin.ext <;> dsimp only <;> omega

theorem sumR_apply (x t w) (i : Fin 24576) (j : Fin 2048) : sumR x t w (ix2 i j)
    = Ideal.ofBits .f32 0x3FD744FD#32 * x (ix2 i j) + ∑ k : Fin 2048, t (ix2 i k) * w (ix2 k j) := by
  unfold sumR
  pointwise

theorem meanR_apply (y) (i : Fin 24576) (j : Fin 1) : meanR y (ix2 i j) = Norm.mean Norm.n2048 (fun k => y (ix2 i k)) := by
  unfold meanR Norm.mean Norm.n2048
  pointwise

theorem layerR_apply (y g b) (i : Fin 24576) (j : Fin 2048) : layerR y g b (ix2 i j)
    = Norm.layer Norm.n2048 (fun k => y (ix2 i k)) (fun k => g (ix1 k)) (fun k => b (ix1 k)) j := by
  unfold layerR Norm.layer Norm.eps
  pointwise
  rw [meanR_apply, meanR_apply]
  simp only [mulf, subf]
  pointwise
  simp only [meanR_apply]

/-- The reference's result at an index: the layer norm of the residual plus the mix. -/
theorem result (i : Fin 24576) (j : Fin 2048) : res m c (ix2 i j)
    = Norm.row (Norm.lam (fun k => a5 m c (ix1 k)) (fun k => a6 m c (ix1 k)) (fun k => a7 m c (ix1 k)) (fun k => a8 m c (ix1 k)))
      (fun k => a0 m c (ix2 i k)) (fun k => a1 m c (ix2 i k)) (fun k => a2 m c (ix2 i k)) (fun k => a9 m c (ix1 k)) (fun k => a3 m c (ix2 i k))
      (fun k j => a4 m c (ix2 k j)) (fun k => a10 m c (ix1 k)) (fun k => a11 m c (ix1 k)) j := by
  unfold res Norm.row
  rw [layerR_apply]
  refine congrFun (congrArg (fun y => Norm.layer Norm.n2048 y _ _) (funext fun n => (sumR_apply _ _ _ i n).trans (congrArg (Ideal.ofBits .f32 0x3FD744FD#32 * a3 m c (ix2 i n) + ·) ?_))) j
  rw [← Norm.cat_dot]
  refine Finset.sum_congr rfl fun k _ => congrArg (· * _) ((catR_apply _ _ _ i k).trans ?_)
  unfold Norm.cat
  refine dite_congr rfl (fun _ => rfl) fun _ => dite_congr rfl (fun _ => rfl) fun _ => (headR_apply _ _ i _ _).trans ?_
  unfold Norm.head
  simp only [diffR_apply, lamR_apply]

end Cert.ReferenceOIdeal.Read
end
-- ==== Proof.TieO.lean ====
/- The output projection's kernel and its reference end with the same array. -/
module

public import proofs.«01_k».proof.Defs
public import proofs.«01_k».proof.Proof.StateO
public import proofs.«01_k».proof.Proof.RefO

@[expose] public section
set_option maxRecDepth 16384
noncomputable section
namespace Cert.TieO
open Idealize.ShloMosaic Idealize.SL Idealize.SL.Sem
open Cert.KernelOIdeal Cert.KernelOIdeal.Gen Cert.KernelOIdeal.State
open scoped BigOperators

variable (m : (ℓ : Loc nD τ sig) → Buf (Elt Ideal) ℓ) (c : Dev nD)

/-- The argument arrays. -/
def a0 : Vec Ideal S24576x768 .bf16 := m ((c.tc : Thread nD τ).loc main_arg0)
def a1 : Vec Ideal S24576x768 .bf16 := m ((c.tc : Thread nD τ).loc main_arg1)
def a2 : Vec Ideal S24576x1024 .f32 := m ((c.tc : Thread nD τ).loc main_arg2)
def a3 : Vec Ideal S24576x2048 .f32 := m ((c.tc : Thread nD τ).loc main_arg3)
def a4 : Vec Ideal S2048x2048 .f32 := m ((c.tc : Thread nD τ).loc main_arg4)
def a5 : Vec Ideal S64 .f32 := m ((c.tc : Thread nD τ).loc main_arg5)
def a6 : Vec Ideal S64 .f32 := m ((c.tc : Thread nD τ).loc main_arg6)
def a7 : Vec Ideal S64 .f32 := m ((c.tc : Thread nD τ).loc main_arg7)
def a8 : Vec Ideal S64 .f32 := m ((c.tc : Thread nD τ).loc main_arg8)
def a9 : Vec Ideal S128 .f32 := m ((c.tc : Thread nD τ).loc main_arg9)
def a10 : Vec Ideal S2048 .f32 := m ((c.tc : Thread nD τ).loc main_arg10)
def a11 : Vec Ideal S2048 .f32 := m ((c.tc : Thread nD τ).loc main_arg11)

/-- What the call finds, from the arguments: the groups' results and the residual as they are, -/
theorem readA : OA m c = a0 m c := V_main_arg0 m c
theorem readB : OB m c = a1 m c := V_main_arg1 m c
theorem readC : OC m c = a2 m c := V_main_arg2 m c
theorem readX : X m c = a3 m c := V_main_arg3 m c

/-- the weights as they are, -/
theorem readW (k j : Fin 2048) : W m c (ix2 k j) = a4 m c (ix2 k j) := by
  unfold W
  entry_read
  pointwise
  rfl

/-- the four vectors beneath each other, -/
theorem readL : L m c = concatenate S4x64 0
    [⟨S1x64, (broadcastInDim S1x64 ![1] bcast_S64_S1x64_1 (a5 m c) : (⟨S1x64, .f32⟩ : BufTy).Contents (Elt Ideal))⟩,
     ⟨S1x64, (broadcastInDim S1x64 ![1] bcast_S64_S1x64_1 (a6 m c) : (⟨S1x64, .f32⟩ : BufTy).Contents (Elt Ideal))⟩,
     ⟨S1x64, (broadcastInDim S1x64 ![1] bcast_S64_S1x64_1 (a7 m c) : (⟨S1x64, .f32⟩ : BufTy).Contents (Elt Ideal))⟩,
     ⟨S1x64, (broadcastInDim S1x64 ![1] bcast_S64_S1x64_1 (a8 m c) : (⟨S1x64, .f32⟩ : BufTy).Contents (Elt Ideal))⟩] concatenates_S1x64_S1x64_S1x64_S1x64_S4x64_d0 := by
  show StableHlo.after (hostOps0 (F := Ideal)) (fun b => m (c, b)) (Proc.devRef .tc main_v4) = _
  unfold hostOps0
  after_results_simp
  rfl

theorem readL0 (k : Fin 64) : L m c (ix2 0 k) = a5 m c (ix1 k) := by
  rw [readL]
  pointwise

theorem readL1 (k : Fin 64) : L m c (ix2 1 k) = a6 m c (ix1 k) := by
  rw [readL]
  pointwise

theorem readL2 (k : Fin 64) : L m c (ix2 2 k) = a7 m c (ix1 k) := by
  rw [readL]
  pointwise

theorem readL3 (k : Fin 64) : L m c (ix2 3 k) = a8 m c (ix1 k) := by
  rw [readL]
  pointwise

/-- and the norms' gains and offset as rows. -/
theorem readH (k : Fin 128) : H m c (ix2 0 k) = a9 m c (ix1 k) := by
  unfold H
  entry_read
  pointwise
  rfl

theorem readG (k : Fin 2048) : G1 m c (ix2 0 k) = a10 m c (ix1 k) := by
  unfold G1
  entry_read
  pointwise
  rfl

theorem readB1 (k : Fin 2048) : B1 m c (ix2 0 k) = a11 m c (ix1 k) := by
  unfold B1
  entry_read
  pointwise
  rfl

/-- The call's result is the reference's, on arguments that agree. -/
theorem tie (m' : (ℓ : Loc Cert.ReferenceOIdeal.nD Cert.ReferenceOIdeal.τ Cert.ReferenceOIdeal.sig) → Buf (Elt Ideal) ℓ)
    (g0 : ReferenceOIdeal.Read.a0 m' c = a0 m c) (g1 : ReferenceOIdeal.Read.a1 m' c = a1 m c) (g2 : ReferenceOIdeal.Read.a2 m' c = a2 m c)
    (g3 : ReferenceOIdeal.Read.a3 m' c = a3 m c) (g4 : ReferenceOIdeal.Read.a4 m' c = a4 m c) (g5 : ReferenceOIdeal.Read.a5 m' c = a5 m c)
    (g6 : ReferenceOIdeal.Read.a6 m' c = a6 m c) (g7 : ReferenceOIdeal.Read.a7 m' c = a7 m c) (g8 : ReferenceOIdeal.Read.a8 m' c = a8 m c)
    (g9 : ReferenceOIdeal.Read.a9 m' c = a9 m c) (g10 : ReferenceOIdeal.Read.a10 m' c = a10 m c) (g11 : ReferenceOIdeal.Read.a11 m' c = a11 m c)
    (i : Fin 24576) (j : Fin 2048) : ReferenceOIdeal.Read.res m' c (ix2 i j) = out m c (ix2 i j) := by
  rw [ReferenceOIdeal.Read.result, g0, g1, g2, g3, g4, g5, g6, g7, g8, g9, g10, g11]
  unfold out
  simp only [readA, readB, readC, readX, readW, readL0, readL1, readL2, readL3, readH, readG, readB1]
  rfl

/-- The algebraic claim of the output projection. -/
theorem algebraic : algebraic_KernelOIdeal_ReferenceOIdeal := by
  intro m ρ m' ρ' _ hagree
  refine ⟨_, (θ_run Cert.KernelOIdeal.defs _ _).mono (fun _ h c => ⟨(h c).1.trans (final m c), (h c).2⟩) (Cert.KernelOIdeal.Value.run_blocks (F := Ideal) m ρ), ?_⟩
  refine (θ_run Cert.ReferenceOIdeal.defs _ _).mono (fun _ h c => ⟨?_, (h c).2⟩) (Cert.ReferenceOIdeal.Value.run (F := Ideal) m' ρ')
  obtain ⟨g0, g1, g2, g3, g4, g5, g6, g7, g8, g9, g10, g11⟩ := hagree c
  refine ((h c).1.trans (ReferenceOIdeal.Read.res_eq m' c)).trans (funext fun i => ?_)
  rw [eq_ix2 i]
  exact tie m c m' g0 g1 g2 g3 g4 g5 g6 g7 g8 g9 g10 g11 (i 0) (i 1)

end Cert.TieO
end
-- ==== Proof.Rope.lean ====
/- The mathematics of the input projection, a token at a time: a rotation of pairs of entries by angles, and the rows of
   the nine results. -/
module

public import proofs.«01_k».proof.Proof.Norm

@[expose] public section
set_option maxRecDepth 16384
noncomputable section
namespace Cert.Rope
open Idealize.ShloMosaic
open scoped BigOperators

/-- The entry 32 places away in its half of a head. -/
def swap (j : Fin 128) : Fin 128 := ⟨if j.val % 64 < 32 then j.val + 32 else j.val - 32, by split <;> omega⟩

/-- The rotation of a head's entries, from the tables of cosines and signed sines. -/
def rope (f c s : Fin 128 → EReal) (j : Fin 128) : EReal := f j * c j + f (swap j) * s j

/-- The numbers of entries of the latents. -/
def n384 : EReal := Ideal.ofBits .f32 0x43C00000#32
def n256 : EReal := Ideal.ofBits .f32 0x43800000#32

/-- The scales of the three groups' queries. -/
def sA : EReal := (((Real.sqrt 128) * (Real.log 2))⁻¹ : ℝ)
def sB : EReal := (((Real.sqrt 192) * (Real.log 2))⁻¹ : ℝ)
def sC : EReal := (((Real.sqrt 64) * (Real.log 2))⁻¹ : ℝ)

/-- What a token's row of results is made from: the projection's columns, the tables of the two rotations, the gains, and
    the second weights. -/
structure Tok where
  col : ℕ → EReal
  ca : Fin 128 → EReal
  sa : Fin 128 → EReal
  cp : Fin 128 → EReal
  sp : Fin 128 → EReal
  gq : Fin 128 → EReal
  gk : Fin 128 → EReal
  gb : Fin 384 → EReal
  gv : Fin 256 → EReal
  uq : Fin 384 → Fin 1536 → EReal
  uk : Fin 256 → Fin 768 → EReal
  uv : Fin 256 → Fin 768 → EReal

variable (T : Tok)

/-- The position of a column in its head of 128. -/
def pos (n : ℕ) : Fin 128 := ⟨n % 128, by omega⟩

/-- Group A's queries, -/
def qa (n : ℕ) : EReal := rope (Norm.rms Norm.n128 (fun k => T.col (128 * (n / 128) + k.val)) T.gq) T.ca T.sa (pos n) * sA
/-- its keys, -/
def ka (n : ℕ) : EReal := rope (Norm.rms Norm.n128 (fun k => T.col (768 + 128 * (n / 128) + k.val)) T.gk) T.ca T.sa (pos n)
/-- and its values, with rows of ones. -/
def va (r : ℕ) : EReal := if r % 144 < 128 then T.col (1024 + (128 * (r / 144) + r % 144)) else 1
/-- Group B's latent queries and values, -/
def cq (k : Fin 384) : EReal := Norm.rms n384 (fun k => T.col (1280 + k.val)) T.gb k
def cv (k : Fin 256) : EReal := Norm.rms n256 (fun k => T.col (1664 + k.val)) T.gv k
/-- its queries, before and after the rotation, -/
def qh (n : ℕ) : EReal := (∑ k, cq T k * T.uq k ⟨n % 1536, by omega⟩) * sB
def qb (n : ℕ) : EReal := if n % 256 < 128 then qh T n else rope (fun k => qh T (256 * (n / 256) + 128 + k.val)) T.cp T.sp (pos n)
/-- its keys, -/
def kb (n : ℕ) : EReal := if n % 256 < 128 then ∑ k, cv T k * T.uk k ⟨(128 * (n / 256) + n % 256) % 768, by omega⟩
  else rope (fun k => T.col (1920 + k.val)) T.cp T.sp (pos n)
/-- and its values. -/
def vb (r : ℕ) : EReal := if r % 144 < 128 then ∑ k, cv T k * T.uv k ⟨(128 * (r / 144) + r % 144) % 768, by omega⟩ else 1
/-- Group C's queries, -/
def qc (n : ℕ) : EReal := if n % 256 / 128 = n % 128 / 64 then rope (fun k => T.col (2048 + 128 * (n / 256) + k.val)) T.cp T.sp (pos n) * sC else 0
/-- its keys, -/
def kc (n : ℕ) : EReal := rope (fun k => T.col (2560 + 128 * (n / 128) + k.val)) T.cp T.sp (pos n)
/-- and its values. -/
def vc (r : ℕ) : EReal := if r % 144 < 128 then T.col (3072 + (128 * (r / 144) + r % 144)) else 1

end Cert.Rope
end
-- ==== Proof.StepJ.lean ====
/- The pieces of a grid point of the input projection, read at an index. -/
module

public import proofs.«01_k».proof.Proof.Gen.KernelIIdeal.Skeleton
public import proofs.«01_k».proof.Proof.Rope
public import Idealize.ShloMosaic.PureOps.Ideal
public import Idealize.ShloMosaic.Lib.Pointwise

@[expose] public section
set_option maxRecDepth 16384
noncomputable section
namespace Cert.KernelIIdeal.Step
open Idealize.ShloMosaic Idealize.SL Idealize.SL.Sem
open Cert.KernelIIdeal Cert.KernelIIdeal.Gen
open scoped BigOperators

/-- The scales of the queries, by name. -/
theorem named_a : Named.named (F := Ideal) κ "scale_a" (φ := .f32) 0x3E0293EE#32 = Rope.sA :=
  IdealRules.named_const.ideal_named_scalar _ _ _ _ rfl
theorem named_b : Named.named (F := Ideal) κ "scale_b" (φ := .f32) 0x3DD53B95#32 = Rope.sB :=
  IdealRules.named_const.ideal_named_scalar _ _ _ _ rfl
theorem named_c : Named.named (F := Ideal) κ "scale_c" (φ := .f32) 0x3E38AA3B#32 = Rope.sC :=
  IdealRules.named_const.ideal_named_scalar _ _ _ _ rfl

/-- The lanes in the first half of their 64. -/
def firstK : IVec S256x128 1 :=
  have v453 : IVec S256x128 32 := iota .tc S256x128 32 [1] iota_S256x128_d1_w32
  let v454 : BitVec 1 := Scalar.cmpi .eq 64#32 0#32
  let v455 : BitVec 32 := Scalar.select v454 1#32 64#32
  have v457 : IVec S256x128 32 := remsi v453 (broadcast S256x128 v455)
  have v459 : IVec S256x128 1 := cmpi .ne v457 (broadcast S256x128 0#32)
  have v461 : IVec S256x128 1 := cmpi .slt v457 (broadcast S256x128 0#32)
  have v464 : IVec S256x128 1 := broadcastTo S256x128 (broadcast S256x128 (Scalar.cmpi .slt v455 0#32)) broadcasts_S256x128_S256x128
  have v466 : IVec S256x128 1 := andi (xori v461 v464) v459
  have v469 : IVec S256x128 32 := select v466 (addi v457 (broadcast S256x128 v455)) v457
  cmpi .slt v469 (broadcast S256x128 32#32)

/-- They read as they say. -/
theorem firstK_apply (p : Fin 256) (j : Fin 128) : firstK (ix2 p j) = if j.val % 64 < 32 then 1#1 else 0#1 := by
  unfold firstK
  pointwise
  revert j
  decide

/-- The rotation of a block's rows, -/
def ropeK (v c s : FVec Ideal S256x128 .f32) : FVec Ideal S256x128 .f32 :=
  addf (mulf v c) (mulf (select firstK (dynamicRotate 1 96#32 none v rotates_S256x128_d1) (dynamicRotate 1 32#32 none v rotates_S256x128_d1)) s)

/-- at an index; -/
theorem ropeK_apply (v c s) (p : Fin 256) (j : Fin 128) : ropeK v c s (ix2 p j)
    = Rope.rope (fun k => v (ix2 p k)) (fun k => c (ix2 p k)) (fun k => s (ix2 p k)) j := by
  unfold ropeK Rope.rope
  pointwise
  rw [firstK_apply]
  refine congrArg (v (ix2 p j) * c (ix2 p j) + ·) (congrArg (· * s (ix2 p j)) ?_)
  unfold Rope.swap
  by_cases h : j.val % 64 < 32
  · rw [if_pos h]
    refine Eq.trans (if_pos rfl) (congrArg v (congrArg (ix2 p) (Fin.ext ?_)))
    simp only [h, if_true]
    omega
  · rw [if_neg h]
    refine Eq.trans (if_neg (by decide)) (congrArg v (congrArg (ix2 p) (Fin.ext ?_)))
    simp only [h, if_false]
    omega

/-- and the norm of its rows. -/
def rmsK (v : FVec Ideal S256x128 .f32) (g : FVec Ideal S1x128 .f32) : FVec Ideal S256x128 .f32 :=
  mulf (mulf v (broadcastTo S256x128 (rsqrt (addf (divf (shapeCast S256x1
      (multiReduction .add [1] S256 (mulf v v) 0x00000000#32 reduces_S256x128_S256 (.inl rfl) rfl) shapeCasts_S256_S256x1)
      (broadcast S256x1 (Scalar.ofBits .f32 0x43000000#32))) (broadcast S256x1 (Scalar.ofBits .f32 0x3727C5AC#32)))) broadcasts_S256x1_S256x128))
    (broadcastTo S256x128 (shapeCast S1x128 g shapeCasts_S1x128_S1x128) broadcasts_S1x128_S256x128)

/-- at an index. -/
theorem rmsK_apply (v g) (p : Fin 256) (j : Fin 128) : rmsK v g (ix2 p j)
    = Norm.rms Norm.n128 (fun k => v (ix2 p k)) (fun k => g (ix2 0 k)) j := by
  unfold rmsK Norm.rms Norm.n128 Norm.eps
  pointwise

/-- A slice of 128 columns, at an index. -/
theorem slK {W : ℕ} (M : FVec Ideal (Shape.mk 2 ![256, W]) .f32) (o : ℕ) (hs) (p : Fin 256) (k : Fin 128) (h : o + k.val < W) :
    extractStridedSlice S256x128 ![0, o] M hs (ix2 p k) = M (ix2 p ⟨o + k.val, h⟩) := by
  refine congrArg M (funext fun a => Fin.ext ?_)
  fin_cases a
  · exact Nat.zero_add _
  · rfl

/-- A slice of 128 rows, at an index. -/
theorem slT {W : ℕ} (M : FVec Ideal (Shape.mk 2 ![W, 256]) .f32) (o : ℕ) (hs) (k : Fin 128) (p : Fin 256) (h : o + k.val < W) :
    extractStridedSlice S128x256 ![o, 0] M hs (ix2 k p) = M (ix2 ⟨o + k.val, h⟩ p) := by
  refine congrArg M (funext fun a => Fin.ext ?_)
  fin_cases a
  · rfl
  · exact Nat.zero_add _

/-- The products of a block's rows with columns of the weights: for the queries of group A, -/
theorem dot8 (a : Vec Ideal S256x2048 .f32) (w) (p : Fin 256) (n : Fin 768) : k0_pay8 (F := Ideal) a w (ix2 p n) = ∑ k : Fin 2048, a (ix2 p k) * w (ix2 k n) := by
  unfold k0_pay8 k0_pay3
  pointwise

/-- its keys and group B's latent values, -/
theorem dot28 (a : Vec Ideal S256x2048 .f32) (w) (p : Fin 256) (n : Fin 256) : k0_pay28 (F := Ideal) (k0_pay3 a) w (ix2 p n) = ∑ k : Fin 2048, a (ix2 p k) * w (ix2 k n) := by
  unfold k0_pay28 k0_pay3
  pointwise

/-- its values, as rows, -/
theorem dot37 (a : Vec Ideal S256x2048 .f32) (w) (p : Fin 256) (n : Fin 256) : k0_pay37 (F := Ideal) (k0_pay3 a) w (ix2 n p) = ∑ k : Fin 2048, a (ix2 p k) * w (ix2 k n) := by
  unfold k0_pay37 k0_pay3
  pointwise

/-- group B's shared key, -/
theorem dot55 (a : Vec Ideal S256x2048 .f32) (w) (p : Fin 256) (n : Fin 128) : k0_pay55 (F := Ideal) (k0_pay3 a) w (ix2 p n) = ∑ k : Fin 2048, a (ix2 p k) * w (ix2 k n) := by
  unfold k0_pay55 k0_pay3
  pointwise

/-- group C's queries and keys, -/
theorem dot78 (a : Vec Ideal S256x2048 .f32) (w) (p : Fin 256) (n : Fin 512) : k0_pay78 (F := Ideal) (k0_pay3 a) w (ix2 p n) = ∑ k : Fin 2048, a (ix2 p k) * w (ix2 k n) := by
  unfold k0_pay78 k0_pay3
  pointwise

/-- and its values, as rows. -/
theorem dot110 (a : Vec Ideal S256x2048 .f32) (w) (p : Fin 256) (n : Fin 512) : k0_pay110 (F := Ideal) (k0_pay3 a) w (ix2 n p) = ∑ k : Fin 2048, a (ix2 p k) * w (ix2 k n) := by
  unfold k0_pay110 k0_pay3
  pointwise

/-- Group B's latent queries, normed. -/
def cqK (a : Vec Ideal S256x2048 .f32) (w : FVec Ideal S2048x384 .bf16) (g : FVec Ideal S1x384 .f32) : FVec Ideal S256x384 .bf16 :=
  let v : FVec Ideal S256x384 .f32 := matmul dot_S256x2048_S2048x384_S256x384_1_0_0_1_n_n none (k0_pay3 a) (shapeCast S2048x384 w shapeCasts_S2048x384_S2048x384) (constant S256x384 .f32 0x00000000#32)
  truncf .bf16 (mulf (mulf v (broadcastTo S256x384 (rsqrt (addf (divf (shapeCast S256x1
      (multiReduction .add [1] S256 (mulf v v) 0x00000000#32 reduces_S256x384_S256 (.inl rfl) rfl) shapeCasts_S256_S256x1)
      (broadcast S256x1 (Scalar.ofBits .f32 0x43C00000#32))) (broadcast S256x1 (Scalar.ofBits .f32 0x3727C5AC#32)))) broadcasts_S256x1_S256x384))
    (broadcastTo S256x384 (shapeCast S1x384 g shapeCasts_S1x384_S1x384) broadcasts_S1x384_S256x384)) bitsLt_bf16_f32

/-- They read as a norm of the products. -/
theorem cqK_apply (a w g) (p : Fin 256) (j : Fin 384) : cqK a w g (ix2 p j)
    = Norm.rms Rope.n384 (fun n => ∑ k : Fin 2048, a (ix2 p k) * w (ix2 k n)) (fun k => g (ix2 0 k)) j := by
  unfold cqK Norm.rms Rope.n384 Norm.eps k0_pay3
  pointwise

/-- Group B's queries. -/
theorem dot41 (a : Vec Ideal S256x2048 .f32) (w : FVec Ideal S2048x384 .bf16) (g : FVec Ideal S1x384 .f32) (u : FVec Ideal S384x1536 .bf16) (p : Fin 256) (n : Fin 1536) : k0_pay41 (F := Ideal) (k0_pay3 a) w g u (ix2 p n)
    = (∑ k : Fin 384, cqK a w g (ix2 p k) * u (ix2 k n)) * Rope.sB := by
  have h : k0_pay41 (F := Ideal) (k0_pay3 a) w g u = mulf (matmul dot_S256x384_S384x1536_S256x1536_1_0_0_1_n_n none (cqK a w g)
      (shapeCast S384x1536 u shapeCasts_S384x1536_S384x1536) (constant S256x1536 .f32 0x00000000#32)) (broadcast S256x1536 (Named.named κ "scale_b" 0x3DD53B95#32)) := by
    unfold k0_pay41 cqK
    rfl
  rw [h, named_b]
  generalize cqK a w g = z
  pointwise

/-- Group B's latent values, normed. -/
theorem cvK (a : Vec Ideal S256x2048 .f32) (w : Vec Ideal S2048x256 .bf16) (g : Vec Ideal S1x256 .f32) (p : Fin 256) (j : Fin 256) :
    k0_pay45 (F := Ideal) (k0_pay42 (k0_pay3 a) w) (k0_pay43 g) (k0_pay44 (k0_pay3 a) w) (ix2 p j)
    = Norm.rms Rope.n256 (fun n => ∑ k : Fin 2048, a (ix2 p k) * w (ix2 k n)) (fun k => g (ix2 0 k)) j := by
  unfold k0_pay45 k0_pay42 k0_pay43 k0_pay44 k0_pay42 Norm.rms Rope.n256 Norm.eps k0_pay3
  pointwise

/-- Their products with the second weights, -/
theorem dot46 (v g r u) (p : Fin 256) (n : Fin 768) : k0_pay46 (F := Ideal) v g r u (ix2 p n) = ∑ k : Fin 256, k0_pay45 (F := Ideal) v g r (ix2 p k) * u (ix2 k n) := by
  unfold k0_pay46
  generalize k0_pay45 (F := Ideal) v g r = z
  pointwise

/-- also as rows. -/
theorem dot47 (v g r u) (p : Fin 256) (n : Fin 768) : k0_pay47 (F := Ideal) v g r u (ix2 n p) = ∑ k : Fin 256, k0_pay45 (F := Ideal) v g r (ix2 p k) * u (ix2 k n) := by
  unfold k0_pay47
  generalize k0_pay45 (F := Ideal) v g r = z
  pointwise

/-- The lanes of the first query of a pair. -/
theorem lowK (p : Fin 256) (j : Fin 128) : (cmpi .slt (iota .tc S256x128 32 [1] iota_S256x128_d1_w32) (broadcast S256x128 64#32) : IVec S256x128 1) (ix2 p j)
    = if j.val < 64 then 1#1 else 0#1 := by
  pointwise
  revert j
  decide

/-- The tables as they are. -/
theorem pay4K (v : Vec Ideal S256x128 .f32) (p : Fin 256) (k : Fin 128) : k0_pay4 (F := Ideal) v (ix2 p k) = v (ix2 p k) := by
  unfold k0_pay4
  pointwise

/-- The rotation of a head, of a row's entries `f` and tables `a` and `b`. -/
theorem ropeK_eq {v c s : FVec Ideal S256x128 .f32} {p : Fin 256} {j : Fin 128} {f a b : Fin 128 → EReal} {n : ℕ}
    (hv : ∀ k, v (ix2 p k) = f k) (hc : ∀ k, c (ix2 p k) = a k) (hs : ∀ k, s (ix2 p k) = b k) (hn : n % 128 = j.val) :
    ropeK v c s (ix2 p j) = Rope.rope f a b (Rope.pos n) := by
  rw [ropeK_apply, funext hv, funext hc, funext hs]
  exact congrArg _ (Fin.ext hn.symm)

/-- The norm of a head, of a row's entries `f` and gain `a`. -/
theorem rmsK_eq {v : FVec Ideal S256x128 .f32} {g : FVec Ideal S1x128 .f32} {p : Fin 256} {f a : Fin 128 → EReal}
    (hv : ∀ k, v (ix2 p k) = f k) (hg : ∀ k, g (ix2 0 k) = a k) (j : Fin 128) :
    rmsK v g (ix2 p j) = Norm.rms Norm.n128 f a j := by
  rw [rmsK_apply, funext hv, funext hg]

/-- An index is its row and its column. -/
theorem ix2_ex {a b : ℕ} (x : (Shape.mk 2 ![a, b]).Idx) : ∃ (p : Fin a) (j : Fin b), x = ix2 p j :=
  ⟨x 0, x 1, by funext i; fin_cases i <;> rfl⟩

end Cert.KernelIIdeal.Step
end
-- ==== Proof.StepI.lean ====
/- What one grid point of the input projection writes, read at an index of its blocks. -/
module

public import proofs.«01_k».proof.Proof.ValueI
public import proofs.«01_k».proof.Proof.StepJ
public import Idealize.ShloMosaic.Lib.Pipeline.ReadBack
public import Idealize.ShloMosaic.Lib.Pipeline.ValueKit.Tiles
public import Idealize.ShloMosaic.Lib.Pipeline.ValueKit.Geometry
public import Idealize.ShloMosaic.Lib.IdealHost

@[expose] public section
set_option maxRecDepth 16384
noncomputable section
namespace Cert.KernelIIdeal.Step
open Idealize.ShloMosaic Idealize.SL Idealize.SL.Sem
open Cert.KernelIIdeal Cert.KernelIIdeal.Gen
open scoped BigOperators

/-- The projection's column `n` of a block's row `p`. -/
def colK (x0 : Vec Ideal S256x2048 .f32) (x1 : Vec Ideal S2048x3584 .bf16) (p : Fin 256) (n : ℕ) : EReal :=
  ∑ k : Fin 2048, x0 (ix2 p k) * x1 (ix2 k ⟨n % 3584, by omega⟩)

/-- What row `p` of a block's results is made from, in terms of the input blocks. -/
def tokK (x0 : Vec Ideal S256x2048 .f32) (x1 : Vec Ideal S2048x3584 .bf16) (x2 x3 x4 x5 : Vec Ideal S256x128 .f32) (x6 x7 : Vec Ideal S1x128 .f32)
    (x8 : Vec Ideal S1x384 .f32) (x9 : Vec Ideal S1x256 .f32) (x10 : Vec Ideal S384x1536 .bf16) (x11 x12 : Vec Ideal S256x768 .bf16) (p : Fin 256) : Rope.Tok where
  col := colK x0 x1 p
  ca k := x2 (ix2 p k)
  sa k := x3 (ix2 p k)
  cp k := x4 (ix2 p k)
  sp k := x5 (ix2 p k)
  gq k := x6 (ix2 0 k)
  gk k := x7 (ix2 0 k)
  gb k := x8 (ix2 0 k)
  gv k := x9 (ix2 0 k)
  uq k n := x10 (ix2 k n)
  uk k n := x11 (ix2 k n)
  uv k n := x12 (ix2 k n)

/-- A load of a block of a matrix, at an index. -/
theorem ld2 {e : EltTy} {a b a' b' : ℕ} (X : Vec Ideal (Shape.mk 2 ![a, b]) e) (s t : ℕ) (inb) (p : Fin a') (q : Fin b') (i : Fin a) (j : Fin b)
    (hi : i.val = s + p.val) (hj : j.val = t + q.val) :
    View.ld (Val := Elt Ideal) X (Rect.unit (s := Shape.mk 2 ![a, b]) ![s, t] (Shape.mk 2 ![a', b']).size inb) (ix2 p q) = X (ix2 i j) := by
  refine congrArg X (funext fun x => Fin.ext ?_)
  fin_cases x
  · exact (congrArg (s + ·) (Nat.one_mul _)).trans hi.symm
  · exact (congrArg (t + ·) (Nat.one_mul _)).trans hj.symm

/-- A row's product with a load of columns of the weights is the projection's column. -/
theorem colK_ld (x0 : Vec Ideal S256x2048 .f32) (x1 : Vec Ideal S2048x3584 .bf16) (p : Fin 256) {W : ℕ} (o : ℕ) (inb) (n : Fin W) (h : o + n.val < 3584) :
    ∑ k : Fin 2048, x0 (ix2 p k) * View.ld (Val := Elt Ideal) x1 (Rect.unit (s := S2048x3584) ![0, o] (Shape.mk 2 ![2048, W]).size inb) (ix2 k n)
    = colK x0 x1 p (o + n.val) :=
  Finset.sum_congr rfl fun k _ => congrArg (x0 (ix2 p k) * ·) (ld2 x1 0 o inb k n k _ (Nat.zero_add _).symm (Nat.mod_eq_of_lt h))

section
variable {T : Fin 256 → Rope.Tok} {C S : FVec Ideal S256x128 .f32} {n p' : ℕ}

/-- A tile of group A's queries, -/
theorem qaK {M : FVec Ideal S256x768 .f32} {G : FVec Ideal S1x128 .f32} (x : S256x128.Idx) (o : ℕ) (q : Fin 256) (hq : q.val = (x 0).val) (hn : n = o + (x 1).val)
    (ho : o % 128 = 0 ∧ o + 128 ≤ 768) (hM : ∀ p (k : Fin 768), M (ix2 p k) = (T p).col k.val) (hG : ∀ p k, G (ix2 0 k) = (T p).gq k)
    (hC : ∀ p k, C (ix2 p k) = (T p).ca k) (hS : ∀ p k, S (ix2 p k) = (T p).sa k) (hs : S256x768.Slices ![0, o] S256x128 := by decide) (hb : FTy.bits .bf16 < FTy.bits .f32 := by decide) :
    truncf .bf16 (mulf (ropeK (rmsK (extractStridedSlice S256x128 ![0, o] M hs) G) C S) (broadcast S256x128 (Named.named κ "scale_a" 0x3E0293EE#32))) hb x
    = Rope.qa (T q) n := by
  rw [named_a]
  obtain ⟨p, j, rfl⟩ := ix2_ex x
  obtain rfl : q = p := Fin.ext hq
  have hn : _ = _ + j.val := hn
  unfold Rope.qa
  refine congrArg (· * Rope.sA) (ropeK_eq (n := n) (fun k => rmsK_eq (fun k => (slK M o hs q k (by omega)).trans ((hM _ _).trans (congrArg (T q).col ?_))) (hG q) k) (hC q) (hS q) ?_)
  · show o + k.val = _
    omega
  · omega

/-- of its keys, -/
theorem kaK {M : FVec Ideal S256x256 .f32} {G : FVec Ideal S1x128 .f32} (x : S256x128.Idx) (o : ℕ) (q : Fin 256) (hq : q.val = (x 0).val) (hn : n = o + (x 1).val)
    (ho : o % 128 = 0 ∧ o + 128 ≤ 256) (hM : ∀ p (k : Fin 256), M (ix2 p k) = (T p).col (768 + k.val)) (hG : ∀ p k, G (ix2 0 k) = (T p).gk k)
    (hC : ∀ p k, C (ix2 p k) = (T p).ca k) (hS : ∀ p k, S (ix2 p k) = (T p).sa k) (hs : S256x256.Slices ![0, o] S256x128 := by decide) (hb : FTy.bits .bf16 < FTy.bits .f32 := by decide) :
    truncf .bf16 (ropeK (rmsK (extractStridedSlice S256x128 ![0, o] M hs) G) C S) hb x = Rope.ka (T q) n := by
  obtain ⟨p, j, rfl⟩ := ix2_ex x
  obtain rfl : q = p := Fin.ext hq
  have hn : _ = _ + j.val := hn
  unfold Rope.ka
  refine ropeK_eq (n := n) (fun k => rmsK_eq (fun k => (slK M o hs q k (by omega)).trans ((hM _ _).trans (congrArg (T q).col ?_))) (hG q) k) (hC q) (hS q) (by omega)
  · show 768 + (o + k.val) = 768 + 128 * (n / 128) + k.val
    omega

/-- of a group's values, from the columns `f`, -/
theorem valK {W r : ℕ} {M : FVec Ideal (Shape.mk 2 ![W, 256]) .f32} (f : Fin 256 → ℕ → EReal) (x : S128x256.Idx) (o : ℕ) (q : Fin 256) (hq : q.val = (x 1).val)
    (hn : r = 144 * (o / 128) + (x 0).val) (ho : o % 128 = 0 ∧ o + 128 ≤ W) (hM : ∀ p (k : Fin W), M (ix2 k p) = f p k.val) (hs : (Shape.mk 2 ![W, 256]).Slices ![o, 0] S128x256 := by decide) (hb : FTy.bits .bf16 < FTy.bits .f32 := by decide) :
    (truncf .bf16 (extractStridedSlice S128x256 ![o, 0] M hs) hb x : Ideal .bf16) = if r % 144 < 128 then f q (128 * (r / 144) + r % 144) else 1 := by
  obtain ⟨j, p, rfl⟩ := ix2_ex x
  obtain rfl : q = p := Fin.ext hq
  have hn : _ = _ + j.val := hn
  rw [if_pos (by omega)]
  refine (slT M o hs j q (by omega)).trans ((hM _ _).trans (congrArg (f q) ?_))
  show o + j.val = _
  omega

/-- of group B's queries: the unrotated part, -/
theorem qbK {M : FVec Ideal S256x1536 .f32} (x : S256x128.Idx) (o : ℕ) (q : Fin 256) (hq : q.val = (x 0).val) (hn : n = o + (x 1).val)
    (ho : o % 256 = 0 ∧ o + 128 ≤ 1536) (hM : ∀ p (k : Fin 1536), M (ix2 p k) = Rope.qh (T p) k.val) (hs : S256x1536.Slices ![0, o] S256x128 := by decide) (hb : FTy.bits .bf16 < FTy.bits .f32 := by decide) :
    truncf .bf16 (extractStridedSlice S256x128 ![0, o] M hs) hb x = Rope.qb (T q) n := by
  obtain ⟨p, j, rfl⟩ := ix2_ex x
  obtain rfl : q = p := Fin.ext hq
  have hn : _ = _ + j.val := hn
  unfold Rope.qb
  rw [if_pos (by omega), hn]
  exact (slK M o hs q j (by omega)).trans (hM _ _)

/-- and the rotated part, -/
theorem qbR {M : FVec Ideal S256x1536 .f32} (x : S256x128.Idx) (o : ℕ) (q : Fin 256) (hq : q.val = (x 0).val) (hn : n = o + (x 1).val)
    (ho : o % 256 = 128 ∧ o + 128 ≤ 1536) (hM : ∀ p (k : Fin 1536), M (ix2 p k) = Rope.qh (T p) k.val)
    (hC : ∀ p k, C (ix2 p k) = (T p).cp k) (hS : ∀ p k, S (ix2 p k) = (T p).sp k) (hs : S256x1536.Slices ![0, o] S256x128 := by decide) (hb : FTy.bits .bf16 < FTy.bits .f32 := by decide) :
    truncf .bf16 (ropeK (extractStridedSlice S256x128 ![0, o] M hs) C S) hb x = Rope.qb (T q) n := by
  obtain ⟨p, j, rfl⟩ := ix2_ex x
  obtain rfl : q = p := Fin.ext hq
  have hn : _ = _ + j.val := hn
  unfold Rope.qb
  rw [if_neg (by omega)]
  refine ropeK_eq (n := n) (fun k => (slK M o hs q k (by omega)).trans ((hM _ _).trans (congrArg (Rope.qh (T q)) ?_))) (hC q) (hS q) ?_
  · show o + k.val = _
    omega
  · show _ = j.val
    omega

/-- of its keys: the unrotated part, -/
theorem kbK {M : FVec Ideal S256x768 .f32} (x : S256x128.Idx) (o : ℕ) (q : Fin 256) (hq : q.val = (x 0).val) (hn : n = 2 * o + (x 1).val)
    (ho : o % 128 = 0 ∧ o + 128 ≤ 768) (hM : ∀ p (k : Fin 768), M (ix2 p k) = ∑ i, Rope.cv (T p) i * (T p).uk i k) (hs : S256x768.Slices ![0, o] S256x128 := by decide) (hb : FTy.bits .bf16 < FTy.bits .f32 := by decide) :
    truncf .bf16 (extractStridedSlice S256x128 ![0, o] M hs) hb x = Rope.kb (T q) n := by
  obtain ⟨p, j, rfl⟩ := ix2_ex x
  obtain rfl : q = p := Fin.ext hq
  have hn : _ = _ + j.val := hn
  unfold Rope.kb
  rw [if_pos (by omega)]
  refine (slK M o hs q j (by omega)).trans ((hM _ _).trans (Finset.sum_congr rfl fun i _ => congrArg (fun k => Rope.cv (T q) i * (T q).uk i k) (Fin.ext ?_)))
  show o + j.val = (128 * (n / 256) + n % 256) % 768
  omega

/-- and the rotated part, which its heads share, -/
theorem kbR {V : FVec Ideal S256x128 .f32} (x : S256x128.Idx) (q : Fin 256) (hq : q.val = (x 0).val) (hn : n % 256 = 128 + (x 1).val)
    (hV : ∀ p (k : Fin 128), V (ix2 p k) = (T p).col (1920 + k.val))
    (hC : ∀ p k, C (ix2 p k) = (T p).cp k) (hS : ∀ p k, S (ix2 p k) = (T p).sp k) (hb : FTy.bits .bf16 < FTy.bits .f32 := by decide) :
    truncf .bf16 (ropeK V C S) hb x = Rope.kb (T q) n := by
  obtain ⟨p, j, rfl⟩ := ix2_ex x
  obtain rfl : q = p := Fin.ext hq
  have hn : _ = _ + j.val := hn
  unfold Rope.kb
  rw [if_neg (by omega)]
  refine ropeK_eq (n := n) (hV q) (hC q) (hS q) ?_
  show _ = j.val
  omega

/-- of group C's keys, -/
theorem kcK {M : FVec Ideal S256x512 .f32} (x : S256x128.Idx) (o : ℕ) (q : Fin 256) (hq : q.val = (x 0).val) (hn : n = o + (x 1).val)
    (ho : o % 128 = 0 ∧ o + 128 ≤ 512) (hM : ∀ p (k : Fin 512), M (ix2 p k) = (T p).col (2560 + k.val))
    (hC : ∀ p k, C (ix2 p k) = (T p).cp k) (hS : ∀ p k, S (ix2 p k) = (T p).sp k) (hs : S256x512.Slices ![0, o] S256x128 := by decide) (hb : FTy.bits .bf16 < FTy.bits .f32 := by decide) :
    truncf .bf16 (ropeK (extractStridedSlice S256x128 ![0, o] M hs) C S) hb x = Rope.kc (T q) n := by
  obtain ⟨p, j, rfl⟩ := ix2_ex x
  obtain rfl : q = p := Fin.ext hq
  have hn : _ = _ + j.val := hn
  refine ropeK_eq (n := n) (fun k => (slK M o hs q k (by omega)).trans ((hM _ _).trans (congrArg (T q).col ?_))) (hC q) (hS q) ?_
  · show 2560 + (o + k.val) = 2560 + 128 * (n / 128) + k.val
    omega
  · show _ = j.val
    omega

/-- The lanes of the first query of a pair, -/
def lowM : IVec S256x128 1 := cmpi .slt (iota .tc S256x128 32 [1] iota_S256x128_d1_w32) (broadcast S256x128 64#32)

/-- and a pair of group C's queries, scaled. -/
def qcM (M : FVec Ideal S256x512 .f32) (C S : FVec Ideal S256x128 .f32) (o : ℕ) (hs : S256x512.Slices ![0, o] S256x128) : FVec Ideal S256x128 .f32 :=
  mulf (ropeK (extractStridedSlice S256x128 ![0, o] M hs) C S) (broadcast S256x128 (Named.named κ "scale_c" 0x3E38AA3B#32))

/-- At an index, -/
theorem qcM_eq {M : FVec Ideal S256x512 .f32} (q : Fin 256) (j : Fin 128) (o : ℕ) (hs : S256x512.Slices ![0, o] S256x128)
    (hn : n % 128 = j.val) (ho : o = 128 * (n / 256) ∧ o + 128 ≤ 512) (hM : ∀ p (k : Fin 512), M (ix2 p k) = (T p).col (2048 + k.val))
    (hC : ∀ p k, C (ix2 p k) = (T p).cp k) (hS : ∀ p k, S (ix2 p k) = (T p).sp k) :
    qcM M C S o hs (ix2 q j) = Rope.rope (fun k => (T q).col (2048 + 128 * (n / 256) + k.val)) (T q).cp (T q).sp (Rope.pos n) * Rope.sC := by
  unfold qcM
  rw [named_c]
  refine congrArg (· * Rope.sC) (ropeK_eq (n := n) (fun k => (slK M o hs q k (by omega)).trans ((hM _ _).trans (congrArg (T q).col ?_))) (hC q) (hS q) hn)
  show 2048 + (o + k.val) = 2048 + 128 * (n / 256) + k.val
  omega

/-- the first of the pair with zeros for the second, -/
theorem qc1 {M : FVec Ideal S256x512 .f32} (x : S256x128.Idx) (o : ℕ) (q : Fin 256) (hq : q.val = (x 0).val) (hn : n = 2 * o + (x 1).val)
    (ho : o % 128 = 0 ∧ o + 128 ≤ 512) (hM : ∀ p (k : Fin 512), M (ix2 p k) = (T p).col (2048 + k.val))
    (hC : ∀ p k, C (ix2 p k) = (T p).cp k) (hS : ∀ p k, S (ix2 p k) = (T p).sp k) (hs : S256x512.Slices ![0, o] S256x128 := by decide) (hb : FTy.bits .bf16 < FTy.bits .f32 := by decide) :
    truncf .bf16 (select lowM (qcM M C S o hs) (broadcast S256x128 (Scalar.ofBits .f32 0x00000000#32))) hb x = Rope.qc (T q) n := by
  obtain ⟨p, j, rfl⟩ := ix2_ex x
  obtain rfl : q = p := Fin.ext hq
  have hn : _ = _ + j.val := hn
  unfold Rope.qc
  show (if lowM (ix2 q j) = 1 then qcM M C S o hs (ix2 q j) else Ideal.ofBits .f32 0x00000000#32) = _
  rw [show lowM (ix2 q j) = _ from lowK q j]
  by_cases h : j.val < 64
  · rw [if_pos h]
    refine (if_pos rfl).trans ?_
    rw [if_pos (by omega)]
    exact qcM_eq q j o hs (by omega) (by omega) hM hC hS
  · rw [if_neg h]
    refine (if_neg (by decide)).trans ?_
    rw [if_neg (by omega)]
    exact Ideal.ofBits_zero _

/-- and the second with zeros for the first. -/
theorem qc2 {M : FVec Ideal S256x512 .f32} (x : S256x128.Idx) (o : ℕ) (q : Fin 256) (hq : q.val = (x 0).val) (hn : n = 2 * o + 128 + (x 1).val)
    (ho : o % 128 = 0 ∧ o + 128 ≤ 512) (hM : ∀ p (k : Fin 512), M (ix2 p k) = (T p).col (2048 + k.val))
    (hC : ∀ p k, C (ix2 p k) = (T p).cp k) (hS : ∀ p k, S (ix2 p k) = (T p).sp k) (hs : S256x512.Slices ![0, o] S256x128 := by decide) (hb : FTy.bits .bf16 < FTy.bits .f32 := by decide) :
    truncf .bf16 (select lowM (broadcast S256x128 (Scalar.ofBits .f32 0x00000000#32)) (qcM M C S o hs)) hb x = Rope.qc (T q) n := by
  obtain ⟨p, j, rfl⟩ := ix2_ex x
  obtain rfl : q = p := Fin.ext hq
  have hn : _ = _ + j.val := hn
  unfold Rope.qc
  show (if lowM (ix2 q j) = 1 then Ideal.ofBits .f32 0x00000000#32 else qcM M C S o hs (ix2 q j)) = _
  rw [show lowM (ix2 q j) = _ from lowK q j]
  by_cases h : j.val < 64
  · rw [if_pos h]
    refine (if_pos rfl).trans ?_
    rw [if_neg (by omega)]
    exact Ideal.ofBits_zero _
  · rw [if_neg h]
    refine (if_neg (by decide)).trans ?_
    rw [if_pos (by omega)]
    exact qcM_eq q j o hs (by omega) (by omega) hM hC hS

end

section
variable (m : (ℓ : Loc nD τ sig) → Buf (Elt Ideal) ℓ) (c : Dev nD) (t : Fin cfg0.N)

/-- What a row of a grid point's results is made from. -/
def tokI (p : Fin 256) : Rope.Tok :=
  tokK (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) p

/-- A grid point writes group A's queries, -/
theorem out13 (y : S256x768.Idx) : (outsAt0 m c t).1 y = Rope.qa (tokI m c t (y 0)) (y 1).val := by
  unfold outsAt0
  frame_out
  unfold tokI
  generalize (iblk m c 0 t) = x0
  generalize (iblk m c 1 t) = x1
  generalize (iblk m c 2 t) = x2
  generalize (iblk m c 3 t) = x3
  generalize (iblk m c 6 t) = x6
  canon_tiles x h
  all_goals
    refine qaK x _ _ h0 (by omega) (by omega) (fun p k => ?_) ?_ (fun p k => pay4K _ p k) (fun p k => pay4K _ p k)
    · exact (dot8 _ _ _ _).trans ((colK_ld _ _ p 0 _ k (by omega)).trans (congrArg (colK _ _ p) (Nat.zero_add _)))
    · intro p k; rfl

/-- its keys, -/
theorem out14 (y : S256x256.Idx) : (outsAt0 m c t).2.1 y = Rope.ka (tokI m c t (y 0)) (y 1).val := by
  unfold outsAt0
  frame_out
  unfold tokI
  generalize (iblk m c 0 t) = x0
  generalize (iblk m c 1 t) = x1
  generalize (iblk m c 2 t) = x2
  generalize (iblk m c 3 t) = x3
  generalize (iblk m c 7 t) = x7
  canon_tiles x h
  all_goals
    refine kaK x _ _ h0 (by omega) (by omega) (fun p k => ?_) ?_ (fun p k => pay4K _ p k) (fun p k => pay4K _ p k)
    · exact (dot28 _ _ _ _).trans (colK_ld _ _ p 768 _ k (by omega))
    · intro p k; rfl

/-- its values, with rows of ones, -/
theorem out15 (y : S288x256.Idx) : (outsAt0 m c t).2.2.1 y = Rope.va (tokI m c t (y 1)) (y 0).val := by
  unfold outsAt0
  frame_out
  unfold tokI
  generalize (iblk m c 0 t) = x0
  generalize (iblk m c 1 t) = x1
  have hM : ∀ (p : Fin 256) (k : Fin 256), k0_pay37 (F := Ideal) (k0_pay3 x0) (View.ld (Val := Elt Ideal) x1 (Rect.unit (s := S2048x3584) ![0, 1024] ![2048, 256] inb_S2048x3584_S2048x256_0_1024)) (ix2 k p)
      = colK x0 x1 p (1024 + k.val) := fun p k => (dot37 _ _ _ _).trans (colK_ld _ _ p 1024 _ k (by omega))
  canon_tiles x h using View.cover_of_tiledBy _ ![16, 256] (by sl_kernel_rfl) y
  all_goals
    first
      | exact (congrFun (congrArg (fun b : EReal => fun _ : S16x256.Idx => b) Ideal.ofBits_one_bf16) x).trans (if_neg (by omega)).symm
      | exact valK (fun p n => colK x0 x1 p (1024 + n)) x _ _ h1 (by omega) (by omega) hM

/-- group B's queries, -/
theorem out16 (y : S256x1536.Idx) : (outsAt0 m c t).2.2.2.1 y = Rope.qb (tokI m c t (y 0)) (y 1).val := by
  unfold outsAt0
  frame_out
  unfold tokI
  generalize (iblk m c 0 t) = x0
  generalize (iblk m c 1 t) = x1
  generalize (iblk m c 4 t) = x4
  generalize (iblk m c 5 t) = x5
  generalize (iblk m c 8 t) = x8
  generalize (iblk m c 10 t) = x10
  have hM : ∀ (p : Fin 256) (k : Fin 1536), k0_pay41 (F := Ideal) (k0_pay3 x0) (View.ld (Val := Elt Ideal) x1 (Rect.unit (s := S2048x3584) ![0, 1280] ![2048, 384] inb_S2048x3584_S2048x384_0_1280)) x8 x10 (ix2 p k)
      = Rope.qh (tokK x0 x1 (iblk m c 2 t) (iblk m c 3 t) x4 x5 (iblk m c 6 t) (iblk m c 7 t) x8 (iblk m c 9 t) x10 (iblk m c 11 t) (iblk m c 12 t) p) k.val := by
    intro p k
    rw [dot41]
    refine congrArg (· * Rope.sB) (Finset.sum_congr rfl fun i _ => congrArg₂ (· * ·) ((cqK_apply _ _ _ _ _).trans ?_) (congrArg (fun n => x10 (ix2 i n)) (Fin.ext (Nat.mod_eq_of_lt k.isLt).symm)))
    exact congrArg (fun f => Norm.rms Rope.n384 f _ i) (funext fun n => colK_ld _ _ p 1280 _ n (by omega))
  generalize k0_pay41 (F := Ideal) _ _ _ _ = M at hM ⊢
  canon_tiles x h
  all_goals
    first
      | exact qbK x _ _ h0 (by omega) (by omega) hM
      | exact qbR x _ _ h0 (by omega) (by omega) hM (fun p k => pay4K _ p k) (fun p k => pay4K _ p k)

/-- its keys, -/
theorem out17 (y : S256x1536.Idx) : (outsAt0 m c t).2.2.2.2.1 y = Rope.kb (tokI m c t (y 0)) (y 1).val := by
  unfold outsAt0
  frame_out
  unfold tokI
  generalize (iblk m c 0 t) = x0
  generalize (iblk m c 1 t) = x1
  generalize (iblk m c 4 t) = x4
  generalize (iblk m c 5 t) = x5
  generalize (iblk m c 9 t) = x9
  generalize (iblk m c 11 t) = x11
  have hV : ∀ (p : Fin 256) (i : Fin 256), k0_pay45 (F := Ideal) (k0_pay42 (k0_pay3 x0) (View.ld (Val := Elt Ideal) x1 (Rect.unit (s := S2048x3584) ![0, 1664] ![2048, 256] inb_S2048x3584_S2048x256_0_1664)))
        (k0_pay43 x9) (k0_pay44 (k0_pay3 x0) (View.ld (Val := Elt Ideal) x1 (Rect.unit (s := S2048x3584) ![0, 1664] ![2048, 256] inb_S2048x3584_S2048x256_0_1664))) (ix2 p i)
      = Rope.cv (tokK x0 x1 (iblk m c 2 t) (iblk m c 3 t) x4 x5 (iblk m c 6 t) (iblk m c 7 t) (iblk m c 8 t) x9 (iblk m c 10 t) x11 (iblk m c 12 t) p) i := fun p i =>
    (cvK _ _ _ p i).trans (congrArg (fun f => Norm.rms Rope.n256 f _ i) (funext fun n => colK_ld _ _ p 1664 _ n (by omega)))
  canon_tiles x h
  all_goals
    first
      | exact kbK x _ _ h0 (by omega) (by omega) (fun p k => (dot46 _ _ _ _ p k).trans (Finset.sum_congr rfl fun i _ => congrArg (· * x11 (ix2 i k)) (hV p i)))
      | exact kbR x _ h0 (by omega) (fun p k => (dot55 _ _ _ _).trans (colK_ld _ _ p 1920 _ k (by omega))) (fun p k => pay4K _ p k) (fun p k => pay4K _ p k)

/-- its values, with rows of ones, -/
theorem out18 (y : S864x256.Idx) : (outsAt0 m c t).2.2.2.2.2.1 y = Rope.vb (tokI m c t (y 1)) (y 0).val := by
  unfold outsAt0
  frame_out
  unfold tokI
  generalize (iblk m c 0 t) = x0
  generalize (iblk m c 1 t) = x1
  generalize (iblk m c 9 t) = x9
  generalize (iblk m c 12 t) = x12
  have hV : ∀ (p : Fin 256) (i : Fin 256), k0_pay45 (F := Ideal) (k0_pay42 (k0_pay3 x0) (View.ld (Val := Elt Ideal) x1 (Rect.unit (s := S2048x3584) ![0, 1664] ![2048, 256] inb_S2048x3584_S2048x256_0_1664)))
        (k0_pay43 x9) (k0_pay44 (k0_pay3 x0) (View.ld (Val := Elt Ideal) x1 (Rect.unit (s := S2048x3584) ![0, 1664] ![2048, 256] inb_S2048x3584_S2048x256_0_1664))) (ix2 p i)
      = Rope.cv (tokK x0 x1 (iblk m c 2 t) (iblk m c 3 t) (iblk m c 4 t) (iblk m c 5 t) (iblk m c 6 t) (iblk m c 7 t) (iblk m c 8 t) x9 (iblk m c 10 t) (iblk m c 11 t) x12 p) i := fun p i =>
    (cvK _ _ _ p i).trans (congrArg (fun f => Norm.rms Rope.n256 f _ i) (funext fun n => colK_ld _ _ p 1664 _ n (by omega)))
  canon_tiles x h using View.cover_of_tiledBy _ ![16, 256] (by sl_kernel_rfl) y
  all_goals
    first
      | exact (congrFun (congrArg (fun b : EReal => fun _ : S16x256.Idx => b) Ideal.ofBits_one_bf16) x).trans (if_neg (by omega)).symm
      | exact valK (fun p n => ∑ i, Rope.cv (tokK x0 x1 (iblk m c 2 t) (iblk m c 3 t) (iblk m c 4 t) (iblk m c 5 t) (iblk m c 6 t) (iblk m c 7 t) (iblk m c 8 t) x9 (iblk m c 10 t) (iblk m c 11 t) x12 p) i * x12 (ix2 i ⟨n % 768, by omega⟩)) x _ _ h1 (by omega) (by omega) (fun p k => (dot47 _ _ _ _ p k).trans (Finset.sum_congr rfl fun i _ => congrArg₂ (· * ·) (hV p i) (congrArg (fun n => x12 (ix2 i n)) (Fin.ext (Nat.mod_eq_of_lt k.isLt).symm))))

/-- group C's queries, -/
theorem out19 (y : S256x1024.Idx) : (outsAt0 m c t).2.2.2.2.2.2.1 y = Rope.qc (tokI m c t (y 0)) (y 1).val := by
  unfold outsAt0
  frame_out
  unfold tokI
  generalize (iblk m c 0 t) = x0
  generalize (iblk m c 1 t) = x1
  generalize (iblk m c 4 t) = x4
  generalize (iblk m c 5 t) = x5
  have hM : ∀ (p : Fin 256) (k : Fin 512), k0_pay78 (F := Ideal) (k0_pay3 x0) (View.ld (Val := Elt Ideal) x1 (Rect.unit (s := S2048x3584) ![0, 2048] ![2048, 512] inb_S2048x3584_S2048x512_0_2048)) (ix2 p k)
      = (tokK x0 x1 (iblk m c 2 t) (iblk m c 3 t) x4 x5 (iblk m c 6 t) (iblk m c 7 t) (iblk m c 8 t) (iblk m c 9 t) (iblk m c 10 t) (iblk m c 11 t) (iblk m c 12 t) p).col (2048 + k.val) := fun p k => (dot78 _ _ _ _).trans (colK_ld _ _ p 2048 _ k (by omega))
  canon_tiles x h
  all_goals
    first
      | exact qc1 x _ _ h0 (by omega) (by omega) hM (fun p k => pay4K _ p k) (fun p k => pay4K _ p k)
      | exact qc2 x _ _ h0 (by omega) (by omega) hM (fun p k => pay4K _ p k) (fun p k => pay4K _ p k)

/-- its keys, -/
theorem out20 (y : S256x512.Idx) : (outsAt0 m c t).2.2.2.2.2.2.2.1 y = Rope.kc (tokI m c t (y 0)) (y 1).val := by
  unfold outsAt0
  frame_out
  unfold tokI
  generalize (iblk m c 0 t) = x0
  generalize (iblk m c 1 t) = x1
  generalize (iblk m c 4 t) = x4
  generalize (iblk m c 5 t) = x5
  canon_tiles x h
  all_goals
    refine kcK x _ _ h0 (by omega) (by omega) (fun p k => ?_) (fun p k => pay4K _ p k) (fun p k => pay4K _ p k)
    exact (dot78 _ _ _ _).trans (colK_ld _ _ p 2560 _ k (by omega))

/-- and its values, with rows of ones. -/
theorem out21 (y : S576x256.Idx) : (outsAt0 m c t).2.2.2.2.2.2.2.2 y = Rope.vc (tokI m c t (y 1)) (y 0).val := by
  unfold outsAt0
  frame_out
  unfold tokI
  generalize (iblk m c 0 t) = x0
  generalize (iblk m c 1 t) = x1
  have hM : ∀ (p : Fin 256) (k : Fin 512), k0_pay110 (F := Ideal) (k0_pay3 x0) (View.ld (Val := Elt Ideal) x1 (Rect.unit (s := S2048x3584) ![0, 3072] ![2048, 512] inb_S2048x3584_S2048x512_0_3072)) (ix2 k p)
      = colK x0 x1 p (3072 + k.val) := fun p k => (dot110 _ _ _ _).trans (colK_ld _ _ p 3072 _ k (by omega))
  canon_tiles x h using View.cover_of_tiledBy _ ![16, 256] (by sl_kernel_rfl) y
  all_goals
    first
      | exact (congrFun (congrArg (fun b : EReal => fun _ : S16x256.Idx => b) Ideal.ofBits_one_bf16) x).trans (if_neg (by omega)).symm
      | exact valK (fun p n => colK x0 x1 p (3072 + n)) x _ _ h1 (by omega) (by omega) hM

end
end Cert.KernelIIdeal.Step
end
-- ==== Proof.StateI.lean ====
/- The input projection's nine results, from the arrays the call finds. -/
module

public import proofs.«01_k».proof.Proof.StepI
public import Idealize.ShloMosaic.Lib.Claim

@[expose] public section
set_option maxRecDepth 16384
noncomputable section
namespace Cert.KernelIIdeal.State
open Idealize.ShloMosaic Idealize.SL Idealize.SL.Sem
open Idealize.ShloMosaic.Pipeline (Dat)
open Cert.KernelIIdeal Cert.KernelIIdeal.Gen Cert.KernelIIdeal.Value Cert.KernelIIdeal.Step
open scoped BigOperators

variable (m : (ℓ : Loc nD τ sig) → Buf (Elt Ideal) ℓ) (c : Dev nD)

/-- The tokens, the weights, the tables, the gains and the second weights, as the call finds them. -/
def X : Vec Ideal S24576x2048 .f32 := V m c main_arg0
def W : Vec Ideal S2048x3584 .bf16 := V m c main_v4
def CA : Vec Ideal S24576x128 .f32 := V m c main_v55
def SA : Vec Ideal S24576x128 .f32 := V m c main_v56
def CP : Vec Ideal S24576x128 .f32 := V m c main_v57
def SP : Vec Ideal S24576x128 .f32 := V m c main_v58
def GQ : Vec Ideal S1x128 .f32 := V m c main_v59
def GK : Vec Ideal S1x128 .f32 := V m c main_v60
def GB : Vec Ideal S1x384 .f32 := V m c main_v61
def GV : Vec Ideal S1x256 .f32 := V m c main_v62
def UQ : Vec Ideal S384x1536 .bf16 := V m c main_v8
def UK : Vec Ideal S256x768 .bf16 := V m c main_v12
def UV : Vec Ideal S256x768 .bf16 := V m c main_v15

/-- What a token's results are made from. -/
def tokV (i : Fin 24576) : Rope.Tok where
  col n := ∑ k : Fin 2048, X m c (ix2 i k) * W m c (ix2 k ⟨n % 3584, by omega⟩)
  ca k := CA m c (ix2 i k)
  sa k := SA m c (ix2 i k)
  cp k := CP m c (ix2 i k)
  sp k := SP m c (ix2 i k)
  gq k := GQ m c (ix2 0 k)
  gk k := GK m c (ix2 0 k)
  gb k := GB m c (ix2 0 k)
  gv k := GV m c (ix2 0 k)
  uq k n := UQ m c (ix2 k n)
  uk k n := UK m c (ix2 k n)
  uv k n := UV m c (ix2 k n)

/-- The printed index maps, decided over the grid. -/
theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![t.val, 0] := (by decide +kernel : ∀ t : Fin grid0.N, win0_2.index t = ![t.val, 0])
theorem idx3 : ∀ t : Fin cfg0.N, win0_3.index t = ![t.val, 0] := (by decide +kernel : ∀ t : Fin grid0.N, win0_3.index t = ![t.val, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])
theorem idx6 : ∀ t : Fin cfg0.N, win0_6.index t = ![0, 0] := (by decide +kernel : ∀ t : Fin grid0.N, win0_6.index t = ![0, 0])
theorem idx7 : ∀ t : Fin cfg0.N, win0_7.index t = ![0, 0] := (by decide +kernel : ∀ t : Fin grid0.N, win0_7.index t = ![0, 0])
theorem idx8 : ∀ t : Fin cfg0.N, win0_8.index t = ![0, 0] := (by decide +kernel : ∀ t : Fin grid0.N, win0_8.index t = ![0, 0])
theorem idx9 : ∀ t : Fin cfg0.N, win0_9.index t = ![0, 0] := (by decide +kernel : ∀ t : Fin grid0.N, win0_9.index t = ![0, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])
theorem idx13 : ∀ t : Fin cfg0.N, win0_13.index t = ![t.val, 0] := (by decide +kernel : ∀ t : Fin grid0.N, win0_13.index t = ![t.val, 0])
theorem idx14 : ∀ t : Fin cfg0.N, win0_14.index t = ![t.val, 0] := (by decide +kernel : ∀ t : Fin grid0.N, win0_14.index t = ![t.val, 0])
theorem idx15 : ∀ t : Fin cfg0.N, win0_15.index t = ![0, t.val] := (by decide +kernel : ∀ t : Fin grid0.N, win0_15.index t = ![0, t.val])
theorem idx16 : ∀ t : Fin cfg0.N, win0_16.index t = ![t.val, 0] := (by decide +kernel : ∀ t : Fin grid0.N, win0_16.index t = ![t.val, 0])
theorem idx17 : ∀ t : Fin cfg0.N, win0_17.index t = ![t.val, 0] := (by decide +kernel : ∀ t : Fin grid0.N, win0_17.index t = ![t.val, 0])
theorem idx18 : ∀ t : Fin cfg0.N, win0_18.index t = ![0, t.val] := (by decide +kernel : ∀ t : Fin grid0.N, win0_18.index t = ![0, t.val])
theorem idx19 : ∀ t : Fin cfg0.N, win0_19.index t = ![t.val, 0] := (by decide +kernel : ∀ t : Fin grid0.N, win0_19.index t = ![t.val, 0])
theorem idx20 : ∀ t : Fin cfg0.N, win0_20.index t = ![t.val, 0] := (by decide +kernel : ∀ t : Fin grid0.N, win0_20.index t = ![t.val, 0])
theorem idx21 : ∀ t : Fin cfg0.N, win0_21.index t = ![0, t.val] := (by decide +kernel : ∀ t : Fin grid0.N, win0_21.index t = ![0, t.val])

theorem lt96 (t : Fin cfg0.N) : t.val < 96 := lt_of_lt_of_eq t.isLt N_0

/-- The token of row `p` of point `t`. -/
def tok (t : Fin cfg0.N) (p : Fin 256) : Fin 24576 := ⟨256 * t.val + p.val, by have := lt96 t; omega⟩

/-- The blocks a point reads: its tokens' rows, -/
theorem block0 (t : Fin cfg0.N) (p : Fin 256) (k : Fin 2048) : (iblk m c 0 t : Vec Ideal S256x2048 .f32) (ix2 p k) = X m c (ix2 (tok t p) k) := by
  have ht := lt96 t
  show V m c main_arg0 _ = V m c main_arg0 _
  refine congrArg (V m c main_arg0) ?_
  blk_ext [idx0 t, tok]

theorem block2 (t : Fin cfg0.N) (p : Fin 256) (k : Fin 128) : (iblk m c 2 t : Vec Ideal S256x128 .f32) (ix2 p k) = CA m c (ix2 (tok t p) k) := by
  have ht := lt96 t
  show V m c main_v55 _ = V m c main_v55 _
  refine congrArg (V m c main_v55) ?_
  blk_ext [idx2 t, tok]

theorem block3 (t : Fin cfg0.N) (p : Fin 256) (k : Fin 128) : (iblk m c 3 t : Vec Ideal S256x128 .f32) (ix2 p k) = SA m c (ix2 (tok t p) k) := by
  have ht := lt96 t
  show V m c main_v56 _ = V m c main_v56 _
  refine congrArg (V m c main_v56) ?_
  blk_ext [idx3 t, tok]

theorem block4 (t : Fin cfg0.N) (p : Fin 256) (k : Fin 128) : (iblk m c 4 t : Vec Ideal S256x128 .f32) (ix2 p k) = CP m c (ix2 (tok t p) k) := by
  have ht := lt96 t
  show V m c main_v57 _ = V m c main_v57 _
  refine congrArg (V m c main_v57) ?_
  blk_ext [idx4 t, tok]

theorem block5 (t : Fin cfg0.N) (p : Fin 256) (k : Fin 128) : (iblk m c 5 t : Vec Ideal S256x128 .f32) (ix2 p k) = SP m c (ix2 (tok t p) k) := by
  have ht := lt96 t
  show V m c main_v58 _ = V m c main_v58 _
  refine congrArg (V m c main_v58) ?_
  blk_ext [idx5 t, tok]

/-- and the whole of the other arrays. -/
theorem block1 (t : Fin cfg0.N) (p : Fin 2048) (k : Fin 3584) : (iblk m c 1 t : Vec Ideal S2048x3584 .bf16) (ix2 p k) = W m c (ix2 p k) := by
  show V m c main_v4 _ = V m c main_v4 _
  refine congrArg (V m c main_v4) ?_
  blk_ext [idx1 t]

theorem block6 (t : Fin cfg0.N) (k : Fin 128) : (iblk m c 6 t : Vec Ideal S1x128 .f32) (ix2 0 k) = GQ m c (ix2 0 k) := by
  show V m c main_v59 _ = V m c main_v59 _
  refine congrArg (V m c main_v59) ?_
  blk_ext [idx6 t]

theorem block7 (t : Fin cfg0.N) (k : Fin 128) : (iblk m c 7 t : Vec Ideal S1x128 .f32) (ix2 0 k) = GK m c (ix2 0 k) := by
  show V m c main_v60 _ = V m c main_v60 _
  refine congrArg (V m c main_v60) ?_
  blk_ext [idx7 t]

theorem block8 (t : Fin cfg0.N) (k : Fin 384) : (iblk m c 8 t : Vec Ideal S1x384 .f32) (ix2 0 k) = GB m c (ix2 0 k) := by
  show V m c main_v61 _ = V m c main_v61 _
  refine congrArg (V m c main_v61) ?_
  blk_ext [idx8 t]

theorem block9 (t : Fin cfg0.N) (k : Fin 256) : (iblk m c 9 t : Vec Ideal S1x256 .f32) (ix2 0 k) = GV m c (ix2 0 k) := by
  show V m c main_v62 _ = V m c main_v62 _
  refine congrArg (V m c main_v62) ?_
  blk_ext [idx9 t]

theorem block10 (t : Fin cfg0.N) (p : Fin 384) (k : Fin 1536) : (iblk m c 10 t : Vec Ideal S384x1536 .bf16) (ix2 p k) = UQ m c (ix2 p k) := by
  show V m c main_v8 _ = V m c main_v8 _
  refine congrArg (V m c main_v8) ?_
  blk_ext [idx10 t]

theorem block11 (t : Fin cfg0.N) (p : Fin 256) (k : Fin 768) : (iblk m c 11 t : Vec Ideal S256x768 .bf16) (ix2 p k) = UK m c (ix2 p k) := by
  show V m c main_v12 _ = V m c main_v12 _
  refine congrArg (V m c main_v12) ?_
  blk_ext [idx11 t]

theorem block12 (t : Fin cfg0.N) (p : Fin 256) (k : Fin 768) : (iblk m c 12 t : Vec Ideal S256x768 .bf16) (ix2 p k) = UV m c (ix2 p k) := by
  show V m c main_v15 _ = V m c main_v15 _
  refine congrArg (V m c main_v15) ?_
  blk_ext [idx12 t]

/-- A point's row is made from its token's. -/
theorem tok_eq (t : Fin cfg0.N) (p : Fin 256) : tokI m c t p = tokV m c (tok t p) := by
  unfold tokI tokK tokV colK
  simp only [block0, block1, block2, block3, block4, block5, block6, block7, block8, block9, block10, block11, block12]

/-- So are its results' entries, whatever they are made of. -/
theorem same (f : Rope.Tok → ℕ → EReal) (t : Fin cfg0.N) (p : Fin 256) (n : ℕ) (i : Fin 24576) (n' s a b : ℕ) (ha : a = t.val) (hb : b = 0)
    (hi : i.val = a * 256 + 1 * p.val) (hn : n' = b * s + 1 * n) : f (tokI m c t p) n = f (tokV m c i) n' := by
  have e : i = tok t p := Fin.ext (by show i.val = 256 * t.val + p.val; subst ha; omega)
  have e' : n' = n := by subst hb; omega
  rw [e, e', tok_eq]

/-- The results: group A's queries, keys and values, then group B's and group C's. -/
def QA : Vec Ideal S24576x768 .bf16 := fun i => Rope.qa (tokV m c (i 0)) (i 1).val
def KA : Vec Ideal S24576x256 .bf16 := fun i => Rope.ka (tokV m c (i 0)) (i 1).val
def VA : Vec Ideal S288x24576 .bf16 := fun i => Rope.va (tokV m c (i 1)) (i 0).val
def QB : Vec Ideal S24576x1536 .bf16 := fun i => Rope.qb (tokV m c (i 0)) (i 1).val
def KB : Vec Ideal S24576x1536 .bf16 := fun i => Rope.kb (tokV m c (i 0)) (i 1).val
def VB : Vec Ideal S864x24576 .bf16 := fun i => Rope.vb (tokV m c (i 1)) (i 0).val
def QC : Vec Ideal S24576x1024 .bf16 := fun i => Rope.qc (tokV m c (i 0)) (i 1).val
def KC : Vec Ideal S24576x512 .bf16 := fun i => Rope.kc (tokV m c (i 0)) (i 1).val
def VC : Vec Ideal S576x24576 .bf16 := fun i => Rope.vc (tokV m c (i 1)) (i 0).val

/-- The written blocks cover each result. -/
theorem covers13 : (cfg0.win 13).Covers := by decide +kernel
theorem covers14 : (cfg0.win 14).Covers := by decide +kernel
theorem covers15 : (cfg0.win 15).Covers := by decide +kernel
theorem covers16 : (cfg0.win 16).Covers := by decide +kernel
theorem covers17 : (cfg0.win 17).Covers := by decide +kernel
theorem covers18 : (cfg0.win 18).Covers := by decide +kernel
theorem covers19 : (cfg0.win 19).Covers := by decide +kernel
theorem covers20 : (cfg0.win 20).Covers := by decide +kernel
theorem covers21 : (cfg0.win 21).Covers := by decide +kernel

/-- The results after the run: group A's queries, -/
theorem final13 : (dats (F := Ideal) m 0 c).arrAt 13 cfg0.N = QA m c :=
  (dats (F := Ideal) m 0 c).arrAt_eq_of_cover 13 (QA m c)
    (fun t _ => (flushed13 m c t).trans (funext fun y => (out13 m c t ((cfg0.win 13).xinj (grid0.coords t) y)).trans
      (same m c Rope.qa t _ _ _ _ 768 (win0_13.index t (0 : Fin 2)) (win0_13.index t (1 : Fin 2)) (congrFun (idx13 t) 0) (congrFun (idx13 t) 1) rfl rfl)))
    (Pipeline.Window.Covers.cover _ covers13 (Memref.isWhole_whole _))

/-- keys -/
theorem final14 : (dats (F := Ideal) m 0 c).arrAt 14 cfg0.N = KA m c :=
  (dats (F := Ideal) m 0 c).arrAt_eq_of_cover 14 (KA m c)
    (fun t _ => (flushed14 m c t).trans (funext fun y => (out14 m c t ((cfg0.win 14).xinj (grid0.coords t) y)).trans
      (same m c Rope.ka t _ _ _ _ 256 (win0_14.index t (0 : Fin 2)) (win0_14.index t (1 : Fin 2)) (congrFun (idx14 t) 0) (congrFun (idx14 t) 1) rfl rfl)))
    (Pipeline.Window.Covers.cover _ covers14 (Memref.isWhole_whole _))

/-- and values; -/
theorem final15 : (dats (F := Ideal) m 0 c).arrAt 15 cfg0.N = VA m c :=
  (dats (F := Ideal) m 0 c).arrAt_eq_of_cover 15 (VA m c)
    (fun t _ => (flushed15 m c t).trans (funext fun y => (out15 m c t ((cfg0.win 15).xinj (grid0.coords t) y)).trans
      (same m c Rope.va t _ _ _ _ 288 (win0_15.index t (1 : Fin 2)) (win0_15.index t (0 : Fin 2)) (congrFun (idx15 t) 1) (congrFun (idx15 t) 0) rfl rfl)))
    (Pipeline.Window.Covers.cover _ covers15 (Memref.isWhole_whole _))

/-- group B's queries, -/
theorem final16 : (dats (F := Ideal) m 0 c).arrAt 16 cfg0.N = QB m c :=
  (dats (F := Ideal) m 0 c).arrAt_eq_of_cover 16 (QB m c)
    (fun t _ => (flushed16 m c t).trans (funext fun y => (out16 m c t ((cfg0.win 16).xinj (grid0.coords t) y)).trans
      (same m c Rope.qb t _ _ _ _ 1536 (win0_16.index t (0 : Fin 2)) (win0_16.index t (1 : Fin 2)) (congrFun (idx16 t) 0) (congrFun (idx16 t) 1) rfl rfl)))
    (Pipeline.Window.Covers.cover _ covers16 (Memref.isWhole_whole _))

/-- keys -/
theorem final17 : (dats (F := Ideal) m 0 c).arrAt 17 cfg0.N = KB m c :=
  (dats (F := Ideal) m 0 c).arrAt_eq_of_cover 17 (KB m c)
    (fun t _ => (flushed17 m c t).trans (funext fun y => (out17 m c t ((cfg0.win 17).xinj (grid0.coords t) y)).trans
      (same m c Rope.kb t _ _ _ _ 1536 (win0_17.index t (0 : Fin 2)) (win0_17.index t (1 : Fin 2)) (congrFun (idx17 t) 0) (congrFun (idx17 t) 1) rfl rfl)))
    (Pipeline.Window.Covers.cover _ covers17 (Memref.isWhole_whole _))

/-- and values; -/
theorem final18 : (dats (F := Ideal) m 0 c).arrAt 18 cfg0.N = VB m c :=
  (dats (F := Ideal) m 0 c).arrAt_eq_of_cover 18 (VB m c)
    (fun t _ => (flushed18 m c t).trans (funext fun y => (out18 m c t ((cfg0.win 18).xinj (grid0.coords t) y)).trans
      (same m c Rope.vb t _ _ _ _ 864 (win0_18.index t (1 : Fin 2)) (win0_18.index t (0 : Fin 2)) (congrFun (idx18 t) 1) (congrFun (idx18 t) 0) rfl rfl)))
    (Pipeline.Window.Covers.cover _ covers18 (Memref.isWhole_whole _))

/-- group C's queries, -/
theorem final19 : (dats (F := Ideal) m 0 c).arrAt 19 cfg0.N = QC m c :=
  (dats (F := Ideal) m 0 c).arrAt_eq_of_cover 19 (QC m c)
    (fun t _ => (flushed19 m c t).trans (funext fun y => (out19 m c t ((cfg0.win 19).xinj (grid0.coords t) y)).trans
      (same m c Rope.qc t _ _ _ _ 1024 (win0_19.index t (0 : Fin 2)) (win0_19.index t (1 : Fin 2)) (congrFun (idx19 t) 0) (congrFun (idx19 t) 1) rfl rfl)))
    (Pipeline.Window.Covers.cover _ covers19 (Memref.isWhole_whole _))

/-- keys -/
theorem final20 : (dats (F := Ideal) m 0 c).arrAt 20 cfg0.N = KC m c :=
  (dats (F := Ideal) m 0 c).arrAt_eq_of_cover 20 (KC m c)
    (fun t _ => (flushed20 m c t).trans (funext fun y => (out20 m c t ((cfg0.win 20).xinj (grid0.coords t) y)).trans
      (same m c Rope.kc t _ _ _ _ 512 (win0_20.index t (0 : Fin 2)) (win0_20.index t (1 : Fin 2)) (congrFun (idx20 t) 0) (congrFun (idx20 t) 1) rfl rfl)))
    (Pipeline.Window.Covers.cover _ covers20 (Memref.isWhole_whole _))

/-- and values. -/
theorem final21 : (dats (F := Ideal) m 0 c).arrAt 21 cfg0.N = VC m c :=
  (dats (F := Ideal) m 0 c).arrAt_eq_of_cover 21 (VC m c)
    (fun t _ => (flushed21 m c t).trans (funext fun y => (out21 m c t ((cfg0.win 21).xinj (grid0.coords t) y)).trans
      (same m c Rope.vc t _ _ _ _ 576 (win0_21.index t (1 : Fin 2)) (win0_21.index t (0 : Fin 2)) (congrFun (idx21 t) 1) (congrFun (idx21 t) 0) rfl rfl)))
    (Pipeline.Window.Covers.cover _ covers21 (Memref.isWhole_whole _))

end Cert.KernelIIdeal.State
end
-- ==== Proof.Turn.lean ====
/- The input projection a token at a time from its arguments: the rotation by a position's angles, the rows as the reference
   writes them, and their equality with the kernel's. -/
module

public import proofs.«01_k».proof.Proof.Rope

@[expose] public section
set_option maxRecDepth 16384
noncomputable section
namespace Cert.Rope
open Idealize.ShloMosaic
open scoped BigOperators

/-- The angle of pair `j` at position `p`. -/
def ang (p : BitVec 32) (j : ℕ) : EReal :=
  FloatOps.sitofp (F := Ideal) FTy.f32 p * Ideal.pow (Ideal.ofBits .f32 0x461C4000#32)
    (Ideal.div (-FloatOps.sitofp (F := Ideal) FTy.f32 (BitVec.ofNat 32 j)) (Ideal.ofBits .f32 0x42000000#32))

/-- The rotation of 64 entries, paired 32 apart, by a position's angles. -/
def half (g : ℕ → EReal) (p : BitVec 32) (j : ℕ) : EReal :=
  if j < 32 then g j * Ideal.cos (ang p j) - g (32 + j) * Ideal.sin (ang p j)
  else g j * Ideal.cos (ang p (j - 32)) + g (j - 32) * Ideal.sin (ang p (j - 32))

/-- The rotation of a head's two halves by two positions. -/
def axial (f : Fin 128 → EReal) (r c : BitVec 32) (j : ℕ) : EReal :=
  if j < 64 then half (fun k => f (pos k)) r j else half (fun k => f (pos (64 + k))) c (j - 64)

/-- The tables' entries: the cosines, and the sines with the first of a pair negated. -/
def cosT (p : BitVec 32) (j : ℕ) : EReal := Ideal.cos (ang p (j % 32))
def sinT (p : BitVec 32) (j : ℕ) : EReal := if j % 64 < 32 then -Ideal.sin (ang p (j % 32)) else Ideal.sin (ang p (j % 32))

/-- What a token's results are made from, in the arguments: the projection's columns, the positions, the gains, and the
    second weights. -/
structure Raw where
  col : ℕ → EReal
  r : BitVec 32
  c : BitVec 32
  p : BitVec 32
  gq : Fin 128 → EReal
  gk : Fin 128 → EReal
  gb : Fin 384 → EReal
  gv : Fin 256 → EReal
  uq : Fin 384 → Fin 1152 → EReal
  ukv : Fin 256 → Fin 1536 → EReal

/-- What the kernel makes of them: 64 columns of zeros, tables, and the second weights padded or parted by head. -/
def Raw.tok (R : Raw) : Tok where
  col n := if n % 3584 < 1984 then R.col (n % 3584) else if n % 3584 < 2048 then 0 else R.col (n % 3584 - 64)
  ca k := if k.val < 64 then cosT R.r k.val else cosT R.c k.val
  sa k := if k.val < 64 then sinT R.r k.val else sinT R.c k.val
  cp k := cosT R.p k.val
  sp k := sinT R.p k.val
  gq := R.gq
  gk := R.gk
  gb := R.gb
  gv := R.gv
  uq k n := if h : n.val % 256 < 192 then R.uq k ⟨n.val / 256 * 192 + n.val % 256, by omega⟩ else 0
  uk k n := R.ukv k ⟨n.val / 128 * 256 + n.val % 128, by omega⟩
  uv k n := R.ukv k ⟨n.val / 128 * 256 + (128 + n.val % 128), by omega⟩

/-- A term of the rotation, at equal places. -/
theorem term (t : EReal → EReal) (f : Fin 128 → EReal) (p : BitVec 32) (k k' : Fin 128) (a b : ℕ) (h : k.val = k'.val) (h' : a = b) :
    f k * t (ang p a) = f k' * t (ang p b) := by rw [Fin.ext h, h']

theorem swap_lo (j : Fin 128) (h : j.val % 64 < 32) : (swap j).val = j.val + 32 := if_pos h
theorem swap_hi (j : Fin 128) (h : ¬j.val % 64 < 32) : (swap j).val = j.val - 32 := if_neg h

/-- The rotation from the tables is the rotation by the angles. -/
theorem rope_axial (f c s : Fin 128 → EReal) (p q : BitVec 32) (hc : ∀ k, c k = if k.val < 64 then cosT p k.val else cosT q k.val)
    (hs : ∀ k, s k = if k.val < 64 then sinT p k.val else sinT q k.val) (j : Fin 128) : rope f c s j = axial f p q j.val := by
  have hp (n : ℕ) : (pos n).val = n % 128 := rfl
  unfold rope axial half
  rw [hc, hs]
  unfold cosT sinT
  by_cases h1 : j.val < 64
  · rw [if_pos h1, if_pos h1, if_pos h1]
    by_cases h2 : j.val < 32
    · have l := swap_lo j (by omega)
      rw [if_pos h2, if_pos (by omega), mul_neg, ← sub_eq_add_neg]
      exact congrArg₂ (· - ·) (term _ _ _ _ _ _ _ (by rw [hp]; omega) (by omega)) (term _ _ _ _ _ _ _ (by rw [hp]; omega) (by omega))
    · have l := swap_hi j (by omega)
      rw [if_neg h2, if_neg (by omega)]
      exact congrArg₂ (· + ·) (term _ _ _ _ _ _ _ (by rw [hp]; omega) (by omega)) (term _ _ _ _ _ _ _ (by rw [hp]; omega) (by omega))
  · rw [if_neg h1, if_neg h1, if_neg h1]
    by_cases h2 : j.val - 64 < 32
    · have l := swap_lo j (by omega)
      rw [if_pos h2, if_pos (by omega), mul_neg, ← sub_eq_add_neg]
      exact congrArg₂ (· - ·) (term _ _ _ _ _ _ _ (by rw [hp]; omega) (by omega)) (term _ _ _ _ _ _ _ (by rw [hp]; omega) (by omega))
    · have l := swap_hi j (by omega)
      rw [if_neg h2, if_neg (by omega)]
      exact congrArg₂ (· + ·) (term _ _ _ _ _ _ _ (by rw [hp]; omega) (by omega)) (term _ _ _ _ _ _ _ (by rw [hp]; omega) (by omega))

variable (R : Raw)

theorem ropeA (f : Fin 128 → EReal) (j : Fin 128) : rope f R.tok.ca R.tok.sa j = axial f R.r R.c j.val :=
  rope_axial f _ _ _ _ (fun _ => rfl) (fun _ => rfl) j

theorem ropeP (f : Fin 128 → EReal) (j : Fin 128) : rope f R.tok.cp R.tok.sp j = axial f R.p R.p j.val :=
  rope_axial f _ _ _ _ (fun _ => (ite_self _).symm) (fun _ => (ite_self _).symm) j

/-- The rotation of 64 entries depends on these alone, -/
theorem half_congr (g g' : ℕ → EReal) (p : BitVec 32) (j : ℕ) (hj : j < 64) (h : ∀ k < 64, g k = g' k) : half g p j = half g' p j := by
  unfold half
  split
  · rw [h j hj, h (32 + j) (by omega)]
  · rw [h j hj, h (j - 32) (by omega)]

/-- and of zeros is zeros. -/
theorem half_zero (g : ℕ → EReal) (p : BitVec 32) (j : ℕ) (hj : j < 64) (h : ∀ k < 64, g k = 0) : half g p j = 0 := by
  rw [half_congr g (fun _ => 0) p j hj h]
  unfold half
  simp

/-- A head of 128 turned by one position is its two halves turned. -/
theorem axial_cols (g : ℕ → EReal) (p : BitVec 32) (b n : ℕ) : axial (fun k => g (b + k.val)) p p (n % 128)
    = half (fun k => g (b + (64 * (n % 128 / 64) + k))) p (n % 64) := by
  unfold axial
  by_cases h : n % 128 < 64
  · rw [if_pos h, show n % 128 = n % 64 by omega]
    refine half_congr _ _ _ _ (by omega) fun k hk => congrArg g ?_
    show b + k % 128 = _
    omega
  · rw [if_neg h, show n % 128 - 64 = n % 64 by omega]
    refine half_congr _ _ _ _ (by omega) fun k hk => congrArg g ?_
    show b + (64 + k) % 128 = _
    omega

/-- The columns before the zeros, the zeros, and the columns after them. -/
theorem col_lo (n : ℕ) (h : n < 1984) : R.tok.col n = R.col n := by
  have e : n % 3584 = n := by omega
  show (if n % 3584 < 1984 then R.col (n % 3584) else _) = _
  rw [e, if_pos h]

theorem col_zero (n : ℕ) (h : 1984 ≤ n) (h' : n < 2048) : R.tok.col n = 0 := by
  have e : n % 3584 = n := by omega
  show (if n % 3584 < 1984 then R.col (n % 3584) else if n % 3584 < 2048 then 0 else _) = _
  rw [e, if_neg (by omega), if_pos h']

theorem col_hi (n k : ℕ) (h : 2048 ≤ n) (h' : n < 3584) (hk : n = k + 64) : R.tok.col n = R.col k := by
  have e : n % 3584 = n := by omega
  show (if n % 3584 < 1984 then R.col (n % 3584) else if n % 3584 < 2048 then 0 else R.col (n % 3584 - 64)) = _
  rw [e, if_neg (by omega), if_neg (by omega), hk, Nat.add_sub_cancel]

namespace Raw

/-- Group A's queries as the reference writes them, -/
def qa (n : ℕ) : EReal := axial (Norm.rms Norm.n128 (fun k => R.col (128 * (n / 128) + k.val)) R.gq) R.r R.c (n % 128) * sA
/-- its keys, -/
def ka (n : ℕ) : EReal := axial (Norm.rms Norm.n128 (fun k => R.col (768 + 128 * (n / 128) + k.val)) R.gk) R.r R.c (n % 128)
/-- and its values. -/
def va (r : ℕ) : EReal := if r % 144 < 128 then R.col (1024 + (128 * (r / 144) + r % 144)) else 1
/-- Group B's latents, -/
def cq (k : Fin 384) : EReal := Norm.rms n384 (fun k => R.col (1280 + k.val)) R.gb k
def cv (k : Fin 256) : EReal := Norm.rms n256 (fun k => R.col (1664 + k.val)) R.gv k
/-- what is made of them, -/
def qh (n : ℕ) : EReal := (∑ k, R.cq k * R.uq k ⟨n % 1152, by omega⟩) * sB
def kv (n : ℕ) : EReal := ∑ k, R.cv k * R.ukv k ⟨n % 1536, by omega⟩
/-- its queries, -/
def qb (n : ℕ) : EReal := if n % 256 < 128 then R.qh (n / 256 * 192 + n % 256)
  else if n % 256 < 192 then half (fun k => R.qh (n / 256 * 192 + (128 + k))) R.p (n % 256 - 128) else 0
/-- its keys, -/
def kb (n : ℕ) : EReal := if n % 256 < 128 then R.kv (n / 256 * 256 + n % 256)
  else if n % 256 < 192 then half (fun k => R.col (1920 + k)) R.p (n % 256 - 128) else 0
/-- and its values. -/
def vb (r : ℕ) : EReal := if r % 144 < 128 then R.kv (r / 144 * 256 + (128 + r % 144)) else 1
/-- Group C's queries, -/
def qc (n : ℕ) : EReal := if n % 256 < 64 then half (fun k => R.col (1984 + (128 * (n / 256) + k))) R.p (n % 64) * sC
  else if n % 256 < 192 then 0 else half (fun k => R.col (1984 + (128 * (n / 256) + 64 + k))) R.p (n % 64) * sC
/-- its keys, -/
def kc (n : ℕ) : EReal := half (fun k => R.col (2496 + (64 * (n / 64) + k))) R.p (n % 64)
/-- and its values. -/
def vc (r : ℕ) : EReal := if r % 144 < 128 then R.col (3008 + (128 * (r / 144) + r % 144)) else 1

end Raw

/-- Group A's rows are the reference's, -/
theorem qa_eq (n : ℕ) (h : n < 768) : qa R.tok n = R.qa n := by
  unfold qa Raw.qa
  rw [ropeA]
  have e : (fun k : Fin 128 => R.tok.col (128 * (n / 128) + k.val)) = fun k => R.col (128 * (n / 128) + k.val) :=
    funext fun k => col_lo R _ (by omega)
  rw [e]
  rfl

theorem ka_eq (n : ℕ) (h : n < 256) : ka R.tok n = R.ka n := by
  unfold ka Raw.ka
  rw [ropeA]
  have e : (fun k : Fin 128 => R.tok.col (768 + 128 * (n / 128) + k.val)) = fun k => R.col (768 + 128 * (n / 128) + k.val) :=
    funext fun k => col_lo R _ (by omega)
  rw [e]
  rfl

theorem va_eq (r : ℕ) (h : r < 288) : va R.tok r = R.va r := by
  unfold va Raw.va
  split
  · exact col_lo R _ (by omega)
  · rfl

/-- group B's, -/
theorem cq_eq (k : Fin 384) : cq R.tok k = R.cq k := by
  unfold cq Raw.cq
  rw [show (fun k : Fin 384 => R.tok.col (1280 + k.val)) = fun k => R.col (1280 + k.val) from funext fun k => col_lo R _ (by omega)]
  rfl

theorem cv_eq (k : Fin 256) : cv R.tok k = R.cv k := by
  unfold cv Raw.cv
  rw [show (fun k : Fin 256 => R.tok.col (1664 + k.val)) = fun k => R.col (1664 + k.val) from funext fun k => col_lo R _ (by omega)]
  rfl

theorem qh_eq (n n' : ℕ) (h : n < 1536) (h' : n % 256 < 192) (e : n' = n / 256 * 192 + n % 256) : qh R.tok n = R.qh n' := by
  unfold qh Raw.qh
  refine congrArg (· * sB) (Finset.sum_congr rfl fun k _ => congrArg₂ (· * ·) (cq_eq R k) ?_)
  have e' : n % 1536 = n := by omega
  refine (dif_pos (by dsimp only; omega)).trans (congrArg (R.uq k) (Fin.ext ?_))
  dsimp only
  omega

theorem qh_zero (n : ℕ) (h : n < 1536) (h' : ¬n % 256 < 192) : qh R.tok n = 0 := by
  unfold qh
  rw [Finset.sum_eq_zero, zero_mul]
  intro k _
  have e' : n % 1536 = n := by omega
  refine (congrArg (cq R.tok k * ·) (dif_neg (by dsimp only; omega))).trans (mul_zero _)

theorem qb_eq (n : ℕ) (h : n < 1536) : qb R.tok n = R.qb n := by
  unfold qb Raw.qb
  by_cases h1 : n % 256 < 128
  · rw [if_pos h1, if_pos h1]
    exact qh_eq R _ _ h (by omega) rfl
  · rw [if_neg h1, if_neg h1, ropeP]
    show axial _ R.p R.p (n % 128) = _
    rw [axial_cols (qh R.tok) R.p (256 * (n / 256) + 128) n]
    by_cases h2 : n % 256 < 192
    · rw [if_pos h2, show n % 256 - 128 = n % 64 by omega]
      exact half_congr _ _ _ _ (by omega) fun k hk => qh_eq R _ _ (by omega) (by omega) (by omega)
    · rw [if_neg h2]
      exact half_zero _ _ _ (by omega) fun k hk => qh_zero R _ (by omega) (by omega)

theorem kb_eq (n : ℕ) (h : n < 1536) : kb R.tok n = R.kb n := by
  unfold kb Raw.kb
  by_cases h1 : n % 256 < 128
  · rw [if_pos h1, if_pos h1]
    unfold Raw.kv
    refine Finset.sum_congr rfl fun k _ => congrArg₂ (· * ·) (cv_eq R k) (congrArg (R.ukv k) (Fin.ext ?_))
    dsimp only
    omega
  · rw [if_neg h1, if_neg h1, ropeP]
    show axial _ R.p R.p (n % 128) = _
    rw [axial_cols R.tok.col R.p 1920 n]
    by_cases h2 : n % 256 < 192
    · rw [if_pos h2, show n % 256 - 128 = n % 64 by omega]
      refine half_congr _ _ _ _ (by omega) fun k hk => (col_lo R _ (by omega)).trans (congrArg R.col (by omega))
    · rw [if_neg h2]
      exact half_zero _ _ _ (by omega) fun k hk => col_zero R _ (by omega) (by omega)

theorem vb_eq (r : ℕ) (h : r < 864) : vb R.tok r = R.vb r := by
  unfold vb Raw.vb
  split
  · unfold Raw.kv
    refine Finset.sum_congr rfl fun k _ => congrArg₂ (· * ·) (cv_eq R k) (congrArg (R.ukv k) (Fin.ext ?_))
    dsimp only
    omega
  · rfl

/-- and group C's. -/
theorem qc_eq (n : ℕ) (h : n < 1024) : qc R.tok n = R.qc n := by
  unfold qc Raw.qc
  rw [ropeP]
  show (if _ then axial _ R.p R.p (n % 128) * sC else 0) = _
  rw [axial_cols R.tok.col R.p (2048 + 128 * (n / 256)) n]
  by_cases h1 : n % 256 < 64
  · rw [if_pos h1, if_pos (by omega)]
    refine congrArg (· * sC) (half_congr _ _ _ _ (by omega) fun k hk => col_hi R _ _ (by omega) (by omega) (by omega))
  · rw [if_neg h1]
    by_cases h2 : n % 256 < 192
    · rw [if_pos h2, if_neg (by omega)]
    · rw [if_neg h2, if_pos (by omega)]
      refine congrArg (· * sC) (half_congr _ _ _ _ (by omega) fun k hk => col_hi R _ _ (by omega) (by omega) (by omega))

theorem kc_eq (n : ℕ) (h : n < 512) : kc R.tok n = R.kc n := by
  unfold kc Raw.kc
  rw [ropeP]
  show axial _ R.p R.p (n % 128) = _
  rw [axial_cols R.tok.col R.p (2560 + 128 * (n / 128)) n]
  exact half_congr _ _ _ _ (by omega) fun k hk => col_hi R _ _ (by omega) (by omega) (by omega)

theorem vc_eq (r : ℕ) (h : r < 576) : vc R.tok r = R.vc r := by
  unfold vc Raw.vc
  split
  · exact col_hi R _ _ (by omega) (by omega) (by omega)
  · rfl

end Cert.Rope
end
-- ==== Proof.RefI.lean ====
/- The input projection's reference, read at an index. -/
module

public import proofs.«01_k».proof.Proof.Gen.ReferenceIIdeal.Run
public import proofs.«01_k».proof.Proof.Turn
public import proofs.«01_k».proof.Proof.Attend
public import Idealize.ShloMosaic.Lib.Pointwise

@[expose] public section
set_option maxRecDepth 16384
noncomputable section
namespace Cert.ReferenceIIdeal.Read
open Idealize.ShloMosaic Idealize.SL Idealize.SL.Sem
open Cert.ReferenceIIdeal Cert.ReferenceIIdeal.Gen
open scoped BigOperators

variable (m : (ℓ : Loc nD τ sig) → Buf (Elt Ideal) ℓ) (c : Dev nD)

/-- The argument arrays. -/
def a0 : FVec Ideal S24576x2048 .f32 := m ((c.tc : Thread nD τ).loc main_arg0)
def a1 : IVec S24576 32 := m ((c.tc : Thread nD τ).loc main_arg1)
def a2 : IVec S24576 32 := m ((c.tc : Thread nD τ).loc main_arg2)
def a3 : IVec S24576 32 := m ((c.tc : Thread nD τ).loc main_arg3)
def a4 : FVec Ideal S2048x3520 .f32 := m ((c.tc : Thread nD τ).loc main_arg4)
def a5 : FVec Ideal S128 .f32 := m ((c.tc : Thread nD τ).loc main_arg5)
def a6 : FVec Ideal S128 .f32 := m ((c.tc : Thread nD τ).loc main_arg6)
def a7 : FVec Ideal S384 .f32 := m ((c.tc : Thread nD τ).loc main_arg7)
def a8 : FVec Ideal S256 .f32 := m ((c.tc : Thread nD τ).loc main_arg8)
def a9 : FVec Ideal S384x1152 .f32 := m ((c.tc : Thread nD τ).loc main_arg9)
def a10 : FVec Ideal S256x1536 .f32 := m ((c.tc : Thread nD τ).loc main_arg10)

/-- A column of the projection at token `i`. -/
def colR (x : FVec Ideal S24576x2048 .f32) (w : FVec Ideal S2048x3520 .f32) (i : Fin 24576) (n : ℕ) : EReal :=
  ∑ k : Fin 2048, x (ix2 i k) * w (ix2 k ⟨n % 3520, by omega⟩)

/-- What token `i`'s results are made from. -/
def raw (i : Fin 24576) : Rope.Raw where
  col := colR (a0 m c) (a4 m c) i
  r := a1 m c (ix1 i)
  c := a2 m c (ix1 i)
  p := a3 m c (ix1 i)
  gq k := a5 m c (ix1 k)
  gk k := a6 m c (ix1 k)
  gb k := a7 m c (ix1 k)
  gv k := a8 m c (ix1 k)
  uq k n := a9 m c (ix2 k n)
  ukv k n := a10 m c (ix2 k n)

/-- The scale of a head's queries: `1 / (√d log 2)`, of the head's width. -/
def scaleR (d : BitVec 32) : FVec Ideal S_ .f32 :=
  Host.divf (constant (F := Ideal) S_ .f32 0x3F800000#32) (mulf (Host.sqrt (constant (F := Ideal) S_ .f32 d)) (Host.log (constant (F := Ideal) S_ .f32 0x40000000#32)))

/-- It is the kernel's, for each group. -/
theorem scale_at {d : BitVec 32} {r : ℝ} (h : Ideal.ofBits .f32 d = (r : EReal)) (hr : 0 < r) (i) :
    scaleR d i = (((Real.sqrt r) * (Real.log 2))⁻¹ : ℝ) := by
  unfold scaleR
  pointwise
  rw [h, Attend.bits_2, Attend.scale_2 hr, one_div]
theorem scale_a (i) : scaleR 0x43000000#32 i = Rope.sA := scale_at Attend.bits_128 (by norm_num) i
theorem scale_b (i) : scaleR 0x43400000#32 i = Rope.sB := scale_at Attend.bits_192 (by norm_num) i
theorem scale_c (i) : scaleR 0x42800000#32 i = Rope.sC := scale_at Attend.bits_64 (by norm_num) i

/-- The angles of the positions. -/
def angR (p : IVec S24576 32) : FVec Ideal S24576x1x32 .f32 :=
  mulf (broadcastInDim S24576x1x32 ![0, 1, 2] bcast_S24576x1x1_S24576x1x32_0_1_2 (broadcastInDim S24576x1x1 ![0] bcast_S24576_S24576x1x1_0 (sitofp (F := Ideal) .f32 p)))
    (broadcastInDim S24576x1x32 ![0, 1, 2] bcast_S1x1x32_S24576x1x32_0_1_2 (broadcastInDim S1x1x32 ![2] bcast_S32_S1x1x32_2
      (Host.powf (F := Ideal) (broadcastInDim S32 ![] bcast_S_S32 (constant (F := Ideal) S_ .f32 0x461C4000#32))
        (Host.divf (Host.negf (sitofp (F := Ideal) .f32 (iotaInDim S32 32 0))) (broadcastInDim S32 ![] bcast_S_S32 (constant (F := Ideal) S_ .f32 0x42000000#32))))))

theorem angR_apply (p : IVec S24576 32) (i : Fin 24576) (k : Fin 32) : angR p (ix3 i 0 k) = Rope.ang (p (ix1 i)) k.val := by
  unfold angR Rope.ang
  pointwise

/-- The rotations of six, two, eight and one heads of 64. -/
def rope6 (x : FVec Ideal S24576x6x64 .f32) (p : IVec S24576 32) : FVec Ideal S24576x6x64 .f32 :=
  concatenate S24576x6x64 2 [⟨S24576x6x32, (subf (mulf (extractStridedSlice S24576x6x32 ![0, 0, 0] x slices_S24576x6x64_S24576x6x32_0_0_0) (broadcastInDim S24576x6x32 ![0, 1, 2] bcast_S24576x1x32_S24576x6x32_0_1_2 (Host.cos (angR p))))
      (mulf (extractStridedSlice S24576x6x32 ![0, 0, 32] x slices_S24576x6x64_S24576x6x32_0_0_32) (broadcastInDim S24576x6x32 ![0, 1, 2] bcast_S24576x1x32_S24576x6x32_0_1_2 (Host.sin (angR p)))))⟩,
    ⟨S24576x6x32, (addf (mulf (extractStridedSlice S24576x6x32 ![0, 0, 32] x slices_S24576x6x64_S24576x6x32_0_0_32) (broadcastInDim S24576x6x32 ![0, 1, 2] bcast_S24576x1x32_S24576x6x32_0_1_2 (Host.cos (angR p))))
      (mulf (extractStridedSlice S24576x6x32 ![0, 0, 0] x slices_S24576x6x64_S24576x6x32_0_0_0) (broadcastInDim S24576x6x32 ![0, 1, 2] bcast_S24576x1x32_S24576x6x32_0_1_2 (Host.sin (angR p)))))⟩] concatenates_S24576x6x32_S24576x6x32_S24576x6x64_d2

def rope2 (x : FVec Ideal S24576x2x64 .f32) (p : IVec S24576 32) : FVec Ideal S24576x2x64 .f32 :=
  concatenate S24576x2x64 2 [⟨S24576x2x32, (subf (mulf (extractStridedSlice S24576x2x32 ![0, 0, 0] x slices_S24576x2x64_S24576x2x32_0_0_0) (broadcastInDim S24576x2x32 ![0, 1, 2] bcast_S24576x1x32_S24576x2x32_0_1_2 (Host.cos (angR p))))
      (mulf (extractStridedSlice S24576x2x32 ![0, 0, 32] x slices_S24576x2x64_S24576x2x32_0_0_32) (broadcastInDim S24576x2x32 ![0, 1, 2] bcast_S24576x1x32_S24576x2x32_0_1_2 (Host.sin (angR p)))))⟩,
    ⟨S24576x2x32, (addf (mulf (extractStridedSlice S24576x2x32 ![0, 0, 32] x slices_S24576x2x64_S24576x2x32_0_0_32) (broadcastInDim S24576x2x32 ![0, 1, 2] bcast_S24576x1x32_S24576x2x32_0_1_2 (Host.cos (angR p))))
      (mulf (extractStridedSlice S24576x2x32 ![0, 0, 0] x slices_S24576x2x64_S24576x2x32_0_0_0) (broadcastInDim S24576x2x32 ![0, 1, 2] bcast_S24576x1x32_S24576x2x32_0_1_2 (Host.sin (angR p)))))⟩] concatenates_S24576x2x32_S24576x2x32_S24576x2x64_d2

def rope8 (x : FVec Ideal S24576x8x64 .f32) (p : IVec S24576 32) : FVec Ideal S24576x8x64 .f32 :=
  concatenate S24576x8x64 2 [⟨S24576x8x32, (subf (mulf (extractStridedSlice S24576x8x32 ![0, 0, 0] x slices_S24576x8x64_S24576x8x32_0_0_0) (broadcastInDim S24576x8x32 ![0, 1, 2] bcast_S24576x1x32_S24576x8x32_0_1_2 (Host.cos (angR p))))
      (mulf (extractStridedSlice S24576x8x32 ![0, 0, 32] x slices_S24576x8x64_S24576x8x32_0_0_32) (broadcastInDim S24576x8x32 ![0, 1, 2] bcast_S24576x1x32_S24576x8x32_0_1_2 (Host.sin (angR p)))))⟩,
    ⟨S24576x8x32, (addf (mulf (extractStridedSlice S24576x8x32 ![0, 0, 32] x slices_S24576x8x64_S24576x8x32_0_0_32) (broadcastInDim S24576x8x32 ![0, 1, 2] bcast_S24576x1x32_S24576x8x32_0_1_2 (Host.cos (angR p))))
      (mulf (extractStridedSlice S24576x8x32 ![0, 0, 0] x slices_S24576x8x64_S24576x8x32_0_0_0) (broadcastInDim S24576x8x32 ![0, 1, 2] bcast_S24576x1x32_S24576x8x32_0_1_2 (Host.sin (angR p)))))⟩] concatenates_S24576x8x32_S24576x8x32_S24576x8x64_d2

def rope1 (x : FVec Ideal S24576x1x64 .f32) (p : IVec S24576 32) : FVec Ideal S24576x1x64 .f32 :=
  concatenate S24576x1x64 2 [⟨S24576x1x32, (subf (mulf (extractStridedSlice S24576x1x32 ![0, 0, 0] x slices_S24576x1x64_S24576x1x32_0_0_0) (Host.cos (angR p)))
      (mulf (extractStridedSlice S24576x1x32 ![0, 0, 32] x slices_S24576x1x64_S24576x1x32_0_0_32) (Host.sin (angR p))))⟩,
    ⟨S24576x1x32, (addf (mulf (extractStridedSlice S24576x1x32 ![0, 0, 32] x slices_S24576x1x64_S24576x1x32_0_0_32) (Host.cos (angR p)))
      (mulf (extractStridedSlice S24576x1x32 ![0, 0, 0] x slices_S24576x1x64_S24576x1x32_0_0_0) (Host.sin (angR p))))⟩] concatenates_S24576x1x32_S24576x1x32_S24576x1x64_d2

/-- A rotation as it is read. -/
theorem turn (g : ℕ → EReal) (p : BitVec 32) (j : ℕ) :
    (if _ : j < 32 then g j * Ideal.cos (Rope.ang p j) - g (32 + j) * Ideal.sin (Rope.ang p j)
      else g (32 + (j - 32)) * Ideal.cos (Rope.ang p (j - 32)) + g (j - 32) * Ideal.sin (Rope.ang p (j - 32))) = Rope.half g p j := by
  unfold Rope.half
  split
  · rfl
  · rw [show 32 + (j - 32) = j by omega]

theorem rope6_apply (x p) (i : Fin 24576) (h : Fin 6) (j : Fin 64) (g : ℕ → EReal) (hg : ∀ k : Fin 64, x (ix3 i h k) = g k.val) :
    rope6 x p (ix3 i h j) = Rope.half g (p (ix1 i)) j.val := by
  unfold rope6
  pointwise
  simp only [angR_apply, hg]
  exact turn g _ _

theorem rope2_apply (x p) (i : Fin 24576) (h : Fin 2) (j : Fin 64) (g : ℕ → EReal) (hg : ∀ k : Fin 64, x (ix3 i h k) = g k.val) :
    rope2 x p (ix3 i h j) = Rope.half g (p (ix1 i)) j.val := by
  unfold rope2
  pointwise
  simp only [angR_apply, hg]
  exact turn g _ _

theorem rope8_apply (x p) (i : Fin 24576) (h : Fin 8) (j : Fin 64) (g : ℕ → EReal) (hg : ∀ k : Fin 64, x (ix3 i h k) = g k.val) :
    rope8 x p (ix3 i h j) = Rope.half g (p (ix1 i)) j.val := by
  unfold rope8
  pointwise
  simp only [angR_apply, hg]
  exact turn g _ _

theorem rope1_apply (x p) (i : Fin 24576) (h : Fin 1) (j : Fin 64) (g : ℕ → EReal) (hg : ∀ k : Fin 64, x (ix3 i 0 k) = g k.val) :
    rope1 x p (ix3 i h j) = Rope.half g (p (ix1 i)) j.val := by
  unfold rope1
  pointwise
  simp only [angR_apply, hg]
  exact turn g _ _

/-- The norm of group A's heads, and their rotation. -/
def norm6 (d : FVec Ideal S24576x6x128 .f32) (g : FVec Ideal S128 .f32) : FVec Ideal S24576x6x128 .f32 :=
  mulf (mulf d (broadcastInDim S24576x6x128 ![0, 1, 2] bcast_S24576x6x1_S24576x6x128_0_1_2 (Host.rsqrt (addf (Host.divf
      (broadcastInDim S24576x6x1 ![0, 1] bcast_S24576x6_S24576x6x1_0_1 (Host.reduceAdd (mulf d d) (constant (F := Ideal) S_ .f32 0x00000000#32) reducesTo_S24576x6x128_S24576x6_d2 h_S_))
      (broadcastInDim S24576x6x1 ![] bcast_S_S24576x6x1 (constant (F := Ideal) S_ .f32 0x43000000#32)))
      (broadcastInDim S24576x6x1 ![] bcast_S_S24576x6x1 (constant (F := Ideal) S_ .f32 0x3727C5AC#32))))))
    (broadcastInDim S24576x6x128 ![0, 1, 2] bcast_S1x1x128_S24576x6x128_0_1_2 (broadcastInDim S1x1x128 ![2] bcast_S128_S1x1x128_2 g))

theorem norm6_apply (d g) (i : Fin 24576) (h : Fin 6) (k : Fin 128) : norm6 d g (ix3 i h k)
    = Norm.rms Norm.n128 (fun k => d (ix3 i h k)) (fun k => g (ix1 k)) k := by
  unfold norm6 Norm.rms Norm.n128 Norm.eps
  pointwise

def axial6 (x : FVec Ideal S24576x6x128 .f32) (p q : IVec S24576 32) : FVec Ideal S24576x6x128 .f32 :=
  concatenate S24576x6x128 2 [⟨S24576x6x64, rope6 (extractStridedSlice S24576x6x64 ![0, 0, 0] x slices_S24576x6x128_S24576x6x64_0_0_0) p⟩,
    ⟨S24576x6x64, rope6 (extractStridedSlice S24576x6x64 ![0, 0, 64] x slices_S24576x6x128_S24576x6x64_0_0_64) q⟩] concatenates_S24576x6x64_S24576x6x64_S24576x6x128_d2

theorem axial6_apply (x p q) (i : Fin 24576) (h : Fin 6) (j : Fin 128) : axial6 x p q (ix3 i h j)
    = Rope.axial (fun k => x (ix3 i h k)) (p (ix1 i)) (q (ix1 i)) j.val := by
  unfold axial6 Rope.axial
  pointwise
  split
  · refine rope6_apply _ _ _ _ _ _ fun k => ?_
    pointwise
    exact congrArg (fun k => x (ix3 i h k)) (Fin.ext (Nat.mod_eq_of_lt (by omega)).symm)
  · refine rope6_apply _ _ _ _ _ _ fun k => ?_
    pointwise
    exact congrArg (fun k => x (ix3 i h k)) (Fin.ext (Nat.mod_eq_of_lt (by omega)).symm)

def norm2 (d : FVec Ideal S24576x2x128 .f32) (g : FVec Ideal S128 .f32) : FVec Ideal S24576x2x128 .f32 :=
  mulf (mulf d (broadcastInDim S24576x2x128 ![0, 1, 2] bcast_S24576x2x1_S24576x2x128_0_1_2 (Host.rsqrt (addf (Host.divf
      (broadcastInDim S24576x2x1 ![0, 1] bcast_S24576x2_S24576x2x1_0_1 (Host.reduceAdd (mulf d d) (constant (F := Ideal) S_ .f32 0x00000000#32) reducesTo_S24576x2x128_S24576x2_d2 h_S_))
      (broadcastInDim S24576x2x1 ![] bcast_S_S24576x2x1 (constant (F := Ideal) S_ .f32 0x43000000#32)))
      (broadcastInDim S24576x2x1 ![] bcast_S_S24576x2x1 (constant (F := Ideal) S_ .f32 0x3727C5AC#32))))))
    (broadcastInDim S24576x2x128 ![0, 1, 2] bcast_S1x1x128_S24576x2x128_0_1_2 (broadcastInDim S1x1x128 ![2] bcast_S128_S1x1x128_2 g))

theorem norm2_apply (d g) (i : Fin 24576) (h : Fin 2) (k : Fin 128) : norm2 d g (ix3 i h k)
    = Norm.rms Norm.n128 (fun k => d (ix3 i h k)) (fun k => g (ix1 k)) k := by
  unfold norm2 Norm.rms Norm.n128 Norm.eps
  pointwise

def axial2 (x : FVec Ideal S24576x2x128 .f32) (p q : IVec S24576 32) : FVec Ideal S24576x2x128 .f32 :=
  concatenate S24576x2x128 2 [⟨S24576x2x64, rope2 (extractStridedSlice S24576x2x64 ![0, 0, 0] x slices_S24576x2x128_S24576x2x64_0_0_0) p⟩,
    ⟨S24576x2x64, rope2 (extractStridedSlice S24576x2x64 ![0, 0, 64] x slices_S24576x2x128_S24576x2x64_0_0_64) q⟩] concatenates_S24576x2x64_S24576x2x64_S24576x2x128_d2

theorem axial2_apply (x p q) (i : Fin 24576) (h : Fin 2) (j : Fin 128) : axial2 x p q (ix3 i h j)
    = Rope.axial (fun k => x (ix3 i h k)) (p (ix1 i)) (q (ix1 i)) j.val := by
  unfold axial2 Rope.axial
  pointwise
  split
  · refine rope2_apply _ _ _ _ _ _ fun k => ?_
    pointwise
    exact congrArg (fun k => x (ix3 i h k)) (Fin.ext (Nat.mod_eq_of_lt (by omega)).symm)
  · refine rope2_apply _ _ _ _ _ _ fun k => ?_
    pointwise
    exact congrArg (fun k => x (ix3 i h k)) (Fin.ext (Nat.mod_eq_of_lt (by omega)).symm)

/-- A column within the projection's. -/
theorem colR_eq (x : FVec Ideal S24576x2048 .f32) (w : FVec Ideal S2048x3520 .f32) (i : Fin 24576) (n : Fin 3520) (n' : ℕ) (h : n.val = n') :
    ∑ k : Fin 2048, x (ix2 i k) * w (ix2 k n) = colR x w i n' := by
  subst h
  exact Finset.sum_congr rfl fun k _ => congrArg (fun n => x (ix2 i k) * w (ix2 k n)) (Fin.ext (Nat.mod_eq_of_lt n.isLt).symm)

/-- The projection's columns by head: group A's queries, keys and values, group B's shared keys, and group C's. -/
def pqa (x : FVec Ideal S24576x2048 .f32) (w : FVec Ideal S2048x3520 .f32) : FVec Ideal S24576x6x128 .f32 :=
  shapeCast S24576x6x128 (Host.dotGeneral dot_S24576x2048_S2048x768_S24576x768_1_0_0_1_n_n none x (extractStridedSlice S2048x768 ![0, 0] w slices_S2048x3520_S2048x768_0_0)) shapeCasts_S24576x768_S24576x6x128

theorem pqa_apply (x w) (i : Fin 24576) (h : Fin 6) (k : Fin 128) : pqa x w (ix3 i h k) = colR x w i (128 * h.val + k.val) := by
  unfold pqa
  pointwise
  exact colR_eq x w i _ _ (by dsimp only; omega)

def pka (x : FVec Ideal S24576x2048 .f32) (w : FVec Ideal S2048x3520 .f32) : FVec Ideal S24576x2x128 .f32 :=
  shapeCast S24576x2x128 (Host.dotGeneral dot_S24576x2048_S2048x256_S24576x256_1_0_0_1_n_n none x (extractStridedSlice S2048x256 ![0, 768] w slices_S2048x3520_S2048x256_0_768)) shapeCasts_S24576x256_S24576x2x128

theorem pka_apply (x w) (i : Fin 24576) (h : Fin 2) (k : Fin 128) : pka x w (ix3 i h k) = colR x w i (768 + 128 * h.val + k.val) := by
  unfold pka
  pointwise
  exact colR_eq x w i _ _ (by dsimp only; omega)

def pva (x : FVec Ideal S24576x2048 .f32) (w : FVec Ideal S2048x3520 .f32) : FVec Ideal S24576x2x128 .f32 :=
  shapeCast S24576x2x128 (Host.dotGeneral dot_S24576x2048_S2048x256_S24576x256_1_0_0_1_n_n none x (extractStridedSlice S2048x256 ![0, 1024] w slices_S2048x3520_S2048x256_0_1024)) shapeCasts_S24576x256_S24576x2x128

theorem pva_apply (x w) (i : Fin 24576) (h : Fin 2) (k : Fin 128) : pva x w (ix3 i h k) = colR x w i (1024 + (128 * h.val + k.val)) := by
  unfold pva
  pointwise
  exact colR_eq x w i _ _ (by dsimp only; omega)

def pkr (x : FVec Ideal S24576x2048 .f32) (w : FVec Ideal S2048x3520 .f32) : FVec Ideal S24576x1x64 .f32 :=
  shapeCast S24576x1x64 (Host.dotGeneral dot_S24576x2048_S2048x64_S24576x64_1_0_0_1_n_n none x (extractStridedSlice S2048x64 ![0, 1920] w slices_S2048x3520_S2048x64_0_1920)) shapeCasts_S24576x64_S24576x1x64

theorem pkr_apply (x w) (i : Fin 24576) (h : Fin 1) (k : Fin 64) : pkr x w (ix3 i h k) = colR x w i (1920 + k.val) := by
  unfold pkr
  pointwise
  exact colR_eq x w i _ _ rfl

def pqc (x : FVec Ideal S24576x2048 .f32) (w : FVec Ideal S2048x3520 .f32) : FVec Ideal S24576x8x64 .f32 :=
  shapeCast S24576x8x64 (Host.dotGeneral dot_S24576x2048_S2048x512_S24576x512_1_0_0_1_n_n none x (extractStridedSlice S2048x512 ![0, 1984] w slices_S2048x3520_S2048x512_0_1984)) shapeCasts_S24576x512_S24576x8x64

theorem pqc_apply (x w) (i : Fin 24576) (h : Fin 8) (k : Fin 64) : pqc x w (ix3 i h k) = colR x w i (1984 + (64 * h.val + k.val)) := by
  unfold pqc
  pointwise
  exact colR_eq x w i _ _ (by dsimp only; omega)

def pkc (x : FVec Ideal S24576x2048 .f32) (w : FVec Ideal S2048x3520 .f32) : FVec Ideal S24576x8x64 .f32 :=
  shapeCast S24576x8x64 (Host.dotGeneral dot_S24576x2048_S2048x512_S24576x512_1_0_0_1_n_n none x (extractStridedSlice S2048x512 ![0, 2496] w slices_S2048x3520_S2048x512_0_2496)) shapeCasts_S24576x512_S24576x8x64

theorem pkc_apply (x w) (i : Fin 24576) (h : Fin 8) (k : Fin 64) : pkc x w (ix3 i h k) = colR x w i (2496 + (64 * h.val + k.val)) := by
  unfold pkc
  pointwise
  exact colR_eq x w i _ _ (by dsimp only; omega)

def pvc (x : FVec Ideal S24576x2048 .f32) (w : FVec Ideal S2048x3520 .f32) : FVec Ideal S24576x4x128 .f32 :=
  shapeCast S24576x4x128 (Host.dotGeneral dot_S24576x2048_S2048x512_S24576x512_1_0_0_1_n_n none x (extractStridedSlice S2048x512 ![0, 3008] w slices_S2048x3520_S2048x512_0_3008)) shapeCasts_S24576x512_S24576x4x128

theorem pvc_apply (x w) (i : Fin 24576) (h : Fin 4) (k : Fin 128) : pvc x w (ix3 i h k) = colR x w i (3008 + (128 * h.val + k.val)) := by
  unfold pvc
  pointwise
  exact colR_eq x w i _ _ (by dsimp only; omega)

/-- Group B's latents, normed, -/
def lq (x : FVec Ideal S24576x2048 .f32) (w : FVec Ideal S2048x3520 .f32) : FVec Ideal S24576x384 .f32 :=
  Host.dotGeneral dot_S24576x2048_S2048x384_S24576x384_1_0_0_1_n_n none x (extractStridedSlice S2048x384 ![0, 1280] w slices_S2048x3520_S2048x384_0_1280)

theorem lq_apply (x w) (i : Fin 24576) (k : Fin 384) : lq x w (ix2 i k) = colR x w i (1280 + k.val) := by
  unfold lq
  pointwise
  exact colR_eq x w i _ _ rfl

def norm384 (d : FVec Ideal S24576x384 .f32) (g : FVec Ideal S384 .f32) : FVec Ideal S24576x384 .f32 :=
  mulf (mulf d (broadcastInDim S24576x384 ![0, 1] bcast_S24576x1_S24576x384_0_1 (Host.rsqrt (addf (Host.divf
      (broadcastInDim S24576x1 ![0] bcast_S24576_S24576x1_0 (Host.reduceAdd (mulf d d) (constant (F := Ideal) S_ .f32 0x00000000#32) reducesTo_S24576x384_S24576_d1 h_S_))
      (broadcastInDim S24576x1 ![] bcast_S_S24576x1 (constant (F := Ideal) S_ .f32 0x43C00000#32)))
      (broadcastInDim S24576x1 ![] bcast_S_S24576x1 (constant (F := Ideal) S_ .f32 0x3727C5AC#32))))))
    (broadcastInDim S24576x384 ![0, 1] bcast_S1x384_S24576x384_0_1 (broadcastInDim S1x384 ![1] bcast_S384_S1x384_1 g))

theorem norm384_apply (d g) (i : Fin 24576) (k : Fin 384) : norm384 d g (ix2 i k) = Norm.rms Rope.n384 (fun k => d (ix2 i k)) (fun k => g (ix1 k)) k := by
  unfold norm384 Norm.rms Rope.n384 Norm.eps
  pointwise

def lv (x : FVec Ideal S24576x2048 .f32) (w : FVec Ideal S2048x3520 .f32) : FVec Ideal S24576x256 .f32 :=
  Host.dotGeneral dot_S24576x2048_S2048x256_S24576x256_1_0_0_1_n_n none x (extractStridedSlice S2048x256 ![0, 1664] w slices_S2048x3520_S2048x256_0_1664)

theorem lv_apply (x w) (i : Fin 24576) (k : Fin 256) : lv x w (ix2 i k) = colR x w i (1664 + k.val) := by
  unfold lv
  pointwise
  exact colR_eq x w i _ _ rfl

def norm256 (d : FVec Ideal S24576x256 .f32) (g : FVec Ideal S256 .f32) : FVec Ideal S24576x256 .f32 :=
  mulf (mulf d (broadcastInDim S24576x256 ![0, 1] bcast_S24576x1_S24576x256_0_1 (Host.rsqrt (addf (Host.divf
      (broadcastInDim S24576x1 ![0] bcast_S24576_S24576x1_0 (Host.reduceAdd (mulf d d) (constant (F := Ideal) S_ .f32 0x00000000#32) reducesTo_S24576x256_S24576_d1 h_S_))
      (broadcastInDim S24576x1 ![] bcast_S_S24576x1 (constant (F := Ideal) S_ .f32 0x43800000#32)))
      (broadcastInDim S24576x1 ![] bcast_S_S24576x1 (constant (F := Ideal) S_ .f32 0x3727C5AC#32))))))
    (broadcastInDim S24576x256 ![0, 1] bcast_S1x256_S24576x256_0_1 (broadcastInDim S1x256 ![1] bcast_S256_S1x256_1 g))

theorem norm256_apply (d g) (i : Fin 24576) (k : Fin 256) : norm256 d g (ix2 i k) = Norm.rms Rope.n256 (fun k => d (ix2 i k)) (fun k => g (ix1 k)) k := by
  unfold norm256 Norm.rms Rope.n256 Norm.eps
  pointwise

/-- and what is made of them. -/
def qhR (l : FVec Ideal S24576x384 .f32) (u : FVec Ideal S384x1152 .f32) : FVec Ideal S24576x6x192 .f32 :=
  mulf (shapeCast S24576x6x192 (Host.dotGeneral dot_S24576x384_S384x1152_S24576x1152_1_0_0_1_n_n none l u) shapeCasts_S24576x1152_S24576x6x192)
    (broadcastInDim S24576x6x192 ![] bcast_S_S24576x6x192 (scaleR 0x43400000#32))

def kvR (l : FVec Ideal S24576x256 .f32) (u : FVec Ideal S256x1536 .f32) : FVec Ideal S24576x6x256 .f32 :=
  shapeCast S24576x6x256 (Host.dotGeneral dot_S24576x256_S256x1536_S24576x1536_1_0_0_1_n_n none l u) shapeCasts_S24576x1536_S24576x6x256

theorem qhR_apply (i : Fin 24576) (h : Fin 6) (k : Fin 192) :
    qhR (norm384 (lq (a0 m c) (a4 m c)) (a7 m c)) (a9 m c) (ix3 i h k) = (raw m c i).qh (h.val * 192 + k.val) := by
  unfold qhR Rope.Raw.qh Rope.Raw.cq
  pointwise
  simp only [norm384_apply, lq_apply, scale_b]
  refine congrArg (· * _) (Finset.sum_congr rfl fun k' _ => congrArg (_ * a9 m c ·) ?_)
  exact congrArg (ix2 k') (Fin.ext (Nat.mod_eq_of_lt (by omega)).symm)

theorem kvR_apply (i : Fin 24576) (h : Fin 6) (k : Fin 256) :
    kvR (norm256 (lv (a0 m c) (a4 m c)) (a8 m c)) (a10 m c) (ix3 i h k) = (raw m c i).kv (h.val * 256 + k.val) := by
  unfold kvR Rope.Raw.kv Rope.Raw.cv
  pointwise
  simp only [norm256_apply, lv_apply]
  refine Finset.sum_congr rfl fun k' _ => congrArg (_ * a10 m c ·) ?_
  exact congrArg (ix2 k') (Fin.ext (Nat.mod_eq_of_lt (by omega)).symm)

/-- The results: group A's queries, -/
def qaR : FVec Ideal S24576x768 .bf16 :=
  truncf .bf16 (shapeCast S24576x768 (mulf (axial6 (norm6 (pqa (a0 m c) (a4 m c)) (a5 m c)) (a1 m c) (a2 m c)) (broadcastInDim S24576x6x128 ![] bcast_S_S24576x6x128 (scaleR 0x43000000#32))) shapeCasts_S24576x6x128_S24576x768) bitsLt_bf16_f32

/-- keys -/
def kaR : FVec Ideal S24576x256 .bf16 :=
  truncf .bf16 (shapeCast S24576x256 (axial2 (norm2 (pka (a0 m c) (a4 m c)) (a6 m c)) (a1 m c) (a2 m c)) shapeCasts_S24576x2x128_S24576x256) bitsLt_bf16_f32

/-- and values; -/
def vaR : FVec Ideal S288x24576 .bf16 :=
  transpose S288x24576 [1, 0] (truncf .bf16 (shapeCast S24576x288 (concatenate S24576x2x144 2 [⟨S24576x2x128, pva (a0 m c) (a4 m c)⟩, ⟨S24576x2x16, (broadcastInDim S24576x2x16 ![] bcast_S_S24576x2x16 (constant (F := Ideal) S_ .f32 0x3F800000#32))⟩] concatenates_S24576x2x128_S24576x2x16_S24576x2x144_d2) shapeCasts_S24576x2x144_S24576x288) bitsLt_bf16_f32) transposes_S24576x288_S288x24576_1_0

/-- group B's queries, -/
def qbR : FVec Ideal S24576x1536 .bf16 :=
  truncf .bf16 (shapeCast S24576x1536 (concatenate S24576x6x256 2 [⟨S24576x6x128, extractStridedSlice S24576x6x128 ![0, 0, 0] (qhR (norm384 (lq (a0 m c) (a4 m c)) (a7 m c)) (a9 m c)) slices_S24576x6x192_S24576x6x128_0_0_0⟩,
    ⟨S24576x6x64, rope6 (extractStridedSlice S24576x6x64 ![0, 0, 128] (qhR (norm384 (lq (a0 m c) (a4 m c)) (a7 m c)) (a9 m c)) slices_S24576x6x192_S24576x6x64_0_0_128) (a3 m c)⟩,
    ⟨S24576x6x64, (broadcastInDim S24576x6x64 ![] bcast_S_S24576x6x64 (constant (F := Ideal) S_ .f32 0x00000000#32))⟩] concatenates_S24576x6x128_S24576x6x64_S24576x6x64_S24576x6x256_d2) shapeCasts_S24576x6x256_S24576x1536) bitsLt_bf16_f32

/-- keys -/
def kbR : FVec Ideal S24576x1536 .bf16 :=
  truncf .bf16 (shapeCast S24576x1536 (concatenate S24576x6x256 2 [⟨S24576x6x128, extractStridedSlice S24576x6x128 ![0, 0, 0] (kvR (norm256 (lv (a0 m c) (a4 m c)) (a8 m c)) (a10 m c)) slices_S24576x6x256_S24576x6x128_0_0_0⟩,
    ⟨S24576x6x64, broadcastInDim S24576x6x64 ![0, 1, 2] bcast_S24576x1x64_S24576x6x64_0_1_2 (rope1 (pkr (a0 m c) (a4 m c)) (a3 m c))⟩,
    ⟨S24576x6x64, (broadcastInDim S24576x6x64 ![] bcast_S_S24576x6x64 (constant (F := Ideal) S_ .f32 0x00000000#32))⟩] concatenates_S24576x6x128_S24576x6x64_S24576x6x64_S24576x6x256_d2) shapeCasts_S24576x6x256_S24576x1536) bitsLt_bf16_f32

/-- and values; -/
def vbR : FVec Ideal S864x24576 .bf16 :=
  transpose S864x24576 [1, 0] (truncf .bf16 (shapeCast S24576x864 (concatenate S24576x6x144 2 [⟨S24576x6x128, (extractStridedSlice S24576x6x128 ![0, 0, 128] (kvR (norm256 (lv (a0 m c) (a4 m c)) (a8 m c)) (a10 m c)) slices_S24576x6x256_S24576x6x128_0_0_128)⟩, ⟨S24576x6x16, (broadcastInDim S24576x6x16 ![] bcast_S_S24576x6x16 (constant (F := Ideal) S_ .f32 0x3F800000#32))⟩] concatenates_S24576x6x128_S24576x6x16_S24576x6x144_d2) shapeCasts_S24576x6x144_S24576x864) bitsLt_bf16_f32) transposes_S24576x864_S864x24576_1_0

/-- group C's queries, scaled and by pairs, -/
def pairR : FVec Ideal S24576x4x2x64 .f32 :=
  shapeCast S24576x4x2x64 (mulf (rope8 (pqc (a0 m c) (a4 m c)) (a3 m c)) (broadcastInDim S24576x8x64 ![] bcast_S_S24576x8x64 (scaleR 0x42800000#32))) shapeCasts_S24576x8x64_S24576x4x2x64

def qcR : FVec Ideal S24576x1024 .bf16 :=
  truncf .bf16 (shapeCast S24576x1024 (concatenate S24576x4x256 2 [⟨S24576x4x64, shapeCast S24576x4x64 (extractStridedSlice S24576x4x1x64 ![0, 0, 0, 0] (pairR m c) slices_S24576x4x2x64_S24576x4x1x64_0_0_0_0) shapeCasts_S24576x4x1x64_S24576x4x64⟩,
    ⟨S24576x4x64, (broadcastInDim S24576x4x64 ![] bcast_S_S24576x4x64 (constant (F := Ideal) S_ .f32 0x00000000#32))⟩, ⟨S24576x4x64, (broadcastInDim S24576x4x64 ![] bcast_S_S24576x4x64 (constant (F := Ideal) S_ .f32 0x00000000#32))⟩,
    ⟨S24576x4x64, shapeCast S24576x4x64 (extractStridedSlice S24576x4x1x64 ![0, 0, 1, 0] (pairR m c) slices_S24576x4x2x64_S24576x4x1x64_0_0_1_0) shapeCasts_S24576x4x1x64_S24576x4x64⟩] concatenates_S24576x4x64_S24576x4x64_S24576x4x64_S24576x4x64_S24576x4x256_d2) shapeCasts_S24576x4x256_S24576x1024) bitsLt_bf16_f32

/-- keys -/
def kcR : FVec Ideal S24576x512 .bf16 :=
  truncf .bf16 (shapeCast S24576x512 (rope8 (pkc (a0 m c) (a4 m c)) (a3 m c)) shapeCasts_S24576x8x64_S24576x512) bitsLt_bf16_f32

/-- and values. -/
def vcR : FVec Ideal S576x24576 .bf16 :=
  transpose S576x24576 [1, 0] (truncf .bf16 (shapeCast S24576x576 (concatenate S24576x4x144 2 [⟨S24576x4x128, pvc (a0 m c) (a4 m c)⟩, ⟨S24576x4x16, (broadcastInDim S24576x4x16 ![] bcast_S_S24576x4x16 (constant (F := Ideal) S_ .f32 0x3F800000#32))⟩] concatenates_S24576x4x128_S24576x4x16_S24576x4x144_d2) shapeCasts_S24576x4x144_S24576x576) bitsLt_bf16_f32) transposes_S24576x576_S576x24576_1_0

/-- At an index: group A's queries, -/
theorem qaR_apply (i : Fin 24576) (n : Fin 768) : qaR m c (ix2 i n) = (raw m c i).qa n.val := by
  unfold qaR Rope.Raw.qa
  pointwise
  simp only [axial6_apply, norm6_apply, pqa_apply, scale_a]
  rfl

/-- keys -/
theorem kaR_apply (i : Fin 24576) (n : Fin 256) : kaR m c (ix2 i n) = (raw m c i).ka n.val := by
  unfold kaR Rope.Raw.ka
  pointwise
  simp only [axial2_apply, norm2_apply, pka_apply]
  rfl

/-- and values; -/
theorem vaR_apply (i : Fin 24576) (n : Fin 288) : vaR m c (ix2 n i) = (raw m c i).va n.val := by
  unfold vaR Rope.Raw.va
  pointwise
  simp only [pva_apply]
  rfl

/-- group B's queries, -/
theorem qbR_apply (i : Fin 24576) (n : Fin 1536) : qbR m c (ix2 i n) = (raw m c i).qb n.val := by
  unfold qbR Rope.Raw.qb
  pointwise
  refine dite_congr rfl (fun _ => qhR_apply m c _ _ _) fun h => dite_congr (propext (by omega)) (fun _ => ?_) fun _ => rfl
  refine rope6_apply _ _ _ _ _ _ fun k => ?_
  pointwise
  exact qhR_apply m c _ _ _

/-- keys -/
theorem kbR_apply (i : Fin 24576) (n : Fin 1536) : kbR m c (ix2 i n) = (raw m c i).kb n.val := by
  unfold kbR Rope.Raw.kb
  pointwise
  refine dite_congr rfl (fun _ => kvR_apply m c _ _ _) fun h => dite_congr (propext (by omega)) (fun _ => ?_) fun _ => rfl
  exact rope1_apply _ _ _ _ _ _ fun k => pkr_apply _ _ _ _ _

/-- and values; -/
theorem vbR_apply (i : Fin 24576) (n : Fin 864) : vbR m c (ix2 n i) = (raw m c i).vb n.val := by
  unfold vbR Rope.Raw.vb
  pointwise
  simp only [kvR_apply]
  rfl

/-- group C's queries, -/
theorem qcR_apply (i : Fin 24576) (n : Fin 1024) : qcR m c (ix2 i n) = (raw m c i).qc n.val := by
  unfold qcR Rope.Raw.qc pairR
  pointwise
  simp only [scale_c]
  by_cases h1 : n.val % 256 < 64
  · refine (dif_pos h1).trans (Eq.trans (congrArg (· * _) ?_) (if_pos h1).symm)
    refine (rope8_apply _ _ _ _ _ (fun k => (raw m c i).col (1984 + (128 * (n.val / 256) + k))) fun k => (pqc_apply _ _ _ _ _).trans (congrArg (raw m c i).col ?_)).trans
      (congrArg (Rope.half _ _) ?_) <;> dsimp only <;> omega
  · refine (dif_neg h1).trans (Eq.trans ?_ (if_neg h1).symm)
    by_cases h2 : n.val % 256 < 192
    · refine Eq.trans ?_ (if_pos h2).symm
      by_cases h3 : n.val % 256 - 64 < 64
      · exact dif_pos h3
      · exact (dif_neg h3).trans (dif_pos (by omega))
    · refine (dif_neg (by omega)).trans ((dif_neg (by omega)).trans (Eq.trans (congrArg (· * _) ?_) (if_neg h2).symm))
      refine (rope8_apply _ _ _ _ _ (fun k => (raw m c i).col (1984 + (128 * (n.val / 256) + 64 + k))) fun k => (pqc_apply _ _ _ _ _).trans (congrArg (raw m c i).col ?_)).trans
        (congrArg (Rope.half _ _) ?_) <;> dsimp only <;> omega

/-- keys -/
theorem kcR_apply (i : Fin 24576) (n : Fin 512) : kcR m c (ix2 i n) = (raw m c i).kc n.val := by
  unfold kcR Rope.Raw.kc
  pointwise
  exact rope8_apply _ _ _ _ _ _ fun k => pkc_apply _ _ _ _ _

/-- and values. -/
theorem vcR_apply (i : Fin 24576) (n : Fin 576) : vcR m c (ix2 n i) = (raw m c i).vc n.val := by
  unfold vcR Rope.Raw.vc
  pointwise
  simp only [pvc_apply]
  rfl

end Cert.ReferenceIIdeal.Read
end
-- ==== Proof.TieI.lean ====
/- The input projection's kernel and its reference end with the same nine arrays. -/
module

public import proofs.«01_k».proof.Defs
public import proofs.«01_k».proof.Proof.StateI
public import proofs.«01_k».proof.Proof.RefI

@[expose] public section
set_option maxRecDepth 16384
noncomputable section
namespace Cert.TieI
open Idealize.ShloMosaic Idealize.SL Idealize.SL.Sem
open Cert.KernelIIdeal Cert.KernelIIdeal.Gen Cert.KernelIIdeal.State
open scoped BigOperators

variable (m : (ℓ : Loc nD τ sig) → Buf (Elt Ideal) ℓ) (c : Dev nD)

/-- The argument arrays. -/
def a0 : FVec Ideal S24576x2048 .f32 := m ((c.tc : Thread nD τ).loc main_arg0)
def a1 : IVec S24576 32 := m ((c.tc : Thread nD τ).loc main_arg1)
def a2 : IVec S24576 32 := m ((c.tc : Thread nD τ).loc main_arg2)
def a3 : IVec S24576 32 := m ((c.tc : Thread nD τ).loc main_arg3)
def a4 : FVec Ideal S2048x3520 .f32 := m ((c.tc : Thread nD τ).loc main_arg4)
def a5 : FVec Ideal S128 .f32 := m ((c.tc : Thread nD τ).loc main_arg5)
def a6 : FVec Ideal S128 .f32 := m ((c.tc : Thread nD τ).loc main_arg6)
def a7 : FVec Ideal S384 .f32 := m ((c.tc : Thread nD τ).loc main_arg7)
def a8 : FVec Ideal S256 .f32 := m ((c.tc : Thread nD τ).loc main_arg8)
def a9 : FVec Ideal S384x1152 .f32 := m ((c.tc : Thread nD τ).loc main_arg9)
def a10 : FVec Ideal S256x1536 .f32 := m ((c.tc : Thread nD τ).loc main_arg10)

/-- The angles of the positions, and the two tables made from them, each twice over. -/
def angK (p : IVec S24576 32) : FVec Ideal S24576x32 .f32 :=
  mulf (broadcastInDim S24576x32 ![0, 1] bcast_S24576x1_S24576x32_0_1 (broadcastInDim S24576x1 ![0] bcast_S24576_S24576x1_0 (sitofp (F := Ideal) .f32 p)))
    (broadcastInDim S24576x32 ![0, 1] bcast_S1x32_S24576x32_0_1 (broadcastInDim S1x32 ![1] bcast_S32_S1x32_1
      (Host.powf (F := Ideal) (broadcastInDim S32 ![] bcast_S_S32 (constant (F := Ideal) S_ .f32 0x461C4000#32))
        (Host.divf (Host.negf (sitofp (F := Ideal) .f32 (iotaInDim S32 32 0))) (broadcastInDim S32 ![] bcast_S_S32 (constant (F := Ideal) S_ .f32 0x42000000#32))))))

def cosK (p : IVec S24576 32) : FVec Ideal S24576x64 .f32 :=
  concatenate S24576x64 1 [⟨S24576x32, Host.cos (angK p)⟩, ⟨S24576x32, Host.cos (angK p)⟩] concatenates_S24576x32_S24576x32_S24576x64_d1

def sinK (p : IVec S24576 32) : FVec Ideal S24576x64 .f32 :=
  concatenate S24576x64 1 [⟨S24576x32, Host.negf (Host.sin (angK p))⟩, ⟨S24576x32, Host.sin (angK p)⟩] concatenates_S24576x32_S24576x32_S24576x64_d1

theorem angK_apply (p : IVec S24576 32) (i : Fin 24576) (k : Fin 32) : angK p (ix2 i k) = Rope.ang (p (ix1 i)) k.val := by
  unfold angK Rope.ang
  pointwise

theorem cosK_apply (p : IVec S24576 32) (i : Fin 24576) (k : Fin 64) : cosK p (ix2 i k) = Rope.cosT (p (ix1 i)) k.val := by
  unfold cosK Rope.cosT
  pointwise
  simp only [angK_apply]
  split
  · rw [Nat.mod_eq_of_lt (by assumption)]
  · rw [show k.val % 32 = k.val - 32 by omega]

theorem sinK_apply (p : IVec S24576 32) (i : Fin 24576) (k : Fin 64) : sinK p (ix2 i k) = Rope.sinT (p (ix1 i)) k.val := by
  unfold sinK Rope.sinT
  pointwise
  simp only [angK_apply]
  rw [Nat.mod_eq_of_lt k.isLt]
  split
  · rw [Nat.mod_eq_of_lt (by assumption)]
  · rw [show k.val % 32 = k.val - 32 by omega]

/-- The tables' entries 64 columns on. -/
theorem cosT_add (p : BitVec 32) (k : ℕ) (h : 64 ≤ k) : Rope.cosT p (k - 64) = Rope.cosT p k := by
  unfold Rope.cosT
  rw [show (k - 64) % 32 = k % 32 by omega]

theorem sinT_add (p : BitVec 32) (k : ℕ) (h : 64 ≤ k) : Rope.sinT p (k - 64) = Rope.sinT p k := by
  unfold Rope.sinT
  rw [show (k - 64) % 32 = k % 32 by omega, show (k - 64) % 64 = k % 64 by omega]

/-- Two tables side by side. -/
def besideK (p q : FVec Ideal S24576x64 .f32) : FVec Ideal S24576x128 .f32 :=
  concatenate S24576x128 1 [⟨S24576x64, p⟩, ⟨S24576x64, q⟩] concatenates_S24576x64_S24576x64_S24576x128_d1

theorem cos_beside (p q : IVec S24576 32) (i : Fin 24576) (k : Fin 128) : besideK (cosK p) (cosK q) (ix2 i k)
    = if k.val < 64 then Rope.cosT (p (ix1 i)) k.val else Rope.cosT (q (ix1 i)) k.val := by
  unfold besideK
  pointwise
  simp only [cosK_apply]
  exact dite_congr rfl (fun _ => rfl) fun h => cosT_add _ _ (by omega)

theorem sin_beside (p q : IVec S24576 32) (i : Fin 24576) (k : Fin 128) : besideK (sinK p) (sinK q) (ix2 i k)
    = if k.val < 64 then Rope.sinT (p (ix1 i)) k.val else Rope.sinT (q (ix1 i)) k.val := by
  unfold besideK
  pointwise
  simp only [sinK_apply]
  exact dite_congr rfl (fun _ => rfl) fun h => sinT_add _ _ (by omega)

/-- What the call finds, from the arguments: the tokens, the weights with 64 columns of zeros, -/
theorem readX : X m c = a0 m c := V_main_arg0 m c

theorem readW : W m c = truncf .bf16 (concatenate S2048x3584 1 [⟨S2048x1984, extractStridedSlice S2048x1984 ![0, 0] (a4 m c) slices_S2048x3520_S2048x1984_0_0⟩,
    ⟨S2048x64, broadcastInDim S2048x64 ![] bcast_S_S2048x64 (constant (F := Ideal) S_ .f32 0x00000000#32)⟩,
    ⟨S2048x1536, extractStridedSlice S2048x1536 ![0, 1984] (a4 m c) slices_S2048x3520_S2048x1536_0_1984⟩] concatenates_S2048x1984_S2048x64_S2048x1536_S2048x3584_d1) bitsLt_bf16_f32 := by
  show StableHlo.after (List.flatten [hostOps0 (F := Ideal), hostOps0_1, hostOps0_2]) (fun b => m (c, b)) (Proc.devRef .tc main_v4) = _
  simp only [hostOps0, hostOps0_1, hostOps0_2, List.flatten_cons, List.flatten_nil, List.append_nil, List.cons_append, List.nil_append]
  after_results_simp
  rfl

/-- the tables, -/
theorem readCA : CA m c = besideK (cosK (a1 m c)) (cosK (a2 m c)) := by
  show StableHlo.after (List.flatten [hostOps0 (F := Ideal), hostOps0_1, hostOps0_2]) (fun b => m (c, b)) (Proc.devRef .tc main_v55) = _
  simp only [hostOps0, hostOps0_1, hostOps0_2, List.flatten_cons, List.flatten_nil, List.append_nil, List.cons_append, List.nil_append]
  after_results_simp
  rfl

theorem readSA : SA m c = besideK (sinK (a1 m c)) (sinK (a2 m c)) := by
  show StableHlo.after (List.flatten [hostOps0 (F := Ideal), hostOps0_1, hostOps0_2]) (fun b => m (c, b)) (Proc.devRef .tc main_v56) = _
  simp only [hostOps0, hostOps0_1, hostOps0_2, List.flatten_cons, List.flatten_nil, List.append_nil, List.cons_append, List.nil_append]
  after_results_simp
  rfl

theorem readCP : CP m c = besideK (cosK (a3 m c)) (cosK (a3 m c)) := by
  show StableHlo.after (List.flatten [hostOps0 (F := Ideal), hostOps0_1, hostOps0_2]) (fun b => m (c, b)) (Proc.devRef .tc main_v57) = _
  simp only [hostOps0, hostOps0_1, hostOps0_2, List.flatten_cons, List.flatten_nil, List.append_nil, List.cons_append, List.nil_append]
  after_results_simp
  rfl

theorem readSP : SP m c = besideK (sinK (a3 m c)) (sinK (a3 m c)) := by
  show StableHlo.after (List.flatten [hostOps0 (F := Ideal), hostOps0_1, hostOps0_2]) (fun b => m (c, b)) (Proc.devRef .tc main_v58) = _
  simp only [hostOps0, hostOps0_1, hostOps0_2, List.flatten_cons, List.flatten_nil, List.append_nil, List.cons_append, List.nil_append]
  after_results_simp
  rfl

/-- the gains as rows, -/
theorem readGQ : GQ m c = shapeCast S1x128 (a5 m c) shapeCasts_S128_S1x128 := by
  show StableHlo.after (List.flatten [hostOps0 (F := Ideal), hostOps0_1, hostOps0_2]) (fun b => m (c, b)) (Proc.devRef .tc main_v59) = _
  simp only [hostOps0, hostOps0_1, hostOps0_2, List.flatten_cons, List.flatten_nil, List.append_nil, List.cons_append, List.nil_append]
  after_results_simp
  rfl

theorem readGK : GK m c = shapeCast S1x128 (a6 m c) shapeCasts_S128_S1x128 := by
  show StableHlo.after (List.flatten [hostOps0 (F := Ideal), hostOps0_1, hostOps0_2]) (fun b => m (c, b)) (Proc.devRef .tc main_v60) = _
  simp only [hostOps0, hostOps0_1, hostOps0_2, List.flatten_cons, List.flatten_nil, List.append_nil, List.cons_append, List.nil_append]
  after_results_simp
  rfl

theorem readGB : GB m c = shapeCast S1x384 (a7 m c) shapeCasts_S384_S1x384 := by
  show StableHlo.after (List.flatten [hostOps0 (F := Ideal), hostOps0_1, hostOps0_2]) (fun b => m (c, b)) (Proc.devRef .tc main_v61) = _
  simp only [hostOps0, hostOps0_1, hostOps0_2, List.flatten_cons, List.flatten_nil, List.append_nil, List.cons_append, List.nil_append]
  after_results_simp
  rfl

theorem readGV : GV m c = shapeCast S1x256 (a8 m c) shapeCasts_S256_S1x256 := by
  show StableHlo.after (List.flatten [hostOps0 (F := Ideal), hostOps0_1, hostOps0_2]) (fun b => m (c, b)) (Proc.devRef .tc main_v62) = _
  simp only [hostOps0, hostOps0_1, hostOps0_2, List.flatten_cons, List.flatten_nil, List.append_nil, List.cons_append, List.nil_append]
  after_results_simp
  rfl

/-- and the second weights, padded or parted by head. -/
theorem readUQ : UQ m c = truncf .bf16 (shapeCast S384x1536 (pad S384x6x256 ![0, 0, 0] ![0, 0, 64] ![0, 0, 0] (shapeCast S384x6x192 (a9 m c) shapeCasts_S384x1152_S384x6x192)
    (sitofp (F := Ideal) .f32 (constantI S_ 32 0#32)) pads_S384x6x192_S384x6x256_000_000_0640 h_S_) shapeCasts_S384x6x256_S384x1536) bitsLt_bf16_f32 := by
  show StableHlo.after (List.flatten [hostOps0 (F := Ideal), hostOps0_1, hostOps0_2]) (fun b => m (c, b)) (Proc.devRef .tc main_v8) = _
  simp only [hostOps0, hostOps0_1, hostOps0_2, List.flatten_cons, List.flatten_nil, List.append_nil, List.cons_append, List.nil_append]
  after_results_simp
  rfl

theorem readUK : UK m c = truncf .bf16 (shapeCast S256x768 (extractStridedSlice S256x6x128 ![0, 0, 0] (shapeCast S256x6x256 (a10 m c) shapeCasts_S256x1536_S256x6x256)
    slices_S256x6x256_S256x6x128_0_0_0) shapeCasts_S256x6x128_S256x768) bitsLt_bf16_f32 := by
  show StableHlo.after (List.flatten [hostOps0 (F := Ideal), hostOps0_1, hostOps0_2]) (fun b => m (c, b)) (Proc.devRef .tc main_v12) = _
  simp only [hostOps0, hostOps0_1, hostOps0_2, List.flatten_cons, List.flatten_nil, List.append_nil, List.cons_append, List.nil_append]
  after_results_simp
  rfl

theorem readUV : UV m c = truncf .bf16 (shapeCast S256x768 (extractStridedSlice S256x6x128 ![0, 0, 128] (shapeCast S256x6x256 (a10 m c) shapeCasts_S256x1536_S256x6x256)
    slices_S256x6x256_S256x6x128_0_0_128) shapeCasts_S256x6x128_S256x768) bitsLt_bf16_f32 := by
  show StableHlo.after (List.flatten [hostOps0 (F := Ideal), hostOps0_1, hostOps0_2]) (fun b => m (c, b)) (Proc.devRef .tc main_v15) = _
  simp only [hostOps0, hostOps0_1, hostOps0_2, List.flatten_cons, List.flatten_nil, List.append_nil, List.cons_append, List.nil_append]
  after_results_simp
  rfl

/-- A column of the projection at token `i`. -/
def colK (i : Fin 24576) (n : ℕ) : EReal := ∑ k : Fin 2048, a0 m c (ix2 i k) * a4 m c (ix2 k ⟨n % 3520, by omega⟩)

/-- What token `i`'s results are made from. -/
def raw (i : Fin 24576) : Rope.Raw where
  col := colK m c i
  r := a1 m c (ix1 i)
  c := a2 m c (ix1 i)
  p := a3 m c (ix1 i)
  gq k := a5 m c (ix1 k)
  gk k := a6 m c (ix1 k)
  gb k := a7 m c (ix1 k)
  gv k := a8 m c (ix1 k)
  uq k n := a9 m c (ix2 k n)
  ukv k n := a10 m c (ix2 k n)

/-- The same at an index: the columns before the zeros, the zeros, and the columns after them, -/
theorem col_at (i : Fin 24576) (n : Fin 3584) : ∑ k : Fin 2048, X m c (ix2 i k) * W m c (ix2 k n)
    = if n.val < 1984 then colK m c i n.val else if n.val < 2048 then 0 else colK m c i (n.val - 64) := by
  rw [readX, readW]
  unfold colK
  pointwise
  by_cases h1 : n.val < 1984
  · rw [if_pos h1]
    refine Finset.sum_congr rfl fun k _ => congrArg (a0 m c (ix2 i k) * ·) ((dif_pos h1).trans ?_)
    exact congrArg (fun n => a4 m c (ix2 k n)) (Fin.ext (Nat.mod_eq_of_lt (by omega)).symm)
  · rw [if_neg h1]
    by_cases h2 : n.val < 2048
    · rw [if_pos h2]
      refine Finset.sum_eq_zero fun k _ => ?_
      refine (congrArg (a0 m c (ix2 i k) * ·) ((dif_neg h1).trans (dif_pos (by omega)))).trans (mul_zero _)
    · rw [if_neg h2]
      refine Finset.sum_congr rfl fun k _ => congrArg (a0 m c (ix2 i k) * ·) ((dif_neg h1).trans ((dif_neg (by omega)).trans ?_))
      refine congrArg (fun n => a4 m c (ix2 k n)) (Fin.ext ?_)
      dsimp only
      omega

/-- the tables, -/
theorem ca_at (i : Fin 24576) (k : Fin 128) : CA m c (ix2 i k) = (raw m c i).tok.ca k := by
  rw [readCA, cos_beside]
  rfl

theorem sa_at (i : Fin 24576) (k : Fin 128) : SA m c (ix2 i k) = (raw m c i).tok.sa k := by
  rw [readSA, sin_beside]
  rfl

theorem cp_at (i : Fin 24576) (k : Fin 128) : CP m c (ix2 i k) = (raw m c i).tok.cp k := by
  rw [readCP, cos_beside, ite_self]
  rfl

theorem sp_at (i : Fin 24576) (k : Fin 128) : SP m c (ix2 i k) = (raw m c i).tok.sp k := by
  rw [readSP, sin_beside, ite_self]
  rfl

/-- the gains, -/
theorem gq_at (k : Fin 128) : GQ m c (ix2 0 k) = a5 m c (ix1 k) := by
  rw [readGQ]
  pointwise

theorem gk_at (k : Fin 128) : GK m c (ix2 0 k) = a6 m c (ix1 k) := by
  rw [readGK]
  pointwise

theorem gb_at (k : Fin 384) : GB m c (ix2 0 k) = a7 m c (ix1 k) := by
  rw [readGB]
  pointwise

theorem gv_at (k : Fin 256) : GV m c (ix2 0 k) = a8 m c (ix1 k) := by
  rw [readGV]
  pointwise

/-- and the second weights. -/
theorem uq_at (i : Fin 24576) (k : Fin 384) (n : Fin 1536) : UQ m c (ix2 k n) = (raw m c i).tok.uq k n := by
  rw [readUQ]
  pointwise
  refine dite_congr (propext (by omega)) (fun _ => rfl) fun _ => ?_
  show (((0#32 : BitVec 32).toInt : ℝ) : EReal) = 0
  simp

theorem uk_at (i : Fin 24576) (k : Fin 256) (n : Fin 768) : UK m c (ix2 k n) = (raw m c i).tok.uk k n := by
  rw [readUK]
  pointwise
  rfl

theorem uv_at (i : Fin 24576) (k : Fin 256) (n : Fin 768) : UV m c (ix2 k n) = (raw m c i).tok.uv k n := by
  rw [readUV]
  pointwise
  rfl

/-- So a token's results are made of its arguments as the kernel makes them. -/
theorem tok_eq (i : Fin 24576) : tokV m c i = (raw m c i).tok := by
  have e : (fun n : ℕ => ∑ k : Fin 2048, X m c (ix2 i k) * W m c (ix2 k ⟨n % 3584, by omega⟩)) = (raw m c i).tok.col :=
    funext fun n => col_at m c i ⟨n % 3584, by omega⟩
  unfold tokV
  rw [e]
  simp only [ca_at, sa_at, cp_at, sp_at, gq_at, gk_at, gb_at, gv_at, uq_at m c i, uk_at m c i, uv_at m c i]
  rfl

section
variable (m' : (ℓ : Loc Cert.ReferenceIIdeal.nD Cert.ReferenceIIdeal.τ Cert.ReferenceIIdeal.sig) → Buf (Elt Ideal) ℓ)
  (g : ∀ i, ReferenceIIdeal.Read.raw m' c i = raw m c i)
include g

/-- The call's results are the reference's, on arguments that agree. -/
theorem tie_qa : ReferenceIIdeal.Read.qaR m' c = QA m c := by
  funext i
  rw [eq_ix2 i]
  refine (ReferenceIIdeal.Read.qaR_apply m' c (i 0) (i 1)).trans ((congrArg (fun R : Rope.Raw => R.qa (i 1).val) (g (i 0))).trans ?_)
  exact (Rope.qa_eq (raw m c (i 0)) (i 1).val (i 1).isLt).symm.trans (congrArg (fun T => Rope.qa T (i 1).val) (tok_eq m c (i 0)).symm)

theorem tie_ka : ReferenceIIdeal.Read.kaR m' c = KA m c := by
  funext i
  rw [eq_ix2 i]
  refine (ReferenceIIdeal.Read.kaR_apply m' c (i 0) (i 1)).trans ((congrArg (fun R : Rope.Raw => R.ka (i 1).val) (g (i 0))).trans ?_)
  exact (Rope.ka_eq (raw m c (i 0)) (i 1).val (i 1).isLt).symm.trans (congrArg (fun T => Rope.ka T (i 1).val) (tok_eq m c (i 0)).symm)

theorem tie_va : ReferenceIIdeal.Read.vaR m' c = VA m c := by
  funext i
  rw [eq_ix2 i]
  refine (ReferenceIIdeal.Read.vaR_apply m' c (i 1) (i 0)).trans ((congrArg (fun R : Rope.Raw => R.va (i 0).val) (g (i 1))).trans ?_)
  exact (Rope.va_eq (raw m c (i 1)) (i 0).val (i 0).isLt).symm.trans (congrArg (fun T => Rope.va T (i 0).val) (tok_eq m c (i 1)).symm)

theorem tie_qb : ReferenceIIdeal.Read.qbR m' c = QB m c := by
  funext i
  rw [eq_ix2 i]
  refine (ReferenceIIdeal.Read.qbR_apply m' c (i 0) (i 1)).trans ((congrArg (fun R : Rope.Raw => R.qb (i 1).val) (g (i 0))).trans ?_)
  exact (Rope.qb_eq (raw m c (i 0)) (i 1).val (i 1).isLt).symm.trans (congrArg (fun T => Rope.qb T (i 1).val) (tok_eq m c (i 0)).symm)

theorem tie_kb : ReferenceIIdeal.Read.kbR m' c = KB m c := by
  funext i
  rw [eq_ix2 i]
  refine (ReferenceIIdeal.Read.kbR_apply m' c (i 0) (i 1)).trans ((congrArg (fun R : Rope.Raw => R.kb (i 1).val) (g (i 0))).trans ?_)
  exact (Rope.kb_eq (raw m c (i 0)) (i 1).val (i 1).isLt).symm.trans (congrArg (fun T => Rope.kb T (i 1).val) (tok_eq m c (i 0)).symm)

theorem tie_vb : ReferenceIIdeal.Read.vbR m' c = VB m c := by
  funext i
  rw [eq_ix2 i]
  refine (ReferenceIIdeal.Read.vbR_apply m' c (i 1) (i 0)).trans ((congrArg (fun R : Rope.Raw => R.vb (i 0).val) (g (i 1))).trans ?_)
  exact (Rope.vb_eq (raw m c (i 1)) (i 0).val (i 0).isLt).symm.trans (congrArg (fun T => Rope.vb T (i 0).val) (tok_eq m c (i 1)).symm)

theorem tie_qc : ReferenceIIdeal.Read.qcR m' c = QC m c := by
  funext i
  rw [eq_ix2 i]
  refine (ReferenceIIdeal.Read.qcR_apply m' c (i 0) (i 1)).trans ((congrArg (fun R : Rope.Raw => R.qc (i 1).val) (g (i 0))).trans ?_)
  exact (Rope.qc_eq (raw m c (i 0)) (i 1).val (i 1).isLt).symm.trans (congrArg (fun T => Rope.qc T (i 1).val) (tok_eq m c (i 0)).symm)

theorem tie_kc : ReferenceIIdeal.Read.kcR m' c = KC m c := by
  funext i
  rw [eq_ix2 i]
  refine (ReferenceIIdeal.Read.kcR_apply m' c (i 0) (i 1)).trans ((congrArg (fun R : Rope.Raw => R.kc (i 1).val) (g (i 0))).trans ?_)
  exact (Rope.kc_eq (raw m c (i 0)) (i 1).val (i 1).isLt).symm.trans (congrArg (fun T => Rope.kc T (i 1).val) (tok_eq m c (i 0)).symm)

theorem tie_vc : ReferenceIIdeal.Read.vcR m' c = VC m c := by
  funext i
  rw [eq_ix2 i]
  refine (ReferenceIIdeal.Read.vcR_apply m' c (i 1) (i 0)).trans ((congrArg (fun R : Rope.Raw => R.vc (i 0).val) (g (i 1))).trans ?_)
  exact (Rope.vc_eq (raw m c (i 1)) (i 0).val (i 0).isLt).symm.trans (congrArg (fun T => Rope.vc T (i 0).val) (tok_eq m c (i 1)).symm)

end

/-- The algebraic claim of the input projection. -/
theorem algebraic : algebraic_KernelIIdeal_ReferenceIIdeal := by
  intro m ρ m' ρ' _ hagree
  refine ⟨_, _, _, _, _, _, _, _, _, (θ_run Cert.KernelIIdeal.defs _ _).mono (fun _ h c => by
    obtain ⟨h0, h1, h2, h3, h4, h5, h6, h7, h8, h9⟩ := h c
    exact ⟨h0.trans (final13 m c), h1.trans (final14 m c), h2.trans (final15 m c), h3.trans (final16 m c), h4.trans (final17 m c),
      h5.trans (final18 m c), h6.trans (final19 m c), h7.trans (final20 m c), h8.trans (final21 m c), h9⟩)
    (Cert.KernelIIdeal.Value.run_blocks (F := Ideal) m ρ), ?_⟩
  refine (θ_run Cert.ReferenceIIdeal.defs _ _).mono (fun _ h c => ?_) (Cert.ReferenceIIdeal.Value.run (F := Ideal) m' ρ')
  obtain ⟨h0, h1, h2, h3, h4, h5, h6, h7, h8, h9⟩ := h c
  have g (i : Fin 24576) : ReferenceIIdeal.Read.raw m' c i = raw m c i := by
    obtain ⟨g0, g1, g2, g3, g4, g5, g6, g7, g8, g9, g10⟩ := hagree c
    have e0 : ReferenceIIdeal.Read.a0 m' c = a0 m c := g0
    have e1 : ReferenceIIdeal.Read.a1 m' c = a1 m c := g1
    have e2 : ReferenceIIdeal.Read.a2 m' c = a2 m c := g2
    have e3 : ReferenceIIdeal.Read.a3 m' c = a3 m c := g3
    have e4 : ReferenceIIdeal.Read.a4 m' c = a4 m c := g4
    have e5 : ReferenceIIdeal.Read.a5 m' c = a5 m c := g5
    have e6 : ReferenceIIdeal.Read.a6 m' c = a6 m c := g6
    have e7 : ReferenceIIdeal.Read.a7 m' c = a7 m c := g7
    have e8 : ReferenceIIdeal.Read.a8 m' c = a8 m c := g8
    have e9 : ReferenceIIdeal.Read.a9 m' c = a9 m c := g9
    have e10 : ReferenceIIdeal.Read.a10 m' c = a10 m c := g10
    unfold ReferenceIIdeal.Read.raw raw ReferenceIIdeal.Read.colR colK
    rw [e0, e1, e2, e3, e4, e5, e6, e7, e8, e9, e10]
  exact ⟨h0.trans (tie_qa m c m' g), h1.trans (tie_ka m c m' g), h2.trans (tie_va m c m' g), h3.trans (tie_qb m c m' g), h4.trans (tie_kb m c m' g),
    h5.trans (tie_vb m c m' g), h6.trans (tie_qc m c m' g), h7.trans (tie_kc m c m' g), h8.trans (tie_vc m c m' g), h9⟩

end Cert.TieI
end
-- ==== Proof.lean ====
/- The claim of this directory, put together: the frames of the programs, and the algebraic claims of the three attention
   calls, of the output projection and of the input projection, from TieA, TieB, TieC, TieO and TieI. -/
module

public import proofs.«01_k».proof.Defs
public import proofs.«01_k».proof.Proof.Gen.KernelA.Frame
public import proofs.«01_k».proof.Proof.Gen.KernelAIdeal.Value
public import proofs.«01_k».proof.Proof.Gen.KernelB.Frame
public import proofs.«01_k».proof.Proof.Gen.KernelBIdeal.Value
public import proofs.«01_k».proof.Proof.Gen.KernelC.Frame
public import proofs.«01_k».proof.Proof.Gen.KernelCIdeal.Value
public import proofs.«01_k».proof.Proof.Gen.KernelO.Frame
public import proofs.«01_k».proof.Proof.Gen.KernelOIdeal.Value
public import proofs.«01_k».proof.Proof.FrameI
public import proofs.«01_k».proof.Proof.ValueI
public import proofs.«01_k».proof.Proof.Gen.Pre_finite_a
public import proofs.«01_k».proof.Proof.Gen.Pre_finite_b
public import proofs.«01_k».proof.Proof.Gen.Pre_finite_c
public import proofs.«01_k».proof.Proof.Gen.ReferenceAIdeal.Run
public import proofs.«01_k».proof.Proof.Gen.ReferenceBIdeal.Run
public import proofs.«01_k».proof.Proof.Gen.ReferenceCIdeal.Run
public import proofs.«01_k».proof.Proof.Gen.ReferenceOIdeal.Run
public import proofs.«01_k».proof.Proof.Gen.ReferenceIIdeal.Run
public import Idealize.ShloMosaic.Adequacy
public import Idealize.ShloMosaic.Init
public import Idealize.ShloMosaic.Lib.Quiescent
public import proofs.«01_k».proof.Proof.TieA
public import proofs.«01_k».proof.Proof.TieB
public import proofs.«01_k».proof.Proof.TieC
public import proofs.«01_k».proof.Proof.TieO
public import proofs.«01_k».proof.Proof.TieI

@[expose] public section

noncomputable section

namespace Cert.Proof

open Idealize.ShloMosaic Idealize.SL.Sem

/-- The grouped attention's reference terminates, leaves its arguments unchanged and every counter at zero, -/
theorem quiescent_ReferenceAIdeal : quiescent_ReferenceAIdeal := fun m ρ _ =>
  (θ_run Cert.ReferenceAIdeal.defs _ _).mono (fun r h => ⟨fun c => (h c).2, sem_eq_zero_of_no_sems (by decide) r.2⟩)
    (Cert.ReferenceAIdeal.Value.run (F := Ideal) m ρ)

/-- also from arguments under the precondition. -/
theorem quiescent_ReferenceAIdeal_pre_finite_a : quiescent_ReferenceAIdeal_pre_finite_a := fun m ρ _ =>
  quiescent_ReferenceAIdeal m ρ trivial

/-- The latent attention's reference terminates, leaves its arguments unchanged and every counter at zero, -/
theorem quiescent_ReferenceBIdeal : quiescent_ReferenceBIdeal := fun m ρ _ =>
  (θ_run Cert.ReferenceBIdeal.defs _ _).mono (fun r h => ⟨fun c => (h c).2, sem_eq_zero_of_no_sems (by decide) r.2⟩)
    (Cert.ReferenceBIdeal.Value.run (F := Ideal) m ρ)

/-- also from arguments under the precondition. -/
theorem quiescent_ReferenceBIdeal_pre_finite_b : quiescent_ReferenceBIdeal_pre_finite_b := fun m ρ _ =>
  quiescent_ReferenceBIdeal m ρ trivial

/-- The differential attention's reference terminates, leaves its arguments unchanged and every counter at zero, -/
theorem quiescent_ReferenceCIdeal : quiescent_ReferenceCIdeal := fun m ρ _ =>
  (θ_run Cert.ReferenceCIdeal.defs _ _).mono (fun r h => ⟨fun c => (h c).2, sem_eq_zero_of_no_sems (by decide) r.2⟩)
    (Cert.ReferenceCIdeal.Value.run (F := Ideal) m ρ)

/-- also from arguments under the precondition. -/
theorem quiescent_ReferenceCIdeal_pre_finite_c : quiescent_ReferenceCIdeal_pre_finite_c := fun m ρ _ =>
  quiescent_ReferenceCIdeal m ρ trivial

/-- The output projection's reference terminates, leaves its arguments unchanged and every counter at zero. -/
theorem quiescent_ReferenceOIdeal : quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run (F := Ideal) m ρ)

/-- The input projection's reference terminates, leaves its arguments unchanged and every counter at zero. -/
theorem quiescent_ReferenceIIdeal : quiescent_ReferenceIIdeal := fun m ρ _ =>
  (θ_run Cert.ReferenceIIdeal.defs _ _).mono (fun r h => ⟨fun c => (h c).2.2.2.2.2.2.2.2.2, sem_eq_zero_of_no_sems (by decide) r.2⟩)
    (Cert.ReferenceIIdeal.Value.run (F := Ideal) m ρ)

/-- The named scales of the input projection denote what they are named. -/
theorem preserves_KernelI : preserves_KernelI_KernelIIdeal :=
  ⟨IdealRules.named_const.statement _ _ _ _ _ rfl, IdealRules.named_const.statement _ _ _ _ _ rfl, IdealRules.named_const.statement _ _ _ _ _ rfl⟩

/-- The claim. -/
theorem claim : Cert.Claim := ⟨Cert.KernelA.Gen.facts, Cert.KernelAIdeal.Gen.facts, Cert.ReferenceAIdeal.Gen.facts, Cert.KernelB.Gen.facts, Cert.KernelBIdeal.Gen.facts, Cert.ReferenceBIdeal.Gen.facts, Cert.KernelC.Gen.facts, Cert.KernelCIdeal.Gen.facts, Cert.ReferenceCIdeal.Gen.facts, Cert.KernelO.Gen.facts, Cert.KernelOIdeal.Gen.facts, Cert.ReferenceOIdeal.Gen.facts, Cert.KernelI.Gen.facts, Cert.KernelIIdeal.Gen.facts, Cert.ReferenceIIdeal.Gen.facts, Cert.Pre_finite_a.Gen.facts, Cert.Pre_finite_b.Gen.facts, Cert.Pre_finite_c.Gen.facts,
  fun m ρ _ => Cert.KernelA.Gen.frame m ρ, fun m ρ _ => Cert.KernelAIdeal.Gen.frame m ρ, fun m ρ _ => Cert.KernelAIdeal.Gen.frame m ρ, quiescent_ReferenceAIdeal, quiescent_ReferenceAIdeal_pre_finite_a, fun m ρ _ => Cert.KernelB.Gen.frame m ρ, fun m ρ _ => Cert.KernelBIdeal.Gen.frame m ρ, fun m ρ _ => Cert.KernelBIdeal.Gen.frame m ρ, quiescent_ReferenceBIdeal, quiescent_ReferenceBIdeal_pre_finite_b, fun m ρ _ => Cert.KernelC.Gen.frame m ρ, fun m ρ _ => Cert.KernelCIdeal.Gen.frame m ρ, fun m ρ _ => Cert.KernelCIdeal.Gen.frame m ρ, quiescent_ReferenceCIdeal, quiescent_ReferenceCIdeal_pre_finite_c, fun m ρ _ => Cert.KernelO.Gen.frame m ρ, fun m ρ _ => Cert.KernelOIdeal.Gen.frame m ρ, quiescent_ReferenceOIdeal, fun m ρ _ => Cert.KernelI.Gen.frame m ρ, fun m ρ _ => Cert.KernelIIdeal.Gen.frame m ρ, quiescent_ReferenceIIdeal, (trivial : preserves_KernelA_KernelAIdeal), Cert.TieA.algebraic, (trivial : preserves_KernelB_KernelBIdeal), Cert.TieB.algebraic, (trivial : preserves_KernelC_KernelCIdeal), Cert.TieC.algebraic, (trivial : preserves_KernelO_KernelOIdeal), Cert.TieO.algebraic, preserves_KernelI, Cert.TieI.algebraic⟩

end Cert.Proof

end
